-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "log2e_8" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v111) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)) (v3 : (c : Dev Cert.Kernel4Ideal.nD) → Buf (Elt Ideal) ((c.tc : Thread Cert.Kernel4Ideal.nD Cert.Kernel4Ideal.τ).loc Cert.Kernel4Ideal.main_v16_3)) (v4 : (c : Dev Cert.Kernel4Ideal.nD) → Buf (Elt Ideal) ((c.tc : Thread Cert.Kernel4Ideal.nD Cert.Kernel4Ideal.τ).loc Cert.Kernel4Ideal.main_v16_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_v16_3) = v3 c
          ∧ r.2.mem ((c.tc : Thread Cert.Kernel4Ideal.nD Cert.Kernel4Ideal.τ).loc Cert.Kernel4Ideal.main_v16_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_v44) = v2 c
          ∧ r.2.mem ((c.tc : Thread Cert.Reference4Ideal.nD Cert.Reference4Ideal.τ).loc Cert.Reference4Ideal.main_v46) = v3 c
          ∧ r.2.mem ((c.tc : Thread Cert.Reference4Ideal.nD Cert.Reference4Ideal.τ).loc Cert.Reference4Ideal.main_v48) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v29_0)) (v1 : (c : Dev Cert.Kernel5Ideal.nD) → Buf (Elt Ideal) ((c.tc : Thread Cert.Kernel5Ideal.nD Cert.Kernel5Ideal.τ).loc Cert.Kernel5Ideal.main_v29_1)) (v2 : (c : Dev Cert.Kernel5Ideal.nD) → Buf (Elt Ideal) ((c.tc : Thread Cert.Kernel5Ideal.nD Cert.Kernel5Ideal.τ).loc Cert.Kernel5Ideal.main_v29_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29_0) = v0 c
          ∧ r.2.mem ((c.tc : Thread Cert.Kernel5Ideal.nD Cert.Kernel5Ideal.τ).loc Cert.Kernel5Ideal.main_v29_1) = v1 c
          ∧ r.2.mem ((c.tc : Thread Cert.Kernel5Ideal.nD Cert.Kernel5Ideal.τ).loc Cert.Kernel5Ideal.main_v29_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v90) = v0 c
          ∧ r.2.mem ((c.tc : Thread Cert.Reference5Ideal.nD Cert.Reference5Ideal.τ).loc Cert.Reference5Ideal.main_v92) = v1 c
          ∧ r.2.mem ((c.tc : Thread Cert.Reference5Ideal.nD Cert.Reference5Ideal.τ).loc Cert.Reference5Ideal.main_v95) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v29_0)) (v1 : (c : Dev Cert.Kernel6Ideal.nD) → Buf (Elt Ideal) ((c.tc : Thread Cert.Kernel6Ideal.nD Cert.Kernel6Ideal.τ).loc Cert.Kernel6Ideal.main_v29_1)) (v2 : (c : Dev Cert.Kernel6Ideal.nD) → Buf (Elt Ideal) ((c.tc : Thread Cert.Kernel6Ideal.nD Cert.Kernel6Ideal.τ).loc Cert.Kernel6Ideal.main_v29_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29_0) = v0 c
          ∧ r.2.mem ((c.tc : Thread Cert.Kernel6Ideal.nD Cert.Kernel6Ideal.τ).loc Cert.Kernel6Ideal.main_v29_1) = v1 c
          ∧ r.2.mem ((c.tc : Thread Cert.Kernel6Ideal.nD Cert.Kernel6Ideal.τ).loc Cert.Kernel6Ideal.main_v29_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v93) = v0 c
          ∧ r.2.mem ((c.tc : Thread Cert.Reference6Ideal.nD Cert.Reference6Ideal.τ).loc Cert.Reference6Ideal.main_v96) = v1 c
          ∧ r.2.mem ((c.tc : Thread Cert.Reference6Ideal.nD Cert.Reference6Ideal.τ).loc Cert.Reference6Ideal.main_v99) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16x4096x16x64 : Shape := ⟨4, ![16, 4096, 16, 64]⟩
abbrev S16x4096x1024 : Shape := ⟨3, ![16, 4096, 1024]⟩
abbrev S1x4x64 : Shape := ⟨3, ![1, 4, 64]⟩
abbrev S1x128 : Shape := ⟨2, ![1, 128]⟩
abbrev S_ : Shape := ⟨0, ![]⟩

class Facts : Prop where
  bcast_S_S16x4096x16x64 : S_.BroadcastsInDim S16x4096x16x64 (![] : Fin 0 → Fin S16x4096x16x64.rank)
  bcast_S_S16x4096x1024 : S_.BroadcastsInDim S16x4096x1024 (![] : Fin 0 → Fin S16x4096x1024.rank)
  bcast_S_S1x4x64 : S_.BroadcastsInDim S1x4x64 (![] : Fin 0 → Fin S1x4x64.rank)

variable [Facts]

def fn {F : FTy → Type} [FloatOps F] (main_arg0 : FVec F S16x4096x16x64 .f32) (main_arg1 : FVec F S16x4096x16x64 .f32) (main_arg2 : FVec F S16x4096x1024 .f32) (main_arg3 : FVec F S1x4x64 .f32) (main_arg4 : FVec F S1x128 .f32) : IVec S16x4096x16x64 1 × IVec S16x4096x16x64 1 × IVec S16x4096x1024 1 × IVec S1x4x64 1 :=
  let main_v0 : FVec F S16x4096x16x64 .f32 := Host.absf main_arg0
  let main_cst : FVec F S_ .f32 := constant S_ .f32 0x7F800000#32
  let main_v1 : FVec F S16x4096x16x64 .f32 := broadcastInDim S16x4096x16x64 ![] bcast_S_S16x4096x16x64 main_cst
  let main_v2 : IVec S16x4096x16x64 1 := cmpf .olt main_v0 main_v1
  let main_v3 : FVec F S16x4096x16x64 .f32 := Host.absf main_arg1
  let main_cst_0 : FVec F S_ .f32 := constant S_ .f32 0x7F800000#32
  let main_v4 : FVec F S16x4096x16x64 .f32 := broadcastInDim S16x4096x16x64 ![] bcast_S_S16x4096x16x64 main_cst_0
  let main_v5 : IVec S16x4096x16x64 1 := cmpf .olt main_v3 main_v4
  let main_v6 : FVec F S16x4096x1024 .f32 := Host.absf main_arg2
  let main_cst_1 : FVec F S_ .f32 := constant S_ .f32 0x7F800000#32
  let main_v7 : FVec F S16x4096x1024 .f32 := broadcastInDim S16x4096x1024 ![] bcast_S_S16x4096x1024 main_cst_1
  let main_v8 : IVec S16x4096x1024 1 := cmpf .olt main_v6 main_v7
  let main_v9 : FVec F S1x4x64 .f32 := Host.absf main_arg3
  let main_cst_2 : FVec F S_ .f32 := constant S_ .f32 0x7F800000#32
  let main_v10 : FVec F S1x4x64 .f32 := broadcastInDim S1x4x64 ![] bcast_S_S1x4x64 main_cst_2
  let main_v11 : IVec S1x4x64 1 := cmpf .olt main_v9 main_v10
  (main_v2, main_v5, main_v8, main_v11)
-- ==== Kernel.lean ====
abbrev S16x4096x16x64 : Shape := ⟨4, ![16, 4096, 16, 64]⟩
abbrev S16x4096x1024 : Shape := ⟨3, ![16, 4096, 1024]⟩
abbrev S1x4x64 : Shape := ⟨3, ![1, 4, 64]⟩
abbrev S1x128 : Shape := ⟨2, ![1, 128]⟩
abbrev S65536x1024 : Shape := ⟨2, ![65536, 1024]⟩
abbrev S1024x65536 : Shape := ⟨2, ![1024, 65536]⟩
abbrev S4x64 : Shape := ⟨2, ![4, 64]⟩
abbrev S128 : Shape := ⟨1, ![128]⟩
abbrev S512x128 : Shape := ⟨2, ![512, 128]⟩
abbrev S4096x128 : Shape := ⟨2, ![4096, 128]⟩
abbrev S128x4096 : Shape := ⟨2, ![128, 4096]⟩
abbrev S2x144x512 : Shape := ⟨3, ![2, 144, 512]⟩
abbrev S4x512x512 : Shape := ⟨3, ![4, 512, 512]⟩
abbrev S1x64 : Shape := ⟨2, ![1, 64]⟩
abbrev S1 : Shape := ⟨1, ![1]⟩
abbrev S1x1 : Shape := ⟨2, ![1, 1]⟩
abbrev S16x512 : Shape := ⟨2, ![16, 512]⟩
abbrev S512x512 : Shape := ⟨2, ![512, 512]⟩
abbrev S1x512x512 : Shape := ⟨3, ![1, 512, 512]⟩
abbrev S1x512 : Shape := ⟨2, ![1, 512]⟩
abbrev S128x512 : Shape := ⟨2, ![128, 512]⟩
abbrev S144x512 : Shape := ⟨2, ![144, 512]⟩
abbrev S512 : Shape := ⟨1, ![512]⟩
abbrev S1x144x512 : Shape := ⟨3, ![1, 144, 512]⟩
abbrev S1x128x512 : Shape := ⟨3, ![1, 128, 512]⟩
abbrev S1x1x512 : Shape := ⟨3, ![1, 1, 512]⟩
abbrev S512x1 : Shape := ⟨2, ![512, 1]⟩

abbrev nBuf : Space → Nat
  | .hbm => 16
  | .vmem => 12
  | .smem => 0
  | _ => 0

abbrev bufTy : (tb : Table) → Fin (tcTables nBuf tb) → BufTy
  | .hbm, ⟨0, _⟩ => ⟨S16x4096x16x64, .f32⟩
  | .hbm, ⟨1, _⟩ => ⟨S16x4096x16x64, .f32⟩
  | .hbm, ⟨2, _⟩ => ⟨S16x4096x1024, .f32⟩
  | .hbm, ⟨3, _⟩ => ⟨S1x4x64, .f32⟩
  | .hbm, ⟨4, _⟩ => ⟨S1x128, .f32⟩
  | .hbm, ⟨5, _⟩ => ⟨S65536x1024, .f32⟩
  | .hbm, ⟨6, _⟩ => ⟨S65536x1024, .bf16⟩
  | .hbm, ⟨7, _⟩ => ⟨S65536x1024, .f32⟩
  | .hbm, ⟨8, _⟩ => ⟨S65536x1024, .bf16⟩
  | .hbm, ⟨9, _⟩ => ⟨S65536x1024, .f32⟩
  | .hbm, ⟨10, _⟩ => ⟨S1024x65536, .f32⟩
  | .hbm, ⟨11, _⟩ => ⟨S1024x65536, .bf16⟩
  | .hbm, ⟨12, _⟩ => ⟨S4x64, .f32⟩
  | .hbm, ⟨13, _⟩ => ⟨S128, .f32⟩
  | .hbm, ⟨14, _⟩ => ⟨S1x128, .f32⟩
  | .hbm, ⟨15, _⟩ => ⟨S65536x1024, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S128x4096, .bf16⟩
  | .local _ .vmem, ⟨5, _⟩ => ⟨S128x4096, .bf16⟩
  | .local _ .vmem, ⟨6, _⟩ => ⟨S4x64, .f32⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | .local _ .vmem, ⟨10, _⟩ => ⟨S2x144x512, .f32⟩
  | .local _ .vmem, ⟨11, _⟩ => ⟨S4x512x512, .f32⟩
  | _, _ => ⟨S16x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 8, 8], ![false, false, false]⟩

def k0_mult1 (i : grid0.Coords) : BitVec 32 :=
  let arg2 : BitVec 32 := BitVec.ofNat 32 (i 2).val
  let c512_i32 : BitVec 32 := 512#32
  let v36 : BitVec 32 := Scalar.muli arg2 c512_i32
  v36
def k0_off1 (i : grid0.Coords) : Fin 2 → Nat :=
  let arg2 : BitVec 32 := BitVec.ofNat 32 (i 2).val
  let c512_i32 : BitVec 32 := 512#32
  let v36 : BitVec 32 := Scalar.muli arg2 c512_i32
  let v37 : BitVec 32 := v36
  let v38 : Index := Scalar.indexCast v37
  let c0_13 : Index := 0#32
  ![v38.toNat, 0]
def k0_mult2 : BitVec 32 :=
  let c0_i32 : BitVec 32 := 0#32
  c0_i32
def k0_mult3 (i : grid0.Coords) : BitVec 32 :=
  let arg2 : BitVec 32 := BitVec.ofNat 32 (i 2).val
  let c512_i32_29 : BitVec 32 := 512#32
  let v62 : BitVec 32 := Scalar.muli arg2 c512_i32_29
  v62
def k0_off2 (i : grid0.Coords) : Fin 2 → Nat :=
  let c0_30 : Index := 0#32
  let arg2 : BitVec 32 := BitVec.ofNat 32 (i 2).val
  let c512_i32_29 : BitVec 32 := 512#32
  let v62 : BitVec 32 := Scalar.muli arg2 c512_i32_29
  let v63 : BitVec 32 := v62
  let v64 : Index := Scalar.indexCast v63
  ![0, v64.toNat]
@[reducible] def k0_t1_loop (i : grid0.Coords) : Scf.Loop 32 :=
  let c0_i32_62 : BitVec 32 := 0#32
  let arg2 : BitVec 32 := BitVec.ofNat 32 (i 2).val
  let c1_i32 : BitVec 32 := 1#32
  let v115 : BitVec 32 := Scalar.subi arg2 c1_i32
  let c0_i32_55 : BitVec 32 := 0#32
  let v116 : BitVec 32 := Scalar.maxsi v115 c0_i32_55
  let c0_i32_56 : BitVec 32 := 0#32
  let v118 : BitVec 1 := Scalar.cmpi .sgt v116 c0_i32_56
  let v119 : BitVec 32 := Scalar.extui v118
  let c0_i32_57 : BitVec 32 := 0#32
  let v120 : BitVec 1 := Scalar.cmpi .slt v116 c0_i32_57
  let v121 : BitVec 32 := Scalar.extui v120
  let v122 : BitVec 32 := Scalar.subi v119 v121
  let c2_i32 : BitVec 32 := 2#32
  let c0_i32_58 : BitVec 32 := 0#32
  let v123 : BitVec 1 := Scalar.cmpi .sgt c2_i32 c0_i32_58
  let v124 : BitVec 32 := Scalar.extui v123
  let c0_i32_59 : BitVec 32 := 0#32
  let v125 : BitVec 1 := Scalar.cmpi .slt c2_i32 c0_i32_59
  let v126 : BitVec 32 := Scalar.extui v125
  let v127 : BitVec 32 := Scalar.subi v124 v126
  let v128 : BitVec 1 := Scalar.cmpi .ne v122 v127
  let v129 : BitVec 32 := Scalar.remsi v116 c2_i32
  let c0_i32_60 : BitVec 32 := 0#32
  let v130 : BitVec 1 := Scalar.cmpi .ne v129 c0_i32_60
  let v131 : BitVec 1 := Scalar.andi v128 v130
  let v117 : BitVec 32 := Scalar.divsi v116 c2_i32
  let c1_i32_61 : BitVec 32 := 1#32
  let v132 : BitVec 32 := Scalar.subi v117 c1_i32_61
  let v133 : BitVec 32 := Scalar.select v131 v132 v117
  let v134 : BitVec 32 := Scalar.subi v133 c0_i32_62
  let c1_i32_63 : BitVec 32 := 1#32
  let v136 : BitVec 32 := Scalar.divsi v134 c1_i32_63
  let v137 : BitVec 32 := Scalar.muli v136 c1_i32_63
  let v138 : BitVec 32 := Scalar.addi c0_i32_62 v137
  let c1_i32_64 : BitVec 32 := 1#32
  ⟨c0_i32_62, v138, c1_i32_64⟩
def k0_mult4 (i : grid0.Coords) (k0_t1 : Fin (k0_t1_loop i).trips) : BitVec 32 :=
  let c2_i32_105 : BitVec 32 := 2#32
  let c0_i32_62 : BitVec 32 := 0#32
  let c1_i32_64 : BitVec 32 := 1#32
  let arg11 : BitVec 32 := Scf.iv c0_i32_62 c1_i32_64 k0_t1
  let v208 : BitVec 32 := Scalar.muli c2_i32_105 arg11
  let c1_i32_106 : BitVec 32 := 1#32
  let v209 : BitVec 32 := Scalar.addi v208 c1_i32_106
  let c512_i32_107 : BitVec 32 := 512#32
  let v210 : BitVec 32 := Scalar.muli v209 c512_i32_107
  v210
def k0_off3 (i : grid0.Coords) (k0_t1 : Fin (k0_t1_loop i).trips) (c1_i32_106 : BitVec 32) : Fin 2 → Nat :=
  let c2_i32_105 : BitVec 32 := 2#32
  let c0_i32_62 : BitVec 32 := 0#32
  let c1_i32_64 : BitVec 32 := 1#32
  let arg11 : BitVec 32 := Scf.iv c0_i32_62 c1_i32_64 k0_t1
  let v208 : BitVec 32 := Scalar.muli c2_i32_105 arg11
  let v209 : BitVec 32 := Scalar.addi v208 c1_i32_106
  let c512_i32_107 : BitVec 32 := 512#32
  let v210 : BitVec 32 := Scalar.muli v209 c512_i32_107
  let v211 : BitVec 32 := v210
  let v212 : Index := Scalar.indexCast v211
  let c0_108 : Index := 0#32
  ![v212.toNat, 0]
def k0_mult5 (i : grid0.Coords) (k0_t1 : Fin (k0_t1_loop i).trips) : BitVec 32 :=
  let c2_i32_104 : BitVec 32 := 2#32
  let c0_i32_62 : BitVec 32 := 0#32
  let c1_i32_64 : BitVec 32 := 1#32
  let arg11 : BitVec 32 := Scf.iv c0_i32_62 c1_i32_64 k0_t1
  let v207 : BitVec 32 := Scalar.muli c2_i32_104 arg11
  let c512_i32_117 : BitVec 32 := 512#32
  let v223 : BitVec 32 := Scalar.muli v207 c512_i32_117
  v223
def k0_off4 (i : grid0.Coords) (k0_t1 : Fin (k0_t1_loop i).trips) : Fin 2 → Nat :=
  let c0_118 : Index := 0#32
  let c2_i32_104 : BitVec 32 := 2#32
  let c0_i32_62 : BitVec 32 := 0#32
  let c1_i32_64 : BitVec 32 := 1#32
  let arg11 : BitVec 32 := Scf.iv c0_i32_62 c1_i32_64 k0_t1
  let v207 : BitVec 32 := Scalar.muli c2_i32_104 arg11
  let c512_i32_117 : BitVec 32 := 512#32
  let v223 : BitVec 32 := Scalar.muli v207 c512_i32_117
  let v224 : BitVec 32 := v223
  let v225 : Index := Scalar.indexCast v224
  ![0, v225.toNat]
def k0_mult6 (i : grid0.Coords) (k0_t1 : Fin (k0_t1_loop i).trips) : BitVec 32 :=
  let c2_i32_143 : BitVec 32 := 2#32
  let c0_i32_62 : BitVec 32 := 0#32
  let c1_i32_64 : BitVec 32 := 1#32
  let arg11 : BitVec 32 := Scf.iv c0_i32_62 c1_i32_64 k0_t1
  let v271 : BitVec 32 := Scalar.muli c2_i32_143 arg11
  let c2_i32_144 : BitVec 32 := 2#32
  let v272 : BitVec 32 := Scalar.addi v271 c2_i32_144
  let c512_i32_145 : BitVec 32 := 512#32
  let v273 : BitVec 32 := Scalar.muli v272 c512_i32_145
  v273
def k0_mult7 (i : grid0.Coords) (k0_t1 : Fin (k0_t1_loop i).trips) : BitVec 32 :=
  let c2_i32_141 : BitVec 32 := 2#32
  let c0_i32_62 : BitVec 32 := 0#32
  let c1_i32_64 : BitVec 32 := 1#32
  let arg11 : BitVec 32 := Scf.iv c0_i32_62 c1_i32_64 k0_t1
  let v269 : BitVec 32 := Scalar.muli c2_i32_141 arg11
  let c1_i32_142 : BitVec 32 := 1#32
  let v270 : BitVec 32 := Scalar.addi v269 c1_i32_142
  let c512_i32_155 : BitVec 32 := 512#32
  let v286 : BitVec 32 := Scalar.muli v270 c512_i32_155
  v286
def k0_off5 (i : grid0.Coords) (k0_t1 : Fin (k0_t1_loop i).trips) : Fin 2 → Nat :=
  let c0_156 : Index := 0#32
  let c2_i32_141 : BitVec 32 := 2#32
  let c0_i32_62 : BitVec 32 := 0#32
  let c1_i32_64 : BitVec 32 := 1#32
  let arg11 : BitVec 32 := Scf.iv c0_i32_62 c1_i32_64 k0_t1
  let v269 : BitVec 32 := Scalar.muli c2_i32_141 arg11
  let c1_i32_142 : BitVec 32 := 1#32
  let v270 : BitVec 32 := Scalar.addi v269 c1_i32_142
  let c512_i32_155 : BitVec 32 := 512#32
  let v286 : BitVec 32 := Scalar.muli v270 c512_i32_155
  let v287 : BitVec 32 := v286
  let v288 : Index := Scalar.indexCast v287
  ![0, v288.toNat]
@[reducible] def k0_t2_loop (i : grid0.Coords) : Scf.Loop 32 :=
  let c0_i32_62 : BitVec 32 := 0#32
  let arg2 : BitVec 32 := BitVec.ofNat 32 (i 2).val
  let c1_i32 : BitVec 32 := 1#32
  let v115 : BitVec 32 := Scalar.subi arg2 c1_i32
  let c0_i32_55 : BitVec 32 := 0#32
  let v116 : BitVec 32 := Scalar.maxsi v115 c0_i32_55
  let c0_i32_56 : BitVec 32 := 0#32
  let v118 : BitVec 1 := Scalar.cmpi .sgt v116 c0_i32_56
  let v119 : BitVec 32 := Scalar.extui v118
  let c0_i32_57 : BitVec 32 := 0#32
  let v120 : BitVec 1 := Scalar.cmpi .slt v116 c0_i32_57
  let v121 : BitVec 32 := Scalar.extui v120
  let v122 : BitVec 32 := Scalar.subi v119 v121
  let c2_i32 : BitVec 32 := 2#32
  let c0_i32_58 : BitVec 32 := 0#32
  let v123 : BitVec 1 := Scalar.cmpi .sgt c2_i32 c0_i32_58
  let v124 : BitVec 32 := Scalar.extui v123
  let c0_i32_59 : BitVec 32 := 0#32
  let v125 : BitVec 1 := Scalar.cmpi .slt c2_i32 c0_i32_59
  let v126 : BitVec 32 := Scalar.extui v125
  let v127 : BitVec 32 := Scalar.subi v124 v126
  let v128 : BitVec 1 := Scalar.cmpi .ne v122 v127
  let v129 : BitVec 32 := Scalar.remsi v116 c2_i32
  let c0_i32_60 : BitVec 32 := 0#32
  let v130 : BitVec 1 := Scalar.cmpi .ne v129 c0_i32_60
  let v131 : BitVec 1 := Scalar.andi v128 v130
  let v117 : BitVec 32 := Scalar.divsi v116 c2_i32
  let c1_i32_61 : BitVec 32 := 1#32
  let v132 : BitVec 32 := Scalar.subi v117 c1_i32_61
  let v133 : BitVec 32 := Scalar.select v131 v132 v117
  let v134 : BitVec 32 := Scalar.subi v133 c0_i32_62
  let c1_i32_63 : BitVec 32 := 1#32
  let v136 : BitVec 32 := Scalar.divsi v134 c1_i32_63
  let v137 : BitVec 32 := Scalar.muli v136 c1_i32_63
  let v138 : BitVec 32 := Scalar.addi c0_i32_62 v137
  let v135 : BitVec 32 := Scalar.addi c0_i32_62 v134
  let c1_i32_65 : BitVec 32 := 1#32
  ⟨v138, v135, c1_i32_65⟩
def k0_mult8 (i : grid0.Coords) (k0_t2 : Fin (k0_t2_loop i).trips) : BitVec 32 :=
  let c2_i32_105 : BitVec 32 := 2#32
  let c0_i32_62 : BitVec 32 := 0#32
  let arg2 : BitVec 32 := BitVec.ofNat 32 (i 2).val
  let c1_i32 : BitVec 32 := 1#32
  let v115 : BitVec 32 := Scalar.subi arg2 c1_i32
  let c0_i32_55 : BitVec 32 := 0#32
  let v116 : BitVec 32 := Scalar.maxsi v115 c0_i32_55
  let c0_i32_56 : BitVec 32 := 0#32
  let v118 : BitVec 1 := Scalar.cmpi .sgt v116 c0_i32_56
  let v119 : BitVec 32 := Scalar.extui v118
  let c0_i32_57 : BitVec 32 := 0#32
  let v120 : BitVec 1 := Scalar.cmpi .slt v116 c0_i32_57
  let v121 : BitVec 32 := Scalar.extui v120
  let v122 : BitVec 32 := Scalar.subi v119 v121
  let c2_i32 : BitVec 32 := 2#32
  let c0_i32_58 : BitVec 32 := 0#32
  let v123 : BitVec 1 := Scalar.cmpi .sgt c2_i32 c0_i32_58
  let v124 : BitVec 32 := Scalar.extui v123
  let c0_i32_59 : BitVec 32 := 0#32
  let v125 : BitVec 1 := Scalar.cmpi .slt c2_i32 c0_i32_59
  let v126 : BitVec 32 := Scalar.extui v125
  let v127 : BitVec 32 := Scalar.subi v124 v126
  let v128 : BitVec 1 := Scalar.cmpi .ne v122 v127
  let v129 : BitVec 32 := Scalar.remsi v116 c2_i32
  let c0_i32_60 : BitVec 32 := 0#32
  let v130 : BitVec 1 := Scalar.cmpi .ne v129 c0_i32_60
  let v131 : BitVec 1 := Scalar.andi v128 v130
  let v117 : BitVec 32 := Scalar.divsi v116 c2_i32
  let c1_i32_61 : BitVec 32 := 1#32
  let v132 : BitVec 32 := Scalar.subi v117 c1_i32_61
  let v133 : BitVec 32 := Scalar.select v131 v132 v117
  let v134 : BitVec 32 := Scalar.subi v133 c0_i32_62
  let c1_i32_63 : BitVec 32 := 1#32
  let v136 : BitVec 32 := Scalar.divsi v134 c1_i32_63
  let v137 : BitVec 32 := Scalar.muli v136 c1_i32_63
  let v138 : BitVec 32 := Scalar.addi c0_i32_62 v137
  let c1_i32_65 : BitVec 32 := 1#32
  let arg11 : BitVec 32 := Scf.iv v138 c1_i32_65 k0_t2
  let v208 : BitVec 32 := Scalar.muli c2_i32_105 arg11
  let c1_i32_106 : BitVec 32 := 1#32
  let v209 : BitVec 32 := Scalar.addi v208 c1_i32_106
  let c512_i32_107 : BitVec 32 := 512#32
  let v210 : BitVec 32 := Scalar.muli v209 c512_i32_107
  v210
def k0_off6 (i : grid0.Coords) (k0_t2 : Fin (k0_t2_loop i).trips) (c1_i32_106 : BitVec 32) : Fin 2 → Nat :=
  let c2_i32_105 : BitVec 32 := 2#32
  let c0_i32_62 : BitVec 32 := 0#32
  let arg2 : BitVec 32 := BitVec.ofNat 32 (i 2).val
  let c1_i32 : BitVec 32 := 1#32
  let v115 : BitVec 32 := Scalar.subi arg2 c1_i32
  let c0_i32_55 : BitVec 32 := 0#32
  let v116 : BitVec 32 := Scalar.maxsi v115 c0_i32_55
  let c0_i32_56 : BitVec 32 := 0#32
  let v118 : BitVec 1 := Scalar.cmpi .sgt v116 c0_i32_56
  let v119 : BitVec 32 := Scalar.extui v118
  let c0_i32_57 : BitVec 32 := 0#32
  let v120 : BitVec 1 := Scalar.cmpi .slt v116 c0_i32_57
  let v121 : BitVec 32 := Scalar.extui v120
  let v122 : BitVec 32 := Scalar.subi v119 v121
  let c2_i32 : BitVec 32 := 2#32
  let c0_i32_58 : BitVec 32 := 0#32
  let v123 : BitVec 1 := Scalar.cmpi .sgt c2_i32 c0_i32_58
  let v124 : BitVec 32 := Scalar.extui v123
  let c0_i32_59 : BitVec 32 := 0#32
  let v125 : BitVec 1 := Scalar.cmpi .slt c2_i32 c0_i32_59
  let v126 : BitVec 32 := Scalar.extui v125
  let v127 : BitVec 32 := Scalar.subi v124 v126
  let v128 : BitVec 1 := Scalar.cmpi .ne v122 v127
  let v129 : BitVec 32 := Scalar.remsi v116 c2_i32
  let c0_i32_60 : BitVec 32 := 0#32
  let v130 : BitVec 1 := Scalar.cmpi .ne v129 c0_i32_60
  let v131 : BitVec 1 := Scalar.andi v128 v130
  let v117 : BitVec 32 := Scalar.divsi v116 c2_i32
  let c1_i32_61 : BitVec 32 := 1#32
  let v132 : BitVec 32 := Scalar.subi v117 c1_i32_61
  let v133 : BitVec 32 := Scalar.select v131 v132 v117
  let v134 : BitVec 32 := Scalar.subi v133 c0_i32_62
  let c1_i32_63 : BitVec 32 := 1#32
  let v136 : BitVec 32 := Scalar.divsi v134 c1_i32_63
  let v137 : BitVec 32 := Scalar.muli v136 c1_i32_63
  let v138 : BitVec 32 := Scalar.addi c0_i32_62 v137
  let c1_i32_65 : BitVec 32 := 1#32
  let arg11 : BitVec 32 := Scf.iv v138 c1_i32_65 k0_t2
  let v208 : BitVec 32 := Scalar.muli c2_i32_105 arg11
  let v209 : BitVec 32 := Scalar.addi v208 c1_i32_106
  let c512_i32_107 : BitVec 32 := 512#32
  let v210 : BitVec 32 := Scalar.muli v209 c512_i32_107
  let v211 : BitVec 32 := v210
  let v212 : Index := Scalar.indexCast v211
  let c0_108 : Index := 0#32
  ![v212.toNat, 0]
def k0_mult9 (i : grid0.Coords) (k0_t2 : Fin (k0_t2_loop i).trips) : BitVec 32 :=
  let c2_i32_104 : BitVec 32 := 2#32
  let c0_i32_62 : BitVec 32 := 0#32
  let arg2 : BitVec 32 := BitVec.ofNat 32 (i 2).val
  let c1_i32 : BitVec 32 := 1#32
  let v115 : BitVec 32 := Scalar.subi arg2 c1_i32
  let c0_i32_55 : BitVec 32 := 0#32
  let v116 : BitVec 32 := Scalar.maxsi v115 c0_i32_55
  let c0_i32_56 : BitVec 32 := 0#32
  let v118 : BitVec 1 := Scalar.cmpi .sgt v116 c0_i32_56
  let v119 : BitVec 32 := Scalar.extui v118
  let c0_i32_57 : BitVec 32 := 0#32
  let v120 : BitVec 1 := Scalar.cmpi .slt v116 c0_i32_57
  let v121 : BitVec 32 := Scalar.extui v120
  let v122 : BitVec 32 := Scalar.subi v119 v121
  let c2_i32 : BitVec 32 := 2#32
  let c0_i32_58 : BitVec 32 := 0#32
  let v123 : BitVec 1 := Scalar.cmpi .sgt c2_i32 c0_i32_58
  let v124 : BitVec 32 := Scalar.extui v123
  let c0_i32_59 : BitVec 32 := 0#32
  let v125 : BitVec 1 := Scalar.cmpi .slt c2_i32 c0_i32_59
  let v126 : BitVec 32 := Scalar.extui v125
  let v127 : BitVec 32 := Scalar.subi v124 v126
  let v128 : BitVec 1 := Scalar.cmpi .ne v122 v127
  let v129 : BitVec 32 := Scalar.remsi v116 c2_i32
  let c0_i32_60 : BitVec 32 := 0#32
  let v130 : BitVec 1 := Scalar.cmpi .ne v129 c0_i32_60
  let v131 : BitVec 1 := Scalar.andi v128 v130
  let v117 : BitVec 32 := Scalar.divsi v116 c2_i32
  let c1_i32_61 : BitVec 32 := 1#32
  let v132 : BitVec 32 := Scalar.subi v117 c1_i32_61
  let v133 : BitVec 32 := Scalar.select v131 v132 v117
  let v134 : BitVec 32 := Scalar.subi v133 c0_i32_62
  let c1_i32_63 : BitVec 32 := 1#32
  let v136 : BitVec 32 := Scalar.divsi v134 c1_i32_63
  let v137 : BitVec 32 := Scalar.muli v136 c1_i32_63
  let v138 : BitVec 32 := Scalar.addi c0_i32_62 v137
  let c1_i32_65 : BitVec 32 := 1#32
  let arg11 : BitVec 32 := Scf.iv v138 c1_i32_65 k0_t2
  let v207 : BitVec 32 := Scalar.muli c2_i32_104 arg11
  let c512_i32_117 : BitVec 32 := 512#32
  let v223 : BitVec 32 := Scalar.muli v207 c512_i32_117
  v223
def k0_off7 (i : grid0.Coords) (k0_t2 : Fin (k0_t2_loop i).trips) : Fin 2 → Nat :=
  let c0_118 : Index := 0#32
  let c2_i32_104 : BitVec 32 := 2#32
  let c0_i32_62 : BitVec 32 := 0#32
  let arg2 : BitVec 32 := BitVec.ofNat 32 (i 2).val
  let c1_i32 : BitVec 32 := 1#32
  let v115 : BitVec 32 := Scalar.subi arg2 c1_i32
  let c0_i32_55 : BitVec 32 := 0#32
  let v116 : BitVec 32 := Scalar.maxsi v115 c0_i32_55
  let c0_i32_56 : BitVec 32 := 0#32
  let v118 : BitVec 1 := Scalar.cmpi .sgt v116 c0_i32_56
  let v119 : BitVec 32 := Scalar.extui v118
  let c0_i32_57 : BitVec 32 := 0#32
  let v120 : BitVec 1 := Scalar.cmpi .slt v116 c0_i32_57
  let v121 : BitVec 32 := Scalar.extui v120
  let v122 : BitVec 32 := Scalar.subi v119 v121
  let c2_i32 : BitVec 32 := 2#32
  let c0_i32_58 : BitVec 32 := 0#32
  let v123 : BitVec 1 := Scalar.cmpi .sgt c2_i32 c0_i32_58
  let v124 : BitVec 32 := Scalar.extui v123
  let c0_i32_59 : BitVec 32 := 0#32
  let v125 : BitVec 1 := Scalar.cmpi .slt c2_i32 c0_i32_59
  let v126 : BitVec 32 := Scalar.extui v125
  let v127 : BitVec 32 := Scalar.subi v124 v126
  let v128 : BitVec 1 := Scalar.cmpi .ne v122 v127
  let v129 : BitVec 32 := Scalar.remsi v116 c2_i32
  let c0_i32_60 : BitVec 32 := 0#32
  let v130 : BitVec 1 := Scalar.cmpi .ne v129 c0_i32_60
  let v131 : BitVec 1 := Scalar.andi v128 v130
  let v117 : BitVec 32 := Scalar.divsi v116 c2_i32
  let c1_i32_61 : BitVec 32 := 1#32
  let v132 : BitVec 32 := Scalar.subi v117 c1_i32_61
  let v133 : BitVec 32 := Scalar.select v131 v132 v117
  let v134 : BitVec 32 := Scalar.subi v133 c0_i32_62
  let c1_i32_63 : BitVec 32 := 1#32
  let v136 : BitVec 32 := Scalar.divsi v134 c1_i32_63
  let v137 : BitVec 32 := Scalar.muli v136 c1_i32_63
  let v138 : BitVec 32 := Scalar.addi c0_i32_62 v137
  let c1_i32_65 : BitVec 32 := 1#32
  let arg11 : BitVec 32 := Scf.iv v138 c1_i32_65 k0_t2
  let v207 : BitVec 32 := Scalar.muli c2_i32_104 arg11
  let c512_i32_117 : BitVec 32 := 512#32
  let v223 : BitVec 32 := Scalar.muli v207 c512_i32_117
  let v224 : BitVec 32 := v223
  let v225 : Index := Scalar.indexCast v224
  ![0, v225.toNat]
def k0_mult10 (i : grid0.Coords) (k0_t2 : Fin (k0_t2_loop i).trips) : BitVec 32 :=
  let c2_i32_143 : BitVec 32 := 2#32
  let c0_i32_62 : BitVec 32 := 0#32
  let arg2 : BitVec 32 := BitVec.ofNat 32 (i 2).val
  let c1_i32 : BitVec 32 := 1#32
  let v115 : BitVec 32 := Scalar.subi arg2 c1_i32
  let c0_i32_55 : BitVec 32 := 0#32
  let v116 : BitVec 32 := Scalar.maxsi v115 c0_i32_55
  let c0_i32_56 : BitVec 32 := 0#32
  let v118 : BitVec 1 := Scalar.cmpi .sgt v116 c0_i32_56
  let v119 : BitVec 32 := Scalar.extui v118
  let c0_i32_57 : BitVec 32 := 0#32
  let v120 : BitVec 1 := Scalar.cmpi .slt v116 c0_i32_57
  let v121 : BitVec 32 := Scalar.extui v120
  let v122 : BitVec 32 := Scalar.subi v119 v121
  let c2_i32 : BitVec 32 := 2#32
  let c0_i32_58 : BitVec 32 := 0#32
  let v123 : BitVec 1 := Scalar.cmpi .sgt c2_i32 c0_i32_58
  let v124 : BitVec 32 := Scalar.extui v123
  let c0_i32_59 : BitVec 32 := 0#32
  let v125 : BitVec 1 := Scalar.cmpi .slt c2_i32 c0_i32_59
  let v126 : BitVec 32 := Scalar.extui v125
  let v127 : BitVec 32 := Scalar.subi v124 v126
  let v128 : BitVec 1 := Scalar.cmpi .ne v122 v127
  let v129 : BitVec 32 := Scalar.remsi v116 c2_i32
  let c0_i32_60 : BitVec 32 := 0#32
  let v130 : BitVec 1 := Scalar.cmpi .ne v129 c0_i32_60
  let v131 : BitVec 1 := Scalar.andi v128 v130
  let v117 : BitVec 32 := Scalar.divsi v116 c2_i32
  let c1_i32_61 : BitVec 32 := 1#32
  let v132 : BitVec 32 := Scalar.subi v117 c1_i32_61
  let v133 : BitVec 32 := Scalar.select v131 v132 v117
  let v134 : BitVec 32 := Scalar.subi v133 c0_i32_62
  let c1_i32_63 : BitVec 32 := 1#32
  let v136 : BitVec 32 := Scalar.divsi v134 c1_i32_63
  let v137 : BitVec 32 := Scalar.muli v136 c1_i32_63
  let v138 : BitVec 32 := Scalar.addi c0_i32_62 v137
  let c1_i32_65 : BitVec 32 := 1#32
  let arg11 : BitVec 32 := Scf.iv v138 c1_i32_65 k0_t2
  let v271 : BitVec 32 := Scalar.muli c2_i32_143 arg11
  let c2_i32_144 : BitVec 32 := 2#32
  let v272 : BitVec 32 := Scalar.addi v271 c2_i32_144
  let c512_i32_145 : BitVec 32 := 512#32
  let v273 : BitVec 32 := Scalar.muli v272 c512_i32_145
  v273
def k0_mult11 (i : grid0.Coords) (k0_t2 : Fin (k0_t2_loop i).trips) : BitVec 32 :=
  let c2_i32_141 : BitVec 32 := 2#32
  let c0_i32_62 : BitVec 32 := 0#32
  let arg2 : BitVec 32 := BitVec.ofNat 32 (i 2).val
  let c1_i32 : BitVec 32 := 1#32
  let v115 : BitVec 32 := Scalar.subi arg2 c1_i32
  let c0_i32_55 : BitVec 32 := 0#32
  let v116 : BitVec 32 := Scalar.maxsi v115 c0_i32_55
  let c0_i32_56 : BitVec 32 := 0#32
  let v118 : BitVec 1 := Scalar.cmpi .sgt v116 c0_i32_56
  let v119 : BitVec 32 := Scalar.extui v118
  let c0_i32_57 : BitVec 32 := 0#32
  let v120 : BitVec 1 := Scalar.cmpi .slt v116 c0_i32_57
  let v121 : BitVec 32 := Scalar.extui v120
  let v122 : BitVec 32 := Scalar.subi v119 v121
  let c2_i32 : BitVec 32 := 2#32
  let c0_i32_58 : BitVec 32 := 0#32
  let v123 : BitVec 1 := Scalar.cmpi .sgt c2_i32 c0_i32_58
  let v124 : BitVec 32 := Scalar.extui v123
  let c0_i32_59 : BitVec 32 := 0#32
  let v125 : BitVec 1 := Scalar.cmpi .slt c2_i32 c0_i32_59
  let v126 : BitVec 32 := Scalar.extui v125
  let v127 : BitVec 32 := Scalar.subi v124 v126
  let v128 : BitVec 1 := Scalar.cmpi .ne v122 v127
  let v129 : BitVec 32 := Scalar.remsi v116 c2_i32
  let c0_i32_60 : BitVec 32 := 0#32
  let v130 : BitVec 1 := Scalar.cmpi .ne v129 c0_i32_60
  let v131 : BitVec 1 := Scalar.andi v128 v130
  let v117 : BitVec 32 := Scalar.divsi v116 c2_i32
  let c1_i32_61 : BitVec 32 := 1#32
  let v132 : BitVec 32 := Scalar.subi v117 c1_i32_61
  let v133 : BitVec 32 := Scalar.select v131 v132 v117
  let v134 : BitVec 32 := Scalar.subi v133 c0_i32_62
  let c1_i32_63 : BitVec 32 := 1#32
  let v136 : BitVec 32 := Scalar.divsi v134 c1_i32_63
  let v137 : BitVec 32 := Scalar.muli v136 c1_i32_63
  let v138 : BitVec 32 := Scalar.addi c0_i32_62 v137
  let c1_i32_65 : BitVec 32 := 1#32
  let arg11 : BitVec 32 := Scf.iv v138 c1_i32_65 k0_t2
  let v269 : BitVec 32 := Scalar.muli c2_i32_141 arg11
  let c1_i32_142 : BitVec 32 := 1#32
  let v270 : BitVec 32 := Scalar.addi v269 c1_i32_142
  let c512_i32_155 : BitVec 32 := 512#32
  let v286 : BitVec 32 := Scalar.muli v270 c512_i32_155
  v286
def k0_off8 (i : grid0.Coords) (k0_t2 : Fin (k0_t2_loop i).trips) : Fin 2 → Nat :=
  let c0_156 : Index := 0#32
  let c2_i32_141 : BitVec 32 := 2#32
  let c0_i32_62 : BitVec 32 := 0#32
  let arg2 : BitVec 32 := BitVec.ofNat 32 (i 2).val
  let c1_i32 : BitVec 32 := 1#32
  let v115 : BitVec 32 := Scalar.subi arg2 c1_i32
  let c0_i32_55 : BitVec 32 := 0#32
  let v116 : BitVec 32 := Scalar.maxsi v115 c0_i32_55
  let c0_i32_56 : BitVec 32 := 0#32
  let v118 : BitVec 1 := Scalar.cmpi .sgt v116 c0_i32_56
  let v119 : BitVec 32 := Scalar.extui v118
  let c0_i32_57 : BitVec 32 := 0#32
  let v120 : BitVec 1 := Scalar.cmpi .slt v116 c0_i32_57
  let v121 : BitVec 32 := Scalar.extui v120
  let v122 : BitVec 32 := Scalar.subi v119 v121
  let c2_i32 : BitVec 32 := 2#32
  let c0_i32_58 : BitVec 32 := 0#32
  let v123 : BitVec 1 := Scalar.cmpi .sgt c2_i32 c0_i32_58
  let v124 : BitVec 32 := Scalar.extui v123
  let c0_i32_59 : BitVec 32 := 0#32
  let v125 : BitVec 1 := Scalar.cmpi .slt c2_i32 c0_i32_59
  let v126 : BitVec 32 := Scalar.extui v125
  let v127 : BitVec 32 := Scalar.subi v124 v126
  let v128 : BitVec 1 := Scalar.cmpi .ne v122 v127
  let v129 : BitVec 32 := Scalar.remsi v116 c2_i32
  let c0_i32_60 : BitVec 32 := 0#32
  let v130 : BitVec 1 := Scalar.cmpi .ne v129 c0_i32_60
  let v131 : BitVec 1 := Scalar.andi v128 v130
  let v117 : BitVec 32 := Scalar.divsi v116 c2_i32
  let c1_i32_61 : BitVec 32 := 1#32
  let v132 : BitVec 32 := Scalar.subi v117 c1_i32_61
  let v133 : BitVec 32 := Scalar.select v131 v132 v117
  let v134 : BitVec 32 := Scalar.subi v133 c0_i32_62
  let c1_i32_63 : BitVec 32 := 1#32
  let v136 : BitVec 32 := Scalar.divsi v134 c1_i32_63
  let v137 : BitVec 32 := Scalar.muli v136 c1_i32_63
  let v138 : BitVec 32 := Scalar.addi c0_i32_62 v137
  let c1_i32_65 : BitVec 32 := 1#32
  let arg11 : BitVec 32 := Scf.iv v138 c1_i32_65 k0_t2
  let v269 : BitVec 32 := Scalar.muli c2_i32_141 arg11
  let c1_i32_142 : BitVec 32 := 1#32
  let v270 : BitVec 32 := Scalar.addi v269 c1_i32_142
  let c512_i32_155 : BitVec 32 := 512#32
  let v286 : BitVec 32 := Scalar.muli v270 c512_i32_155
  let v287 : BitVec 32 := v286
  let v288 : Index := Scalar.indexCast v287
  ![0, v288.toNat]
def k0_cond1 (i : grid0.Coords) : BitVec 1 :=
  let arg2 : BitVec 32 := BitVec.ofNat 32 (i 2).val
  let c2_i32_66 : BitVec 32 := 2#32
  let c0_i32_67 : BitVec 32 := 0#32
  let v141 : BitVec 1 := Scalar.cmpi .eq c2_i32_66 c0_i32_67
  let c1_i32_68 : BitVec 32 := 1#32
  let v142 : BitVec 32 := Scalar.select v141 c1_i32_68 c2_i32_66
  let v143 : BitVec 32 := Scalar.remsi arg2 v142
  let c0_i32_70 : BitVec 32 := 0#32
  let v145 : BitVec 1 := Scalar.cmpi .slt v143 c0_i32_70
  let c0_i32_71 : BitVec 32 := 0#32
  let v146 : BitVec 1 := Scalar.cmpi .slt v142 c0_i32_71
  let v147 : BitVec 1 := Scalar.xori v145 v146
  let c0_i32_69 : BitVec 32 := 0#32
  let v144 : BitVec 1 := Scalar.cmpi .ne v143 c0_i32_69
  let v148 : BitVec 1 := Scalar.andi v147 v144
  let v149 : BitVec 32 := Scalar.addi v143 v142
  let v150 : BitVec 32 := Scalar.select v148 v149 v143
  let c1_i32_72 : BitVec 32 := 1#32
  let v151 : BitVec 1 := Scalar.cmpi .eq v150 c1_i32_72
  let v152 : BitVec 32 := Scalar.extui v151
  let c0_i32_73 : BitVec 32 := 0#32
  let v153 : BitVec 1 := Scalar.cmpi .ne v152 c0_i32_73
  v153

def k0_mult12 (i : grid0.Coords) : BitVec 32 :=
  let arg2 : BitVec 32 := BitVec.ofNat 32 (i 2).val
  let c1_i32_104 : BitVec 32 := 1#32
  let v207 : BitVec 32 := Scalar.subi arg2 c1_i32_104
  let c512_i32_105 : BitVec 32 := 512#32
  let v208 : BitVec 32 := Scalar.muli v207 c512_i32_105
  v208
def k0_off9 (i : grid0.Coords) : Fin 2 → Nat :=
  let c0_106 : Index := 0#32
  let arg2 : BitVec 32 := BitVec.ofNat 32 (i 2).val
  let c1_i32_104 : BitVec 32 := 1#32
  let v207 : BitVec 32 := Scalar.subi arg2 c1_i32_104
  let c512_i32_105 : BitVec 32 := 512#32
  let v208 : BitVec 32 := Scalar.muli v207 c512_i32_105
  let v209 : BitVec 32 := v208
  let v210 : Index := Scalar.indexCast v209
  ![0, v210.toNat]
def k0_cond2 (i : grid0.Coords) : BitVec 1 :=
  let arg2 : BitVec 32 := BitVec.ofNat 32 (i 2).val
  let c2_i32_74 : BitVec 32 := 2#32
  let c0_i32_75 : BitVec 32 := 0#32
  let v154 : BitVec 1 := Scalar.cmpi .eq c2_i32_74 c0_i32_75
  let c1_i32_76 : BitVec 32 := 1#32
  let v155 : BitVec 32 := Scalar.select v154 c1_i32_76 c2_i32_74
  let v156 : BitVec 32 := Scalar.remsi arg2 v155
  let c0_i32_78 : BitVec 32 := 0#32
  let v158 : BitVec 1 := Scalar.cmpi .slt v156 c0_i32_78
  let c0_i32_79 : BitVec 32 := 0#32
  let v159 : BitVec 1 := Scalar.cmpi .slt v155 c0_i32_79
  let v160 : BitVec 1 := Scalar.xori v158 v159
  let c0_i32_77 : BitVec 32 := 0#32
  let v157 : BitVec 1 := Scalar.cmpi .ne v156 c0_i32_77
  let v161 : BitVec 1 := Scalar.andi v160 v157
  let v162 : BitVec 32 := Scalar.addi v156 v155
  let v163 : BitVec 32 := Scalar.select v161 v162 v156
  let c0_i32_80 : BitVec 32 := 0#32
  let v164 : BitVec 1 := Scalar.cmpi .eq v163 c0_i32_80
  let c0_i32_81 : BitVec 32 := 0#32
  let v165 : BitVec 1 := Scalar.cmpi .sgt arg2 c0_i32_81
  let v166 : BitVec 1 := Scalar.andi v164 v165
  let v167 : BitVec 32 := Scalar.extui v166
  let c0_i32_82 : BitVec 32 := 0#32
  let v168 : BitVec 1 := Scalar.cmpi .ne v167 c0_i32_82
  v168

def k0_mult13 (i : grid0.Coords) : BitVec 32 :=
  let arg2 : BitVec 32 := BitVec.ofNat 32 (i 2).val
  let c1_i32_105 : BitVec 32 := 1#32
  let v208 : BitVec 32 := Scalar.subi arg2 c1_i32_105
  let c512_i32_106 : BitVec 32 := 512#32
  let v209 : BitVec 32 := Scalar.muli v208 c512_i32_106
  v209
def k0_off10 (i : grid0.Coords) : Fin 2 → Nat :=
  let arg2 : BitVec 32 := BitVec.ofNat 32 (i 2).val
  let c1_i32_105 : BitVec 32 := 1#32
  let v208 : BitVec 32 := Scalar.subi arg2 c1_i32_105
  let c512_i32_106 : BitVec 32 := 512#32
  let v209 : BitVec 32 := Scalar.muli v208 c512_i32_106
  let v210 : BitVec 32 := v209
  let v211 : Index := Scalar.indexCast v210
  let c0_107 : Index := 0#32
  ![v211.toNat, 0]
def k0_mult14 (i : grid0.Coords) : BitVec 32 :=
  let arg2 : BitVec 32 := BitVec.ofNat 32 (i 2).val
  let c2_i32_104 : BitVec 32 := 2#32
  let v207 : BitVec 32 := Scalar.subi arg2 c2_i32_104
  let c512_i32_116 : BitVec 32 := 512#32
  let v222 : BitVec 32 := Scalar.muli v207 c512_i32_116
  v222
def k0_off11 (i : grid0.Coords) (c2_i32_104 : BitVec 32) : Fin 2 → Nat :=
  let c0_117 : Index := 0#32
  let arg2 : BitVec 32 := BitVec.ofNat 32 (i 2).val
  let v207 : BitVec 32 := Scalar.subi arg2 c2_i32_104
  let c512_i32_116 : BitVec 32 := 512#32
  let v222 : BitVec 32 := Scalar.muli v207 c512_i32_116
  let v223 : BitVec 32 := v222
  let v224 : Index := Scalar.indexCast v223
  ![0, v224.toNat]
def k0_mult15 (i : grid0.Coords) : BitVec 32 :=
  let arg2 : BitVec 32 := BitVec.ofNat 32 (i 2).val
  let c1_i32_140 : BitVec 32 := 1#32
  let v268 : BitVec 32 := Scalar.subi arg2 c1_i32_140
  let c512_i32_141 : BitVec 32 := 512#32
  let v269 : BitVec 32 := Scalar.muli v268 c512_i32_141
  v269
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e_8" => some (((1 / 8) * (Real.log 2)⁻¹ : ℝ) : EReal)
  | _ => none
-- ==== ReferenceIdeal.lean ====
abbrev S16x4096x16x64 : Shape := ⟨4, ![16, 4096, 16, 64]⟩
abbrev S16x4096x1024 : Shape := ⟨3, ![16, 4096, 1024]⟩
abbrev S1x4x64 : Shape := ⟨3, ![1, 4, 64]⟩
abbrev S1x128 : Shape := ⟨2, ![1, 128]⟩
abbrev S4x64 : Shape := ⟨2, ![4, 64]⟩
abbrev S128 : Shape := ⟨1, ![128]⟩
abbrev S16x4096x8x2x64 : Shape := ⟨5, ![16, 4096, 8, 2, 64]⟩
abbrev S16x4096x8x128 : Shape := ⟨4, ![16, 4096, 8, 128]⟩
abbrev S1x64 : Shape := ⟨2, ![1, 64]⟩
abbrev S64 : Shape := ⟨1, ![64]⟩
abbrev S_ : Shape := ⟨0, ![]⟩
abbrev S16x8x2x4096x4096 : Shape := ⟨5, ![16, 8, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x8x2x4096 : Shape := ⟨4, ![16, 8, 2, 4096]⟩
abbrev S16x8x2x4096x1 : Shape := ⟨5, ![16, 8, 2, 4096, 1]⟩
abbrev S16x8x1x4096x4096 : Shape := ⟨5, ![16, 8, 1, 4096, 4096]⟩
abbrev S16x8x4096x4096 : Shape := ⟨4, ![16, 8, 4096, 4096]⟩
abbrev S16x8x128x4096 : Shape := ⟨4, ![16, 8, 128, 4096]⟩
abbrev S16x4096x8 : Shape := ⟨3, ![16, 4096, 8]⟩
abbrev S16x4096x8x1 : Shape := ⟨4, ![16, 4096, 8, 1]⟩
abbrev S1x1x1x128 : Shape := ⟨4, ![1, 1, 1, 128]⟩
abbrev S65536x1024 : Shape := ⟨2, ![65536, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16x4096x16x64, .f32⟩
  | .hbm, ⟨1, _⟩ => ⟨S16x4096x16x64, .f32⟩
  | .hbm, ⟨2, _⟩ => ⟨S16x4096x1024, .f32⟩
  | .hbm, ⟨3, _⟩ => ⟨S1x4x64, .f32⟩
  | .hbm, ⟨4, _⟩ => ⟨S1x128, .f32⟩
  | .hbm, ⟨5, _⟩ => ⟨S4x64, .f32⟩
  | .hbm, ⟨6, _⟩ => ⟨S128, .f32⟩
  | .hbm, ⟨7, _⟩ => ⟨S16x4096x8x2x64, .f32⟩
  | .hbm, ⟨8, _⟩ => ⟨S16x4096x8x2x64, .f32⟩
  | .hbm, ⟨9, _⟩ => ⟨S16x4096x8x128, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16x8x2x4096x4096, .f32⟩
  | .hbm, ⟨30, _⟩ => ⟨S_, .f32⟩
  | .hbm, ⟨31, _⟩ => ⟨S16x8x2x4096x4096, .f32⟩
  | .hbm, ⟨32, _⟩ => ⟨S16x8x2x4096x4096, .f32⟩
  | .hbm, ⟨33, _⟩ => ⟨S4096, .i32⟩
  | .hbm, ⟨34, _⟩ => ⟨S1x4096, .i32⟩
  | .hbm, ⟨35, _⟩ => ⟨S4096x1, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S_, .f32⟩
  | .hbm, ⟨40, _⟩ => ⟨S_, .f32⟩
  | .hbm, ⟨41, _⟩ => ⟨S16x8x2x4096x4096, .i1⟩
  | .hbm, ⟨42, _⟩ => ⟨S16x8x2x4096x4096, .f32⟩
  | .hbm, ⟨43, _⟩ => ⟨S16x8x2x4096x4096, .f32⟩
  | .hbm, ⟨44, _⟩ => ⟨S_, .f32⟩
  | .hbm, ⟨45, _⟩ => ⟨S16x8x2x4096, .f32⟩
  | .hbm, ⟨46, _⟩ => ⟨S_, .f32⟩
  | .hbm, ⟨47, _⟩ => ⟨S16x8x2x4096, .f32⟩
  | .hbm, ⟨48, _⟩ => ⟨S16x8x2x4096, .f32⟩
  | .hbm, ⟨49, _⟩ => ⟨S16x8x2x4096x1, .f32⟩
  | .hbm, ⟨50, _⟩ => ⟨S16x8x2x4096x4096, .f32⟩
  | .hbm, ⟨51, _⟩ => ⟨S16x8x2x4096x4096, .f32⟩
  | .hbm, ⟨52, _⟩ => ⟨S16x8x2x4096x4096, .f32⟩
  | .hbm, ⟨53, _⟩ => ⟨S_, .f32⟩
  | .hbm, ⟨54, _⟩ => ⟨S16x8x2x4096, .f32⟩
  | .hbm, ⟨55, _⟩ => ⟨S16x8x2x4096x1, .f32⟩
  | .hbm, ⟨56, _⟩ => ⟨S16x8x2x4096x4096, .f32⟩
  | .hbm, ⟨57, _⟩ => ⟨S16x8x2x4096x4096, .f32⟩
  | .hbm, ⟨58, _⟩ => ⟨S16x8x1x4096x4096, .f32⟩
  | .hbm, ⟨59, _⟩ => ⟨S16x8x4096x4096, .f32⟩
  | .hbm, ⟨60, _⟩ => ⟨S16x8x1x4096x4096, .f32⟩
  | .hbm, ⟨61, _⟩ => ⟨S16x8x4096x4096, .f32⟩
  | .hbm, ⟨62, _⟩ => ⟨S16x8x4096x4096, .f32⟩
  | .hbm, ⟨63, _⟩ => ⟨S16x8x4096x4096, .f32⟩
  | .hbm, ⟨64, _⟩ => ⟨S16x8x4096x4096, .f32⟩
  | .hbm, ⟨65, _⟩ => ⟨S16x8x128x4096, .f32⟩
  | .hbm, ⟨66, _⟩ => ⟨S16x4096x8x128, .f32⟩
  | .hbm, ⟨67, _⟩ => ⟨S16x4096x8x128, .f32⟩
  | .hbm, ⟨68, _⟩ => ⟨S_, .f32⟩
  | .hbm, ⟨69, _⟩ => ⟨S16x4096x8, .f32⟩
  | .hbm, ⟨70, _⟩ => ⟨S16x4096x8x1, .f32⟩
  | .hbm, ⟨71, _⟩ => ⟨S_, .f32⟩
  | .hbm, ⟨72, _⟩ => ⟨S16x4096x8x1, .f32⟩
  | .hbm, ⟨73, _⟩ => ⟨S16x4096x8x1, .f32⟩
  | .hbm, ⟨74, _⟩ => ⟨S_, .f32⟩
  | .hbm, ⟨75, _⟩ => ⟨S16x4096x8x1, .f32⟩
  | .hbm, ⟨76, _⟩ => ⟨S16x4096x8x1, .f32⟩
  | .hbm, ⟨77, _⟩ => ⟨S16x4096x8x1, .f32⟩
  | .hbm, ⟨78, _⟩ => ⟨S16x4096x8x128, .f32⟩
  | .hbm, ⟨79, _⟩ => ⟨S16x4096x8x128, .f32⟩
  | .hbm, ⟨80, _⟩ => ⟨S1x1x1x128, .f32⟩
  | .hbm, ⟨81, _⟩ => ⟨S16x4096x8x128, .f32⟩
  | .hbm, ⟨82, _⟩ => ⟨S16x4096x8x128, .f32⟩
  | .hbm, ⟨83, _⟩ => ⟨S_, .f32⟩
  | .hbm, ⟨84, _⟩ => ⟨S16x4096x8x128, .f32⟩
  | .hbm, ⟨85, _⟩ => ⟨S16x4096x8x128, .f32⟩
  | .hbm, ⟨86, _⟩ => ⟨S65536x1024, .f32⟩
  | .hbm, ⟨87, _⟩ => ⟨S65536x1024, .bf16⟩
  | _, _ => ⟨S16x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== Kernel2.lean ====
abbrev S65536x1024 : Shape := ⟨2, ![65536, 1024]⟩
abbrev S1x1024x1024 : Shape := ⟨3, ![1, 1024, 1024]⟩
abbrev S16x4096x1024 : Shape := ⟨3, ![16, 4096, 1024]⟩
abbrev S8x3x16x1x1024 : Shape := ⟨5, ![8, 3, 16, 1, 1024]⟩
abbrev S4x1024x5632 : Shape := ⟨3, ![4, 1024, 5632]⟩
abbrev S4x2816x1024 : Shape := ⟨3, ![4, 2816, 1024]⟩
abbrev S4x2x1024 : Shape := ⟨3, ![4, 2, 1024]⟩
abbrev S1024x1024 : Shape := ⟨2, ![1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x2x1024 : Shape := ⟨3, ![1, 2, 1024]⟩
abbrev S2x1024 : Shape := ⟨2, ![2, 1024]⟩
abbrev S1x1024 : Shape := ⟨2, ![1, 1024]⟩
abbrev S1024 : Shape := ⟨1, ![1024]⟩
abbrev S512x1024 : Shape := ⟨2, ![512, 1024]⟩
abbrev S1x1x1x1x1024 : Shape := ⟨5, ![1, 1, 1, 1, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 34
  | .vmem => 21
  | .smem => 0
  | _ => 0

abbrev bufTy : (tb : Table) → Fin (tcTables nBuf tb) → BufTy
  | .hbm, ⟨0, _⟩ => ⟨S65536x1024, .bf16⟩
  | .hbm, ⟨1, _⟩ => ⟨S1x1024x1024, .f32⟩
  | .hbm, ⟨2, _⟩ => ⟨S16x4096x1024, .f32⟩
  | .hbm, ⟨3, _⟩ => ⟨S8x3x16x1x1024, .f32⟩
  | .hbm, ⟨4, _⟩ => ⟨S4x1024x5632, .f32⟩
  | .hbm, ⟨5, _⟩ => ⟨S4x2816x1024, .f32⟩
  | .hbm, ⟨6, _⟩ => ⟨S4x2x1024, .f32⟩
  | .hbm, ⟨7, _⟩ => ⟨S4x2x1024, .f32⟩
  | .hbm, ⟨8, _⟩ => ⟨S65536x1024, .f32⟩
  | .hbm, ⟨9, _⟩ => ⟨S1024x1024, .f32⟩
  | .hbm, ⟨10, _⟩ => ⟨S1024x1024, .bf16⟩
  | .hbm, ⟨11, _⟩ => ⟨S1x1024x5632, .f32⟩
  | .hbm, ⟨12, _⟩ => ⟨S1024x5632, .f32⟩
  | .hbm, ⟨13, _⟩ => ⟨S1024x5632, .bf16⟩
  | .hbm, ⟨14, _⟩ => ⟨S1x2816x1024, .f32⟩
  | .hbm, ⟨15, _⟩ => ⟨S2816x1024, .f32⟩
  | .hbm, ⟨16, _⟩ => ⟨S2816x1024, .bf16⟩
  | .hbm, ⟨17, _⟩ => ⟨S1x2x1024, .f32⟩
  | .hbm, ⟨18, _⟩ => ⟨S2x1024, .f32⟩
  | .hbm, ⟨19, _⟩ => ⟨S1x2x1024, .f32⟩
  | .hbm, ⟨20, _⟩ => ⟨S2x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1024, .f32⟩
  | .local _ .vmem, ⟨8, _⟩ => ⟨S1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1x1x1024, .f32⟩
  | .local _ .vmem, ⟨13, _⟩ => ⟨S1x1x1x1x1024, .f32⟩
  | .local _ .vmem, ⟨14, _⟩ => ⟨S1x1x1x1x1024, .f32⟩
  | .local _ .vmem, ⟨15, _⟩ => ⟨S1024x5632, .bf16⟩
  | .local _ .vmem, ⟨16, _⟩ => ⟨S2816x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let c2_i32 : BitVec 32 := 2#32
  let c0_i32_4 : BitVec 32 := 0#32
  let c0_i32_5 : BitVec 32 := 0#32
  let c0_i32_6 : BitVec 32 := 0#32
  ![c6_i32.toNat, c2_i32.toNat, v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32 : BitVec 32 := 7#32
  let c0_i32_4 : BitVec 32 := 0#32
  let c0_i32_5 : BitVec 32 := 0#32
  let c0_i32_6 : BitVec 32 := 0#32
  let c0_i32_7 : BitVec 32 := 0#32
  ![c7_i32.toNat, c0_i32_4.toNat, v16.toNat, c0_i32_5.toNat, c0_i32_6.toNat]

def cc0_transform_7 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32 : BitVec 32 := 7#32
  let c1_i32_4 : BitVec 32 := 1#32
  let c0_i32_5 : BitVec 32 := 0#32
  let c0_i32_6 : BitVec 32 := 0#32
  let c0_i32_7 : BitVec 32 := 0#32
  ![c7_i32.toNat, c1_i32_4.toNat, v16.toNat, c0_i32_5.toNat, c0_i32_6.toNat]

def cc0_transform_8 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32 : BitVec 32 := 7#32
  let c2_i32 : BitVec 32 := 2#32
  let c0_i32_4 : BitVec 32 := 0#32
  let c0_i32_5 : BitVec 32 := 0#32
  let c0_i32_6 : BitVec 32 := 0#32
  ![c7_i32.toNat, c2_i32.toNat, v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S65536x1024 : Shape := ⟨2, ![65536, 1024]⟩
abbrev S1x1024x1024 : Shape := ⟨3, ![1, 1024, 1024]⟩
abbrev S16x4096x1024 : Shape := ⟨3, ![16, 4096, 1024]⟩
abbrev S8x3x16x1x1024 : Shape := ⟨5, ![8, 3, 16, 1, 1024]⟩
abbrev S4x1024x5632 : Shape := ⟨3, ![4, 1024, 5632]⟩
abbrev S4x2816x1024 : Shape := ⟨3, ![4, 2816, 1024]⟩
abbrev S4x2x1024 : Shape := ⟨3, ![4, 2, 1024]⟩
abbrev S4x2x3x16x1024 : Shape := ⟨5, ![4, 2, 3, 16, 1024]⟩
abbrev S1x2x3x16x1024 : Shape := ⟨5, ![1, 2, 3, 16, 1024]⟩
abbrev S2x3x16x1024 : Shape := ⟨4, ![2, 3, 16, 1024]⟩
abbrev S2x1x16x1024 : Shape := ⟨4, ![2, 1, 16, 1024]⟩
abbrev S2x16x1024 : Shape := ⟨3, ![2, 16, 1024]⟩
abbrev S1024x1024 : Shape := ⟨2, ![1024, 1024]⟩
abbrev S_ : Shape := ⟨0, ![]⟩
abbrev S1x16x1024 : Shape := ⟨3, ![1, 16, 1024]⟩
abbrev S16x1024 : Shape := ⟨2, ![16, 1024]⟩
abbrev S16x1x1024 : Shape := ⟨3, ![16, 1, 1024]⟩
abbrev S1x1x1024 : Shape := ⟨3, ![1, 1, 1024]⟩
abbrev S1024 : Shape := ⟨1, ![1024]⟩
abbrev S16x4096 : Shape := ⟨2, ![16, 4096]⟩
abbrev S16x4096x1 : Shape := ⟨3, ![16, 4096, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x4096x5632 : Shape := ⟨3, ![16, 4096, 5632]⟩
abbrev S16x4096x2816 : Shape := ⟨3, ![16, 4096, 2816]⟩

abbrev nBuf : Space → Nat
  | .hbm => 143
  | .vmem => 0
  | .smem => 0
  | _ => 0

abbrev hbmTy0_0 (i : Nat) : BufTy := match i % 128 with
  | 0 => ⟨S65536x1024, .bf16⟩
  | 1 => ⟨S1x1024x1024, .f32⟩
  | 2 => ⟨S16x4096x1024, .f32⟩
  | 3 => ⟨S8x3x16x1x1024, .f32⟩
  | 4 => ⟨S4x1024x5632, .f32⟩
  | 5 => ⟨S4x2816x1024, .f32⟩
  | 6 => ⟨S4x2x1024, .f32⟩
  | 7 => ⟨S4x2x1024, .f32⟩
  | 8 => ⟨S4x2x3x16x1024, .f32⟩
  | 9 => ⟨S1x2x3x16x1024, .f32⟩
  | 10 => ⟨S2x3x16x1024, .f32⟩
  | 11 => ⟨S2x1x16x1024, .f32⟩
  | 12 => ⟨S2x16x1024, .f32⟩
  | 13 => ⟨S2x1x16x1024, .f32⟩
  | 14 => ⟨S2x16x1024, .f32⟩
  | 15 => ⟨S2x1x16x1024, .f32⟩
  | 16 => ⟨S2x16x1024, .f32⟩
  | 17 => ⟨S65536x1024, .f32⟩
  | 18 => ⟨S16x4096x1024, .f32⟩
  | 19 => ⟨S1024x1024, .f32⟩
  | 20 => ⟨S16x4096x1024, .f32⟩
  | 21 => ⟨S_, .f32⟩
  | 22 => ⟨S16x4096x1024, .f32⟩
  | 23 => ⟨S16x4096x1024, .f32⟩
  | 24 => ⟨S1x16x1024, .f32⟩
  | 25 => ⟨S16x1024, .f32⟩
  | 26 => ⟨S16x1x1024, .f32⟩
  | 27 => ⟨S_, .f32⟩
  | 28 => ⟨S16x1x1024, .f32⟩
  | 29 => ⟨S16x1x1024, .f32⟩
  | 30 => ⟨S16x4096x1024, .f32⟩
  | 31 => ⟨S16x4096x1024, .f32⟩
  | 32 => ⟨S16x4096x1024, .f32⟩
  | 33 => ⟨S1x1x1024, .f32⟩
  | 34 => ⟨S1024, .f32⟩
  | 35 => ⟨S1x1x1024, .f32⟩
  | 36 => ⟨S1024, .f32⟩
  | 37 => ⟨S_, .f32⟩
  | 38 => ⟨S16x4096, .f32⟩
  | 39 => ⟨S16x4096x1, .f32⟩
  | 40 => ⟨S_, .f32⟩
  | 41 => ⟨S16x4096x1, .f32⟩
  | 42 => ⟨S16x4096x1, .f32⟩
  | 43 => ⟨S16x4096x1024, .f32⟩
  | 44 => ⟨S16x4096x1024, .f32⟩
  | 45 => ⟨S16x4096x1024, .f32⟩
  | 46 => ⟨S_, .f32⟩
  | 47 => ⟨S16x4096, .f32⟩
  | 48 => ⟨S16x4096x1, .f32⟩
  | 49 => ⟨S_, .f32⟩
  | 50 => ⟨S16x4096x1, .f32⟩
  | 51 => ⟨S16x4096x1, .f32⟩
  | 52 => ⟨S16x4096x1024, .f32⟩
  | 53 => ⟨S16x4096x1024, .f32⟩
  | 54 => ⟨S_, .f32⟩
  | 55 => ⟨S16x4096x1, .f32⟩
  | 56 => ⟨S16x4096x1, .f32⟩
  | 57 => ⟨S16x4096x1, .f32⟩
  | 58 => ⟨S16x4096x1024, .f32⟩
  | 59 => ⟨S16x4096x1024, .f32⟩
  | 60 => ⟨S1x1x1024, .f32⟩
  | 61 => ⟨S16x4096x1024, .f32⟩
  | 62 => ⟨S16x4096x1024, .f32⟩
  | 63 => ⟨S1x1x1024, .f32⟩
  | 64 => ⟨S16x4096x1024, .f32⟩
  | 65 => ⟨S16x4096x1024, .f32⟩
  | 66 => ⟨S1x16x1024, .f32⟩
  | 67 => ⟨S16x1024, .f32⟩
  | 68 => ⟨S16x1x1024, .f32⟩
  | 69 => ⟨S_, .f32⟩
  | 70 => ⟨S16x1x1024, .f32⟩
  | 71 => ⟨S16x1x1024, .f32⟩
  | 72 => ⟨S16x4096x1024, .f32⟩
  | 73 => ⟨S16x4096x1024, .f32⟩
  | 74 => ⟨S1x16x1024, .f32⟩
  | 75 => ⟨S16x1024, .f32⟩
  | 76 => ⟨S16x1x1024, .f32⟩
  | 77 => ⟨S16x4096x1024, .f32⟩
  | 78 => ⟨S16x4096x1024, .f32⟩
  | 79 => ⟨S1x1024x5632, .f32⟩
  | 80 => ⟨S1024x5632, .f32⟩
  | 81 => ⟨S1x2816x1024, .f32⟩
  | 82 => ⟨S2816x1024, .f32⟩
  | 83 => ⟨S16x4096x5632, .f32⟩
  | 84 => ⟨S16x4096x2816, .f32⟩
  | 85 => ⟨S16x4096x2816, .f32⟩
  | 86 => ⟨S16x4096x2816, .f32⟩
  | 87 => ⟨S_, .f32⟩
  | 88 => ⟨S16x4096x2816, .f32⟩
  | 89 => ⟨S16x4096x2816, .f32⟩
  | 90 => ⟨S_, .f32⟩
  | 91 => ⟨S16x4096x2816, .f32⟩
  | 92 => ⟨S16x4096x2816, .f32⟩
  | 93 => ⟨S16x4096x2816, .f32⟩
  | 94 => ⟨S16x4096x2816, .f32⟩
  | 95 => ⟨S16x4096x2816, .f32⟩
  | 96 => ⟨S16x4096x1024, .f32⟩
  | 97 => ⟨S_, .f32⟩
  | 98 => ⟨S16x4096x1024, .f32⟩
  | 99 => ⟨S16x4096x1024, .f32⟩
  | 100 => ⟨S1x16x1024, .f32⟩
  | 101 => ⟨S16x1024, .f32⟩
  | 102 => ⟨S16x1x1024, .f32⟩
  | 103 => ⟨S_, .f32⟩
  | 104 => ⟨S16x1x1024, .f32⟩
  | 105 => ⟨S16x1x1024, .f32⟩
  | 106 => ⟨S16x4096x1024, .f32⟩
  | 107 => ⟨S16x4096x1024, .f32⟩
  | 108 => ⟨S16x4096x1024, .f32⟩
  | 109 => ⟨S1x1x1024, .f32⟩
  | 110 => ⟨S1024, .f32⟩
  | 111 => ⟨S1x1x1024, .f32⟩
  | 112 => ⟨S1024, .f32⟩
  | 113 => ⟨S_, .f32⟩
  | 114 => ⟨S16x4096, .f32⟩
  | 115 => ⟨S16x4096x1, .f32⟩
  | 116 => ⟨S_, .f32⟩
  | 117 => ⟨S16x4096x1, .f32⟩
  | 118 => ⟨S16x4096x1, .f32⟩
  | 119 => ⟨S16x4096x1024, .f32⟩
  | 120 => ⟨S16x4096x1024, .f32⟩
  | 121 => ⟨S16x4096x1024, .f32⟩
  | 122 => ⟨S_, .f32⟩
  | 123 => ⟨S16x4096, .f32⟩
  | 124 => ⟨S16x4096x1, .f32⟩
  | 125 => ⟨S_, .f32⟩
  | 126 => ⟨S16x4096x1, .f32⟩
  | 127 => ⟨S16x4096x1, .f32⟩
  | _ => ⟨S65536x1024, .bf16⟩

abbrev hbmTy0_1 (i : Nat) : BufTy := match i % 128 with
  | 0 => ⟨S16x4096x1024, .f32⟩
  | 1 => ⟨S16x4096x1024, .f32⟩
  | 2 => ⟨S_, .f32⟩
  | 3 => ⟨S16x4096x1, .f32⟩
  | 4 => ⟨S16x4096x1, .f32⟩
  | 5 => ⟨S16x4096x1, .f32⟩
  | 6 => ⟨S16x4096x1024, .f32⟩
  | 7 => ⟨S16x4096x1024, .f32⟩
  | 8 => ⟨S1x1x1024, .f32⟩
  | 9 => ⟨S16x4096x1024, .f32⟩
  | 10 => ⟨S16x4096x1024, .f32⟩
  | 11 => ⟨S1x1x1024, .f32⟩
  | 12 => ⟨S16x4096x1024, .f32⟩
  | 13 => ⟨S16x4096x1024, .f32⟩
  | 14 => ⟨S65536x1024, .f32⟩
  | _ => ⟨S65536x1024, .bf16⟩

abbrev hbmTy (i : Nat) : BufTy := match i / 128 with
  | 0 => hbmTy0_0 i
  | 1 => hbmTy0_1 i
  | _ => ⟨S65536x1024, .bf16⟩

abbrev bufTy : (tb : Table) → Fin (tcTables nBuf tb) → BufTy
  | .hbm, ⟨i, _⟩ => hbmTy i
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_call0_v0 : Ref sig .tc := ⟨.hbm, 85, rfl⟩
abbrev main_call0_v1 : Ref sig .tc := ⟨.hbm, 86, rfl⟩
abbrev main_call0_cst : Ref sig .tc := ⟨.hbm, 87, rfl⟩
abbrev main_call0_v2 : Ref sig .tc := ⟨.hbm, 88, rfl⟩
abbrev main_call0_v3 : Ref sig .tc := ⟨.hbm, 89, rfl⟩
abbrev main_call0_cst_0 : Ref sig .tc := ⟨.hbm, 90, rfl⟩
abbrev main_call0_v4 : Ref sig .tc := ⟨.hbm, 91, rfl⟩
abbrev main_call0_v5 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_7 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_8 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_9 : Ref sig .tc := ⟨.hbm, 113, rfl⟩
abbrev main_v87 : Ref sig .tc := ⟨.hbm, 114, rfl⟩
abbrev main_v88 : Ref sig .tc := ⟨.hbm, 115, rfl⟩
abbrev main_cst_10 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_11 : Ref sig .tc := ⟨.hbm, 122, rfl⟩
abbrev main_v94 : Ref sig .tc := ⟨.hbm, 123, rfl⟩
abbrev main_v95 : Ref sig .tc := ⟨.hbm, 124, rfl⟩
abbrev main_cst_12 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_13 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩

abbrev nD : Nat := 1
abbrev τ : Topo := Topo.v7x

variable {F : FTy → Type} [FloatOps F]
-- ==== Kernel3.lean ====
abbrev S16x4096x1024 : Shape := ⟨3, ![16, 4096, 1024]⟩
abbrev S8x3x16x1x1024 : Shape := ⟨5, ![8, 3, 16, 1, 1024]⟩
abbrev S1x1024x4096 : Shape := ⟨3, ![1, 1024, 4096]⟩
abbrev S65536x1024 : Shape := ⟨2, ![65536, 1024]⟩
abbrev S1024x4096 : Shape := ⟨2, ![1024, 4096]⟩
abbrev S512x1024 : Shape := ⟨2, ![512, 1024]⟩
abbrev S1x1x1x1x1024 : Shape := ⟨5, ![1, 1, 1, 1, 1024]⟩
abbrev S1x1024 : Shape := ⟨2, ![1, 1024]⟩
abbrev S1024x1024 : Shape := ⟨2, ![1024, 1024]⟩

abbrev nBuf : Space → Nat
  | .hbm => 10
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S8x3x16x1x1024, .f32⟩
  | .hbm, ⟨2, _⟩ => ⟨S1x1024x4096, .f32⟩
  | .hbm, ⟨3, _⟩ => ⟨S65536x1024, .f32⟩
  | .hbm, ⟨4, _⟩ => ⟨S1024x4096, .f32⟩
  | .hbm, ⟨5, _⟩ => ⟨S1024x4096, .bf16⟩
  | .hbm, ⟨6, _⟩ => ⟨S65536x1024, .f32⟩
  | .hbm, ⟨7, _⟩ => ⟨S65536x1024, .f32⟩
  | .hbm, ⟨8, _⟩ => ⟨S65536x1024, .bf16⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1024x4096, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let c0_i32_5 : BitVec 32 := 0#32
  let c0_i32_6 : BitVec 32 := 0#32
  let c0_i32_7 : BitVec 32 := 0#32
  ![c4_i32.toNat, c0_i32_4.toNat, v16.toNat, c0_i32_5.toNat, c0_i32_6.toNat]

def cc0_transform_2 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c1_i32_4 : BitVec 32 := 1#32
  let c0_i32_5 : BitVec 32 := 0#32
  let c0_i32_6 : BitVec 32 := 0#32
  let c0_i32_7 : BitVec 32 := 0#32
  ![c4_i32.toNat, c1_i32_4.toNat, v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16x4096x1024 : Shape := ⟨3, ![16, 4096, 1024]⟩
abbrev S8x3x16x1x1024 : Shape := ⟨5, ![8, 3, 16, 1, 1024]⟩
abbrev S1x1024x4096 : Shape := ⟨3, ![1, 1024, 4096]⟩
abbrev S4x2x3x16x1024 : Shape := ⟨5, ![4, 2, 3, 16, 1024]⟩
abbrev S1x2x3x16x1024 : Shape := ⟨5, ![1, 2, 3, 16, 1024]⟩
abbrev S2x3x16x1024 : Shape := ⟨4, ![2, 3, 16, 1024]⟩
abbrev S2x1x16x1024 : Shape := ⟨4, ![2, 1, 16, 1024]⟩
abbrev S2x16x1024 : Shape := ⟨3, ![2, 16, 1024]⟩
abbrev S1x16x1024 : Shape := ⟨3, ![1, 16, 1024]⟩
abbrev S16x1024 : Shape := ⟨2, ![16, 1024]⟩
abbrev S16x1x1024 : Shape := ⟨3, ![16, 1, 1024]⟩
abbrev S_ : Shape := ⟨0, ![]⟩
abbrev S1024x4096 : Shape := ⟨2, ![1024, 4096]⟩
abbrev S16x4096x4096 : Shape := ⟨3, ![16, 4096, 4096]⟩
abbrev S65536x1024 : Shape := ⟨2, ![65536, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S8x3x16x1x1024, .f32⟩
  | .hbm, ⟨2, _⟩ => ⟨S1x1024x4096, .f32⟩
  | .hbm, ⟨3, _⟩ => ⟨S4x2x3x16x1024, .f32⟩
  | .hbm, ⟨4, _⟩ => ⟨S1x2x3x16x1024, .f32⟩
  | .hbm, ⟨5, _⟩ => ⟨S2x3x16x1024, .f32⟩
  | .hbm, ⟨6, _⟩ => ⟨S2x1x16x1024, .f32⟩
  | .hbm, ⟨7, _⟩ => ⟨S2x16x1024, .f32⟩
  | .hbm, ⟨8, _⟩ => ⟨S2x1x16x1024, .f32⟩
  | .hbm, ⟨9, _⟩ => ⟨S2x16x1024, .f32⟩
  | .hbm, ⟨10, _⟩ => ⟨S1x16x1024, .f32⟩
  | .hbm, ⟨11, _⟩ => ⟨S16x1024, .f32⟩
  | .hbm, ⟨12, _⟩ => ⟨S16x1x1024, .f32⟩
  | .hbm, ⟨13, _⟩ => ⟨S_, .f32⟩
  | .hbm, ⟨14, _⟩ => ⟨S16x1x1024, .f32⟩
  | .hbm, ⟨15, _⟩ => ⟨S16x1x1024, .f32⟩
  | .hbm, ⟨16, _⟩ => ⟨S16x4096x1024, .f32⟩
  | .hbm, ⟨17, _⟩ => ⟨S16x4096x1024, .f32⟩
  | .hbm, ⟨18, _⟩ => ⟨S1x16x1024, .f32⟩
  | .hbm, ⟨19, _⟩ => ⟨S16x1024, .f32⟩
  | .hbm, ⟨20, _⟩ => ⟨S16x1x1024, .f32⟩
  | .hbm, ⟨21, _⟩ => ⟨S16x4096x1024, .f32⟩
  | .hbm, ⟨22, _⟩ => ⟨S16x4096x1024, .f32⟩
  | .hbm, ⟨23, _⟩ => ⟨S1024x4096, .f32⟩
  | .hbm, ⟨24, _⟩ => ⟨S16x4096x4096, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S65536x1024, .bf16⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x4096x1024, .f32⟩
  | .hbm, ⟨37, _⟩ => ⟨S16x4096x1024, .f32⟩
  | .hbm, ⟨38, _⟩ => ⟨S_, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel4.lean ====
abbrev S16x4096x1024 : Shape := ⟨3, ![16, 4096, 1024]⟩
abbrev S8x3x16x1x1024 : Shape := ⟨5, ![8, 3, 16, 1, 1024]⟩
abbrev S1x1024x3080 : Shape := ⟨3, ![1, 1024, 3080]⟩
abbrev S1x8 : Shape := ⟨2, ![1, 8]⟩
abbrev S65536x1024 : Shape := ⟨2, ![65536, 1024]⟩
abbrev S1024x3080 : Shape := ⟨2, ![1024, 3080]⟩
abbrev S1024x1024 : Shape := ⟨2, ![1024, 1024]⟩
abbrev S1024x8 : Shape := ⟨2, ![1024, 8]⟩
abbrev S1024x1032 : Shape := ⟨2, ![1024, 1032]⟩
abbrev S_ : Shape := ⟨0, ![]⟩
abbrev S1024x1152 : Shape := ⟨2, ![1024, 1152]⟩
abbrev S8 : Shape := ⟨1, ![8]⟩
abbrev S1x128 : Shape := ⟨2, ![1, 128]⟩
abbrev S65536x512 : Shape := ⟨2, ![65536, 512]⟩
abbrev S1024x65536 : Shape := ⟨2, ![1024, 65536]⟩
abbrev S65536x128 : Shape := ⟨2, ![65536, 128]⟩
abbrev S512x1024 : Shape := ⟨2, ![512, 1024]⟩
abbrev S1x1x1x1x1024 : Shape := ⟨5, ![1, 1, 1, 1, 1024]⟩
abbrev S512x512 : Shape := ⟨2, ![512, 512]⟩
abbrev S1024x512 : Shape := ⟨2, ![1024, 512]⟩
abbrev S512x128 : Shape := ⟨2, ![512, 128]⟩
abbrev S1x1024 : Shape := ⟨2, ![1, 1024]⟩
abbrev S1024x128 : Shape := ⟨2, ![1024, 128]⟩

abbrev nBuf : Space → Nat
  | .hbm => 29
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S8x3x16x1x1024, .f32⟩
  | .hbm, ⟨2, _⟩ => ⟨S1x1024x3080, .f32⟩
  | .hbm, ⟨3, _⟩ => ⟨S1x8, .f32⟩
  | .hbm, ⟨4, _⟩ => ⟨S65536x1024, .f32⟩
  | .hbm, ⟨5, _⟩ => ⟨S1024x3080, .f32⟩
  | .hbm, ⟨6, _⟩ => ⟨S1024x1024, .f32⟩
  | .hbm, ⟨7, _⟩ => ⟨S1024x8, .f32⟩
  | .hbm, ⟨8, _⟩ => ⟨S1024x1032, .f32⟩
  | .hbm, ⟨9, _⟩ => ⟨S_, .i32⟩
  | .hbm, ⟨10, _⟩ => ⟨S_, .f32⟩
  | .hbm, ⟨11, _⟩ => ⟨S1024x1152, .f32⟩
  | .hbm, ⟨12, _⟩ => ⟨S1024x1152, .bf16⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S8, .f32⟩
  | .hbm, ⟨20, _⟩ => ⟨S1x8, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S65536x512, .bf16⟩
  | .hbm, ⟨25, _⟩ => ⟨S65536x512, .bf16⟩
  | .hbm, ⟨26, _⟩ => ⟨S1024x65536, .bf16⟩
  | .hbm, ⟨27, _⟩ => ⟨S1024x65536, .f32⟩
  | .hbm, ⟨28, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1024x1152, .bf16⟩
  | .local _ .vmem, ⟨7, _⟩ => ⟨S1024x1024, .bf16⟩
  | .local _ .vmem, ⟨8, _⟩ => ⟨S1024x1024, .bf16⟩
  | .local _ .vmem, ⟨9, _⟩ => ⟨S1x128, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .f32⟩
  | .local _ .vmem, ⟨17, _⟩ => ⟨S1024x512, .f32⟩
  | .local _ .vmem, ⟨18, _⟩ => ⟨S512x128, .f32⟩
  | .local _ .vmem, ⟨19, _⟩ => ⟨S512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, c0_i32_5.toNat, v16.toNat, c0_i32_6.toNat, c0_i32_7.toNat]

def cc0_transform_2 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, c1_i32_5.toNat, v16.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16x4096x1024 : Shape := ⟨3, ![16, 4096, 1024]⟩
abbrev S8x3x16x1x1024 : Shape := ⟨5, ![8, 3, 16, 1, 1024]⟩
abbrev S1x1024x3080 : Shape := ⟨3, ![1, 1024, 3080]⟩
abbrev S1x8 : Shape := ⟨2, ![1, 8]⟩
abbrev S4x2x3x16x1024 : Shape := ⟨5, ![4, 2, 3, 16, 1024]⟩
abbrev S1x2x3x16x1024 : Shape := ⟨5, ![1, 2, 3, 16, 1024]⟩
abbrev S2x3x16x1024 : Shape := ⟨4, ![2, 3, 16, 1024]⟩
abbrev S2x1x16x1024 : Shape := ⟨4, ![2, 1, 16, 1024]⟩
abbrev S2x16x1024 : Shape := ⟨3, ![2, 16, 1024]⟩
abbrev S1x16x1024 : Shape := ⟨3, ![1, 16, 1024]⟩
abbrev S16x1024 : Shape := ⟨2, ![16, 1024]⟩
abbrev S16x1x1024 : Shape := ⟨3, ![16, 1, 1024]⟩
abbrev S_ : Shape := ⟨0, ![]⟩
abbrev S1024x3080 : Shape := ⟨2, ![1024, 3080]⟩
abbrev S16x4096x3080 : Shape := ⟨3, ![16, 4096, 3080]⟩
abbrev S16x4096x512 : Shape := ⟨3, ![16, 4096, 512]⟩
abbrev S16x4096x8 : Shape := ⟨3, ![16, 4096, 8]⟩
abbrev S8 : Shape := ⟨1, ![8]⟩
abbrev S1x1x8 : Shape := ⟨3, ![1, 1, 8]⟩
abbrev S65536x512 : Shape := ⟨2, ![65536, 512]⟩
abbrev S65536x1024 : Shape := ⟨2, ![65536, 1024]⟩
abbrev S1024x65536 : Shape := ⟨2, ![1024, 65536]⟩
abbrev S65536x8 : Shape := ⟨2, ![65536, 8]⟩
abbrev S65536x128 : Shape := ⟨2, ![65536, 128]⟩

abbrev nBuf : Space → Nat
  | .hbm => 59
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S8x3x16x1x1024, .f32⟩
  | .hbm, ⟨2, _⟩ => ⟨S1x1024x3080, .f32⟩
  | .hbm, ⟨3, _⟩ => ⟨S1x8, .f32⟩
  | .hbm, ⟨4, _⟩ => ⟨S4x2x3x16x1024, .f32⟩
  | .hbm, ⟨5, _⟩ => ⟨S1x2x3x16x1024, .f32⟩
  | .hbm, ⟨6, _⟩ => ⟨S2x3x16x1024, .f32⟩
  | .hbm, ⟨7, _⟩ => ⟨S2x1x16x1024, .f32⟩
  | .hbm, ⟨8, _⟩ => ⟨S2x16x1024, .f32⟩
  | .hbm, ⟨9, _⟩ => ⟨S2x1x16x1024, .f32⟩
  | .hbm, ⟨10, _⟩ => ⟨S2x16x1024, .f32⟩
  | .hbm, ⟨11, _⟩ => ⟨S1x16x1024, .f32⟩
  | .hbm, ⟨12, _⟩ => ⟨S16x1024, .f32⟩
  | .hbm, ⟨13, _⟩ => ⟨S16x1x1024, .f32⟩
  | .hbm, ⟨14, _⟩ => ⟨S_, .f32⟩
  | .hbm, ⟨15, _⟩ => ⟨S16x1x1024, .f32⟩
  | .hbm, ⟨16, _⟩ => ⟨S16x1x1024, .f32⟩
  | .hbm, ⟨17, _⟩ => ⟨S16x4096x1024, .f32⟩
  | .hbm, ⟨18, _⟩ => ⟨S16x4096x1024, .f32⟩
  | .hbm, ⟨19, _⟩ => ⟨S1x16x1024, .f32⟩
  | .hbm, ⟨20, _⟩ => ⟨S16x1024, .f32⟩
  | .hbm, ⟨21, _⟩ => ⟨S16x1x1024, .f32⟩
  | .hbm, ⟨22, _⟩ => ⟨S16x4096x1024, .f32⟩
  | .hbm, ⟨23, _⟩ => ⟨S16x4096x1024, .f32⟩
  | .hbm, ⟨24, _⟩ => ⟨S1024x3080, .f32⟩
  | .hbm, ⟨25, _⟩ => ⟨S16x4096x3080, .f32⟩
  | .hbm, ⟨26, _⟩ => ⟨S16x4096x512, .f32⟩
  | .hbm, ⟨27, _⟩ => ⟨S16x4096x512, .f32⟩
  | .hbm, ⟨28, _⟩ => ⟨S_, .f32⟩
  | .hbm, ⟨29, _⟩ => ⟨S16x4096x512, .f32⟩
  | .hbm, ⟨30, _⟩ => ⟨S16x4096x512, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x4096x1024, .f32⟩
  | .hbm, ⟨37, _⟩ => ⟨S16x4096x1024, .f32⟩
  | .hbm, ⟨38, _⟩ => ⟨S_, .f32⟩
  | .hbm, ⟨39, _⟩ => ⟨S16x4096x1024, .f32⟩
  | .hbm, ⟨40, _⟩ => ⟨S16x4096x1024, .f32⟩
  | .hbm, ⟨41, _⟩ => ⟨S16x4096x8, .f32⟩
  | .hbm, ⟨42, _⟩ => ⟨S8, .f32⟩
  | .hbm, ⟨43, _⟩ => ⟨S1x1x8, .f32⟩
  | .hbm, ⟨44, _⟩ => ⟨S16x4096x8, .f32⟩
  | .hbm, ⟨45, _⟩ => ⟨S16x4096x8, .f32⟩
  | .hbm, ⟨46, _⟩ => ⟨S65536x512, .f32⟩
  | .hbm, ⟨47, _⟩ => ⟨S65536x512, .bf16⟩
  | .hbm, ⟨48, _⟩ => ⟨S65536x512, .f32⟩
  | .hbm, ⟨49, _⟩ => ⟨S65536x512, .bf16⟩
  | .hbm, ⟨50, _⟩ => ⟨S65536x1024, .f32⟩
  | .hbm, ⟨51, _⟩ => ⟨S1024x65536, .f32⟩
  | .hbm, ⟨52, _⟩ => ⟨S1024x65536, .bf16⟩
  | .hbm, ⟨53, _⟩ => ⟨S65536x1024, .f32⟩
  | .hbm, ⟨54, _⟩ => ⟨S1024x65536, .f32⟩
  | .hbm, ⟨55, _⟩ => ⟨S65536x8, .f32⟩
  | .hbm, ⟨56, _⟩ => ⟨S_, .i32⟩
  | .hbm, ⟨57, _⟩ => ⟨S_, .f32⟩
  | .hbm, ⟨58, _⟩ => ⟨S65536x128, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_c : Ref sig .tc := ⟨.hbm, 56, rfl⟩
abbrev main_call0_v0 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Kernel5.lean ====
abbrev S16x4096x1024 : Shape := ⟨3, ![16, 4096, 1024]⟩
abbrev S8x3x16x1x1024 : Shape := ⟨5, ![8, 3, 16, 1, 1024]⟩
abbrev S16x4096 : Shape := ⟨2, ![16, 4096]⟩
abbrev S1x1024x3072 : Shape := ⟨3, ![1, 1024, 3072]⟩
abbrev S65536x1024 : Shape := ⟨2, ![65536, 1024]⟩
abbrev S8 : Shape := ⟨1, ![8]⟩
abbrev S_ : Shape := ⟨0, ![]⟩
abbrev S65536x1 : Shape := ⟨2, ![65536, 1]⟩
abbrev S1x8 : Shape := ⟨2, ![1, 8]⟩
abbrev S65536x8 : Shape := ⟨2, ![65536, 8]⟩
abbrev S65536x48 : Shape := ⟨2, ![65536, 48]⟩
abbrev S65536x128 : Shape := ⟨2, ![65536, 128]⟩
abbrev S1024x3072 : Shape := ⟨2, ![1024, 3072]⟩
abbrev S1024x2048 : Shape := ⟨2, ![1024, 2048]⟩
abbrev S1024x1024 : Shape := ⟨2, ![1024, 1024]⟩
abbrev S1024x65536 : Shape := ⟨2, ![1024, 65536]⟩
abbrev S512x1024 : Shape := ⟨2, ![512, 1024]⟩
abbrev S1x1x1x1x1024 : Shape := ⟨5, ![1, 1, 1, 1, 1024]⟩
abbrev S512x128 : Shape := ⟨2, ![512, 128]⟩
abbrev S1024x512 : Shape := ⟨2, ![1024, 512]⟩
abbrev S1x1024 : Shape := ⟨2, ![1, 1024]⟩
abbrev S1024x256 : Shape := ⟨2, ![1024, 256]⟩
abbrev S512x256 : Shape := ⟨2, ![512, 256]⟩

abbrev nBuf : Space → Nat
  | .hbm => 41
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S8x3x16x1x1024, .f32⟩
  | .hbm, ⟨2, _⟩ => ⟨S16x4096, .i32⟩
  | .hbm, ⟨3, _⟩ => ⟨S1x1024x3072, .f32⟩
  | .hbm, ⟨4, _⟩ => ⟨S65536x1024, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S65536x1, .i32⟩
  | .hbm, ⟨17, _⟩ => ⟨S65536x1, .f32⟩
  | .hbm, ⟨18, _⟩ => ⟨S1x8, .f32⟩
  | .hbm, ⟨19, _⟩ => ⟨S65536x8, .f32⟩
  | .hbm, ⟨20, _⟩ => ⟨S65536x8, .f32⟩
  | .hbm, ⟨21, _⟩ => ⟨S65536x8, .f32⟩
  | .hbm, ⟨22, _⟩ => ⟨S65536x8, .f32⟩
  | .hbm, ⟨23, _⟩ => ⟨S65536x8, .f32⟩
  | .hbm, ⟨24, _⟩ => ⟨S_, .f32⟩
  | .hbm, ⟨25, _⟩ => ⟨S65536x48, .f32⟩
  | .hbm, ⟨26, _⟩ => ⟨S_, .f32⟩
  | .hbm, ⟨27, _⟩ => ⟨S65536x48, .f32⟩
  | .hbm, ⟨28, _⟩ => ⟨S65536x128, .f32⟩
  | .hbm, ⟨29, _⟩ => ⟨S65536x8, .f32⟩
  | .hbm, ⟨30, _⟩ => ⟨S65536x128, .f32⟩
  | .hbm, ⟨31, _⟩ => ⟨S1024x3072, .f32⟩
  | .hbm, ⟨32, _⟩ => ⟨S1024x2048, .f32⟩
  | .hbm, ⟨33, _⟩ => ⟨S1024x2048, .bf16⟩
  | .hbm, ⟨34, _⟩ => ⟨S1024x3072, .f32⟩
  | .hbm, ⟨35, _⟩ => ⟨S1024x1024, .f32⟩
  | .hbm, ⟨36, _⟩ => ⟨S1024x1024, .f32⟩
  | .hbm, ⟨37, _⟩ => ⟨S1024x1024, .bf16⟩
  | .hbm, ⟨38, _⟩ => ⟨S65536x1024, .f32⟩
  | .hbm, ⟨39, _⟩ => ⟨S65536x1024, .bf16⟩
  | .hbm, ⟨40, _⟩ => ⟨S1024x65536, .bf16⟩
  | .local _ .vmem, ⟨0, _⟩ => ⟨S512x1024, .f32⟩
  | .local _ .vmem, ⟨1, _⟩ => ⟨S512x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1024x2048, .bf16⟩
  | .local _ .vmem, ⟨7, _⟩ => ⟨S1024x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1024x512, .bf16⟩
  | .local _ .vmem, ⟨17, _⟩ => ⟨S1024x512, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let c0_i32_4 : BitVec 32 := 0#32
  let c0_i32_5 : BitVec 32 := 0#32
  let c0_i32_6 : BitVec 32 := 0#32
  let c0_i32_7 : BitVec 32 := 0#32
  ![c6_i32.toNat, c0_i32_4.toNat, v16.toNat, c0_i32_5.toNat, c0_i32_6.toNat]

def cc0_transform_2 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let c1_i32_4 : BitVec 32 := 1#32
  let c0_i32_5 : BitVec 32 := 0#32
  let c0_i32_6 : BitVec 32 := 0#32
  let c0_i32_7 : BitVec 32 := 0#32
  ![c6_i32.toNat, c1_i32_4.toNat, v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16x4096x1024 : Shape := ⟨3, ![16, 4096, 1024]⟩
abbrev S8x3x16x1x1024 : Shape := ⟨5, ![8, 3, 16, 1, 1024]⟩
abbrev S16x4096 : Shape := ⟨2, ![16, 4096]⟩
abbrev S1x1024x3072 : Shape := ⟨3, ![1, 1024, 3072]⟩
abbrev S4x2x3x16x1024 : Shape := ⟨5, ![4, 2, 3, 16, 1024]⟩
abbrev S1x2x3x16x1024 : Shape := ⟨5, ![1, 2, 3, 16, 1024]⟩
abbrev S2x3x16x1024 : Shape := ⟨4, ![2, 3, 16, 1024]⟩
abbrev S2x1x16x1024 : Shape := ⟨4, ![2, 1, 16, 1024]⟩
abbrev S2x16x1024 : Shape := ⟨3, ![2, 16, 1024]⟩
abbrev S1x16x1024 : Shape := ⟨3, ![1, 16, 1024]⟩
abbrev S16x1024 : Shape := ⟨2, ![16, 1024]⟩
abbrev S16x1x1024 : Shape := ⟨3, ![16, 1, 1024]⟩
abbrev S_ : Shape := ⟨0, ![]⟩
abbrev S1024x3072 : Shape := ⟨2, ![1024, 3072]⟩
abbrev S16x4096x3072 : Shape := ⟨3, ![16, 4096, 3072]⟩
abbrev S16x4096x16x64 : Shape := ⟨4, ![16, 4096, 16, 64]⟩
abbrev S8 : Shape := ⟨1, ![8]⟩
abbrev S16x4096x1 : Shape := ⟨3, ![16, 4096, 1]⟩
abbrev S1x1x8 : Shape := ⟨3, ![1, 1, 8]⟩
abbrev S16x4096x8 : Shape := ⟨3, ![16, 4096, 8]⟩
abbrev S16x4096x1x8 : Shape := ⟨4, ![16, 4096, 1, 8]⟩
abbrev S16x4096x16x8 : Shape := ⟨4, ![16, 4096, 16, 8]⟩
abbrev S16x4096x16x48 : Shape := ⟨4, ![16, 4096, 16, 48]⟩
abbrev S65536x1024 : Shape := ⟨2, ![65536, 1024]⟩
abbrev S1024x65536 : Shape := ⟨2, ![1024, 65536]⟩

abbrev nBuf : Space → Nat
  | .hbm => 107
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S8x3x16x1x1024, .f32⟩
  | .hbm, ⟨2, _⟩ => ⟨S16x4096, .i32⟩
  | .hbm, ⟨3, _⟩ => ⟨S1x1024x3072, .f32⟩
  | .hbm, ⟨4, _⟩ => ⟨S4x2x3x16x1024, .f32⟩
  | .hbm, ⟨5, _⟩ => ⟨S1x2x3x16x1024, .f32⟩
  | .hbm, ⟨6, _⟩ => ⟨S2x3x16x1024, .f32⟩
  | .hbm, ⟨7, _⟩ => ⟨S2x1x16x1024, .f32⟩
  | .hbm, ⟨8, _⟩ => ⟨S2x16x1024, .f32⟩
  | .hbm, ⟨9, _⟩ => ⟨S2x1x16x1024, .f32⟩
  | .hbm, ⟨10, _⟩ => ⟨S2x16x1024, .f32⟩
  | .hbm, ⟨11, _⟩ => ⟨S1x16x1024, .f32⟩
  | .hbm, ⟨12, _⟩ => ⟨S16x1024, .f32⟩
  | .hbm, ⟨13, _⟩ => ⟨S16x1x1024, .f32⟩
  | .hbm, ⟨14, _⟩ => ⟨S_, .f32⟩
  | .hbm, ⟨15, _⟩ => ⟨S16x1x1024, .f32⟩
  | .hbm, ⟨16, _⟩ => ⟨S16x1x1024, .f32⟩
  | .hbm, ⟨17, _⟩ => ⟨S16x4096x1024, .f32⟩
  | .hbm, ⟨18, _⟩ => ⟨S16x4096x1024, .f32⟩
  | .hbm, ⟨19, _⟩ => ⟨S1x16x1024, .f32⟩
  | .hbm, ⟨20, _⟩ => ⟨S16x1024, .f32⟩
  | .hbm, ⟨21, _⟩ => ⟨S16x1x1024, .f32⟩
  | .hbm, ⟨22, _⟩ => ⟨S16x4096x1024, .f32⟩
  | .hbm, ⟨23, _⟩ => ⟨S16x4096x1024, .f32⟩
  | .hbm, ⟨24, _⟩ => ⟨S1024x3072, .f32⟩
  | .hbm, ⟨25, _⟩ => ⟨S16x4096x3072, .f32⟩
  | .hbm, ⟨26, _⟩ => ⟨S16x4096x1024, .f32⟩
  | .hbm, ⟨27, _⟩ => ⟨S16x4096x16x64, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S16x4096, .f32⟩
  | .hbm, ⟨40, _⟩ => ⟨S16x4096x1, .f32⟩
  | .hbm, ⟨41, _⟩ => ⟨S1x1x8, .f32⟩
  | .hbm, ⟨42, _⟩ => ⟨S16x4096x8, .f32⟩
  | .hbm, ⟨43, _⟩ => ⟨S16x4096x8, .f32⟩
  | .hbm, ⟨44, _⟩ => ⟨S16x4096x8, .f32⟩
  | .hbm, ⟨45, _⟩ => ⟨S16x4096x8, .f32⟩
  | .hbm, ⟨46, _⟩ => ⟨S16x4096x1x8, .f32⟩
  | .hbm, ⟨47, _⟩ => ⟨S16x4096x8, .f32⟩
  | .hbm, ⟨48, _⟩ => ⟨S16x4096x1x8, .f32⟩
  | .hbm, ⟨49, _⟩ => ⟨S16x4096x16x8, .f32⟩
  | .hbm, ⟨50, _⟩ => ⟨S16x4096x16x8, .f32⟩
  | .hbm, ⟨51, _⟩ => ⟨S16x4096x16x8, .f32⟩
  | .hbm, ⟨52, _⟩ => ⟨S16x4096x16x8, .f32⟩
  | .hbm, ⟨53, _⟩ => ⟨S16x4096x16x8, .f32⟩
  | .hbm, ⟨54, _⟩ => ⟨S16x4096x16x8, .f32⟩
  | .hbm, ⟨55, _⟩ => ⟨S16x4096x16x8, .f32⟩
  | .hbm, ⟨56, _⟩ => ⟨S16x4096x16x8, .f32⟩
  | .hbm, ⟨57, _⟩ => ⟨S16x4096x16x8, .f32⟩
  | .hbm, ⟨58, _⟩ => ⟨S16x4096x16x8, .f32⟩
  | .hbm, ⟨59, _⟩ => ⟨S16x4096x16x8, .f32⟩
  | .hbm, ⟨60, _⟩ => ⟨S16x4096x16x8, .f32⟩
  | .hbm, ⟨61, _⟩ => ⟨S16x4096x16x48, .f32⟩
  | .hbm, ⟨62, _⟩ => ⟨S16x4096x16x64, .f32⟩
  | .hbm, ⟨63, _⟩ => ⟨S16x4096x1024, .f32⟩
  | .hbm, ⟨64, _⟩ => ⟨S16x4096x16x64, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S16x4096, .f32⟩
  | .hbm, ⟨77, _⟩ => ⟨S16x4096x1, .f32⟩
  | .hbm, ⟨78, _⟩ => ⟨S1x1x8, .f32⟩
  | .hbm, ⟨79, _⟩ => ⟨S16x4096x8, .f32⟩
  | .hbm, ⟨80, _⟩ => ⟨S16x4096x8, .f32⟩
  | .hbm, ⟨81, _⟩ => ⟨S16x4096x8, .f32⟩
  | .hbm, ⟨82, _⟩ => ⟨S16x4096x8, .f32⟩
  | .hbm, ⟨83, _⟩ => ⟨S16x4096x1x8, .f32⟩
  | .hbm, ⟨84, _⟩ => ⟨S16x4096x8, .f32⟩
  | .hbm, ⟨85, _⟩ => ⟨S16x4096x1x8, .f32⟩
  | .hbm, ⟨86, _⟩ => ⟨S16x4096x16x8, .f32⟩
  | .hbm, ⟨87, _⟩ => ⟨S16x4096x16x8, .f32⟩
  | .hbm, ⟨88, _⟩ => ⟨S16x4096x16x8, .f32⟩
  | .hbm, ⟨89, _⟩ => ⟨S16x4096x16x8, .f32⟩
  | .hbm, ⟨90, _⟩ => ⟨S16x4096x16x8, .f32⟩
  | .hbm, ⟨91, _⟩ => ⟨S16x4096x16x8, .f32⟩
  | .hbm, ⟨92, _⟩ => ⟨S16x4096x16x8, .f32⟩
  | .hbm, ⟨93, _⟩ => ⟨S16x4096x16x8, .f32⟩
  | .hbm, ⟨94, _⟩ => ⟨S16x4096x16x8, .f32⟩
  | .hbm, ⟨95, _⟩ => ⟨S16x4096x16x8, .f32⟩
  | .hbm, ⟨96, _⟩ => ⟨S16x4096x16x8, .f32⟩
  | .hbm, ⟨97, _⟩ => ⟨S16x4096x16x8, .f32⟩
  | .hbm, ⟨98, _⟩ => ⟨S16x4096x16x48, .f32⟩
  | .hbm, ⟨99, _⟩ => ⟨S16x4096x16x64, .f32⟩
  | .hbm, ⟨100, _⟩ => ⟨S16x4096x1024, .f32⟩
  | .hbm, ⟨101, _⟩ => ⟨S65536x1024, .f32⟩
  | .hbm, ⟨102, _⟩ => ⟨S65536x1024, .f32⟩
  | .hbm, ⟨103, _⟩ => ⟨S65536x1024, .bf16⟩
  | .hbm, ⟨104, _⟩ => ⟨S65536x1024, .f32⟩
  | .hbm, ⟨105, _⟩ => ⟨S1024x65536, .f32⟩
  | .hbm, ⟨106, _⟩ => ⟨S1024x65536, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_3 : Ref sig .tc := ⟨.hbm, 67, rfl⟩
abbrev main_v59 : Ref sig .tc := ⟨.hbm, 68, rfl⟩
abbrev main_v60 : Ref sig .tc := ⟨.hbm, 69, rfl⟩
abbrev main_cst_4 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩

abbrev nD : Nat := 1
abbrev τ : Topo := Topo.v7x

variable {F : FTy → Type} [FloatOps F]
-- ==== Kernel6.lean ====
abbrev S16x4096x1024 : Shape := ⟨3, ![16, 4096, 1024]⟩
abbrev S8x3x16x1x1024 : Shape := ⟨5, ![8, 3, 16, 1, 1024]⟩
abbrev S16x4096 : Shape := ⟨2, ![16, 4096]⟩
abbrev S1x1024x1280 : Shape := ⟨3, ![1, 1024, 1280]⟩
abbrev S65536x1024 : Shape := ⟨2, ![65536, 1024]⟩
abbrev S8 : Shape := ⟨1, ![8]⟩
abbrev S_ : Shape := ⟨0, ![]⟩
abbrev S65536x1 : Shape := ⟨2, ![65536, 1]⟩
abbrev S1x8 : Shape := ⟨2, ![1, 8]⟩
abbrev S65536x8 : Shape := ⟨2, ![65536, 8]⟩
abbrev S65536x48 : Shape := ⟨2, ![65536, 48]⟩
abbrev S65536x128 : Shape := ⟨2, ![65536, 128]⟩
abbrev S1024x1280 : Shape := ⟨2, ![1024, 1280]⟩
abbrev S1024x1152 : Shape := ⟨2, ![1024, 1152]⟩
abbrev S1024x128 : Shape := ⟨2, ![1024, 128]⟩
abbrev S128x1024 : Shape := ⟨2, ![128, 1024]⟩
abbrev S65536x256 : Shape := ⟨2, ![65536, 256]⟩
abbrev S128x65536 : Shape := ⟨2, ![128, 65536]⟩
abbrev S512x1024 : Shape := ⟨2, ![512, 1024]⟩
abbrev S1x1x1x1x1024 : Shape := ⟨5, ![1, 1, 1, 1, 1024]⟩
abbrev S512x128 : Shape := ⟨2, ![512, 128]⟩
abbrev S512x256 : Shape := ⟨2, ![512, 256]⟩
abbrev S128x512 : Shape := ⟨2, ![128, 512]⟩
abbrev S1x1024 : Shape := ⟨2, ![1, 1024]⟩
abbrev S1024x256 : Shape := ⟨2, ![1024, 256]⟩

abbrev nBuf : Space → Nat
  | .hbm => 41
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S8x3x16x1x1024, .f32⟩
  | .hbm, ⟨2, _⟩ => ⟨S16x4096, .i32⟩
  | .hbm, ⟨3, _⟩ => ⟨S1x1024x1280, .f32⟩
  | .hbm, ⟨4, _⟩ => ⟨S65536x1024, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S65536x1, .i32⟩
  | .hbm, ⟨17, _⟩ => ⟨S65536x1, .f32⟩
  | .hbm, ⟨18, _⟩ => ⟨S1x8, .f32⟩
  | .hbm, ⟨19, _⟩ => ⟨S65536x8, .f32⟩
  | .hbm, ⟨20, _⟩ => ⟨S65536x8, .f32⟩
  | .hbm, ⟨21, _⟩ => ⟨S65536x8, .f32⟩
  | .hbm, ⟨22, _⟩ => ⟨S65536x8, .f32⟩
  | .hbm, ⟨23, _⟩ => ⟨S65536x8, .f32⟩
  | .hbm, ⟨24, _⟩ => ⟨S_, .f32⟩
  | .hbm, ⟨25, _⟩ => ⟨S65536x48, .f32⟩
  | .hbm, ⟨26, _⟩ => ⟨S_, .f32⟩
  | .hbm, ⟨27, _⟩ => ⟨S65536x48, .f32⟩
  | .hbm, ⟨28, _⟩ => ⟨S65536x128, .f32⟩
  | .hbm, ⟨29, _⟩ => ⟨S65536x8, .f32⟩
  | .hbm, ⟨30, _⟩ => ⟨S65536x128, .f32⟩
  | .hbm, ⟨31, _⟩ => ⟨S1024x1280, .f32⟩
  | .hbm, ⟨32, _⟩ => ⟨S1024x1152, .f32⟩
  | .hbm, ⟨33, _⟩ => ⟨S1024x1152, .bf16⟩
  | .hbm, ⟨34, _⟩ => ⟨S1024x1280, .f32⟩
  | .hbm, ⟨35, _⟩ => ⟨S1024x128, .f32⟩
  | .hbm, ⟨36, _⟩ => ⟨S128x1024, .f32⟩
  | .hbm, ⟨37, _⟩ => ⟨S128x1024, .bf16⟩
  | .hbm, ⟨38, _⟩ => ⟨S65536x1024, .bf16⟩
  | .hbm, ⟨39, _⟩ => ⟨S65536x256, .bf16⟩
  | .hbm, ⟨40, _⟩ => ⟨S128x65536, .bf16⟩
  | .local _ .vmem, ⟨0, _⟩ => ⟨S512x1024, .f32⟩
  | .local _ .vmem, ⟨1, _⟩ => ⟨S512x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1024x1152, .bf16⟩
  | .local _ .vmem, ⟨7, _⟩ => ⟨S128x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x256, .bf16⟩
  | .local _ .vmem, ⟨15, _⟩ => ⟨S512x256, .bf16⟩
  | .local _ .vmem, ⟨16, _⟩ => ⟨S128x512, .bf16⟩
  | .local _ .vmem, ⟨17, _⟩ => ⟨S128x512, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  let c0_i32_7 : BitVec 32 := 0#32
  ![c2_i32.toNat, c0_i32_4.toNat, v16.toNat, c0_i32_5.toNat, c0_i32_6.toNat]

def cc0_transform_2 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c1_i32_4 : BitVec 32 := 1#32
  let c0_i32_5 : BitVec 32 := 0#32
  let c0_i32_6 : BitVec 32 := 0#32
  let c0_i32_7 : BitVec 32 := 0#32
  ![c2_i32.toNat, c1_i32_4.toNat, v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S16x4096x1024 : Shape := ⟨3, ![16, 4096, 1024]⟩
abbrev S8x3x16x1x1024 : Shape := ⟨5, ![8, 3, 16, 1, 1024]⟩
abbrev S16x4096 : Shape := ⟨2, ![16, 4096]⟩
abbrev S1x1024x1280 : Shape := ⟨3, ![1, 1024, 1280]⟩
abbrev S4x2x3x16x1024 : Shape := ⟨5, ![4, 2, 3, 16, 1024]⟩
abbrev S1x2x3x16x1024 : Shape := ⟨5, ![1, 2, 3, 16, 1024]⟩
abbrev S2x3x16x1024 : Shape := ⟨4, ![2, 3, 16, 1024]⟩
abbrev S2x1x16x1024 : Shape := ⟨4, ![2, 1, 16, 1024]⟩
abbrev S2x16x1024 : Shape := ⟨3, ![2, 16, 1024]⟩
abbrev S1x16x1024 : Shape := ⟨3, ![1, 16, 1024]⟩
abbrev S16x1024 : Shape := ⟨2, ![16, 1024]⟩
abbrev S16x1x1024 : Shape := ⟨3, ![16, 1, 1024]⟩
abbrev S_ : Shape := ⟨0, ![]⟩
abbrev S1024x1280 : Shape := ⟨2, ![1024, 1280]⟩
abbrev S16x4096x1280 : Shape := ⟨3, ![16, 4096, 1280]⟩
abbrev S16x4096x16x64 : Shape := ⟨4, ![16, 4096, 16, 64]⟩
abbrev S8 : Shape := ⟨1, ![8]⟩
abbrev S16x4096x1 : Shape := ⟨3, ![16, 4096, 1]⟩
abbrev S1x1x8 : Shape := ⟨3, ![1, 1, 8]⟩
abbrev S16x4096x8 : Shape := ⟨3, ![16, 4096, 8]⟩
abbrev S16x4096x1x8 : Shape := ⟨4, ![16, 4096, 1, 8]⟩
abbrev S16x4096x16x8 : Shape := ⟨4, ![16, 4096, 16, 8]⟩
abbrev S16x4096x16x48 : Shape := ⟨4, ![16, 4096, 16, 48]⟩
abbrev S16x4096x128 : Shape := ⟨3, ![16, 4096, 128]⟩
abbrev S16x4096x2x64 : Shape := ⟨4, ![16, 4096, 2, 64]⟩
abbrev S16x4096x2x8 : Shape := ⟨4, ![16, 4096, 2, 8]⟩
abbrev S16x4096x2x48 : Shape := ⟨4, ![16, 4096, 2, 48]⟩
abbrev S65536x1024 : Shape := ⟨2, ![65536, 1024]⟩
abbrev S16x4096x2x128 : Shape := ⟨4, ![16, 4096, 2, 128]⟩
abbrev S65536x256 : Shape := ⟨2, ![65536, 256]⟩
abbrev S65536x128 : Shape := ⟨2, ![65536, 128]⟩
abbrev S128x65536 : Shape := ⟨2, ![128, 65536]⟩

abbrev nBuf : Space → Nat
  | .hbm => 112
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S8x3x16x1x1024, .f32⟩
  | .hbm, ⟨2, _⟩ => ⟨S16x4096, .i32⟩
  | .hbm, ⟨3, _⟩ => ⟨S1x1024x1280, .f32⟩
  | .hbm, ⟨4, _⟩ => ⟨S4x2x3x16x1024, .f32⟩
  | .hbm, ⟨5, _⟩ => ⟨S1x2x3x16x1024, .f32⟩
  | .hbm, ⟨6, _⟩ => ⟨S2x3x16x1024, .f32⟩
  | .hbm, ⟨7, _⟩ => ⟨S2x1x16x1024, .f32⟩
  | .hbm, ⟨8, _⟩ => ⟨S2x16x1024, .f32⟩
  | .hbm, ⟨9, _⟩ => ⟨S2x1x16x1024, .f32⟩
  | .hbm, ⟨10, _⟩ => ⟨S2x16x1024, .f32⟩
  | .hbm, ⟨11, _⟩ => ⟨S1x16x1024, .f32⟩
  | .hbm, ⟨12, _⟩ => ⟨S16x1024, .f32⟩
  | .hbm, ⟨13, _⟩ => ⟨S16x1x1024, .f32⟩
  | .hbm, ⟨14, _⟩ => ⟨S_, .f32⟩
  | .hbm, ⟨15, _⟩ => ⟨S16x1x1024, .f32⟩
  | .hbm, ⟨16, _⟩ => ⟨S16x1x1024, .f32⟩
  | .hbm, ⟨17, _⟩ => ⟨S16x4096x1024, .f32⟩
  | .hbm, ⟨18, _⟩ => ⟨S16x4096x1024, .f32⟩
  | .hbm, ⟨19, _⟩ => ⟨S1x16x1024, .f32⟩
  | .hbm, ⟨20, _⟩ => ⟨S16x1024, .f32⟩
  | .hbm, ⟨21, _⟩ => ⟨S16x1x1024, .f32⟩
  | .hbm, ⟨22, _⟩ => ⟨S16x4096x1024, .f32⟩
  | .hbm, ⟨23, _⟩ => ⟨S16x4096x1024, .f32⟩
  | .hbm, ⟨24, _⟩ => ⟨S1024x1280, .f32⟩
  | .hbm, ⟨25, _⟩ => ⟨S16x4096x1280, .f32⟩
  | .hbm, ⟨26, _⟩ => ⟨S16x4096x1024, .f32⟩
  | .hbm, ⟨27, _⟩ => ⟨S16x4096x16x64, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S16x4096, .f32⟩
  | .hbm, ⟨40, _⟩ => ⟨S16x4096x1, .f32⟩
  | .hbm, ⟨41, _⟩ => ⟨S1x1x8, .f32⟩
  | .hbm, ⟨42, _⟩ => ⟨S16x4096x8, .f32⟩
  | .hbm, ⟨43, _⟩ => ⟨S16x4096x8, .f32⟩
  | .hbm, ⟨44, _⟩ => ⟨S16x4096x8, .f32⟩
  | .hbm, ⟨45, _⟩ => ⟨S16x4096x8, .f32⟩
  | .hbm, ⟨46, _⟩ => ⟨S16x4096x1x8, .f32⟩
  | .hbm, ⟨47, _⟩ => ⟨S16x4096x8, .f32⟩
  | .hbm, ⟨48, _⟩ => ⟨S16x4096x1x8, .f32⟩
  | .hbm, ⟨49, _⟩ => ⟨S16x4096x16x8, .f32⟩
  | .hbm, ⟨50, _⟩ => ⟨S16x4096x16x8, .f32⟩
  | .hbm, ⟨51, _⟩ => ⟨S16x4096x16x8, .f32⟩
  | .hbm, ⟨52, _⟩ => ⟨S16x4096x16x8, .f32⟩
  | .hbm, ⟨53, _⟩ => ⟨S16x4096x16x8, .f32⟩
  | .hbm, ⟨54, _⟩ => ⟨S16x4096x16x8, .f32⟩
  | .hbm, ⟨55, _⟩ => ⟨S16x4096x16x8, .f32⟩
  | .hbm, ⟨56, _⟩ => ⟨S16x4096x16x8, .f32⟩
  | .hbm, ⟨57, _⟩ => ⟨S16x4096x16x8, .f32⟩
  | .hbm, ⟨58, _⟩ => ⟨S16x4096x16x8, .f32⟩
  | .hbm, ⟨59, _⟩ => ⟨S16x4096x16x8, .f32⟩
  | .hbm, ⟨60, _⟩ => ⟨S16x4096x16x8, .f32⟩
  | .hbm, ⟨61, _⟩ => ⟨S16x4096x16x48, .f32⟩
  | .hbm, ⟨62, _⟩ => ⟨S16x4096x16x64, .f32⟩
  | .hbm, ⟨63, _⟩ => ⟨S16x4096x128, .f32⟩
  | .hbm, ⟨64, _⟩ => ⟨S16x4096x2x64, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S16x4096, .f32⟩
  | .hbm, ⟨77, _⟩ => ⟨S16x4096x1, .f32⟩
  | .hbm, ⟨78, _⟩ => ⟨S1x1x8, .f32⟩
  | .hbm, ⟨79, _⟩ => ⟨S16x4096x8, .f32⟩
  | .hbm, ⟨80, _⟩ => ⟨S16x4096x8, .f32⟩
  | .hbm, ⟨81, _⟩ => ⟨S16x4096x8, .f32⟩
  | .hbm, ⟨82, _⟩ => ⟨S16x4096x8, .f32⟩
  | .hbm, ⟨83, _⟩ => ⟨S16x4096x1x8, .f32⟩
  | .hbm, ⟨84, _⟩ => ⟨S16x4096x8, .f32⟩
  | .hbm, ⟨85, _⟩ => ⟨S16x4096x1x8, .f32⟩
  | .hbm, ⟨86, _⟩ => ⟨S16x4096x2x8, .f32⟩
  | .hbm, ⟨87, _⟩ => ⟨S16x4096x2x8, .f32⟩
  | .hbm, ⟨88, _⟩ => ⟨S16x4096x2x8, .f32⟩
  | .hbm, ⟨89, _⟩ => ⟨S16x4096x2x8, .f32⟩
  | .hbm, ⟨90, _⟩ => ⟨S16x4096x2x8, .f32⟩
  | .hbm, ⟨91, _⟩ => ⟨S16x4096x2x8, .f32⟩
  | .hbm, ⟨92, _⟩ => ⟨S16x4096x2x8, .f32⟩
  | .hbm, ⟨93, _⟩ => ⟨S16x4096x2x8, .f32⟩
  | .hbm, ⟨94, _⟩ => ⟨S16x4096x2x8, .f32⟩
  | .hbm, ⟨95, _⟩ => ⟨S16x4096x2x8, .f32⟩
  | .hbm, ⟨96, _⟩ => ⟨S16x4096x2x8, .f32⟩
  | .hbm, ⟨97, _⟩ => ⟨S16x4096x2x8, .f32⟩
  | .hbm, ⟨98, _⟩ => ⟨S16x4096x2x48, .f32⟩
  | .hbm, ⟨99, _⟩ => ⟨S16x4096x2x64, .f32⟩
  | .hbm, ⟨100, _⟩ => ⟨S16x4096x128, .f32⟩
  | .hbm, ⟨101, _⟩ => ⟨S_, .f32⟩
  | .hbm, ⟨102, _⟩ => ⟨S16x4096x16x64, .f32⟩
  | .hbm, ⟨103, _⟩ => ⟨S16x4096x16x64, .f32⟩
  | .hbm, ⟨104, _⟩ => ⟨S65536x1024, .f32⟩
  | .hbm, ⟨105, _⟩ => ⟨S65536x1024, .bf16⟩
  | .hbm, ⟨106, _⟩ => ⟨S16x4096x2x128, .f32⟩
  | .hbm, ⟨107, _⟩ => ⟨S65536x256, .f32⟩
  | .hbm, ⟨108, _⟩ => ⟨S65536x256, .bf16⟩
  | .hbm, ⟨109, _⟩ => ⟨S65536x128, .f32⟩
  | .hbm, ⟨110, _⟩ => ⟨S128x65536, .f32⟩
  | .hbm, ⟨111, _⟩ => ⟨S128x65536, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_3 : Ref sig .tc := ⟨.hbm, 67, rfl⟩
abbrev main_v59 : Ref sig .tc := ⟨.hbm, 68, rfl⟩
abbrev main_v60 : Ref sig .tc := ⟨.hbm, 69, rfl⟩
abbrev main_cst_4 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_6 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩

abbrev nD : Nat := 1
abbrev τ : Topo := Topo.v7x

variable {F : FTy → Type} [FloatOps F]
-- ==== Proof.Diff.Frames.lean ====
/-
  The differential attention's frames: of the kernel as run, of its idealization and of the reference; and the one
  named constant of the idealization.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import Idealize.ShloMosaic.Lib.Quiescent

@[expose] public section

set_option maxRecDepth 16384

noncomputable section

namespace Cert.Diff

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre_finite : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre_finite : Cert.quiescent_ReferenceIdeal_pre_finite := fun m ρ _ => frame_reference m ρ trivial

theorem preserves : Cert.preserves_Kernel_KernelIdeal :=
  IdealRules.named_const.statement Cert.KernelIdeal.κ "log2e_8" .f32 0x3E38AA3B#32 _ rfl

end Cert.Diff

end
-- ==== Proof.Diff.Step.lean ====
/-
  The attention kernel's bookkeeping read as arithmetic: how many pairs of key blocks the loop visits, where each visit's loads
  fall, and the blocks of keys and values that the loads read.
-/
module

public import proofs.«01_k».proof.Proof.Gen.KernelIdeal.Value
public import Idealize.ShloMosaic.Lib.Pointwise
public import Idealize.ShloMosaic.Lib.Pipeline.Value

@[expose] public section

set_option maxRecDepth 16384

noncomputable section

namespace Cert.Diff

open Idealize.ShloMosaic Idealize.ShloMosaic.TcCoe Idealize.SL.Sem Cert.KernelIdeal Cert.KernelIdeal.Gen

/-- The block of queries a grid point works on. -/
def qb (i : grid0.Coords) : Nat := (i 2).val

theorem qb_lt (i : grid0.Coords) : qb i < 8 := (i 2).isLt

/-- The paired loop makes half of the whole blocks before the last one, rounded down. -/
theorem trips1 (i : grid0.Coords) : (k0_t1_loop i).trips = (qb i - 1) / 2 := by
  unfold k0_t1_loop qb
  generalize (i 2 : Fin _) = q
  revert q
  decide +kernel

/-- The loop over what the paired one leaves is empty. -/
theorem trips2 (i : grid0.Coords) : (k0_t2_loop i).trips = 0 := by
  unfold k0_t2_loop
  generalize (i 2 : Fin _) = q
  revert q
  decide +kernel

theorem off1_eq (i : grid0.Coords) : k0_off1 i = ![512 * qb i, 0] := by
  unfold k0_off1 qb
  generalize (i 2 : Fin _) = q
  revert q
  decide +kernel

theorem off2_eq (i : grid0.Coords) : k0_off2 i = ![0, 512 * qb i] := by
  unfold k0_off2 qb
  generalize (i 2 : Fin _) = q
  revert q
  decide +kernel

theorem trip_lt (i : grid0.Coords) (k : Fin (k0_t1_loop i).trips) : 2 * k.val + 2 < 8 := by
  have := lt_of_lt_of_eq k.isLt (trips1 i)
  have := qb_lt i
  omega

theorem off3_eq1 (i : grid0.Coords) (k : Fin (k0_t1_loop i).trips) : k0_off3 i k 1#32 = ![512 * (2 * k.val + 1), 0] := by
  have h : k.val < 4 := by have := trip_lt i k; omega
  unfold k0_off3
  generalize k.val = n at h
  interval_cases n <;> decide +kernel

theorem off3_eq2 (i : grid0.Coords) (k : Fin (k0_t1_loop i).trips) : k0_off3 i k 2#32 = ![512 * (2 * k.val + 2), 0] := by
  have h : k.val < 4 := by have := trip_lt i k; omega
  unfold k0_off3
  generalize k.val = n at h
  interval_cases n <;> decide +kernel

theorem off4_eq (i : grid0.Coords) (k : Fin (k0_t1_loop i).trips) : k0_off4 i k = ![0, 512 * (2 * k.val)] := by
  have h : k.val < 4 := by have := trip_lt i k; omega
  unfold k0_off4
  generalize k.val = n at h
  interval_cases n <;> decide +kernel

theorem off5_eq (i : grid0.Coords) (k : Fin (k0_t1_loop i).trips) : k0_off5 i k = ![0, 512 * (2 * k.val + 1)] := by
  have h : k.val < 4 := by have := trip_lt i k; omega
  unfold k0_off5
  generalize k.val = n at h
  interval_cases n <;> decide +kernel

theorem off9_eq (i : grid0.Coords) (h : 1 ≤ qb i) : k0_off9 i = ![0, 512 * (qb i - 1)] := by
  unfold k0_off9
  unfold qb at *
  generalize (i 2 : Fin _) = q at *
  revert q
  decide +kernel

theorem off10_eq (i : grid0.Coords) (h : 1 ≤ qb i) : k0_off10 i = ![512 * (qb i - 1), 0] := by
  unfold k0_off10
  unfold qb at *
  generalize (i 2 : Fin _) = q at *
  revert q
  decide +kernel

theorem off11_eq2 (i : grid0.Coords) (h : 2 ≤ qb i) : k0_off11 i 2#32 = ![0, 512 * (qb i - 2)] := by
  unfold k0_off11
  unfold qb at *
  generalize (i 2 : Fin _) = q at *
  revert q
  decide +kernel

theorem off11_eq1 (i : grid0.Coords) (h : 1 ≤ qb i) : k0_off11 i 1#32 = ![0, 512 * (qb i - 1)] := by
  unfold k0_off11
  unfold qb at *
  generalize (i 2 : Fin _) = q at *
  revert q
  decide +kernel

/-- Block `n` of 512 keys. -/
def keyBlk (x : Vec Ideal S4096x128 .bf16) (n : Nat) : Vec Ideal S512x128 .bf16 := fun y =>
  x (ix2 (⟨(512 * n + (y 0).val) % 4096, by omega⟩ : Fin 4096) (⟨(y 1).val, (y 1).isLt⟩ : Fin 128))

/-- Block `n` of 512 values, each a column. -/
def valBlk (x : Vec Ideal S128x4096 .bf16) (n : Nat) : Vec Ideal S128x512 .bf16 := fun y =>
  x (ix2 (⟨(y 0).val, (y 0).isLt⟩ : Fin 128) (⟨(512 * n + (y 1).val) % 4096, by omega⟩ : Fin 4096))

/-- The keys a load at `off` reads. -/
def keyAt (x : Vec Ideal S4096x128 .bf16) (off : Fin 2 → Nat) : Vec Ideal S512x128 .bf16 := fun y =>
  x (ix2 (⟨(off 0 + (y 0).val) % 4096, by omega⟩ : Fin 4096) (⟨(off 1 + (y 1).val) % 128, by omega⟩ : Fin 128))

/-- The values a load at `off` reads. -/
def valAt (x : Vec Ideal S128x4096 .bf16) (off : Fin 2 → Nat) : Vec Ideal S128x512 .bf16 := fun y =>
  x (ix2 (⟨(off 0 + (y 0).val) % 128, by omega⟩ : Fin 128) (⟨(off 1 + (y 1).val) % 4096, by omega⟩ : Fin 4096))

theorem read_keyAt (a : Memref sig .tc .vmem S4096x128 .bf16) (ha : a.IsWhole) (x : Vec Ideal S4096x128 .bf16) (off : Fin 2 → Nat)
    (inb : ∀ j, off j + S512x128.size j ≤ S4096x128.size j) :
    (View.readAt (Elt Ideal) a.view (Rect.unit (s := S4096x128) off S512x128.size inb).toLoadRect (ha.unread x) : Vec Ideal S512x128 .bf16)
      = keyAt x off := by
  rw [View.readAt_eq_ld, ha.read_unread]
  funext y
  refine congrArg x (funext fun j => Fin.ext ?_)
  have h0 : (y 0).val < 512 := (y 0).isLt
  have h1 : (y 1).val < 128 := (y 1).isLt
  have i0 : off 0 + 512 ≤ 4096 := inb 0
  have i1 : off 1 + 128 ≤ 128 := inb 1
  match j with
  | ⟨0, _⟩ => show off 0 + 1 * (y 0).val = (off 0 + (y 0).val) % 4096; omega
  | ⟨1, _⟩ => show off 1 + 1 * (y 1).val = (off 1 + (y 1).val) % 128; omega

theorem read_valAt (a : Memref sig .tc .vmem S128x4096 .bf16) (ha : a.IsWhole) (x : Vec Ideal S128x4096 .bf16) (off : Fin 2 → Nat)
    (inb : ∀ j, off j + S128x512.size j ≤ S128x4096.size j) :
    (View.readAt (Elt Ideal) a.view (Rect.unit (s := S128x4096) off S128x512.size inb).toLoadRect (ha.unread x) : Vec Ideal S128x512 .bf16)
      = valAt x off := by
  rw [View.readAt_eq_ld, ha.read_unread]
  funext y
  refine congrArg x (funext fun j => Fin.ext ?_)
  have h0 : (y 0).val < 128 := (y 0).isLt
  have h1 : (y 1).val < 512 := (y 1).isLt
  have i0 : off 0 + 128 ≤ 128 := inb 0
  have i1 : off 1 + 512 ≤ 4096 := inb 1
  match j with
  | ⟨0, _⟩ => show off 0 + 1 * (y 0).val = (off 0 + (y 0).val) % 128; omega
  | ⟨1, _⟩ => show off 1 + 1 * (y 1).val = (off 1 + (y 1).val) % 4096; omega

theorem keyBlk_eq (x : Vec Ideal S4096x128 .bf16) (n : Nat) (off : Fin 2 → Nat) (h : off = ![512 * n, 0]) : keyBlk x n = keyAt x off := by
  subst h
  funext y
  refine congrArg x (funext fun j => Fin.ext ?_)
  have h1 : (y 1).val < 128 := (y 1).isLt
  match j with
  | ⟨0, _⟩ => rfl
  | ⟨1, _⟩ => show (y 1).val = (0 + (y 1).val) % 128; omega

theorem valBlk_eq (x : Vec Ideal S128x4096 .bf16) (n : Nat) (off : Fin 2 → Nat) (h : off = ![0, 512 * n]) : valBlk x n = valAt x off := by
  subst h
  funext y
  refine congrArg x (funext fun j => Fin.ext ?_)
  have h1 : (y 0).val < 128 := (y 0).isLt
  match j with
  | ⟨0, _⟩ => show (y 0).val = (0 + (y 0).val) % 128; omega
  | ⟨1, _⟩ => rfl

/-! ## What a load finds after stores -/

section Reads
variable {sig' : RefSig} {κ : Kind} {sp : Space} {s : Shape} {e : EltTy} {Val : EltTy → Type}

/-- A load of the box last stored reads what was stored. -/
theorem read_hit (v : View sig' κ sp s e) (f : v.ty.Contents Val) (r : Rect s) (w : r.shape.Idx → Val e) (L : List (View.Piece Val s e)) :
    v.readAt Val r.toLoadRect (v.writes Val f (⟨r, w⟩ :: L)) = w := by
  funext x
  rw [View.readAt_apply]
  exact View.read_writes_cons_emb v f r w L x

/-- A load of a box apart from the last store's reads what was there before it. -/
theorem read_miss (v : View sig' κ sp s e) (f : v.ty.Contents Val) (r : Rect s) (w : r.shape.Idx → Val e) (L : List (View.Piece Val s e))
    (B : LoadRect s) (h : LoadRect.disj r B = true) :
    v.readAt Val B (v.writes Val f (⟨r, w⟩ :: L)) = v.readAt Val B (v.writes Val f L) := by
  funext x
  rw [View.readAt_apply, View.readAt_apply]
  exact View.read_writes_cons_miss v f ⟨r, w⟩ L _ (LoadRect.idx_not_mem_of_disj h x)

end Reads

theorem keyInb {n : Nat} {off : Fin 2 → Nat} (h : off = ![512 * n, 0]) (hn : n < 8) :
    ∀ j, off j + S512x128.size j ≤ S4096x128.size j := by
  subst h
  intro j
  match j with
  | ⟨0, _⟩ => show 512 * n + 512 ≤ 4096; omega
  | ⟨1, _⟩ => show 0 + 128 ≤ 128; omega

theorem valInb {n : Nat} {off : Fin 2 → Nat} (h : off = ![0, 512 * n]) (hn : n < 8) :
    ∀ j, off j + S128x512.size j ≤ S128x4096.size j := by
  subst h
  intro j
  match j with
  | ⟨0, _⟩ => show 0 + 128 ≤ 128; omega
  | ⟨1, _⟩ => show 512 * n + 512 ≤ 4096; omega

/-- Block `n` of the keys, as the window's buffer reads at the offset `off`. -/
theorem keyBlk_read (a : Memref sig .tc .vmem S4096x128 .bf16) (ha : a.IsWhole) (x : Vec Ideal S4096x128 .bf16) (n : Nat)
    (off : Fin 2 → Nat) (h : off = ![512 * n, 0]) (hn : n < 8) :
    keyBlk x n = View.readAt (Elt Ideal) a.view (Rect.unit (s := S4096x128) off S512x128.size (keyInb h hn)).toLoadRect (ha.unread x) :=
  (keyBlk_eq x n off h).trans (read_keyAt a ha x off _).symm

/-- Block `n` of the values, as the window's buffer reads at the offset `off`. -/
theorem valBlk_read (a : Memref sig .tc .vmem S128x4096 .bf16) (ha : a.IsWhole) (x : Vec Ideal S128x4096 .bf16) (n : Nat)
    (off : Fin 2 → Nat) (h : off = ![0, 512 * n]) (hn : n < 8) :
    valBlk x n = View.readAt (Elt Ideal) a.view (Rect.unit (s := S128x4096) off S128x512.size (valInb h hn)).toLoadRect (ha.unread x) :=
  (valBlk_eq x n off h).trans (read_valAt a ha x off _).symm

end Cert.Diff

end
-- ==== Proof.Diff.Trip.lean ====
/-
  One visit of the loop over pairs of key blocks, as a function of what it carries: the two maps' running maxima, their weighted
  sums, and the scores computed ahead.
-/
module

public import proofs.«01_k».proof.Proof.Diff.Step
public import Idealize.ShloMosaic.Lib.Pipeline.ReadBack

@[expose] public section

set_option maxRecDepth 16384

noncomputable section

namespace Cert.Diff

open Idealize.ShloMosaic Idealize.ShloMosaic.TcCoe Idealize.SL.Sem Cert.KernelIdeal Cert.KernelIdeal.Gen Idealize.ShloMosaic.Tactic

/-- What a visit carries: each map's maximum `m`, weighted sum `a`, and next scores `s`. -/
structure St where
  m0 : FVec Ideal S1x512 .f32
  m1 : FVec Ideal S1x512 .f32
  a0 : FVec Ideal S1x144x512 .f32
  a1 : FVec Ideal S1x144x512 .f32
  s0 : FVec Ideal S1x512x512 .f32
  s1 : FVec Ideal S1x512x512 .f32

/-- The values of block `n` above the rows of ones. -/
def vte (x2 : Vec Ideal S128x4096 .bf16) (n : Nat) : FVec Ideal S144x512 .bf16 := k0_pay5 k0_pay69 (valBlk x2 n)

/-- Take block `n` into both maps, and put the scores of block `n + 1` by. -/
def take (x1 : Vec Ideal S4096x128 .bf16) (x2 : Vec Ideal S128x4096 .bf16) (q0 q1 : FVec Ideal S512x128 .bf16) (n : Nat) (t : St) : St where
  m0 := k0_pay7 t.m0 t.s0
  m1 := k0_pay7 t.m1 t.s1
  a0 := k0_pay14 t.m0 (vte x2 n) t.s0 t.a0
  a1 := k0_pay14 t.m1 (vte x2 n) t.s1 t.a1
  s0 := k0_pay3 q0 (keyBlk x1 (n + 1))
  s1 := k0_pay3 q1 (keyBlk x1 (n + 1))

def r9 (a : Memref sig .tc .vmem S2x144x512 .f32) (j : Fin 2) (f : BufTy.Contents (Elt Ideal) a.view.ty) : FVec Ideal S1x144x512 .f32 :=
  match j with
  | 0 => View.readAt (Elt Ideal) a.view (Rect.unit (s := S2x144x512) ![0, 0, 0] S1x144x512.size inb_S2x144x512_S1x144x512_0_0_0).toLoadRect f
  | 1 => View.readAt (Elt Ideal) a.view (Rect.unit (s := S2x144x512) ![1, 0, 0] S1x144x512.size inb_S2x144x512_S1x144x512_1_0_0).toLoadRect f

def r10 (a : Memref sig .tc .vmem S4x512x512 .f32) (j : Fin 4) (f : BufTy.Contents (Elt Ideal) a.view.ty) : FVec Ideal S1x512x512 .f32 :=
  match j with
  | 0 => View.readAt (Elt Ideal) a.view (Rect.unit (s := S4x512x512) ![0, 0, 0] S1x512x512.size inb_S4x512x512_S1x512x512_0_0_0).toLoadRect f
  | 1 => View.readAt (Elt Ideal) a.view (Rect.unit (s := S4x512x512) ![1, 0, 0] S1x512x512.size inb_S4x512x512_S1x512x512_1_0_0).toLoadRect f
  | 2 => View.readAt (Elt Ideal) a.view (Rect.unit (s := S4x512x512) ![2, 0, 0] S1x512x512.size inb_S4x512x512_S1x512x512_2_0_0).toLoadRect f
  | 3 => View.readAt (Elt Ideal) a.view (Rect.unit (s := S4x512x512) ![3, 0, 0] S1x512x512.size inb_S4x512x512_S1x512x512_3_0_0).toLoadRect f

/-- The buffers and the carried maxima hold `t`: the sums in the accumulator's two slots, the scores in the last two of four. -/
structure Holds (a9 : Memref sig .tc .vmem S2x144x512 .f32) (a10 : Memref sig .tc .vmem S4x512x512 .f32)
    (mm : FVec Ideal S1x512 .f32 × FVec Ideal S1x512 .f32) (f9 : BufTy.Contents (Elt Ideal) a9.view.ty)
    (f10 : BufTy.Contents (Elt Ideal) a10.view.ty) (t : St) : Prop where
  m0 : mm.1 = t.m0
  m1 : mm.2 = t.m1
  a0 : r9 a9 0 f9 = t.a0
  a1 : r9 a9 1 f9 = t.a1
  s0 : r10 a10 2 f10 = t.s0
  s1 : r10 a10 3 f10 = t.s1

set_option maxHeartbeats 4000000 in
theorem trip_holds (𝒱 : Variants) (c : Dev nD) (bd : Option 𝒱.V) (i : grid0.Coords) (arg3 : Memref sig .tc .vmem S512x128 .bf16)
    (harg3 : arg3.IsWhole) (arg4 : Memref sig .tc .vmem S4096x128 .bf16) (harg4 : arg4.IsWhole)
    (arg5 : Memref sig .tc .vmem S128x4096 .bf16) (harg5 : arg5.IsWhole) (arg6 : Memref sig .tc .vmem S4x64 .f32) (harg6 : arg6.IsWhole)
    (arg7 : Memref sig .tc .vmem S1x128 .f32) (harg7 : arg7.IsWhole) (arg8 : Memref sig .tc .vmem S512x128 .bf16) (harg8 : arg8.IsWhole)
    (arg9 : Memref sig .tc .vmem S2x144x512 .f32) (harg9 : arg9.IsWhole) (arg10 : Memref sig .tc .vmem S4x512x512 .f32)
    (harg10 : arg10.IsWhole) (arg2 : BitVec 32) (q0 q1 : FVec Ideal S512x128 .bf16) (v77 v99 : FVec Ideal S1x512 .f32)
    (v109 v110 : FVec Ideal S144x512 .f32) (x1 : Vec Ideal S4096x128 .bf16) (x2 : Vec Ideal S128x4096 .bf16)
    (k : Fin (k0_t1_loop i).trips) (acc : FVec Ideal S1x512 .f32 × FVec Ideal S1x512 .f32)
    (f9 : BufTy.Contents (Elt Ideal) arg9.view.ty) (f10 : BufTy.Contents (Elt Ideal) arg10.view.ty) (t : St)
    (h : Holds arg9 arg10 acc f9 f10 t) :
    Holds arg9 arg10
      (tripR_k0_t1 (F := Ideal) 𝒱 c bd i arg3 harg3 arg4 harg4 arg5 harg5 arg6 harg6 arg7 harg7 arg8 harg8 arg9 harg9 arg10 harg10 arg2 q0 q1 k0_pay69 v77 v99 v109 v110 (harg4.unread x1) (harg5.unread x2) k acc f9 f10)
      (arg9.view.writes (Elt Ideal) f9 (tripL_k0_t1 (F := Ideal) 𝒱 c bd i arg3 harg3 arg4 harg4 arg5 harg5 arg6 harg6 arg7 harg7 arg8 harg8 arg9 harg9 arg10 harg10 arg2 q0 q1 k0_pay69 v77 v99 v109 v110 (harg4.unread x1) (harg5.unread x2) k acc f9 f10).1)
      (arg10.view.writes (Elt Ideal) f10 (tripL_k0_t1 (F := Ideal) 𝒱 c bd i arg3 harg3 arg4 harg4 arg5 harg5 arg6 harg6 arg7 harg7 arg8 harg8 arg9 harg9 arg10 harg10 arg2 q0 q1 k0_pay69 v77 v99 v109 v110 (harg4.unread x1) (harg5.unread x2) k acc f9 f10).2)
      (take x1 x2 q0 q1 (2 * k.val + 1) (take x1 x2 q0 q1 (2 * k.val) t)) := by
  obtain ⟨h0, h1, h2, h3, h4, h5⟩ := h
  have hk := trip_lt i k
  have e1 := keyBlk_read arg4 harg4 x1 (2 * k.val + 1) _ (off3_eq1 i k) (by omega)
  have e2 := keyBlk_read arg4 harg4 x1 (2 * k.val + 1 + 1) _ (off3_eq2 i k) (by omega)
  have e3 := valBlk_read arg5 harg5 x2 (2 * k.val) _ (off4_eq i k) (by omega)
  have e4 := valBlk_read arg5 harg5 x2 (2 * k.val + 1) _ (off5_eq i k) (by omega)
  unfold tripR_k0_t1 tripL_k0_t1 trip_k0_t1
  dsimp only
  simp only [take, vte, e1, e2, e3, e4]
  rw [← h0, ← h1, ← h2, ← h3, ← h4, ← h5]
  refine ⟨?_, ?_, ?_, ?_, ?_, ?_⟩ <;> dsimp only [r9, r10]
  all_goals sl_unfold_words
  all_goals dsimp only
  all_goals simp (disch := decide) only [↓ View.readCov_skip, ↓ View.readCov_cons_toLoadRect, ↓ read_miss, ↓ read_hit]
  all_goals dsimp only [k0_pay2, k0_pay3, k0_pay4, k0_pay5, k0_pay6, k0_pay7, k0_pay8, k0_pay9, k0_pay10, k0_pay11, k0_pay12, k0_pay13, k0_pay14, k0_pay87, k0_pay88, k0_pay89]
  all_goals rfl

end Cert.Diff

end
-- ==== Proof.Diff.Loop.lean ====
/-
  The loop over pairs of key blocks as a whole, and what a grid point leaves in its output block: the diagonal block of keys, then
  every whole block before it in turn, then the division and the norm.
-/
module

public import proofs.«01_k».proof.Proof.Diff.Trip

@[expose] public section

set_option maxRecDepth 16384

noncomputable section

namespace Cert.Diff

open Idealize.ShloMosaic Idealize.ShloMosaic.TcCoe Idealize.SL.Sem Cert.KernelIdeal Cert.KernelIdeal.Gen Idealize.ShloMosaic.Tactic

/-- Take blocks `0 … n - 1` in turn. -/
def takeN (x1 : Vec Ideal S4096x128 .bf16) (x2 : Vec Ideal S128x4096 .bf16) (q0 q1 : FVec Ideal S512x128 .bf16) (t : St) : Nat → St
  | 0 => t
  | n + 1 => take x1 x2 q0 q1 n (takeN x1 x2 q0 q1 t n)

/-- Nothing summed yet. -/
def zero9 : FVec Ideal S1x144x512 .f32 := broadcast S1x144x512 (Scalar.ofBits (F := Ideal) .f32 0x00000000#32)

/-- The diagonal block, number `n`, taken first under its mask; the scores of block 0 put by. -/
def first (x1 : Vec Ideal S4096x128 .bf16) (x2 : Vec Ideal S128x4096 .bf16) (q0 q1 : FVec Ideal S512x128 .bf16) (n : Nat) : St where
  m0 := k0_pay80 k0_pay73 k0_pay78 (k0_pay3 q0 (keyBlk x1 n))
  m1 := k0_pay80 k0_pay73 k0_pay78 (k0_pay3 q1 (keyBlk x1 n))
  a0 := k0_pay81 k0_pay73 (vte x2 n) k0_pay78 (k0_pay3 q0 (keyBlk x1 n)) zero9
  a1 := k0_pay81 k0_pay73 (vte x2 n) k0_pay78 (k0_pay3 q1 (keyBlk x1 n)) zero9
  s0 := k0_pay3 q0 (keyBlk x1 0)
  s1 := k0_pay3 q1 (keyBlk x1 0)

def top (a : FVec Ideal S1x144x512 .f32) : FVec Ideal S1x128x512 .f32 := fun y =>
  a (ix3 (0 : Fin 1) (⟨(y 1).val, by have : (y 1).val < 128 := (y 1).isLt; omega⟩ : Fin 144) (⟨(y 2).val, (y 2).isLt⟩ : Fin 512))

def ones (a : FVec Ideal S1x144x512 .f32) : FVec Ideal S1x1x512 .f32 := fun y =>
  a (ix3 (0 : Fin 1) (128 : Fin 144) (⟨(y 2).val, (y 2).isLt⟩ : Fin 512))

/-- The block stored, from the two maps' sums. -/
def finish (x3 : Vec Ideal S4x64 .f32) (x4 : Vec Ideal S1x128 .f32) (t : St) : FVec Ideal S512x128 .bf16 :=
  k0_pay1 (k0_pay63 x3) (k0_pay96 (top t.a0) (ones t.a0)) (k0_pay97 (top t.a1)) (k0_pay98 (ones t.a1))
    (FloatOps.ofBits .f32 1065353216#32) x4

theorem loop_holds (𝒱 : Variants) (c : Dev nD) (bd : Option 𝒱.V) (i : grid0.Coords) (arg3 : Memref sig .tc .vmem S512x128 .bf16)
    (harg3 : arg3.IsWhole) (arg4 : Memref sig .tc .vmem S4096x128 .bf16) (harg4 : arg4.IsWhole)
    (arg5 : Memref sig .tc .vmem S128x4096 .bf16) (harg5 : arg5.IsWhole) (arg6 : Memref sig .tc .vmem S4x64 .f32) (harg6 : arg6.IsWhole)
    (arg7 : Memref sig .tc .vmem S1x128 .f32) (harg7 : arg7.IsWhole) (arg8 : Memref sig .tc .vmem S512x128 .bf16) (harg8 : arg8.IsWhole)
    (arg9 : Memref sig .tc .vmem S2x144x512 .f32) (harg9 : arg9.IsWhole) (arg10 : Memref sig .tc .vmem S4x512x512 .f32)
    (harg10 : arg10.IsWhole) (arg2 : BitVec 32) (q0 q1 : FVec Ideal S512x128 .bf16) (v77 v99 : FVec Ideal S1x512 .f32)
    (v109 v110 : FVec Ideal S144x512 .f32) (x1 : Vec Ideal S4096x128 .bf16) (x2 : Vec Ideal S128x4096 .bf16)
    (G9 : BufTy.Contents (Elt Ideal) arg9.view.ty) (G10 : BufTy.Contents (Elt Ideal) arg10.view.ty)
    (init : FVec Ideal S1x512 .f32 × FVec Ideal S1x512 .f32) (t : St) (h : Holds arg9 arg10 init G9 G10 t) (n : Nat)
    (hn : n ≤ (k0_t1_loop i).trips) (S) (hS : st_k0_t1 (F := Ideal) 𝒱 c bd i arg3 harg3 arg4 harg4 arg5 harg5 arg6 harg6 arg7 harg7 arg8 harg8 arg9 harg9 arg10 harg10 arg2 q0 q1 k0_pay69 v77 v99 v109 v110 (harg4.unread x1) (harg5.unread x2) G9 G10 init n = S) :
    Holds arg9 arg10 S.1 (arg9.view.writes (Elt Ideal) G9 S.2.1) (arg10.view.writes (Elt Ideal) G10 S.2.2)
      (takeN x1 x2 q0 q1 t (2 * n)) := by
  subst hS
  induction n with
  | zero => exact h
  | succ n ih =>
    have hn' : n < (k0_t1_loop i).trips := by omega
    have := trip_holds 𝒱 c bd i arg3 harg3 arg4 harg4 arg5 harg5 arg6 harg6 arg7 harg7 arg8 harg8 arg9 harg9 arg10 harg10 arg2 q0 q1
      v77 v99 v109 v110 x1 x2 ⟨n, hn'⟩ _ _ _ _ (ih (by omega))
    rw [← View.writes_append, ← View.writes_append] at this
    rw [st_k0_t1_succ 𝒱 c bd i arg3 harg3 arg4 harg4 arg5 harg5 arg6 harg6 arg7 harg7 arg8 harg8 arg9 harg9 arg10 harg10 arg2 q0 q1
      k0_pay69 v77 v99 v109 v110 (harg4.unread x1) (harg5.unread x2) G9 G10 init ⟨n, hn'⟩]
    exact this

section Reads
variable {sig' : RefSig} {κ : Kind} {sp : Space} {s : Shape} {e : EltTy} {Val : EltTy → Type}

theorem readCov_def [∀ e, Nonempty (Val e)] (v : View sig' κ sp s e) (L : List (View.Piece Val s e)) (B : LoadRect s) :
    v.readCov L B = v.readAt Val B (v.writes Val v.junk L) := rfl

/-- A load of any box after a store of the whole reads the store there. -/
theorem read_fill [∀ e, Nonempty (Val e)] (v : View sig' κ sp s e) (f : v.ty.Contents Val) {off : Fin s.rank → ℕ} (inb : ∀ a, off a + s.size a ≤ s.size a) (Z : s.Idx → Val e)
    (L : List (View.Piece Val s e)) (r : Rect s) (h : ∀ a, off a = 0) :
    v.readAt Val r.toLoadRect (v.writes Val f (⟨Rect.unit off s.size inb, Z⟩ :: L)) = View.ld Z r := by
  funext x
  rw [View.readAt_apply]
  have e : r.toLoadRect.idx x = (Rect.unit off s.size inb).emb (r.toLoadRect.idx x) :=
    funext fun a => Fin.ext (by show _ = off a + 1 * _; rw [h a]; omega)
  rw [e]
  exact View.read_writes_cons_emb v f (Rect.unit off s.size inb) Z L _

end Reads

theorem top0 (a : Memref sig .tc .vmem S2x144x512 .f32) (f : BufTy.Contents (Elt Ideal) a.view.ty) (inb) :
    (View.readAt (Elt Ideal) a.view (Rect.unit (s := S2x144x512) ![0, 0, 0] S1x128x512.size inb).toLoadRect f : Vec Ideal S1x128x512 .f32) = top (r9 a 0 f) :=
  funext fun y => congrArg (View.read (Elt Ideal) a.view f) (funext fun j => Fin.ext (match j with
    | ⟨0, _⟩ => by have : (y 0).val < 1 := (y 0).isLt; show 0 + 1 * (y 0).val = 0; omega
    | ⟨1, _⟩ => rfl
    | ⟨2, _⟩ => rfl))

theorem top1 (a : Memref sig .tc .vmem S2x144x512 .f32) (f : BufTy.Contents (Elt Ideal) a.view.ty) (inb) :
    (View.readAt (Elt Ideal) a.view (Rect.unit (s := S2x144x512) ![1, 0, 0] S1x128x512.size inb).toLoadRect f : Vec Ideal S1x128x512 .f32) = top (r9 a 1 f) :=
  funext fun y => congrArg (View.read (Elt Ideal) a.view f) (funext fun j => Fin.ext (match j with
    | ⟨0, _⟩ => by have : (y 0).val < 1 := (y 0).isLt; show 1 + 1 * (y 0).val = 1; omega
    | ⟨1, _⟩ => rfl
    | ⟨2, _⟩ => rfl))

theorem ones0 (a : Memref sig .tc .vmem S2x144x512 .f32) (f : BufTy.Contents (Elt Ideal) a.view.ty) (inb) :
    (View.readAt (Elt Ideal) a.view (Rect.unit (s := S2x144x512) ![0, 128, 0] S1x1x512.size inb).toLoadRect f : Vec Ideal S1x1x512 .f32) = ones (r9 a 0 f) :=
  funext fun y => congrArg (View.read (Elt Ideal) a.view f) (funext fun j => Fin.ext (match j with
    | ⟨0, _⟩ => by have : (y 0).val < 1 := (y 0).isLt; show 0 + 1 * (y 0).val = 0; omega
    | ⟨1, _⟩ => by have : (y 1).val < 1 := (y 1).isLt; show 128 + 1 * (y 1).val = 128; omega
    | ⟨2, _⟩ => rfl))

theorem ones1 (a : Memref sig .tc .vmem S2x144x512 .f32) (f : BufTy.Contents (Elt Ideal) a.view.ty) (inb) :
    (View.readAt (Elt Ideal) a.view (Rect.unit (s := S2x144x512) ![1, 128, 0] S1x1x512.size inb).toLoadRect f : Vec Ideal S1x1x512 .f32) = ones (r9 a 1 f) :=
  funext fun y => congrArg (View.read (Elt Ideal) a.view f) (funext fun j => Fin.ext (match j with
    | ⟨0, _⟩ => by have : (y 0).val < 1 := (y 0).isLt; show 1 + 1 * (y 0).val = 1; omega
    | ⟨1, _⟩ => by have : (y 1).val < 1 := (y 1).isLt; show 128 + 1 * (y 1).val = 128; omega
    | ⟨2, _⟩ => rfl))

theorem st2_nil (𝒱 : Variants) (c : Dev nD) (bd : Option 𝒱.V) (i : grid0.Coords) (arg3 : Memref sig .tc .vmem S512x128 .bf16)
    (harg3 : arg3.IsWhole) (arg4 : Memref sig .tc .vmem S4096x128 .bf16) (harg4 : arg4.IsWhole)
    (arg5 : Memref sig .tc .vmem S128x4096 .bf16) (harg5 : arg5.IsWhole) (arg6 : Memref sig .tc .vmem S4x64 .f32) (harg6 : arg6.IsWhole)
    (arg7 : Memref sig .tc .vmem S1x128 .f32) (harg7 : arg7.IsWhole) (arg8 : Memref sig .tc .vmem S512x128 .bf16) (harg8 : arg8.IsWhole)
    (arg9 : Memref sig .tc .vmem S2x144x512 .f32) (harg9 : arg9.IsWhole) (arg10 : Memref sig .tc .vmem S4x512x512 .f32)
    (harg10 : arg10.IsWhole) (arg2 : BitVec 32) (q0 q1 : FVec Ideal S512x128 .bf16) (o) (v77 v99 : FVec Ideal S1x512 .f32)
    (v109 v110 : FVec Ideal S144x512 .f32) (w) (X4) (X5)
    (G9 : BufTy.Contents (Elt Ideal) arg9.view.ty) (G10 : BufTy.Contents (Elt Ideal) arg10.view.ty)
    (init : FVec Ideal S1x512 .f32 × FVec Ideal S1x512 .f32) (n : Nat) (hn : n = 0) :
    st_k0_t2 (F := Ideal) 𝒱 c bd i arg3 harg3 arg4 harg4 arg5 harg5 arg6 harg6 arg7 harg7 arg8 harg8 arg9 harg9 arg10 harg10 arg2 q0 q1 o v77 v99 v109 v110 w X4 X5 G9 G10 init
      n = (init, [], []) := by
  subst hn
  rfl

theorem first_a1 (v t z) : k0_pay86 (F := Ideal) (k0_pay84 k0_pay73 k0_pay78 t z) (k0_pay85 k0_pay73 v k0_pay78 t) = k0_pay81 k0_pay73 v k0_pay78 t z := rfl

end Cert.Diff

end
-- ==== Proof.Diff.Online.lean ====
/-
  Sums of weighted powers of two taken block by block under a running maximum, as numbers: whatever maximum is carried, the sum kept
  is the sum of the powers themselves divided by the power of that maximum.
-/
module

public import proofs.«01_k».proof.Proof.Diff.Loop

@[expose] public section

set_option maxRecDepth 16384

noncomputable section

namespace Cert.Diff

open Idealize.ShloMosaic Idealize.ShloMosaic.TcCoe Idealize.SL.Sem Cert.KernelIdeal Cert.KernelIdeal.Gen Idealize.ShloMosaic.Tactic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many numbers, some of them perhaps `-∞` but not all, is a number. -/
theorem fold_real {ι : Type} [Fintype ι] (x : ι → EReal) (h : ∀ i, x i ≠ ⊤) (h' : ∃ i, x i ≠ ⊥) :
    ∃ μ : ℝ, Finset.fold max ⊥ x Finset.univ = (μ : EReal) := by
  have a : Finset.fold max ⊥ x Finset.univ < (⊤ : EReal) :=
    (Finset.fold_max_lt _).mpr ⟨bot_lt_top, fun i _ => lt_top_iff_ne_top.mpr (h i)⟩
  have b : (⊥ : EReal) < Finset.fold max ⊥ x Finset.univ :=
    (Finset.lt_fold_max _).mpr (Or.inr (h'.elim fun i hi => ⟨i, Finset.mem_univ i, bot_lt_iff_ne_bot.mpr hi⟩))
  exact ⟨_, (EReal.coe_toReal a.ne b.ne').symm⟩

theorem neg_inf : Ideal.ofBits FTy.f32 4286578688#32 = (⊥ : EReal) := rfl

theorem exp2_sub (a b : ℝ) : Ideal.exp2 ((a : EReal) - (b : EReal)) = (((2 : ℝ) ^ a * 2 ^ (-b) : ℝ) : EReal) := by
  rw [← EReal.coe_sub, Ideal.exp2_coe, ← Real.rpow_add two_pos, sub_eq_add_neg]
  rfl

/-- One whole block of keys taken: the scores `s`, the rows `w` of the values, the sum `2 ^ (-μ) * A` so far. -/
theorem step_sum {ι : Type} [Fintype ι] (μ μ' A : ℝ) (s w : ι → ℝ) :
    Ideal.exp2 ((μ : EReal) - (μ' : EReal)) * (((2 : ℝ) ^ (-μ) * A : ℝ) : EReal) + ∑ x, (w x : EReal) * Ideal.exp2 ((s x : EReal) - (μ' : EReal))
      = (((2 : ℝ) ^ (-μ') * (A + ∑ x, w x * 2 ^ (s x)) : ℝ) : EReal) := by
  simp only [exp2_sub, ← EReal.coe_mul]
  rw [← coe_sum, ← EReal.coe_add]
  congr 1
  have e : (2 : ℝ) ^ μ * 2 ^ (-μ) = 1 := by rw [← Real.rpow_add two_pos, add_neg_cancel, Real.rpow_zero]
  rw [mul_add, Finset.mul_sum]
  congr 1
  · calc (2 : ℝ) ^ μ * 2 ^ (-μ') * (2 ^ (-μ) * A) = (2 ^ μ * 2 ^ (-μ)) * (2 ^ (-μ') * A) := by ring
      _ = _ := by rw [e, one_mul]
  · exact Finset.sum_congr rfl fun x _ => by ring

/-- The diagonal block taken: nothing summed before it, the masked scores `-∞`. -/
theorem first_sum {ι : Type} [Fintype ι] (P : ι → Prop) [DecidablePred P] (μ' : ℝ) (s w : ι → ℝ) :
    Ideal.exp2 (⊥ - (μ' : EReal)) * 0 + ∑ x, (w x : EReal) * Ideal.exp2 ((if P x then (s x : EReal) else ⊥) - (μ' : EReal))
      = (((2 : ℝ) ^ (-μ') * (∑ x, if P x then w x * 2 ^ (s x) else 0) : ℝ) : EReal) := by
  rw [mul_zero, zero_add, Finset.mul_sum, coe_sum]
  refine Finset.sum_congr rfl fun x _ => ?_
  by_cases h : P x
  · rw [if_pos h, if_pos h, exp2_sub, ← EReal.coe_mul]
    congr 1
    ring
  · rw [if_neg h, if_neg h, EReal.bot_sub, Ideal.exp2_bot, mul_zero, mul_zero]
    rfl

/-- Column `p` of a map's running maximum, sums and next scores: the maximum is a number `μ`, the sums are `A` over `2 ^ μ`, the
    scores are those of block `n`. -/
def Col (m : FVec Ideal S1x512 .f32) (a : FVec Ideal S1x144x512 .f32) (sc : FVec Ideal S1x512x512 .f32) (p : Fin 512) (s : Nat → ℝ)
    (n : Nat) (A : Fin 144 → ℝ) : Prop :=
  ∃ μ : ℝ, m (ix2 (0 : Fin 1) p) = (μ : EReal) ∧ (∀ e : Fin 144, a (ix3 (0 : Fin 1) e p) = (((2 : ℝ) ^ (-μ) * A e : ℝ) : EReal)) ∧
    ∀ r : Fin 512, sc (ix3 (0 : Fin 1) r p) = (s (512 * n + r.val) : EReal)

theorem pay7_at (m s) (p : Fin 512) : k0_pay7 (F := Ideal) m s (ix2 (0 : Fin 1) p)
    = max (m (ix2 (0 : Fin 1) p)) (Finset.fold max (Ideal.ofBits FTy.f32 4286578688#32) (fun x => s (ix3 (0 : Fin 1) x p)) Finset.univ) := by
  pointwise [k0_pay7, k0_pay6] <;> rfl

theorem pay14_at (m v s a) (e : Fin 144) (p : Fin 512) : k0_pay14 (F := Ideal) m v s a (ix3 (0 : Fin 1) e p)
    = Ideal.exp2 (m (ix2 (0 : Fin 1) p) - max (m (ix2 (0 : Fin 1) p)) (Finset.fold max (Ideal.ofBits FTy.f32 4286578688#32) (fun x => s (ix3 (0 : Fin 1) x p)) Finset.univ)) *
        a (ix3 (0 : Fin 1) e p) + ∑ x, v (ix2 e x) * Ideal.exp2 (s (ix3 (0 : Fin 1) x p)
          - max (m (ix2 (0 : Fin 1) p)) (Finset.fold max (Ideal.ofBits FTy.f32 4286578688#32) (fun x => s (ix3 (0 : Fin 1) x p)) Finset.univ)) := by
  pointwise [k0_pay14, k0_pay6, k0_pay7, k0_pay8, k0_pay9, k0_pay10, k0_pay11, k0_pay12, k0_pay13] <;> rfl

def masked (s : FVec Ideal S1x512x512 .f32) (p x : Fin 512) : EReal :=
  Scalar.select (IntOp.cmpi CmpIPredicate.sle (BitVec.ofNat 32 x.val) (BitVec.ofNat 32 p.val)) (s (ix3 (0 : Fin 1) x p)) (Ideal.ofBits FTy.f32 4286578688#32)

theorem pay80_at (s) (p : Fin 512) : k0_pay80 (F := Ideal) k0_pay73 k0_pay78 s (ix2 (0 : Fin 1) p)
    = max (Ideal.ofBits FTy.f32 4286578688#32) (Finset.fold max (Ideal.ofBits FTy.f32 4286578688#32) (masked s p) Finset.univ) := by
  pointwise [k0_pay80, k0_pay79, k0_pay73, k0_pay78] <;> rfl

theorem pay81_at (v s a) (e : Fin 144) (p : Fin 512) : k0_pay81 (F := Ideal) k0_pay73 v k0_pay78 s a (ix3 (0 : Fin 1) e p)
    = Ideal.exp2 (Ideal.ofBits FTy.f32 4286578688#32 - max (Ideal.ofBits FTy.f32 4286578688#32) (Finset.fold max (Ideal.ofBits FTy.f32 4286578688#32) (masked s p) Finset.univ)) *
        a (ix3 (0 : Fin 1) e p) + ∑ x, v (ix2 e x) * Ideal.exp2 (masked s p x
          - max (Ideal.ofBits FTy.f32 4286578688#32) (Finset.fold max (Ideal.ofBits FTy.f32 4286578688#32) (masked s p) Finset.univ)) := by
  pointwise [k0_pay81, k0_pay80, k0_pay79, k0_pay73, k0_pay78] <;> rfl

theorem toInt_small (a : Nat) (h : a < 2147483648) : (BitVec.ofNat 32 a).toInt = a := by
  rw [BitVec.toInt_eq_toNat_of_lt (by rw [BitVec.toNat_ofNat]; omega), BitVec.toNat_ofNat]
  omega

theorem sle_small (a b : Nat) (ha : a < 2147483648) (hb : b < 2147483648) :
    BitVec.sle (BitVec.ofNat 32 a) (BitVec.ofNat 32 b) = decide (a ≤ b) := by
  unfold BitVec.sle
  rw [toInt_small a ha, toInt_small b hb]
  exact decide_eq_decide.mpr Int.ofNat_le

theorem slt_small (a b : Nat) (ha : a < 2147483648) (hb : b < 2147483648) :
    BitVec.slt (BitVec.ofNat 32 a) (BitVec.ofNat 32 b) = decide (a < b) := by
  unfold BitVec.slt
  rw [toInt_small a ha, toInt_small b hb]
  exact decide_eq_decide.mpr Int.ofNat_lt

theorem masked_eq (s : FVec Ideal S1x512x512 .f32) (p x : Fin 512) : masked s p x = if x.val ≤ p.val then s (ix3 (0 : Fin 1) x p) else ⊥ := by
  have h : IntOp.cmpi CmpIPredicate.sle (BitVec.ofNat 32 x.val) (BitVec.ofNat 32 p.val) = BitVec.ofBool (decide (x.val ≤ p.val)) := by
    exact congrArg BitVec.ofBool (sle_small _ _ (by have := x.isLt; omega) (by have := p.isLt; omega))
  unfold masked
  rw [h, neg_inf]
  by_cases hh : x.val ≤ p.val
  · rw [if_pos hh, decide_eq_true hh]; rfl
  · rw [if_neg hh, decide_eq_false hh]; rfl

theorem col_take {m a sc sc' v p s n A} {w : Fin 144 → Nat → ℝ} (h : Col m a sc p s n A)
    (hv : ∀ (e : Fin 144) (r : Fin 512), v (ix2 e r) = (w e (512 * n + r.val) : EReal))
    (hs : ∀ r : Fin 512, sc' (ix3 (0 : Fin 1) r p) = (s (512 * (n + 1) + r.val) : EReal)) :
    Col (k0_pay7 m sc) (k0_pay14 m v sc a) sc' p s (n + 1) (fun e => A e + ∑ r : Fin 512, w e (512 * n + r.val) * 2 ^ (s (512 * n + r.val))) := by
  obtain ⟨μ, hm, ha, hc⟩ := h
  obtain ⟨f, hf⟩ := fold_real (fun x : Fin 512 => sc (ix3 (0 : Fin 1) x p)) (fun i => by rw [hc]; exact EReal.coe_ne_top _)
    ⟨0, by rw [hc]; exact EReal.coe_ne_bot _⟩
  have hM : max (m (ix2 (0 : Fin 1) p)) (Finset.fold max (Ideal.ofBits FTy.f32 4286578688#32) (fun x => sc (ix3 (0 : Fin 1) x p)) Finset.univ)
      = ((max μ f : ℝ) : EReal) := by
    rw [neg_inf, hf, hm]
    exact (EReal.coe_strictMono.monotone.map_max).symm
  refine ⟨max μ f, (pay7_at m sc p).trans hM, fun e => ?_, hs⟩
  rw [pay14_at, hM, hm, ha]
  simp only [hv, hc]
  exact step_sum μ (max μ f) (A e) (fun r : Fin 512 => s (512 * n + r.val)) (fun r => w e (512 * n + r.val))

theorem col_first {sc sc' v p s n} {w : Fin 144 → Nat → ℝ} (hc : ∀ r : Fin 512, sc (ix3 (0 : Fin 1) r p) = (s (512 * n + r.val) : EReal))
    (hv : ∀ (e : Fin 144) (r : Fin 512), v (ix2 e r) = (w e (512 * n + r.val) : EReal))
    (hs : ∀ r : Fin 512, sc' (ix3 (0 : Fin 1) r p) = (s (512 * 0 + r.val) : EReal)) :
    Col (k0_pay80 k0_pay73 k0_pay78 sc) (k0_pay81 k0_pay73 v k0_pay78 sc zero9) sc' p s 0
      (fun e => ∑ r : Fin 512, if r.val ≤ p.val then w e (512 * n + r.val) * 2 ^ (s (512 * n + r.val)) else 0) := by
  have hk : ∀ x, masked sc p x = if x.val ≤ p.val then (s (512 * n + x.val) : EReal) else ⊥ := fun x => by rw [masked_eq, hc]
  obtain ⟨f, hf⟩ := fold_real (masked sc p) (fun i => by rw [hk]; split_ifs; exacts [EReal.coe_ne_top _, bot_ne_top])
    ⟨p, by rw [hk, if_pos le_rfl]; exact EReal.coe_ne_bot _⟩
  have hM : max (Ideal.ofBits FTy.f32 4286578688#32) (Finset.fold max (Ideal.ofBits FTy.f32 4286578688#32) (masked sc p) Finset.univ)
      = (f : EReal) := by
    rw [neg_inf, hf]
    exact max_eq_right bot_le
  have hz : ∀ e : Fin 144, zero9 (ix3 (0 : Fin 1) e p) = 0 := fun e => by unfold zero9; pointwise [] <;> rfl
  refine ⟨f, (pay80_at sc p).trans hM, fun e => ?_, hs⟩
  rw [pay81_at, hM, hz, neg_inf]
  simp only [hv, hk]
  exact first_sum (fun r : Fin 512 => r.val ≤ p.val) f (fun r : Fin 512 => s (512 * n + r.val)) (fun r => w e (512 * n + r.val))

end Cert.Diff

end
-- ==== Proof.Diff.Soft.lean ====
/-
  The attention's value at one entry, as a function of numbers: the softmax-weighted mean of a map, and the norm after the two maps
  are subtracted.
-/
module

public import proofs.«01_k».proof.Proof.Diff.Online

@[expose] public section

noncomputable section

namespace Cert.Diff

open Idealize.ShloMosaic

/-- A query's score with a key. -/
def score (q k : Fin 64 → ℝ) : ℝ := 1 / 8 * ∑ d, q d * k d

/-- The mean of the values `w` over the keys `0 … n`, weighted by the exponentials of the scores `s`. -/
def soft (s w : Nat → ℝ) (n : Nat) : ℝ := (∑ j ∈ Finset.range (n + 1), w j * Real.exp (s j)) / ∑ j ∈ Finset.range (n + 1), Real.exp (s j)

/-- A head's row divided by its root mean square, times the norm's weight, times the fixed factor. -/
def normed (o w : Fin 128 → EReal) (e : Fin 128) : EReal :=
  o e * Ideal.rsqrt (Ideal.div (∑ x, o x * o x) (Ideal.ofBits FTy.f32 1124073472#32) + Ideal.ofBits FTy.f32 897988541#32) * w e
    * Ideal.ofBits FTy.f32 1055083607#32

/-- The difference of the two exponentials plus the initial value, from the four rows of the lambda parameters. -/
def lamOf (x : Fin 4 → Fin 64 → EReal) : EReal :=
  Ideal.exp (∑ d, x 0 d * x 1 d) - Ideal.exp (∑ d, x 2 d * x 3 d) + Ideal.ofBits FTy.f32 1057905109#32

theorem exp_pos_sum (s : Nat → ℝ) (n : Nat) : 0 < ∑ j ∈ Finset.range (n + 1), Real.exp (s j) :=
  Finset.sum_pos (fun _ _ => Real.exp_pos _) ⟨0, Finset.mem_range.mpr (Nat.succ_pos n)⟩

/-- A sum over the first `m` places of the terms up to place `n`. -/
theorem sum_upto (f : Nat → ℝ) (m n : Nat) (h : n < m) :
    (∑ x : Fin m, if x.val ≤ n then f x.val else 0) = ∑ j ∈ Finset.range (n + 1), f j := by
  rw [← Finset.sum_range fun j => if j ≤ n then f j else 0, ← Finset.sum_filter]
  refine Finset.sum_congr (Finset.ext fun j => ?_) fun _ _ => rfl
  rw [Finset.mem_filter, Finset.mem_range, Finset.mem_range]
  omega

theorem lam_real (y : Fin 4 → Fin 64 → ℝ) : ∃ l : ℝ, lamOf (fun a d => (y a d : EReal)) = (l : EReal) := by
  have hc : ∃ z : ℝ, Ideal.ofBits FTy.f32 1057905109#32 = (z : EReal) := ⟨_, rfl⟩
  obtain ⟨z, hz⟩ := hc
  unfold lamOf
  simp only [← EReal.coe_mul]
  rw [← coe_sum, ← coe_sum, Ideal.exp_coe, Ideal.exp_coe, hz, ← EReal.coe_sub, ← EReal.coe_add]
  exact ⟨_, rfl⟩

end Cert.Diff

end
-- ==== Proof.Diff.Reference.lean ====
/-
  The attention's reference read at an index: on finite arguments each map is a mean of the values weighted by exponentials, the
  largest score subtracted first cancelling.
-/
module

public import proofs.«01_k».proof.Proof.Diff.Soft
public import proofs.«01_k».proof.Proof.Gen.ReferenceIdeal.Read
public import proofs.«01_k».proof.Proof.Gen.ReferenceIdeal.Run

@[expose] public section

set_option maxRecDepth 16384

noncomputable section

namespace Cert.DiffRef

open Idealize.ShloMosaic Idealize.ShloMosaic.TcCoe Cert.ReferenceIdeal Cert.ReferenceIdeal.Read Cert.Diff

variable (x0 x1 : (⟨S16x4096x16x64, .f32⟩ : BufTy).Contents (Elt Ideal)) (x2 : (⟨S16x4096x1024, .f32⟩ : BufTy).Contents (Elt Ideal))
  (x3 : (⟨S1x4x64, .f32⟩ : BufTy).Contents (Elt Ideal)) (x4 : (⟨S1x128, .f32⟩ : BufTy).Contents (Elt Ideal))

/-! ### Stage by stage -/

theorem v30_apply (b : Fin 16) (h : Fin 8) (c : Fin 2) (p k : Fin 4096) : val_main_v30 (F := Ideal) x0 x1 (ix5 b h c p k)
    = Scalar.select (IntOp.cmpi CmpIPredicate.sle (BitVec.ofNat 32 k.val) (BitVec.ofNat 32 p.val))
        ((∑ x, x0 (ix4 b p (⟨h.val * 2 + c.val, by omega⟩ : Fin 16) x) * x1 (ix4 b k (⟨h.val * 2 + c.val, by omega⟩ : Fin 16) x)) * Ideal.ofBits FTy.f32 1040187392#32)
        (Ideal.ofBits FTy.f32 4286578688#32) := by
  unfold val_main_v30 val_main_call0_v2 val_main_call0_v1 val_main_call0_v0 val_main_cst_3 val_main_v29 val_main_v28 val_main_v27 val_main_v26 val_main_v25 val_main_v24 val_main_v23 val_main_v22 val_main_cst_2 val_main_v21 val_main_v2 val_main_v3
  pointwise [] <;> rfl

theorem v20_apply : val_main_v20 (F := Ideal) x3 ix0 = lamOf (fun a d => x3 (ix3 (0 : Fin 1) a d)) := by
  unfold val_main_v20 val_main_v19 val_main_v18 val_main_v17 val_main_v16 val_main_v15 val_main_v14 val_main_v13 val_main_v12 val_main_v11 val_main_v10 val_main_v9 val_main_v8 val_main_v7 val_main_v6 val_main_v5 val_main_v0 val_main_cst val_main_cst_0 val_main_cst_1
  pointwise [] <;> rfl

theorem v31_apply (b : Fin 16) (h : Fin 8) (c : Fin 2) (p : Fin 4096) : val_main_v31 (F := Ideal) x0 x1 (ix4 b h c p)
    = Finset.fold max (Ideal.ofBits FTy.f32 4286578688#32) (fun x => val_main_v30 (F := Ideal) x0 x1 (ix5 b h c p x)) Finset.univ := by
  unfold val_main_v31 val_main_cst_4
  generalize val_main_v30 (F := Ideal) x0 x1 = y
  pointwise [] <;> rfl

theorem max_apply (y w : S16x8x2x4096.Idx → EReal) (i : S16x8x2x4096.Idx) : maximumf (F := Ideal) (φ := .f32) y w i = max (y i) (w i) := rfl

theorem sub_apply (y w : S16x8x2x4096x4096.Idx → EReal) (i : S16x8x2x4096x4096.Idx) : subf (F := Ideal) (φ := .f32) y w i = y i - w i := rfl

theorem exp_apply (y : S16x8x2x4096x4096.Idx → EReal) (i : S16x8x2x4096x4096.Idx) : Host.exp (F := Ideal) (φ := .f32) y i = Ideal.exp (y i) := rfl

theorem sub_mul_apply (y w z : S16x8x4096x4096.Idx → EReal) (i : S16x8x4096x4096.Idx) :
    subf (F := Ideal) (φ := .f32) y (mulf (F := Ideal) (φ := .f32) w z) i = y i - w i * z i := rfl

theorem v32_apply (b : Fin 16) (h : Fin 8) (c : Fin 2) (p : Fin 4096) : val_main_v32 (F := Ideal) (ix4 b h c p) = Ideal.ofBits FTy.f32 4286578688#32 := by
  unfold val_main_v32
  generalize hz : val_main_cst_5 (F := Ideal) = z
  refine (broadcastInDim_apply _ _ _ _ ix0 fun a => a.elim0).trans ?_
  subst hz
  rfl

theorem v33_apply (b : Fin 16) (h : Fin 8) (c : Fin 2) (p : Fin 4096) : val_main_v33 (F := Ideal) x0 x1 (ix4 b h c p)
    = max (Ideal.ofBits FTy.f32 4286578688#32) (val_main_v31 (F := Ideal) x0 x1 (ix4 b h c p)) := by
  unfold val_main_v33
  exact (max_apply _ _ _).trans (congrArg₂ max (v32_apply b h c p) rfl)

/-- A number per query repeated along the keys. -/
theorem along (y : S16x8x2x4096.Idx → EReal) (h1 h2) (b : Fin 16) (h : Fin 8) (c : Fin 2) (p k : Fin 4096) :
    broadcastInDim S16x8x2x4096x4096 ![0, 1, 2, 3, 4] h2 (broadcastInDim S16x8x2x4096x1 ![0, 1, 2, 3] h1 y) (ix5 b h c p k) = y (ix4 b h c p) := by
  refine (broadcastInDim_apply _ _ _ _ (ix5 b h c p (0 : Fin 1)) fun a => ?_).trans (broadcastInDim_apply _ _ _ _ (ix4 b h c p) fun a => ?_)
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl

theorem v35_apply (b : Fin 16) (h : Fin 8) (c : Fin 2) (p k : Fin 4096) : val_main_v35 (F := Ideal) x0 x1 (ix5 b h c p k)
    = val_main_v33 (F := Ideal) x0 x1 (ix4 b h c p) := by
  unfold val_main_v35 val_main_v34
  exact along _ _ _ b h c p k

theorem v36_apply (b : Fin 16) (h : Fin 8) (c : Fin 2) (p k : Fin 4096) : val_main_v36 (F := Ideal) x0 x1 (ix5 b h c p k)
    = val_main_v30 (F := Ideal) x0 x1 (ix5 b h c p k) - val_main_v33 (F := Ideal) x0 x1 (ix4 b h c p) := by
  unfold val_main_v36
  exact (sub_apply _ _ _).trans (congrArg₂ (· - ·) rfl (v35_apply x0 x1 b h c p k))

theorem v37_apply (b : Fin 16) (h : Fin 8) (c : Fin 2) (p k : Fin 4096) : val_main_v37 (F := Ideal) x0 x1 (ix5 b h c p k)
    = Ideal.exp (val_main_v30 (F := Ideal) x0 x1 (ix5 b h c p k) - max (Ideal.ofBits FTy.f32 4286578688#32)
        (Finset.fold max (Ideal.ofBits FTy.f32 4286578688#32) (fun x => val_main_v30 (F := Ideal) x0 x1 (ix5 b h c p x)) Finset.univ)) := by
  unfold val_main_v37
  exact (exp_apply _ _).trans (congrArg Ideal.exp ((v36_apply x0 x1 b h c p k).trans (congrArg₂ (· - ·) rfl
    ((v33_apply x0 x1 b h c p).trans (congrArg₂ max rfl (v31_apply x0 x1 b h c p))))))

theorem v38_apply (b : Fin 16) (h : Fin 8) (c : Fin 2) (p : Fin 4096) : val_main_v38 (F := Ideal) x0 x1 (ix4 b h c p)
    = ∑ x, val_main_v37 (F := Ideal) x0 x1 (ix5 b h c p x) := by
  unfold val_main_v38 val_main_cst_6
  generalize val_main_v37 (F := Ideal) x0 x1 = y
  pointwise [] <;> rfl

theorem v41_apply (b : Fin 16) (h : Fin 8) (c : Fin 2) (p k : Fin 4096) : val_main_v41 (F := Ideal) x0 x1 (ix5 b h c p k)
    = Ideal.div (val_main_v37 (F := Ideal) x0 x1 (ix5 b h c p k)) (∑ x, val_main_v37 (F := Ideal) x0 x1 (ix5 b h c p x)) := by
  refine Eq.trans (b := Ideal.div (val_main_v37 (F := Ideal) x0 x1 (ix5 b h c p k)) (val_main_v40 (F := Ideal) x0 x1 (ix5 b h c p k))) rfl ?_
  rw [← v38_apply]
  exact congrArg (Ideal.div _) (along _ _ _ b h c p k)

theorem v43_apply (b : Fin 16) (h : Fin 8) (p k : Fin 4096) : val_main_v43 (F := Ideal) x0 x1 (ix4 b h p k)
    = val_main_v41 (F := Ideal) x0 x1 (ix5 b h (0 : Fin 2) p k) := by
  unfold val_main_v43 val_main_v42
  generalize val_main_v41 (F := Ideal) x0 x1 = y
  refine (shapeCast_apply _ _ _ (ix5 b h (0 : Fin 1) p k) ?_).trans (extractStridedSlice_apply _ _ _ _ (ix5 b h (0 : Fin 2) p k) fun a => ?_)
  · rw [Shape.rowMajor_val_five, Shape.rowMajor_val_four]
    show (((b.val * 8 + h.val) * 1 + 0) * 4096 + p.val) * 4096 + k.val = ((b.val * 8 + h.val) * 4096 + p.val) * 4096 + k.val
    omega
  · match a with
    | ⟨0, _⟩ => exact (Nat.zero_add _).symm
    | ⟨1, _⟩ => exact (Nat.zero_add _).symm
    | ⟨2, _⟩ => rfl
    | ⟨3, _⟩ => exact (Nat.zero_add _).symm
    | ⟨4, _⟩ => exact (Nat.zero_add _).symm

theorem v45_apply (b : Fin 16) (h : Fin 8) (p k : Fin 4096) : val_main_v45 (F := Ideal) x0 x1 (ix4 b h p k)
    = val_main_v41 (F := Ideal) x0 x1 (ix5 b h (1 : Fin 2) p k) := by
  unfold val_main_v45 val_main_v44
  generalize val_main_v41 (F := Ideal) x0 x1 = y
  refine (shapeCast_apply _ _ _ (ix5 b h (0 : Fin 1) p k) ?_).trans (extractStridedSlice_apply _ _ _ _ (ix5 b h (1 : Fin 2) p k) fun a => ?_)
  · rw [Shape.rowMajor_val_five, Shape.rowMajor_val_four]
    show (((b.val * 8 + h.val) * 1 + 0) * 4096 + p.val) * 4096 + k.val = ((b.val * 8 + h.val) * 4096 + p.val) * 4096 + k.val
    omega
  · match a with
    | ⟨0, _⟩ => exact (Nat.zero_add _).symm
    | ⟨1, _⟩ => exact (Nat.zero_add _).symm
    | ⟨2, _⟩ => rfl
    | ⟨3, _⟩ => exact (Nat.zero_add _).symm
    | ⟨4, _⟩ => exact (Nat.zero_add _).symm

theorem v46_apply (b : Fin 16) (h : Fin 8) (p k : Fin 4096) : val_main_v46 (F := Ideal) x3 (ix4 b h p k) = val_main_v20 (F := Ideal) x3 ix0 :=
  broadcastInDim_apply _ _ _ _ ix0 fun a => a.elim0

theorem v48_apply (b : Fin 16) (h : Fin 8) (p k : Fin 4096) : val_main_v48 (F := Ideal) x0 x1 x3 (ix4 b h p k)
    = val_main_v41 (F := Ideal) x0 x1 (ix5 b h (0 : Fin 2) p k) - val_main_v20 (F := Ideal) x3 ix0 * val_main_v41 (F := Ideal) x0 x1 (ix5 b h (1 : Fin 2) p k) := by
  unfold val_main_v48 val_main_v47
  exact (sub_mul_apply _ _ _ _).trans (congrArg₂ (· - ·) (v43_apply x0 x1 b h p k)
    (congrArg₂ (· * ·) (v46_apply x3 b h p k) (v45_apply x0 x1 b h p k)))

theorem v4_apply (b : Fin 16) (h : Fin 8) (p : Fin 4096) (e : Fin 128) : val_main_v4 (F := Ideal) x2 (ix4 b p h e)
    = x2 (ix3 b p (⟨h.val * 128 + e.val, by omega⟩ : Fin 1024)) := by
  unfold val_main_v4
  pointwise [] <;> rfl

theorem v49_apply (b : Fin 16) (h : Fin 8) (p : Fin 4096) (e : Fin 128) : val_main_v49 (F := Ideal) x0 x1 x2 x3 (ix4 b h e p)
    = ∑ x, val_main_v4 (F := Ideal) x2 (ix4 b x h e) * val_main_v48 (F := Ideal) x0 x1 x3 (ix4 b h p x) := by
  unfold val_main_v49
  generalize val_main_v4 (F := Ideal) x2 = y
  generalize val_main_v48 (F := Ideal) x0 x1 x3 = z
  pointwise [] <;> rfl

theorem v50_turn (b : Fin 16) (h : Fin 8) (p : Fin 4096) (e : Fin 128) : val_main_v50 (F := Ideal) x0 x1 x2 x3 (ix4 b p h e)
    = val_main_v49 (F := Ideal) x0 x1 x2 x3 (ix4 b h e p) := by
  unfold val_main_v50
  generalize val_main_v49 (F := Ideal) x0 x1 x2 x3 = y
  pointwise [] <;> rfl

theorem v50_apply (b : Fin 16) (h : Fin 8) (p : Fin 4096) (e : Fin 128) : val_main_v50 (F := Ideal) x0 x1 x2 x3 (ix4 b p h e)
    = ∑ k, x2 (ix3 b k (⟨h.val * 128 + e.val, by omega⟩ : Fin 1024)) * (val_main_v41 (F := Ideal) x0 x1 (ix5 b h (0 : Fin 2) p k)
        - val_main_v20 (F := Ideal) x3 ix0 * val_main_v41 (F := Ideal) x0 x1 (ix5 b h (1 : Fin 2) p k)) := by
  refine (v50_turn x0 x1 x2 x3 b h p e).trans ((v49_apply x0 x1 x2 x3 b h p e).trans ?_)
  exact Finset.sum_congr rfl fun k _ => congrArg₂ (· * ·) (v4_apply x2 b h k e) (v48_apply x0 x1 x3 b h p k)

theorem v67_apply (r : Fin 65536) (j : Fin 1024) : val_main_v67 (F := Ideal) x0 x1 x2 x3 x4 (ix2 r j)
    = normed (fun e => val_main_v50 (F := Ideal) x0 x1 x2 x3 (ix4 (⟨r.val / 4096, by omega⟩ : Fin 16) (⟨r.val % 4096, by omega⟩ : Fin 4096) (⟨j.val / 128, by omega⟩ : Fin 8) e))
        (fun e => x4 (ix2 (0 : Fin 1) e)) (⟨j.val % 128, by omega⟩ : Fin 128) := by
  unfold val_main_v67 val_main_v66 val_main_v65 val_main_v64 val_main_cst_10 val_main_v63 val_main_v62 val_main_v61 val_main_v60 val_main_v59 val_main_v58 val_main_v57 val_main_v56 val_main_cst_9 val_main_v55 val_main_v54 val_main_cst_8 val_main_v53 val_main_v52 val_main_cst_7 val_main_v51 val_main_v1
  generalize val_main_v50 (F := Ideal) x0 x1 x2 x3 = y
  pointwise [] <;> rfl

end Cert.DiffRef

end
-- ==== Proof.Diff.Cases.lean ====
/-
  What each kind of grid point leaves in its output block: with no, with an odd number of, and with an even number of whole key
  blocks before the diagonal one.
-/
module

public import proofs.«01_k».proof.Proof.Diff.Loop

@[expose] public section

set_option maxRecDepth 16384

noncomputable section

namespace Cert.Diff

open Idealize.ShloMosaic Idealize.ShloMosaic.TcCoe Idealize.SL.Sem Cert.KernelIdeal Cert.KernelIdeal.Gen Idealize.ShloMosaic.Tactic

/-- What a grid point stores: its diagonal block of keys, every whole block before it, and the end of it. -/
def point (n : Nat) (x0 : Vec Ideal S512x128 .bf16) (x1 : Vec Ideal S4096x128 .bf16) (x2 : Vec Ideal S128x4096 .bf16) (x3 : Vec Ideal S4x64 .f32)
    (x4 : Vec Ideal S1x128 .f32) : FVec Ideal S512x128 .bf16 :=
  finish x3 x4 (takeN x1 x2 (k0_pay66 x0) (k0_pay67 x0) (first x1 x2 (k0_pay66 x0) (k0_pay67 x0) n) n)

theorem point_odd (n N : Nat) (h : n = N + 1) (x0 : Vec Ideal S512x128 .bf16) (x1 : Vec Ideal S4096x128 .bf16) (x2 : Vec Ideal S128x4096 .bf16) (x3 : Vec Ideal S4x64 .f32)
    (x4 : Vec Ideal S1x128 .f32) : point n x0 x1 x2 x3 x4
      = finish x3 x4 (take x1 x2 (k0_pay66 x0) (k0_pay67 x0) N (takeN x1 x2 (k0_pay66 x0) (k0_pay67 x0) (first x1 x2 (k0_pay66 x0) (k0_pay67 x0) n) N)) := by
  subst h
  rfl

theorem point_even (n N : Nat) (h : n = N + 2) (x0 : Vec Ideal S512x128 .bf16) (x1 : Vec Ideal S4096x128 .bf16) (x2 : Vec Ideal S128x4096 .bf16) (x3 : Vec Ideal S4x64 .f32)
    (x4 : Vec Ideal S1x128 .f32) : point n x0 x1 x2 x3 x4
      = finish x3 x4 (take x1 x2 (k0_pay66 x0) (k0_pay67 x0) (N + 1) (take x1 x2 (k0_pay66 x0) (k0_pay67 x0) N (takeN x1 x2 (k0_pay66 x0) (k0_pay67 x0) (first x1 x2 (k0_pay66 x0) (k0_pay67 x0) n) N))) := by
  subst h
  rfl

theorem end_eq {r r' p q q' s s' z z' x x' l l' t} (hr : r = r') (hp : p = q) (hl : l = l') (hq : q' = s) (hs : s' = t) (hz : z = z') (hx : x = x') :
    k0_pay1 (F := Ideal) r (k0_pay96 p l) (k0_pay97 q') (k0_pay98 s') z x = k0_pay1 r' (k0_pay96 q l') (k0_pay97 s) (k0_pay98 t) z' x' := by
  subst hr hp hl hq hs hz hx
  rfl

theorem zero_read0 (a : Memref sig .tc .vmem S2x144x512 .f32) (inb) (inb') :
    zero9 = View.readAt (Elt Ideal) a.view (Rect.unit (s := S2x144x512) ![0, 0, 0] S1x144x512.size inb).toLoadRect
      (a.view.writes (Elt Ideal) a.view.junk [⟨Rect.unit (s := S2x144x512) ![0, 0, 0] S2x144x512.size inb', k0_pay68 (F := Ideal)⟩]) :=
  ((read_fill (Val := Elt Ideal) (s := S2x144x512) (e := .f32) a.view a.view.junk inb' (k0_pay68 (F := Ideal)) [] (Rect.unit (s := S2x144x512) ![0, 0, 0] S1x144x512.size inb) (by decide)).trans rfl).symm

theorem zero_read1 (a : Memref sig .tc .vmem S2x144x512 .f32) (inb) (inb') :
    zero9 = View.readAt (Elt Ideal) a.view (Rect.unit (s := S2x144x512) ![1, 0, 0] S1x144x512.size inb).toLoadRect
      (a.view.writes (Elt Ideal) a.view.junk [⟨Rect.unit (s := S2x144x512) ![0, 0, 0] S2x144x512.size inb', k0_pay68 (F := Ideal)⟩]) :=
  ((read_fill (Val := Elt Ideal) (s := S2x144x512) (e := .f32) a.view a.view.junk inb' (k0_pay68 (F := Ideal)) [] (Rect.unit (s := S2x144x512) ![1, 0, 0] S1x144x512.size inb) (by decide)).trans rfl).symm

theorem read_all {s : Shape} {e : EltTy} (a : Memref sig .tc .vmem s e) (ha : a.IsWhole) (x : Vec Ideal s e) {off : Fin s.rank → Nat}
    (inb : ∀ j, off j + s.size j ≤ s.size j) (h : off = fun _ => 0) :
    (View.readAt (Elt Ideal) a.view (Rect.unit (s := s) off s.size inb).toLoadRect (ha.unread x) : Vec Ideal s e) = x := by
  rw [View.readAt_eq_ld, ha.read_unread]
  subst h
  funext y
  exact congrArg x (funext fun j => Fin.ext (by show 0 + 1 * (y j).val = (y j).val; omega))

set_option maxHeartbeats 600000 in
theorem case_A (c : Dev nD) (i : grid0.Coords) (arg3 : Memref sig .tc .vmem S512x128 .bf16) (harg3 : arg3.IsWhole) (arg4 : Memref sig .tc .vmem S4096x128 .bf16) (harg4 : arg4.IsWhole)
    (arg5 : Memref sig .tc .vmem S128x4096 .bf16) (harg5 : arg5.IsWhole) (arg6 : Memref sig .tc .vmem S4x64 .f32) (harg6 : arg6.IsWhole)
    (arg7 : Memref sig .tc .vmem S1x128 .f32) (harg7 : arg7.IsWhole) (arg8 : Memref sig .tc .vmem S512x128 .bf16) (harg8 : arg8.IsWhole)
    (arg9 : Memref sig .tc .vmem S2x144x512 .f32) (harg9 : arg9.IsWhole) (arg10 : Memref sig .tc .vmem S4x512x512 .f32) (harg10 : arg10.IsWhole)
    (hc0 : ¬cond0_0 i) (hc1 : ¬cond0_1 i) (x0 : Vec Ideal S512x128 .bf16) (x1 : Vec Ideal S4096x128 .bf16) (x2 : Vec Ideal S128x4096 .bf16)
    (x3 : Vec Ideal S4x64 .f32) (x4 : Vec Ideal S1x128 .f32) (hq : qb i = 0) :
    out0_A_5 (F := Ideal) c i arg3 harg3 arg4 harg4 arg5 harg5 arg6 harg6 arg7 harg7 arg8 harg8 arg9 harg9 arg10 harg10 hc0 hc1 x0 x1 x2 x3 x4 = point (qb i) x0 x1 x2 x3 x4 := by
  have hz : (![0, 0] : Fin 2 → Nat) = fun _ => 0 := by decide
  have hq8 := qb_lt i
  have e1 := keyBlk_read arg4 harg4 x1 (qb i) _ (off1_eq i) hq8
  have e2 := valBlk_read arg5 harg5 x2 (qb i) _ (off2_eq i) hq8
  have e0 := keyBlk_read arg4 harg4 x1 0 ![0, 0] rfl (by decide)
  have hx0 := read_all arg3 harg3 x0 inb_S512x128_S512x128_0_0 hz
  have hx3 := read_all arg6 harg6 x3 inb_S4x64_S4x64_0_0 hz
  have hx4 := read_all arg7 harg7 x4 inb_S1x128_S1x128_0_0 hz
  unfold out0_A_5
  rw [View.read_writes_eq_canon _ _ _ (cover0_A_5 c i arg3 harg3 arg4 harg4 arg5 harg5 arg6 harg6 arg7 harg7 arg8 harg8 arg9 harg9 arg10 harg10 hc0 hc1 x0 x1 x2 x3 x4)]
  unfold kernelRun0_A
  dsimp only
  refine (View.canon_unit_zero hz _ _).trans (Eq.trans ?_ (congrArg₂ (fun z w => point (qb i) z x1 x2 w x4) hx0 hx3))
  refine Eq.trans ?_ (congrArg (fun w => point (qb i) _ x1 x2 _ w) hx4)
  clear hx0 hx3 hx4
  dsimp only
  dsimp only [kernelRun0_A.sl.HS0_1, kernelRun0_A.sl.HS0_2, kernelRun0_A.sl.HS0_3, kernelRun0_A.sl.HS1_4, kernelRun0_A.sl.cst_95, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.v71, kernelRun0_A.sl.v84, kernelRun0_A.sl.v93, kernelRun0_A.sl.v106, kernelRun0_A.sl.v115, kernelRun0_A.sl.v116, kernelRun0_A.sl.v117, kernelRun0_A.sl.v118, kernelRun0_A.sl.v119, kernelRun0_A.sl.v120, kernelRun0_A.sl.v121, kernelRun0_A.sl.v122, kernelRun0_A.sl.v128, kernelRun0_A.sl.v129, kernelRun0_A.sl.v130, kernelRun0_A.sl.v131, kernelRun0_A.sl.v132, kernelRun0_A.sl.v133, kernelRun0_A.sl.v134, kernelRun0_A.sl.v136, kernelRun0_A.sl.v137, kernelRun0_A.sl.v138, kernelRun0_A.sl.v143, kernelRun0_A.sl.v144, kernelRun0_A.sl.v145, kernelRun0_A.sl.v147, kernelRun0_A.sl.v169, kernelRun0_A.sl.v171, kernelRun0_A.sl.v177, kernelRun0_A.sl.v179]
  simp (disch := exact trips2 _) only [↓ st2_nil]
  simp only [List.nil_append, View.writes_append, readCov_def]
  generalize hst : st_k0_t1 (F := Ideal) _ _ _ _ _ _ _ _ _ _ _ _ _ _ _ _ _ _ _ _ _ _ _ _ _ _ _ _ _ _ _ _ _ _ = S
  have key := fun (t : St) h => loop_holds _ _ _ _ _ _ _ _ _ _ _ _ _ _ _ _ _ _ _ _ _ _ _ _ _ _ _ x1 x2 _ _ _ t h _ le_rfl S hst
  clear hst
  have H := key (first x1 x2 (k0_pay66 (View.readAt (Elt Ideal) arg3.view (Rect.unit (s := S512x128) ![0, 0] S512x128.size inb_S512x128_S512x128_0_0).toLoadRect (harg3.unread x0)))
    (k0_pay67 (View.readAt (Elt Ideal) arg3.view (Rect.unit (s := S512x128) ![0, 0] S512x128.size inb_S512x128_S512x128_0_0).toLoadRect (harg3.unread x0))) (qb i)) (by
    simp only [first, vte, e0, e1, e2]
    refine ⟨?_, ?_, ?_, ?_, ?_, ?_⟩ <;> dsimp only [r9, r10]
    on_goal 3 => rw [zero_read0 arg9 inb_S2x144x512_S1x144x512_0_0_0 inb_S2x144x512_S2x144x512_0_0_0]
    on_goal 4 => rw [zero_read1 arg9 inb_S2x144x512_S1x144x512_1_0_0 inb_S2x144x512_S2x144x512_0_0_0]
    all_goals sl_unfold_words
    all_goals simp (disch := decide) only [↓ read_miss, ↓ read_hit]
    all_goals dsimp only [k0_pay3, k0_pay2, k0_pay5, k0_pay70, k0_pay71, k0_pay72, k0_pay74, k0_pay75, k0_pay76, k0_pay77, k0_pay79, k0_pay80, k0_pay81, k0_pay82, k0_pay83, k0_pay84, k0_pay85, k0_pay86]
    all_goals first | with_reducible rfl | rfl)
  clear key
  have hn : 2 * (k0_t1_loop i).trips = qb i := by rw [trips1 i]; omega
  rw [hn] at H
  unfold point finish
  rw [← H.a0, ← H.a1, ← top0 _ _ inb_S2x144x512_S1x128x512_0_0_0, ← top1 _ _ inb_S2x144x512_S1x128x512_1_0_0,
    ← ones0 _ _ inb_S2x144x512_S1x1x512_0_128_0, ← ones1 _ _ inb_S2x144x512_S1x1x512_1_128_0]

set_option maxHeartbeats 600000 in
theorem case_B (c : Dev nD) (i : grid0.Coords) (arg3 : Memref sig .tc .vmem S512x128 .bf16) (harg3 : arg3.IsWhole) (arg4 : Memref sig .tc .vmem S4096x128 .bf16) (harg4 : arg4.IsWhole)
    (arg5 : Memref sig .tc .vmem S128x4096 .bf16) (harg5 : arg5.IsWhole) (arg6 : Memref sig .tc .vmem S4x64 .f32) (harg6 : arg6.IsWhole)
    (arg7 : Memref sig .tc .vmem S1x128 .f32) (harg7 : arg7.IsWhole) (arg8 : Memref sig .tc .vmem S512x128 .bf16) (harg8 : arg8.IsWhole)
    (arg9 : Memref sig .tc .vmem S2x144x512 .f32) (harg9 : arg9.IsWhole) (arg10 : Memref sig .tc .vmem S4x512x512 .f32) (harg10 : arg10.IsWhole)
    (hc0 : cond0_0 i) (hc1 : ¬cond0_1 i) (x0 : Vec Ideal S512x128 .bf16) (x1 : Vec Ideal S4096x128 .bf16) (x2 : Vec Ideal S128x4096 .bf16)
    (x3 : Vec Ideal S4x64 .f32) (x4 : Vec Ideal S1x128 .f32) (hq : qb i % 2 = 1) :
    out0_B_5 (F := Ideal) c i arg3 harg3 arg4 harg4 arg5 harg5 arg6 harg6 arg7 harg7 arg8 harg8 arg9 harg9 arg10 harg10 hc0 hc1 x0 x1 x2 x3 x4 = point (qb i) x0 x1 x2 x3 x4 := by
  have hz : (![0, 0] : Fin 2 → Nat) = fun _ => 0 := by decide
  have hq8 := qb_lt i
  have e1 := keyBlk_read arg4 harg4 x1 (qb i) _ (off1_eq i) hq8
  have e2 := valBlk_read arg5 harg5 x2 (qb i) _ (off2_eq i) hq8
  have e0 := keyBlk_read arg4 harg4 x1 0 ![0, 0] rfl (by decide)
  have hx0 := read_all arg3 harg3 x0 inb_S512x128_S512x128_0_0 hz
  have hx3 := read_all arg6 harg6 x3 inb_S4x64_S4x64_0_0 hz
  have hx4 := read_all arg7 harg7 x4 inb_S1x128_S1x128_0_0 hz
  unfold out0_B_5
  rw [View.read_writes_eq_canon _ _ _ (cover0_B_5 c i arg3 harg3 arg4 harg4 arg5 harg5 arg6 harg6 arg7 harg7 arg8 harg8 arg9 harg9 arg10 harg10 hc0 hc1 x0 x1 x2 x3 x4)]
  unfold kernelRun0_B
  dsimp only
  refine (View.canon_unit_zero hz _ _).trans (Eq.trans ?_ (congrArg₂ (fun z w => point (qb i) z x1 x2 w x4) hx0 hx3))
  refine Eq.trans ?_ (congrArg (fun w => point (qb i) _ x1 x2 _ w) hx4)
  clear hx0 hx3 hx4
  dsimp only
  dsimp only [kernelRun0_B.sl.HS0_1, kernelRun0_B.sl.HS0_2, kernelRun0_B.sl.HS0_3, kernelRun0_B.sl.HS1_4, kernelRun0_B.sl.HS0_2_1, kernelRun0_B.sl.HS0_1_1, kernelRun0_B.sl.cst_95, kernelRun0_B.sl.cst_110, kernelRun0_B.sl.cst_114, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.v71, kernelRun0_B.sl.v84, kernelRun0_B.sl.v93, kernelRun0_B.sl.v106, kernelRun0_B.sl.v115, kernelRun0_B.sl.v116, kernelRun0_B.sl.v117, kernelRun0_B.sl.v118, kernelRun0_B.sl.v119, kernelRun0_B.sl.v120, kernelRun0_B.sl.v121, kernelRun0_B.sl.v122, kernelRun0_B.sl.v128, kernelRun0_B.sl.v129, kernelRun0_B.sl.v130, kernelRun0_B.sl.v131, kernelRun0_B.sl.v132, kernelRun0_B.sl.v133, kernelRun0_B.sl.v134, kernelRun0_B.sl.v136, kernelRun0_B.sl.v137, kernelRun0_B.sl.v138, kernelRun0_B.sl.v143, kernelRun0_B.sl.v144, kernelRun0_B.sl.v145, kernelRun0_B.sl.v147, kernelRun0_B.sl.v169, kernelRun0_B.sl.v171, kernelRun0_B.sl.v177, kernelRun0_B.sl.v179, kernelRun0_B.sl.v207, kernelRun0_B.sl.v208, kernelRun0_B.sl.v210, kernelRun0_B.sl.v212, kernelRun0_B.sl.v213, kernelRun0_B.sl.v214, kernelRun0_B.sl.v215, kernelRun0_B.sl.v216, kernelRun0_B.sl.v217, kernelRun0_B.sl.v218, kernelRun0_B.sl.v219, kernelRun0_B.sl.v220, kernelRun0_B.sl.v221, kernelRun0_B.sl.v222, kernelRun0_B.sl.v223, kernelRun0_B.sl.v224, kernelRun0_B.sl.v225, kernelRun0_B.sl.v226, kernelRun0_B.sl.v227, kernelRun0_B.sl.v228, kernelRun0_B.sl.v229, kernelRun0_B.sl.v230, kernelRun0_B.sl.v233, kernelRun0_B.sl.v234, kernelRun0_B.sl.v235, kernelRun0_B.sl.v236, kernelRun0_B.sl.v237, kernelRun0_B.sl.v238, kernelRun0_B.sl.v239, kernelRun0_B.sl.v240, kernelRun0_B.sl.v241, kernelRun0_B.sl.v242, kernelRun0_B.sl.v243, kernelRun0_B.sl.v244, kernelRun0_B.sl.v245]
  simp (disch := exact trips2 _) only [↓ st2_nil]
  simp only [List.nil_append, View.writes_append, readCov_def]
  generalize hst : st_k0_t1 (F := Ideal) _ _ _ _ _ _ _ _ _ _ _ _ _ _ _ _ _ _ _ _ _ _ _ _ _ _ _ _ _ _ _ _ _ _ = S
  have key := fun (t : St) h => loop_holds _ _ _ _ _ _ _ _ _ _ _ _ _ _ _ _ _ _ _ _ _ _ _ _ _ _ _ x1 x2 _ _ _ t h _ le_rfl S hst
  clear hst
  have H := key (first x1 x2 (k0_pay66 (View.readAt (Elt Ideal) arg3.view (Rect.unit (s := S512x128) ![0, 0] S512x128.size inb_S512x128_S512x128_0_0).toLoadRect (harg3.unread x0)))
    (k0_pay67 (View.readAt (Elt Ideal) arg3.view (Rect.unit (s := S512x128) ![0, 0] S512x128.size inb_S512x128_S512x128_0_0).toLoadRect (harg3.unread x0))) (qb i)) (by
    simp only [first, vte, e0, e1, e2]
    refine ⟨?_, ?_, ?_, ?_, ?_, ?_⟩ <;> dsimp only [r9, r10]
    on_goal 3 => rw [zero_read0 arg9 inb_S2x144x512_S1x144x512_0_0_0 inb_S2x144x512_S2x144x512_0_0_0]
    on_goal 4 => rw [zero_read1 arg9 inb_S2x144x512_S1x144x512_1_0_0 inb_S2x144x512_S2x144x512_0_0_0]
    all_goals sl_unfold_words
    all_goals simp (disch := decide) only [↓ read_miss, ↓ read_hit]
    all_goals dsimp only [k0_pay3, k0_pay2, k0_pay5, k0_pay70, k0_pay71, k0_pay72, k0_pay74, k0_pay75, k0_pay76, k0_pay77, k0_pay79, k0_pay80, k0_pay81, k0_pay82, k0_pay83, k0_pay84, k0_pay85, k0_pay86]
    all_goals first | with_reducible rfl | rfl)
  clear key
  have hn : 2 * (k0_t1_loop i).trips = qb i - 1 := by rw [trips1 i]; omega
  have e9 := valBlk_read arg5 harg5 x2 (2 * (k0_t1_loop i).trips) (k0_off9 i) (by rw [hn]; exact off9_eq i (by omega)) (by omega)
  rw [point_odd (qb i) (2 * (k0_t1_loop i).trips) (by omega)]
  generalize hT : takeN _ _ _ _ _ _ = T at H ⊢
  clear hT e0 e1 e2
  unfold finish
  refine end_eq rfl ((top0 _ _ _).trans (congrArg top ?_)) ((ones0 _ _ _).trans (congrArg ones ?_)) ((top1 _ _ _).trans (congrArg top ?_)) ((ones1 _ _ _).trans (congrArg ones ?_)) rfl rfl
  all_goals simp only [take, vte, e9]
  all_goals first | rw [← H.a0, ← H.m0, ← H.s0] | rw [← H.a1, ← H.m1, ← H.s1]
  all_goals dsimp only [r9, r10]
  all_goals sl_unfold_words
  all_goals simp (disch := decide) only [↓ read_miss, ↓ read_hit, View.writes_append, View.writes_nil]
  all_goals dsimp only [k0_pay2, k0_pay3, k0_pay4, k0_pay5, k0_pay6, k0_pay7, k0_pay8, k0_pay9, k0_pay10, k0_pay11, k0_pay12, k0_pay13, k0_pay14, k0_pay87, k0_pay88, k0_pay89, k0_pay90, k0_pay91, k0_pay92, k0_pay93, k0_pay94, k0_pay95]
  all_goals rfl

set_option maxHeartbeats 600000 in
theorem case_C (c : Dev nD) (i : grid0.Coords) (arg3 : Memref sig .tc .vmem S512x128 .bf16) (harg3 : arg3.IsWhole) (arg4 : Memref sig .tc .vmem S4096x128 .bf16) (harg4 : arg4.IsWhole)
    (arg5 : Memref sig .tc .vmem S128x4096 .bf16) (harg5 : arg5.IsWhole) (arg6 : Memref sig .tc .vmem S4x64 .f32) (harg6 : arg6.IsWhole)
    (arg7 : Memref sig .tc .vmem S1x128 .f32) (harg7 : arg7.IsWhole) (arg8 : Memref sig .tc .vmem S512x128 .bf16) (harg8 : arg8.IsWhole)
    (arg9 : Memref sig .tc .vmem S2x144x512 .f32) (harg9 : arg9.IsWhole) (arg10 : Memref sig .tc .vmem S4x512x512 .f32) (harg10 : arg10.IsWhole)
    (hc0 : ¬cond0_0 i) (hc1 : cond0_1 i) (x0 : Vec Ideal S512x128 .bf16) (x1 : Vec Ideal S4096x128 .bf16) (x2 : Vec Ideal S128x4096 .bf16)
    (x3 : Vec Ideal S4x64 .f32) (x4 : Vec Ideal S1x128 .f32) (hq : qb i % 2 = 0 ∧ 2 ≤ qb i) :
    out0_C_5 (F := Ideal) c i arg3 harg3 arg4 harg4 arg5 harg5 arg6 harg6 arg7 harg7 arg8 harg8 arg9 harg9 arg10 harg10 hc0 hc1 x0 x1 x2 x3 x4 = point (qb i) x0 x1 x2 x3 x4 := by
  have hz : (![0, 0] : Fin 2 → Nat) = fun _ => 0 := by decide
  have hq8 := qb_lt i
  have e1 := keyBlk_read arg4 harg4 x1 (qb i) _ (off1_eq i) hq8
  have e2 := valBlk_read arg5 harg5 x2 (qb i) _ (off2_eq i) hq8
  have e0 := keyBlk_read arg4 harg4 x1 0 ![0, 0] rfl (by decide)
  have hx0 := read_all arg3 harg3 x0 inb_S512x128_S512x128_0_0 hz
  have hx3 := read_all arg6 harg6 x3 inb_S4x64_S4x64_0_0 hz
  have hx4 := read_all arg7 harg7 x4 inb_S1x128_S1x128_0_0 hz
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4)]
  unfold kernelRun0_C
  dsimp only
  refine (View.canon_unit_zero hz _ _).trans (Eq.trans ?_ (congrArg₂ (fun z w => point (qb i) z x1 x2 w x4) hx0 hx3))
  refine Eq.trans ?_ (congrArg (fun w => point (qb i) _ x1 x2 _ w) hx4)
  clear hx0 hx3 hx4
  dsimp only
  dsimp only [kernelRun0_C.sl.HS0_1, kernelRun0_C.sl.HS1_1, kernelRun0_C.sl.HS1_2, kernelRun0_C.sl.HS0_2, kernelRun0_C.sl.HS0_3, kernelRun0_C.sl.HS1_4, kernelRun0_C.sl.HS0_4, kernelRun0_C.sl.HS0_1_1, kernelRun0_C.sl.HS0_2_1, kernelRun0_C.sl.HS0_3_1, kernelRun0_C.sl.cst_95, kernelRun0_C.sl.cst_108, kernelRun0_C.sl.cst_121, kernelRun0_C.sl.cst_125, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.v71, kernelRun0_C.sl.v84, kernelRun0_C.sl.v93, kernelRun0_C.sl.v106, kernelRun0_C.sl.v115, kernelRun0_C.sl.v116, kernelRun0_C.sl.v117, kernelRun0_C.sl.v118, kernelRun0_C.sl.v119, kernelRun0_C.sl.v120, kernelRun0_C.sl.v121, kernelRun0_C.sl.v122, kernelRun0_C.sl.v128, kernelRun0_C.sl.v129, kernelRun0_C.sl.v130, kernelRun0_C.sl.v131, kernelRun0_C.sl.v132, kernelRun0_C.sl.v133, kernelRun0_C.sl.v134, kernelRun0_C.sl.v136, kernelRun0_C.sl.v137, kernelRun0_C.sl.v138, kernelRun0_C.sl.v143, kernelRun0_C.sl.v144, kernelRun0_C.sl.v145, kernelRun0_C.sl.v147, kernelRun0_C.sl.v169, kernelRun0_C.sl.v171, kernelRun0_C.sl.v177, kernelRun0_C.sl.v179, kernelRun0_C.sl.v207, kernelRun0_C.sl.v208, kernelRun0_C.sl.v209, kernelRun0_C.sl.v211, kernelRun0_C.sl.v213, kernelRun0_C.sl.v214, kernelRun0_C.sl.v215, kernelRun0_C.sl.v216, kernelRun0_C.sl.v217, kernelRun0_C.sl.v218, kernelRun0_C.sl.v219, kernelRun0_C.sl.v220, kernelRun0_C.sl.v221, kernelRun0_C.sl.v222, kernelRun0_C.sl.v224, kernelRun0_C.sl.v226, kernelRun0_C.sl.v227, kernelRun0_C.sl.v228, kernelRun0_C.sl.v229, kernelRun0_C.sl.v230, kernelRun0_C.sl.v231, kernelRun0_C.sl.v232, kernelRun0_C.sl.v233, kernelRun0_C.sl.v234, kernelRun0_C.sl.v235, kernelRun0_C.sl.v236, kernelRun0_C.sl.v237, kernelRun0_C.sl.v238, kernelRun0_C.sl.v239, kernelRun0_C.sl.v240, kernelRun0_C.sl.v241, kernelRun0_C.sl.v242, kernelRun0_C.sl.v243, kernelRun0_C.sl.v244, kernelRun0_C.sl.v247, kernelRun0_C.sl.v248, kernelRun0_C.sl.v249, kernelRun0_C.sl.v250, kernelRun0_C.sl.v251, kernelRun0_C.sl.v252, kernelRun0_C.sl.v253, kernelRun0_C.sl.v254, kernelRun0_C.sl.v255, kernelRun0_C.sl.v256, kernelRun0_C.sl.v257, kernelRun0_C.sl.v258, kernelRun0_C.sl.v259, kernelRun0_C.sl.v260, kernelRun0_C.sl.v261, kernelRun0_C.sl.v262, kernelRun0_C.sl.v263, kernelRun0_C.sl.v264, kernelRun0_C.sl.v267, kernelRun0_C.sl.v273, kernelRun0_C.sl.v274, kernelRun0_C.sl.v275, kernelRun0_C.sl.v276, kernelRun0_C.sl.v277, kernelRun0_C.sl.v278, kernelRun0_C.sl.v279, kernelRun0_C.sl.v286, kernelRun0_C.sl.v295, kernelRun0_C.sl.v306]
  simp (disch := exact trips2 _) only [↓ st2_nil]
  simp only [List.nil_append, View.writes_append, readCov_def]
  generalize hst : st_k0_t1 (F := Ideal) _ _ _ _ _ _ _ _ _ _ _ _ _ _ _ _ _ _ _ _ _ _ _ _ _ _ _ _ _ _ _ _ _ _ = S
  have key := fun (t : St) h => loop_holds _ _ _ _ _ _ _ _ _ _ _ _ _ _ _ _ _ _ _ _ _ _ _ _ _ _ _ x1 x2 _ _ _ t h _ le_rfl S hst
  clear hst
  have H := key (first x1 x2 (k0_pay66 (View.readAt (Elt Ideal) arg3.view (Rect.unit (s := S512x128) ![0, 0] S512x128.size inb_S512x128_S512x128_0_0).toLoadRect (harg3.unread x0)))
    (k0_pay67 (View.readAt (Elt Ideal) arg3.view (Rect.unit (s := S512x128) ![0, 0] S512x128.size inb_S512x128_S512x128_0_0).toLoadRect (harg3.unread x0))) (qb i)) (by
    simp only [first, vte, e0, e1, e2]
    refine ⟨?_, ?_, ?_, ?_, ?_, ?_⟩ <;> dsimp only [r9, r10]
    on_goal 3 => rw [zero_read0 arg9 inb_S2x144x512_S1x144x512_0_0_0 inb_S2x144x512_S2x144x512_0_0_0]
    on_goal 4 => rw [zero_read1 arg9 inb_S2x144x512_S1x144x512_1_0_0 inb_S2x144x512_S2x144x512_0_0_0]
    all_goals sl_unfold_words
    all_goals simp (disch := decide) only [↓ read_miss, ↓ read_hit]
    all_goals dsimp only [k0_pay3, k0_pay2, k0_pay5, k0_pay70, k0_pay71, k0_pay72, k0_pay74, k0_pay75, k0_pay76, k0_pay77, k0_pay79, k0_pay80, k0_pay81, k0_pay82, k0_pay83, k0_pay84, k0_pay85, k0_pay86]
    all_goals first | with_reducible rfl | rfl)
  clear key
  have hn : 2 * (k0_t1_loop i).trips = qb i - 2 := by rw [trips1 i]; omega
  have e9 := valBlk_read arg5 harg5 x2 (2 * (k0_t1_loop i).trips) (k0_off11 i 2#32) (by rw [hn]; exact off11_eq2 i (by omega)) (by omega)
  have e10 := keyBlk_read arg4 harg4 x1 (2 * (k0_t1_loop i).trips + 1) (k0_off10 i)
    ((off10_eq i (by omega)).trans (by rw [hn, show qb i - 2 + 1 = qb i - 1 from by omega])) (by omega)
  have e11 := valBlk_read arg5 harg5 x2 (2 * (k0_t1_loop i).trips + 1) (k0_off11 i 1#32)
    ((off11_eq1 i (by omega)).trans (by rw [hn, show qb i - 2 + 1 = qb i - 1 from by omega])) (by omega)
  rw [point_even (qb i) (2 * (k0_t1_loop i).trips) (by omega)]
  generalize hT : takeN _ _ _ _ _ _ = T at H ⊢
  clear hT e0 e1 e2
  unfold finish
  refine end_eq rfl ((top0 _ _ _).trans (congrArg top ?_)) ((ones0 _ _ _).trans (congrArg ones ?_)) ((top1 _ _ _).trans (congrArg top ?_)) ((ones1 _ _ _).trans (congrArg ones ?_)) rfl rfl
  all_goals simp only [take, vte, e9, e10, e11]
  all_goals first | rw [← H.a0, ← H.m0, ← H.s0] | rw [← H.a1, ← H.m1, ← H.s1]
  all_goals dsimp only [r9, r10]
  all_goals sl_unfold_words
  all_goals simp (disch := decide) only [↓ read_miss, ↓ read_hit, View.writes_append, View.writes_nil]
  all_goals dsimp only [k0_pay2, k0_pay3, k0_pay4, k0_pay5, k0_pay6, k0_pay7, k0_pay8, k0_pay9, k0_pay10, k0_pay11, k0_pay12, k0_pay13, k0_pay14, k0_pay87, k0_pay88, k0_pay89, k0_pay90, k0_pay91, k0_pay92, k0_pay93, k0_pay94, k0_pay95]
  all_goals rfl

end Cert.Diff

end
-- ==== Proof.Diff.Point.lean ====
/-
  What a grid point stores, as numbers: on finite queries, keys and values each map's sums divide to the mean of the values weighted
  by the exponentials of the scores, over the keys up to the query.
-/
module

public import proofs.«01_k».proof.Proof.Diff.Soft
public import proofs.«01_k».proof.Proof.Diff.Cases

@[expose] public section

set_option maxRecDepth 16384

noncomputable section

namespace Cert.Diff

open Idealize.ShloMosaic Idealize.ShloMosaic.TcCoe Idealize.SL.Sem Cert.KernelIdeal Cert.KernelIdeal.Gen Idealize.ShloMosaic.Tactic

/-! ### The scores -/

theorem two_pow (x : ℝ) : (2 : ℝ) ^ ((Real.log 2)⁻¹ * x) = Real.exp x := by
  rw [Real.rpow_def_of_pos two_pos, ← mul_assoc, mul_inv_cancel₀ (Real.log_pos one_lt_two).ne', one_mul]

theorem named_scale : (Named.named κ "log2e_8" 1043900987#32 : Ideal .f32) = (((1 / 8) * (Real.log 2)⁻¹ : ℝ) : EReal) :=
  IdealRules.named_const.ideal_named_scalar _ _ _ _ rfl

theorem pay66_at (x) (p : Fin 512) (d : Fin 128) : k0_pay66 (F := Ideal) x (ix2 p d)
    = Scalar.select (IntOp.cmpi .slt (BitVec.ofNat 32 d.val) 64#32) (x (ix2 p d) * (Named.named κ "log2e_8" 1043900987#32 : Ideal .f32)) 0 := by
  pointwise [k0_pay66, k0_pay65, k0_pay64] <;> rfl

theorem pay67_at (x) (p : Fin 512) (d : Fin 128) : k0_pay67 (F := Ideal) x (ix2 p d)
    = Scalar.select (IntOp.cmpi .sge (BitVec.ofNat 32 d.val) 64#32) (x (ix2 p d) * (Named.named κ "log2e_8" 1043900987#32 : Ideal .f32)) 0 := by
  pointwise [k0_pay67, k0_pay65, k0_pay64] <;> rfl

theorem half0 {x : Vec Ideal S512x128 .bf16} {p : Fin 512} {Q : Fin 128 → ℝ} (h : ∀ d, x (ix2 p d) = (Q d : EReal)) (d : Fin 128) :
    k0_pay66 (F := Ideal) x (ix2 p d) = ((if d.val < 64 then Q d * ((1 / 8) * (Real.log 2)⁻¹) else 0 : ℝ) : EReal) := by
  have hc : IntOp.cmpi CmpIPredicate.slt (BitVec.ofNat 32 d.val) 64#32 = BitVec.ofBool (decide (d.val < 64)) :=
    congrArg BitVec.ofBool (slt_small _ 64 (by have := d.isLt; omega) (by omega))
  rw [pay66_at, hc, named_scale, h, ← EReal.coe_mul]
  by_cases hd : d.val < 64
  · rw [if_pos hd, decide_eq_true hd]; rfl
  · rw [if_neg hd, decide_eq_false hd]; rfl

theorem half1 {x : Vec Ideal S512x128 .bf16} {p : Fin 512} {Q : Fin 128 → ℝ} (h : ∀ d, x (ix2 p d) = (Q d : EReal)) (d : Fin 128) :
    k0_pay67 (F := Ideal) x (ix2 p d) = ((if 64 ≤ d.val then Q d * ((1 / 8) * (Real.log 2)⁻¹) else 0 : ℝ) : EReal) := by
  have hc : IntOp.cmpi CmpIPredicate.sge (BitVec.ofNat 32 d.val) 64#32 = BitVec.ofBool (decide (64 ≤ d.val)) :=
    congrArg BitVec.ofBool (sle_small 64 _ (by omega) (by have := d.isLt; omega))
  rw [pay67_at, hc, named_scale, h, ← EReal.coe_mul]
  by_cases hd : 64 ≤ d.val
  · rw [if_pos hd, decide_eq_true hd]; rfl
  · rw [if_neg hd, decide_eq_false hd]; rfl

theorem pay3_at (q k) (r p : Fin 512) : k0_pay3 (F := Ideal) q k (ix3 (0 : Fin 1) r p) = ∑ x, k (ix2 r x) * q (ix2 p x) := by
  pointwise [k0_pay3, k0_pay2] <;> rfl

/-- The `d`-th place of map `c`. -/
def place (c : Fin 2) (d : Fin 64) : Fin 128 := ⟨c.val * 64 + d.val, by omega⟩

/-- A query's score with key `j` under map `c`. -/
def sc (Q : Fin 128 → ℝ) (K : Fin 4096 → Fin 128 → ℝ) (c : Fin 2) (j : Nat) : ℝ :=
  score (fun d => Q (place c d)) (fun d => K ⟨j % 4096, by omega⟩ (place c d))

/-- The same to the base two. -/
def sc2 (Q : Fin 128 → ℝ) (K : Fin 4096 → Fin 128 → ℝ) (c : Fin 2) (j : Nat) : ℝ := (Real.log 2)⁻¹ * sc Q K c j

theorem split_sum (f : Fin 128 → ℝ) : ∑ x, f x = ∑ d, f (place 0 d) + ∑ d, f (place 1 d) :=
  (Fin.sum_univ_add (a := 64) (b := 64) f).trans (congrArg₂ (· + ·)
    (Finset.sum_congr rfl fun d _ => congrArg f (Fin.ext (by show d.val = 0 * 64 + d.val; omega)))
    (Finset.sum_congr rfl fun d _ => congrArg f (Fin.ext (by show 64 + d.val = 1 * 64 + d.val; omega))))

theorem score0 {x0 : Vec Ideal S512x128 .bf16} {x1 : Vec Ideal S4096x128 .bf16} {p : Fin 512} {Q : Fin 128 → ℝ} {K : Fin 4096 → Fin 128 → ℝ}
    (hq : ∀ d, x0 (ix2 p d) = (Q d : EReal)) (hk : ∀ j d, x1 (ix2 j d) = (K j d : EReal)) (n : Nat) (r : Fin 512) :
    k0_pay3 (k0_pay66 x0) (keyBlk x1 n) (ix3 (0 : Fin 1) r p) = (sc2 Q K 0 (512 * n + r.val) : EReal) := by
  have e : ∀ d, keyBlk x1 n (ix2 r d) = (K ⟨(512 * n + r.val) % 4096, by omega⟩ d : EReal) := fun d => hk _ _
  rw [pay3_at]
  simp only [e, half0 hq, ← EReal.coe_mul]
  rw [← coe_sum, split_sum]
  congr 1
  have z : ∀ d : Fin 64, ¬ (place 1 d).val < 64 := fun d => by show ¬ (1 * 64 + d.val < 64); omega
  have o : ∀ d : Fin 64, (place 0 d).val < 64 := fun d => by show 0 * 64 + d.val < 64; omega
  simp only [z, o, if_true, if_false, mul_zero, Finset.sum_const_zero, add_zero]
  unfold sc2 sc score
  rw [Finset.mul_sum, Finset.mul_sum]
  exact Finset.sum_congr rfl fun d _ => by ring

theorem score1 {x0 : Vec Ideal S512x128 .bf16} {x1 : Vec Ideal S4096x128 .bf16} {p : Fin 512} {Q : Fin 128 → ℝ} {K : Fin 4096 → Fin 128 → ℝ}
    (hq : ∀ d, x0 (ix2 p d) = (Q d : EReal)) (hk : ∀ j d, x1 (ix2 j d) = (K j d : EReal)) (n : Nat) (r : Fin 512) :
    k0_pay3 (k0_pay67 x0) (keyBlk x1 n) (ix3 (0 : Fin 1) r p) = (sc2 Q K 1 (512 * n + r.val) : EReal) := by
  have e : ∀ d, keyBlk x1 n (ix2 r d) = (K ⟨(512 * n + r.val) % 4096, by omega⟩ d : EReal) := fun d => hk _ _
  rw [pay3_at]
  simp only [e, half1 hq, ← EReal.coe_mul]
  rw [← coe_sum, split_sum]
  congr 1
  have z : ∀ d : Fin 64, ¬ 64 ≤ (place 0 d).val := fun d => by show ¬ (64 ≤ 0 * 64 + d.val); omega
  have o : ∀ d : Fin 64, 64 ≤ (place 1 d).val := fun d => by show 64 ≤ 1 * 64 + d.val; omega
  simp only [z, o, if_true, if_false, mul_zero, Finset.sum_const_zero, zero_add]
  unfold sc2 sc score
  rw [Finset.mul_sum, Finset.mul_sum]
  exact Finset.sum_congr rfl fun d _ => by ring

/-! ### The values above the ones -/

/-- Row `e` of the values, a row of ones after the last. -/
def rows (V : Fin 128 → Fin 4096 → ℝ) (e : Fin 144) (j : Nat) : ℝ := if h : e.val < 128 then V ⟨e.val, h⟩ ⟨j % 4096, by omega⟩ else 1

theorem pay5_at (v : Vec Ideal S128x512 .bf16) (e : Fin 144) (r : Fin 512) : k0_pay5 (F := Ideal) k0_pay69 v (ix2 e r)
    = if h : e.val < 128 then v (ix2 (⟨e.val, h⟩ : Fin 128) r) else 1 := by
  pointwise [k0_pay5, k0_pay4, k0_pay69] <;> rfl

theorem vte_at {x2 : Vec Ideal S128x4096 .bf16} {V : Fin 128 → Fin 4096 → ℝ} (hv : ∀ e j, x2 (ix2 e j) = (V e j : EReal)) (n : Nat)
    (e : Fin 144) (r : Fin 512) : vte x2 n (ix2 e r) = (rows V e (512 * n + r.val) : EReal) := by
  unfold vte rows
  rw [pay5_at]
  by_cases h : e.val < 128
  · rw [dif_pos h, dif_pos h]
    exact hv _ _
  · rw [dif_neg h, dif_neg h]
    rfl

/-! ### Every block -/

section Run
variable {x0 : Vec Ideal S512x128 .bf16} {x1 : Vec Ideal S4096x128 .bf16} {x2 : Vec Ideal S128x4096 .bf16} {p : Fin 512}
  {Q : Fin 128 → ℝ} {K : Fin 4096 → Fin 128 → ℝ} {V : Fin 128 → Fin 4096 → ℝ}

/-- A term of row `e`'s sum. -/
def term (Q : Fin 128 → ℝ) (K : Fin 4096 → Fin 128 → ℝ) (V : Fin 128 → Fin 4096 → ℝ) (c : Fin 2) (e : Fin 144) (j : Nat) : ℝ :=
  rows V e j * 2 ^ sc2 Q K c j

/-- The diagonal block `m` up to the query, and the first `n` whole blocks. -/
def sofar (Q : Fin 128 → ℝ) (K : Fin 4096 → Fin 128 → ℝ) (V : Fin 128 → Fin 4096 → ℝ) (c : Fin 2) (p : Fin 512) (m n : Nat) (e : Fin 144) : ℝ :=
  (∑ r : Fin 512, if r.val ≤ p.val then term Q K V c e (512 * m + r.val) else 0) + ∑ j ∈ Finset.range (512 * n), term Q K V c e j

theorem sofar_zero (c : Fin 2) (m : Nat) : (fun e : Fin 144 => ∑ r : Fin 512, if r.val ≤ p.val then rows V e (512 * m + r.val) * 2 ^ sc2 Q K c (512 * m + r.val) else 0)
    = sofar Q K V c p m 0 := by
  funext e
  unfold sofar
  rw [Nat.mul_zero, Finset.sum_range_zero, add_zero]
  rfl

theorem sofar_succ (c : Fin 2) (m n : Nat) : (fun e => sofar Q K V c p m n e + ∑ r : Fin 512, rows V e (512 * n + r.val) * 2 ^ sc2 Q K c (512 * n + r.val))
    = sofar Q K V c p m (n + 1) := by
  funext e
  unfold sofar
  rw [Nat.mul_succ, Finset.sum_range_add, add_assoc]
  exact congrArg (fun z => _ + (_ + z)) (Finset.sum_range fun r => term Q K V c e (512 * n + r)).symm

theorem sofar_all (c : Fin 2) (n : Nat) (e : Fin 144) : sofar Q K V c p n n e = ∑ j ∈ Finset.range (512 * n + p.val + 1), term Q K V c e j := by
  unfold sofar
  rw [sum_upto (fun r => term Q K V c e (512 * n + r)) 512 p.val p.isLt, add_comm, ← Finset.sum_range_add, add_assoc (512 * n)]

theorem cols (hq : ∀ d, x0 (ix2 p d) = (Q d : EReal)) (hk : ∀ j d, x1 (ix2 j d) = (K j d : EReal)) (hv : ∀ e j, x2 (ix2 e j) = (V e j : EReal))
    (m n : Nat) : ∀ t, t = takeN x1 x2 (k0_pay66 x0) (k0_pay67 x0) (first x1 x2 (k0_pay66 x0) (k0_pay67 x0) m) n →
      Col t.m0 t.a0 t.s0 p (sc2 Q K 0) n (sofar Q K V 0 p m n) ∧ Col t.m1 t.a1 t.s1 p (sc2 Q K 1) n (sofar Q K V 1 p m n) := by
  induction n with
  | zero =>
    intro t ht
    subst ht
    rw [← sofar_zero, ← sofar_zero]
    exact ⟨col_first (w := rows V) (score0 hq hk m) (vte_at hv m) (score0 hq hk 0), col_first (w := rows V) (score1 hq hk m) (vte_at hv m) (score1 hq hk 0)⟩
  | succ n ih =>
    intro t ht
    subst ht
    rw [← sofar_succ, ← sofar_succ]
    obtain ⟨i0, i1⟩ := ih _ rfl
    exact ⟨col_take (w := rows V) i0 (vte_at hv n) (score0 hq hk (n + 1)), col_take (w := rows V) i1 (vte_at hv n) (score1 hq hk (n + 1))⟩

theorem sum_value (c : Fin 2) (n : Nat) (e : Fin 128) : sofar Q K V c p n n (⟨e.val, by omega⟩ : Fin 144)
    = ∑ j ∈ Finset.range (512 * n + p.val + 1), V e ⟨j % 4096, by omega⟩ * Real.exp (sc Q K c j) := by
  rw [sofar_all]
  refine Finset.sum_congr rfl fun j _ => ?_
  unfold term rows sc2
  rw [two_pow, dif_pos e.isLt]

theorem sum_ones (c : Fin 2) (n : Nat) : sofar Q K V c p n n (128 : Fin 144) = ∑ j ∈ Finset.range (512 * n + p.val + 1), Real.exp (sc Q K c j) := by
  rw [sofar_all]
  refine Finset.sum_congr rfl fun j _ => ?_
  unfold term rows sc2
  rw [two_pow, dif_neg (by decide), one_mul]

/-- The carried factor cancels in the quotient. -/
theorem quot {t A L : ℝ} (ht : 0 < t) (hL : 0 < L) : ((t * A : ℝ) : EReal) * Ideal.div 1 ((t * L : ℝ) : EReal) = ((A / L : ℝ) : EReal) := by
  rw [Ideal.div_coe (mul_pos ht hL).ne', one_mul, ← EReal.coe_mul]
  congr 1
  field_simp

theorem map_quot {m a s} {c : Fin 2} {n : Nat} (h : Col m a s p (sc2 Q K c) n (sofar Q K V c p n n)) (e : Fin 128) :
    top a (ix3 (0 : Fin 1) e p) * Ideal.div 1 (ones a (ix3 (0 : Fin 1) (0 : Fin 1) p))
      = (soft (sc Q K c) (fun j => V e ⟨j % 4096, by omega⟩) (512 * n + p.val) : EReal) := by
  obtain ⟨μ, -, ha, -⟩ := h
  have e1 : top a (ix3 (0 : Fin 1) e p) = _ := ha (⟨e.val, by omega⟩ : Fin 144)
  have e2 : ones a (ix3 (0 : Fin 1) (0 : Fin 1) p) = _ := ha (128 : Fin 144)
  rw [e1, e2, sum_value, sum_ones]
  exact quot (Real.rpow_pos_of_pos two_pos _) (exp_pos_sum _ _)

/-! ### The block stored -/

theorem pay63_at (v) : k0_pay63 (F := Ideal) v (ix2 (0 : Fin 1) (0 : Fin 1)) = lamOf (fun a d => v (ix2 a d)) := by
  unfold k0_pay63
  pointwise [] <;> rfl

theorem pay96_at (a l) (e : Fin 128) (p : Fin 512) : k0_pay96 (F := Ideal) a l (ix2 e p) = a (ix3 (0 : Fin 1) e p) * Ideal.div 1 (l (ix3 (0 : Fin 1) (0 : Fin 1) p)) := by
  pointwise [k0_pay96] <;> rfl

theorem pay97_at (a) (e : Fin 128) (p : Fin 512) : k0_pay97 (F := Ideal) a (ix2 e p) = a (ix3 (0 : Fin 1) e p) := by
  pointwise [k0_pay97] <;> rfl

theorem pay98_at (a) (p : Fin 512) : k0_pay98 (F := Ideal) a (ix2 (0 : Fin 1) p) = a (ix3 (0 : Fin 1) (0 : Fin 1) p) := by
  pointwise [k0_pay98] <;> rfl

theorem pay1_at (lam a b l c w) (p : Fin 512) (e : Fin 128) : k0_pay1 (F := Ideal) lam a b l c w (ix2 p e)
    = normed (fun e => a (ix2 e p) - lam (ix2 (0 : Fin 1) (0 : Fin 1)) * (b (ix2 e p) * Ideal.div c (l (ix2 (0 : Fin 1) p)))) (fun e => w (ix2 (0 : Fin 1) e)) e := by
  unfold k0_pay1 normed
  pointwise [] <;> rfl

theorem one_bits : (FloatOps.ofBits .f32 1065353216#32 : Ideal .f32) = 1 := by
  rw [show (1 : EReal) = ((1 : ℝ) : EReal) by norm_cast]
  simp [Ideal.ofBits, Ideal.ieee, -EReal.coe_mul]; norm_num

theorem point_at (hq : ∀ d, x0 (ix2 p d) = (Q d : EReal)) (hk : ∀ j d, x1 (ix2 j d) = (K j d : EReal)) (hv : ∀ e j, x2 (ix2 e j) = (V e j : EReal))
    (n : Nat) (x3 x4) (l : ℝ) (hl : lamOf (fun a d => x3 (ix2 a d)) = (l : EReal)) (e : Fin 128) :
    point n x0 x1 x2 x3 x4 (ix2 p e)
      = normed (fun e => ((soft (sc Q K 0) (fun j => V e ⟨j % 4096, by omega⟩) (512 * n + p.val)
          - l * soft (sc Q K 1) (fun j => V e ⟨j % 4096, by omega⟩) (512 * n + p.val) : ℝ) : EReal)) (fun e => x4 (ix2 (0 : Fin 1) e)) e := by
  obtain ⟨c0, c1⟩ := cols hq hk hv n n _ rfl
  unfold point finish
  rw [pay1_at]
  refine congrArg (fun o => normed o _ e) (funext fun e => ?_)
  rw [pay96_at, pay97_at, pay98_at, pay63_at, one_bits, hl, map_quot c0 e, map_quot c1 e, ← EReal.coe_mul, ← EReal.coe_sub]

end Run

end Cert.Diff

end
-- ==== Proof.Diff.Mean.lean ====
/-
  The attention's reference on finite arguments, in the terms the grid point's value is stated in.
-/
module

public import proofs.«01_k».proof.Proof.Diff.Reference
public import proofs.«01_k».proof.Proof.Diff.Point

@[expose] public section

set_option maxRecDepth 16384

noncomputable section

namespace Cert.Diff

open Idealize.ShloMosaic Idealize.ShloMosaic.TcCoe

/-! ### One head's arrays -/

/-- Query `p` of batch `b` and head `h`: the two maps' 64 places side by side. -/
def qRow (Q : Fin 16 → Fin 4096 → Fin 16 → Fin 64 → ℝ) (b : Fin 16) (h : Fin 8) (p : Fin 4096) (x : Fin 128) : ℝ :=
  Q b p ⟨h.val * 2 + x.val / 64, by omega⟩ ⟨x.val % 64, by omega⟩

/-- Row `e` of the head's values. -/
def vRow (V : Fin 16 → Fin 4096 → Fin 1024 → ℝ) (b : Fin 16) (h : Fin 8) (e : Fin 128) (j : Fin 4096) : ℝ :=
  V b j ⟨h.val * 128 + e.val, by omega⟩

theorem qRow_place (Q : Fin 16 → Fin 4096 → Fin 16 → Fin 64 → ℝ) (b : Fin 16) (h : Fin 8) (p : Fin 4096) (c : Fin 2) (d : Fin 64) :
    qRow Q b h p (place c d) = Q b p ⟨h.val * 2 + c.val, by omega⟩ d := by
  unfold qRow place
  congr 1
  · refine Fin.ext ?_
    show h.val * 2 + (c.val * 64 + d.val) / 64 = h.val * 2 + c.val
    omega
  · refine Fin.ext ?_
    show (c.val * 64 + d.val) % 64 = d.val
    omega

/-- Query `p`'s score with key `j`. -/
def scr (Q K : Fin 16 → Fin 4096 → Fin 16 → Fin 64 → ℝ) (b : Fin 16) (h : Fin 8) (p : Fin 4096) (c : Fin 2) (j : Nat) : ℝ :=
  sc (qRow Q b h p) (qRow K b h) c j

/-- The difference of the two maps' means of row `e`. -/
def out (Q K : Fin 16 → Fin 4096 → Fin 16 → Fin 64 → ℝ) (V : Fin 16 → Fin 4096 → Fin 1024 → ℝ) (l : ℝ) (b : Fin 16) (h : Fin 8) (p : Fin 4096)
    (e : Fin 128) : ℝ :=
  soft (scr Q K b h p 0) (fun j => vRow V b h e ⟨j % 4096, by omega⟩) p.val - l * soft (scr Q K b h p 1) (fun j => vRow V b h e ⟨j % 4096, by omega⟩) p.val

/-! ### The reference's softmax -/

theorem softmax_real {ι : Type} [Fintype ι] (P : ι → Prop) [DecidablePred P] (s : ι → ℝ) (x : ι → EReal)
    (hx : ∀ i, x i = if P i then (s i : EReal) else ⊥) (hp : ∃ i, P i) (i : ι) :
    Ideal.div (Ideal.exp (x i - max ⊥ (Finset.fold max ⊥ x Finset.univ))) (∑ j, Ideal.exp (x j - max ⊥ (Finset.fold max ⊥ x Finset.univ)))
      = (((if P i then Real.exp (s i) else 0) / ∑ j, if P j then Real.exp (s j) else 0 : ℝ) : EReal) := by
  obtain ⟨k, hk⟩ := hp
  obtain ⟨M, hM⟩ := fold_real x (fun i => by rw [hx]; split_ifs; exacts [EReal.coe_ne_top _, bot_ne_top])
    ⟨k, by rw [hx, if_pos hk]; exact EReal.coe_ne_bot _⟩
  have e : ∀ j, Ideal.exp (x j - max ⊥ (Finset.fold max ⊥ x Finset.univ)) = ((Real.exp (-M) * (if P j then Real.exp (s j) else 0) : ℝ) : EReal) := by
    intro j
    rw [hM, max_eq_right bot_le, hx]
    by_cases h : P j
    · rw [if_pos h, if_pos h, ← EReal.coe_sub, Ideal.exp_coe, ← Real.exp_add, sub_eq_neg_add]
    · rw [if_neg h, if_neg h, EReal.bot_sub, Ideal.exp_bot, mul_zero]
      rfl
  have z : 0 < ∑ j, if P j then Real.exp (s j) else 0 :=
    Finset.sum_pos' (fun j _ => by split_ifs; exacts [(Real.exp_pos _).le, le_rfl]) ⟨k, Finset.mem_univ k, by rw [if_pos hk]; exact Real.exp_pos _⟩
  simp only [e]
  rw [← coe_sum, ← Finset.mul_sum, Ideal.div_coe (mul_pos (Real.exp_pos _) z).ne', ← EReal.coe_mul]
  congr 1
  have := Real.exp_pos (-M)
  field_simp

theorem mean (s w : Nat → ℝ) (m p : Nat) (h : p < m) :
    (∑ k : Fin m, w k.val * ((if k.val ≤ p then Real.exp (s k.val) else 0) / ∑ x : Fin m, if x.val ≤ p then Real.exp (s x.val) else 0)) = soft s w p := by
  unfold soft
  rw [sum_upto (fun j => Real.exp (s j)) m p h, ← sum_upto (fun j => w j * Real.exp (s j)) m p h, Finset.sum_div]
  refine Finset.sum_congr rfl fun k _ => ?_
  split_ifs
  · exact (mul_div_assoc _ _ _).symm
  · rw [zero_div, mul_zero]

theorem eighth : Ideal.ofBits FTy.f32 1040187392#32 = ((1 / 8 : ℝ) : EReal) := by
  simp [Ideal.ofBits, Ideal.ieee, -EReal.coe_mul]; norm_num

end Cert.Diff

namespace Cert.DiffRef

open Idealize.ShloMosaic Idealize.ShloMosaic.TcCoe Cert.ReferenceIdeal Cert.ReferenceIdeal.Read Cert.Diff

variable {x0 x1 : (⟨S16x4096x16x64, .f32⟩ : BufTy).Contents (Elt Ideal)} {x2 : (⟨S16x4096x1024, .f32⟩ : BufTy).Contents (Elt Ideal)}
  {x3 : (⟨S1x4x64, .f32⟩ : BufTy).Contents (Elt Ideal)} {x4 : (⟨S1x128, .f32⟩ : BufTy).Contents (Elt Ideal)}
  {Q K : Fin 16 → Fin 4096 → Fin 16 → Fin 64 → ℝ} {V : Fin 16 → Fin 4096 → Fin 1024 → ℝ}

theorem v30_real (hq : ∀ b p a d, x0 (ix4 b p a d) = (Q b p a d : EReal)) (hk : ∀ b p a d, x1 (ix4 b p a d) = (K b p a d : EReal))
    (b : Fin 16) (h : Fin 8) (c : Fin 2) (p k : Fin 4096) : val_main_v30 (F := Ideal) x0 x1 (ix5 b h c p k)
      = if k.val ≤ p.val then (scr Q K b h p c k.val : EReal) else ⊥ := by
  have hc : IntOp.cmpi CmpIPredicate.sle (BitVec.ofNat 32 k.val) (BitVec.ofNat 32 p.val) = BitVec.ofBool (decide (k.val ≤ p.val)) :=
    congrArg BitVec.ofBool (sle_small _ _ (by have := k.isLt; omega) (by have := p.isLt; omega))
  have hs : (∑ x, x0 (ix4 b p (⟨h.val * 2 + c.val, by omega⟩ : Fin 16) x) * x1 (ix4 b k (⟨h.val * 2 + c.val, by omega⟩ : Fin 16) x)) * ((1 / 8 : ℝ) : EReal)
      = (scr Q K b h p c k.val : EReal) := by
    simp only [hq, hk, ← EReal.coe_mul]
    rw [← coe_sum, ← EReal.coe_mul]
    congr 1
    unfold scr sc score
    simp only [qRow_place]
    rw [mul_comm]
    have : (⟨k.val % 4096, by omega⟩ : Fin 4096) = k := Fin.ext (Nat.mod_eq_of_lt k.isLt)
    rw [this]
  rw [v30_apply, hc, neg_inf, eighth, hs]
  by_cases hh : k.val ≤ p.val
  · rw [if_pos hh, decide_eq_true hh]; rfl
  · rw [if_neg hh, decide_eq_false hh]; rfl

theorem v41_real (hq : ∀ b p a d, x0 (ix4 b p a d) = (Q b p a d : EReal)) (hk : ∀ b p a d, x1 (ix4 b p a d) = (K b p a d : EReal))
    (b : Fin 16) (h : Fin 8) (c : Fin 2) (p k : Fin 4096) : val_main_v41 (F := Ideal) x0 x1 (ix5 b h c p k)
      = (((if k.val ≤ p.val then Real.exp (scr Q K b h p c k.val) else 0)
          / ∑ x : Fin 4096, if x.val ≤ p.val then Real.exp (scr Q K b h p c x.val) else 0 : ℝ) : EReal) := by
  rw [v41_apply]
  simp only [v37_apply, neg_inf]
  exact softmax_real (fun x : Fin 4096 => x.val ≤ p.val) (fun x => scr Q K b h p c x.val) (fun x => val_main_v30 (F := Ideal) x0 x1 (ix5 b h c p x))
    (v30_real hq hk b h c p) ⟨p, le_rfl⟩ k

theorem v50_real (hq : ∀ b p a d, x0 (ix4 b p a d) = (Q b p a d : EReal)) (hk : ∀ b p a d, x1 (ix4 b p a d) = (K b p a d : EReal))
    (hv : ∀ b j n, x2 (ix3 b j n) = (V b j n : EReal)) (l : ℝ) (hl : lamOf (fun a d => x3 (ix3 (0 : Fin 1) a d)) = (l : EReal))
    (b : Fin 16) (h : Fin 8) (p : Fin 4096) (e : Fin 128) : val_main_v50 (F := Ideal) x0 x1 x2 x3 (ix4 b p h e) = (out Q K V l b h p e : EReal) := by
  have hm : ∀ k : Fin 4096, V b k (⟨h.val * 128 + e.val, by omega⟩ : Fin 1024) = vRow V b h e ⟨k.val % 4096, by omega⟩ := fun k => by
    have : (⟨k.val % 4096, by omega⟩ : Fin 4096) = k := Fin.ext (Nat.mod_eq_of_lt k.isLt)
    rw [this]
    rfl
  rw [v50_apply, v20_apply, hl]
  simp only [v41_real hq hk, hv, ← EReal.coe_mul, ← EReal.coe_sub]
  rw [← coe_sum]
  congr 1
  unfold out
  rw [← mean (scr Q K b h p 0) _ 4096 p.val p.isLt, ← mean (scr Q K b h p 1) _ 4096 p.val p.isLt, Finset.mul_sum, ← Finset.sum_sub_distrib]
  refine Finset.sum_congr rfl fun k _ => ?_
  rw [hm]
  ring

theorem v67_real (hq : ∀ b p a d, x0 (ix4 b p a d) = (Q b p a d : EReal)) (hk : ∀ b p a d, x1 (ix4 b p a d) = (K b p a d : EReal))
    (hv : ∀ b j n, x2 (ix3 b j n) = (V b j n : EReal)) (l : ℝ) (hl : lamOf (fun a d => x3 (ix3 (0 : Fin 1) a d)) = (l : EReal))
    (r : Fin 65536) (j : Fin 1024) : val_main_v67 (F := Ideal) x0 x1 x2 x3 x4 (ix2 r j)
      = normed (fun e => (out Q K V l (⟨r.val / 4096, by omega⟩ : Fin 16) (⟨j.val / 128, by omega⟩ : Fin 8) (⟨r.val % 4096, by omega⟩ : Fin 4096) e : EReal))
          (fun e => x4 (ix2 (0 : Fin 1) e)) (⟨j.val % 128, by omega⟩ : Fin 128) := by
  rw [v67_apply]
  exact congrArg (fun o => normed o _ _) (funext fun e => v50_real hq hk hv l hl _ _ _ e)

end Cert.DiffRef

end
-- ==== Proof.Diff.Finite.lean ====
/-
  What the precondition says: every element of the queries, keys, values and lambda parameters is a number.
-/
module

public import proofs.«01_k».proof.Defs
public import proofs.«01_k».proof.Proof.Gen.Pre_finite
public import proofs.«01_k».proof.Proof.Gen.KernelIdeal

@[expose] public section

noncomputable section

namespace Cert.Diff

open Idealize.ShloMosaic Idealize.ShloMosaic.TcCoe Cert.KernelIdeal

theorem real_of {x : EReal} (h : (FloatOps.cmpf (F := Ideal) (φ := .f32) .olt (FloatOps.hostAbsf (F := Ideal) (φ := .f32) x) (FloatOps.ofBits .f32 0x7F800000#32) : BitVec 1) = 1#1) :
    x = (x.toReal : EReal) := by
  have hi : (FloatOps.ofBits .f32 0x7F800000#32 : Ideal .f32) = (⊤ : EReal) := rfl
  rw [hi] at h
  change Ideal.cmp .olt (max x (-x)) ⊤ = 1#1 at h
  induction x with
  | bot => exact absurd h (by simp [Ideal.cmp])
  | top => exact absurd h (by simp [Ideal.cmp])
  | coe r => rfl

variable (m : (ℓ : Loc nD τ sig) → Buf (Elt Ideal) ℓ) (hf : Cert.Pre_KernelIdeal_finite m) (c : Dev nD)
include hf

theorem real0 (i : S16x4096x16x64.Idx) : m ((c : Thread nD τ).loc main_arg0) i = ((m ((c : Thread nD τ).loc main_arg0) i).toReal : EReal) :=
  real_of (congrFun (hf c).1 i)

theorem real1 (i : S16x4096x16x64.Idx) : m ((c : Thread nD τ).loc main_arg1) i = ((m ((c : Thread nD τ).loc main_arg1) i).toReal : EReal) :=
  real_of (congrFun (hf c).2.1 i)

theorem real2 (i : S16x4096x1024.Idx) : m ((c : Thread nD τ).loc main_arg2) i = ((m ((c : Thread nD τ).loc main_arg2) i).toReal : EReal) :=
  real_of (congrFun (hf c).2.2.1 i)

theorem real3 (i : S1x4x64.Idx) : m ((c : Thread nD τ).loc main_arg3) i = ((m ((c : Thread nD τ).loc main_arg3) i).toReal : EReal) :=
  real_of (congrFun (hf c).2.2.2 i)

end Cert.Diff

end
-- ==== Proof.Diff.Kernel.lean ====
/-
  The attention's kernel as a whole: the blocks it stages as elements of the arguments, the block a grid point writes back, the cover
  of the result by the blocks, and the run.
-/
module

public import proofs.«01_k».proof.Proof.Diff.Mean
public import proofs.«01_k».proof.Proof.Diff.Cases
public import proofs.«01_k».proof.Proof.Gen.KernelIdeal.Value
public import proofs.«01_k».proof.Proof.Diff.Finite
public import Idealize.ShloMosaic.Lib.Claim

@[expose] public section

set_option maxRecDepth 16384

noncomputable section

namespace Cert.Diff

open Idealize.ShloMosaic Idealize.ShloMosaic.TcCoe Idealize.SL.Sem Cert.KernelIdeal Cert.KernelIdeal.Gen

/-- Two-axis indices with equal coordinates are equal. -/
theorem pair_ext {a b : Nat} (i i' : (⟨2, ![a, b]⟩ : Shape).Idx) (h0 : (i 0).val = (i' 0).val) (h1 : (i 1).val = (i' 1).val) :
    i = i' := funext fun a => Fin.ext (match a with | ⟨0, _⟩ => h0 | ⟨1, _⟩ => h1)

/-- Three-axis and four-axis indices likewise. -/
theorem triple_ext {a b n : Nat} (i i' : (⟨3, ![a, b, n]⟩ : Shape).Idx) (h0 : (i 0).val = (i' 0).val) (h1 : (i 1).val = (i' 1).val)
    (h2 : (i 2).val = (i' 2).val) : i = i' := funext fun a => Fin.ext (match a with | ⟨0, _⟩ => h0 | ⟨1, _⟩ => h1 | ⟨2, _⟩ => h2)

theorem quad_ext {a b n k : Nat} (i i' : (⟨4, ![a, b, n, k]⟩ : Shape).Idx) (h0 : (i 0).val = (i' 0).val) (h1 : (i 1).val = (i' 1).val)
    (h2 : (i 2).val = (i' 2).val) (h3 : (i 3).val = (i' 3).val) : i = i' :=
  funext fun a => Fin.ext (match a with | ⟨0, _⟩ => h0 | ⟨1, _⟩ => h1 | ⟨2, _⟩ => h2 | ⟨3, _⟩ => h3)

theorem N_le (t : Fin cfg0.N) : t.val < 1024 := by exact lt_of_lt_of_eq t.isLt N_0

/-- The batch, head and block of queries of a grid point. -/
abbrev batch (t : Fin cfg0.N) : Fin 16 := ⟨t.val / 64, by have := N_le t; omega⟩
abbrev head (t : Fin cfg0.N) : Fin 8 := ⟨t.val / 8 % 8, by omega⟩

theorem index0 : ∀ t : Fin cfg0.N, win0_0.index t 0 = t.val / 64 * 8 + t.val % 8 ∧ win0_0.index t 1 = t.val / 8 % 8 := by decide +kernel
theorem index1 : ∀ t : Fin cfg0.N, win0_1.index t 0 = t.val / 64 ∧ win0_1.index t 1 = t.val / 8 % 8 := by decide +kernel
theorem index2 : ∀ t : Fin cfg0.N, win0_2.index t 0 = t.val / 8 % 8 ∧ win0_2.index t 1 = t.val / 64 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = t.val / 64 * 8 + t.val % 8 ∧ win0_5.index t 1 = t.val / 8 % 8 := by decide +kernel

theorem qb_coords : ∀ t : Fin cfg0.N, qb (grid0.coords t) = t.val % 8 := by unfold qb; decide +kernel

variable (m : (ℓ : Loc nD τ sig) → Buf (Elt Ideal) ℓ) (ρ : Dev nD → PrngReg)

/-! ### The operands that the host prepares -/

theorem v1_apply (c : Dev nD) (r : Fin 65536) (j : Fin 1024) : V m c main_v1 (ix2 r j)
    = m ((c : Thread nD τ).loc main_arg0) (ix4 (⟨r.val / 4096, by omega⟩ : Fin 16) (⟨r.val % 4096, by omega⟩ : Fin 4096) (⟨j.val / 64, by omega⟩ : Fin 16) (⟨j.val % 64, by omega⟩ : Fin 64)) := by
  entry_read
  pointwise []

theorem v3_apply (c : Dev nD) (r : Fin 65536) (j : Fin 1024) : V m c main_v3 (ix2 r j)
    = m ((c : Thread nD τ).loc main_arg1) (ix4 (⟨r.val / 4096, by omega⟩ : Fin 16) (⟨r.val % 4096, by omega⟩ : Fin 4096) (⟨j.val / 64, by omega⟩ : Fin 16) (⟨j.val % 64, by omega⟩ : Fin 64)) := by
  entry_read
  pointwise []

theorem v6_apply (c : Dev nD) (j : Fin 1024) (r : Fin 65536) : V m c main_v6 (ix2 j r)
    = m ((c : Thread nD τ).loc main_arg2) (ix3 (⟨r.val / 4096, by omega⟩ : Fin 16) (⟨r.val % 4096, by omega⟩ : Fin 4096) j) := by
  entry_read
  pointwise []

theorem v7_apply (c : Dev nD) (a : Fin 4) (d : Fin 64) : V m c main_v7 (ix2 a d) = m ((c : Thread nD τ).loc main_arg3) (ix3 (0 : Fin 1) a d) := by
  entry_read
  pointwise []

theorem v9_apply (c : Dev nD) (e : Fin 128) : V m c main_v9 (ix2 (0 : Fin 1) e) = m ((c : Thread nD τ).loc main_arg4) (ix2 (0 : Fin 1) e) := by
  entry_read
  pointwise []

/-! ### The blocks staged -/

theorem iblk0_apply (c : Dev nD) (t : Fin cfg0.N) (p : Fin 512) (d : Fin 128) : (iblk m c 0 t : Vec Ideal S512x128 .bf16) (ix2 p d)
    = V m c main_v1 (ix2 (⟨(t.val / 64 * 8 + t.val % 8) * 512 + p.val, by have := N_le t; omega⟩ : Fin 65536) (⟨t.val / 8 % 8 * 128 + d.val, by omega⟩ : Fin 1024)) := by
  unfold iblk
  rw [View.read_apply, cast_eq]
  show V m c main_v1 _ = _
  refine congrArg _ (pair_ext _ _ ?_ ?_)
  · show win0_0.index t 0 * 512 + 1 * p.val = _
    rw [(index0 t).1, one_mul]; rfl
  · show win0_0.index t 1 * 128 + 1 * d.val = _
    rw [(index0 t).2, one_mul]; rfl

theorem iblk1_apply (c : Dev nD) (t : Fin cfg0.N) (j : Fin 4096) (d : Fin 128) : (iblk m c 1 t : Vec Ideal S4096x128 .bf16) (ix2 j d)
    = V m c main_v3 (ix2 (⟨t.val / 64 * 4096 + j.val, by have := N_le t; omega⟩ : Fin 65536) (⟨t.val / 8 % 8 * 128 + d.val, by omega⟩ : Fin 1024)) := by
  unfold iblk
  rw [View.read_apply, cast_eq]
  show V m c main_v3 _ = _
  refine congrArg _ (pair_ext _ _ ?_ ?_)
  · show win0_1.index t 0 * 4096 + 1 * j.val = _
    rw [(index1 t).1, one_mul]; rfl
  · show win0_1.index t 1 * 128 + 1 * d.val = _
    rw [(index1 t).2, one_mul]; rfl

theorem iblk2_apply (c : Dev nD) (t : Fin cfg0.N) (e : Fin 128) (j : Fin 4096) : (iblk m c 2 t : Vec Ideal S128x4096 .bf16) (ix2 e j)
    = V m c main_v6 (ix2 (⟨t.val / 8 % 8 * 128 + e.val, by omega⟩ : Fin 1024) (⟨t.val / 64 * 4096 + j.val, by have := N_le t; omega⟩ : Fin 65536)) := by
  unfold iblk
  rw [View.read_apply, cast_eq]
  show V m c main_v6 _ = _
  refine congrArg _ (pair_ext _ _ ?_ ?_)
  · show win0_2.index t 0 * 128 + 1 * e.val = _
    rw [(index2 t).1, one_mul]; rfl
  · show win0_2.index t 1 * 4096 + 1 * j.val = _
    rw [(index2 t).2, one_mul]; rfl

theorem iblk3_apply (c : Dev nD) (t : Fin cfg0.N) (a : Fin 4) (d : Fin 64) : (iblk m c 3 t : Vec Ideal S4x64 .f32) (ix2 a d) = V m c main_v7 (ix2 a d) := by
  unfold iblk
  rw [View.read_apply, cast_eq]
  show V m c main_v7 _ = _
  refine congrArg _ (pair_ext _ _ ?_ ?_)
  · show win0_3.index t 0 * 4 + 1 * a.val = a.val
    rw [(index3 t).1]; omega
  · show win0_3.index t 1 * 64 + 1 * d.val = d.val
    rw [(index3 t).2]; omega

theorem iblk4_apply (c : Dev nD) (t : Fin cfg0.N) (e : Fin 128) : (iblk m c 4 t : Vec Ideal S1x128 .f32) (ix2 (0 : Fin 1) e) = V m c main_v9 (ix2 (0 : Fin 1) e) := by
  unfold iblk
  rw [View.read_apply, cast_eq]
  show V m c main_v9 _ = _
  refine congrArg _ (pair_ext _ _ ?_ ?_)
  · show win0_4.index t 0 * 1 + 1 * 0 = 0
    rw [(index4 t).1]
  · show win0_4.index t 1 * 128 + 1 * e.val = e.val
    rw [(index4 t).2]; omega

/-! ### The arguments as numbers -/

def Qr (c : Dev nD) (b : Fin 16) (p : Fin 4096) (a : Fin 16) (d : Fin 64) : ℝ := (m ((c : Thread nD τ).loc main_arg0) (ix4 b p a d)).toReal
def Kr (c : Dev nD) (b : Fin 16) (p : Fin 4096) (a : Fin 16) (d : Fin 64) : ℝ := (m ((c : Thread nD τ).loc main_arg1) (ix4 b p a d)).toReal
def Vr (c : Dev nD) (b : Fin 16) (p : Fin 4096) (n : Fin 1024) : ℝ := (m ((c : Thread nD τ).loc main_arg2) (ix3 b p n)).toReal
def lr (c : Dev nD) : ℝ := (lamOf fun a d => m ((c : Thread nD τ).loc main_arg3) (ix3 (0 : Fin 1) a d)).toReal

theorem lr_eq (hf : Cert.Pre_KernelIdeal_finite m) (c : Dev nD) : lamOf (fun a d => m ((c : Thread nD τ).loc main_arg3) (ix3 (0 : Fin 1) a d)) = (lr m c : EReal) := by
  have h : (fun (a : Fin 4) (d : Fin 64) => m ((c : Thread nD τ).loc main_arg3) (ix3 (0 : Fin 1) a d))
      = fun a d => ((m ((c : Thread nD τ).loc main_arg3) (ix3 (0 : Fin 1) a d)).toReal : EReal) := funext fun a => funext fun d => real3 m hf c _
  obtain ⟨l, hl⟩ := lam_real fun a d => (m ((c : Thread nD τ).loc main_arg3) (ix3 (0 : Fin 1) a d)).toReal
  unfold lr
  rw [h, hl]
  rfl

/-- The result array that the kernel is shown to leave. -/
def result (c : Dev nD) : Buf (Elt Ideal) ((c : Thread nD τ).loc main_v10) := fun i =>
  normed (fun e => (out (Qr m c) (Kr m c) (Vr m c) (lr m c) (⟨(i 0).val / 4096, by have : (i 0).val < 65536 := (i 0).isLt; omega⟩ : Fin 16)
      (⟨(i 1).val / 128, by have : (i 1).val < 1024 := (i 1).isLt; omega⟩ : Fin 8) (⟨(i 0).val % 4096, by omega⟩ : Fin 4096) e : EReal))
    (fun e => m ((c : Thread nD τ).loc main_arg4) (ix2 (0 : Fin 1) e)) (⟨(i 1).val % 128, by omega⟩ : Fin 128)

theorem result_at (c : Dev nD) (r : Fin 65536) (j : Fin 1024) (b : Fin 16) (h : Fin 8) (p : Fin 4096) (e : Fin 128)
    (hb : r.val / 4096 = b.val) (hh : j.val / 128 = h.val) (hp : r.val % 4096 = p.val) (he : j.val % 128 = e.val) :
    result m c (ix2 r j) = normed (fun e => (out (Qr m c) (Kr m c) (Vr m c) (lr m c) b h p e : EReal))
      (fun e => m ((c : Thread nD τ).loc main_arg4) (ix2 (0 : Fin 1) e)) e := by
  have eb : b = ⟨r.val / 4096, by omega⟩ := Fin.ext hb.symm
  have eh : h = ⟨j.val / 128, by omega⟩ := Fin.ext hh.symm
  have ep : p = ⟨r.val % 4096, by omega⟩ := Fin.ext hp.symm
  have ee : e = ⟨j.val % 128, by omega⟩ := Fin.ext he.symm
  rw [eb, eh, ep, ee]
  rfl

/-- What a grid point computes of its blocks is its block of the result. -/
theorem point_apply (hf : Cert.Pre_KernelIdeal_finite m) (c : Dev nD) (t : Fin cfg0.N) (p : Fin 512) (e : Fin 128) :
    point (qb (grid0.coords t)) (iblk m c 0 t) (iblk m c 1 t) (iblk m c 2 t) (iblk m c 3 t) (iblk m c 4 t) (ix2 p e)
      = result m c (ix2 (⟨(t.val / 64 * 8 + t.val % 8) * 512 + p.val, by have := N_le t; omega⟩ : Fin 65536) (⟨t.val / 8 % 8 * 128 + e.val, by omega⟩ : Fin 1024)) := by
  have ht := N_le t
  have hp : 512 * (t.val % 8) + p.val < 4096 := by omega
  have hq : ∀ d, (iblk m c 0 t : Vec Ideal S512x128 .bf16) (ix2 p d) = (qRow (Qr m c) (batch t) (head t) ⟨512 * (t.val % 8) + p.val, hp⟩ d : EReal) := fun d => by
    rw [iblk0_apply, v1_apply, real0 m hf c]
    unfold qRow Qr
    refine congrArg (fun i => ((m ((c : Thread nD τ).loc main_arg0) i).toReal : EReal)) (quad_ext _ _ ?_ ?_ ?_ ?_)
    · show ((t.val / 64 * 8 + t.val % 8) * 512 + p.val) / 4096 = t.val / 64; omega
    · show ((t.val / 64 * 8 + t.val % 8) * 512 + p.val) % 4096 = 512 * (t.val % 8) + p.val; omega
    · show (t.val / 8 % 8 * 128 + d.val) / 64 = t.val / 8 % 8 * 2 + d.val / 64; omega
    · show (t.val / 8 % 8 * 128 + d.val) % 64 = d.val % 64; omega
  have hk : ∀ j d, (iblk m c 1 t : Vec Ideal S4096x128 .bf16) (ix2 j d) = (qRow (Kr m c) (batch t) (head t) j d : EReal) := fun j d => by
    rw [iblk1_apply, v3_apply, real1 m hf c]
    unfold qRow Kr
    refine congrArg (fun i => ((m ((c : Thread nD τ).loc main_arg1) i).toReal : EReal)) (quad_ext _ _ ?_ ?_ ?_ ?_)
    · show (t.val / 64 * 4096 + j.val) / 4096 = t.val / 64; omega
    · show (t.val / 64 * 4096 + j.val) % 4096 = j.val; omega
    · show (t.val / 8 % 8 * 128 + d.val) / 64 = t.val / 8 % 8 * 2 + d.val / 64; omega
    · show (t.val / 8 % 8 * 128 + d.val) % 64 = d.val % 64; omega
  have hv : ∀ e j, (iblk m c 2 t : Vec Ideal S128x4096 .bf16) (ix2 e j) = (vRow (Vr m c) (batch t) (head t) e j : EReal) := fun e j => by
    rw [iblk2_apply, v6_apply, real2 m hf c]
    unfold vRow Vr
    refine congrArg (fun i => ((m ((c : Thread nD τ).loc main_arg2) i).toReal : EReal)) (triple_ext _ _ ?_ ?_ ?_)
    · show (t.val / 64 * 4096 + j.val) / 4096 = t.val / 64; omega
    · show (t.val / 64 * 4096 + j.val) % 4096 = j.val; omega
    · rfl
  have hl : lamOf (fun a d => (iblk m c 3 t : Vec Ideal S4x64 .f32) (ix2 a d)) = (lr m c : EReal) := by
    rw [← lr_eq m hf c]
    exact congrArg lamOf (funext fun a => funext fun d => (iblk3_apply m c t a d).trans (v7_apply m c a d))
  have hn : (fun e => (iblk m c 4 t : Vec Ideal S1x128 .f32) (ix2 (0 : Fin 1) e)) = fun e => m ((c : Thread nD τ).loc main_arg4) (ix2 (0 : Fin 1) e) :=
    funext fun e => (iblk4_apply m c t e).trans (v9_apply m c e)
  refine (point_at hq hk hv (qb (grid0.coords t)) (iblk m c 3 t) (iblk m c 4 t) (lr m c) hl e).trans ?_
  rw [hn, qb_coords t]
  exact (result_at m c _ _ (batch t) (head t) (⟨512 * (t.val % 8) + p.val, hp⟩ : Fin 4096) e
    (by show _ / 4096 = t.val / 64; dsimp only; omega) (by show _ / 128 = t.val / 8 % 8; dsimp only; omega)
    (by show _ % 4096 = 512 * (t.val % 8) + p.val; dsimp only; omega) (by dsimp only; omega)).symm

/-- In each of the three kinds of grid point the block written back is the block of `point`. -/
theorem flushed_point (c : Dev nD) (t : Fin cfg0.N) : (dats m 0 c).flushed 5 t
    = (cfg0.win 5).cut (grid0.coords t) (point (qb (grid0.coords t)) (iblk m c 0 t) (iblk m c 1 t) (iblk m c 2 t) (iblk m c 3 t) (iblk m c 4 t)) := by
  have hq := qb_coords t
  by_cases h0 : t.val % 2 = 1
  · rw [Cert.KernelIdeal.Value.flushed5_B m c t h0 (by omega), case_B _ _ _ _ _ _ _ _ _ _ _ _ _ _ _ _ _ _ _ _ _ _ _ _ _ (by omega)]
  · by_cases h1 : t.val % 8 = 2 ∨ t.val % 8 = 4 ∨ t.val % 8 = 6
    · rw [Cert.KernelIdeal.Value.flushed5_C m c t h0 h1, case_C _ _ _ _ _ _ _ _ _ _ _ _ _ _ _ _ _ _ _ _ _ _ _ _ _ (by omega)]
    · rw [Cert.KernelIdeal.Value.flushed5_A m c t h0 h1, case_A _ _ _ _ _ _ _ _ _ _ _ _ _ _ _ _ _ _ _ _ _ _ _ _ _ (by omega)]

theorem flushed_eq (hf : Cert.Pre_KernelIdeal_finite m) (c : Dev nD) (t : Fin cfg0.N) :
    (dats m 0 c).flushed 5 t = (win0_5.blk t).view.read (Elt Ideal) (result m c) := by
  rw [flushed_point]
  funext i
  obtain ⟨p, e, rfl⟩ : ∃ (p : Fin 512) (e : Fin 128), i = ix2 p e :=
    ⟨i 0, i 1, funext fun a => match a with | ⟨0, _⟩ => rfl | ⟨1, _⟩ => rfl⟩
  refine (point_apply m hf c t p e).trans ?_
  rw [View.read_apply, cast_eq]
  refine congrArg (result m c) (pair_ext _ _ ?_ ?_)
  · show (t.val / 64 * 8 + t.val % 8) * 512 + p.val = win0_5.index t 0 * 512 + 1 * p.val
    rw [(index5 t).1, one_mul]
  · show t.val / 8 % 8 * 128 + e.val = win0_5.index t 1 * 128 + 1 * e.val
    rw [(index5 t).2, one_mul]

theorem cover (i : S65536x1024.Idx) :
    ∃ t : Fin cfg0.N, (cfg0.win 5).flush t = true ∧ i ∈ ((cfg0.win 5).blk t).view.set := by
  have h0 : (i 0 : Nat) < 65536 := (i 0).isLt
  have h1 : (i 1 : Nat) < 1024 := (i 1).isLt
  have ht : ((i 0 : Nat) / 4096 * 8 + (i 1 : Nat) / 128) * 8 + (i 0 : Nat) % 4096 / 512 < cfg0.N :=
    lt_of_lt_of_eq (by omega : ((i 0 : Nat) / 4096 * 8 + (i 1 : Nat) / 128) * 8 + (i 0 : Nat) % 4096 / 512 < 1024) N_0.symm
  refine ⟨⟨_, ht⟩, flush0_5 _, ?_⟩
  generalize hT : (⟨_, ht⟩ : Fin cfg0.N) = T
  have hv : T.val = ((i 0 : Nat) / 4096 * 8 + (i 1 : Nat) / 128) * 8 + (i 0 : Nat) % 4096 / 512 := by rw [← hT]
  show i ∈ ((View.whole main_v10).slice (win0_5.rect T)).set
  rw [View.set_slice_whole, Rect.mem_set_unit]
  intro a
  match a with
  | ⟨0, _⟩ =>
    show win0_5.index T 0 * 512 ≤ (i 0 : Nat) ∧ (i 0 : Nat) < win0_5.index T 0 * 512 + 512
    rw [(index5 T).1, hv]
    omega
  | ⟨1, _⟩ =>
    show win0_5.index T 1 * 128 ≤ (i 1 : Nat) ∧ (i 1 : Nat) < win0_5.index T 1 * 128 + 128
    rw [(index5 T).2, hv]
    omega

/-- The run of the attention's program: the result array is `result`, the arguments are unchanged. -/
theorem run (hf : Cert.Pre_KernelIdeal_finite m) : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans
      ((dats m 0 c).arrAt_eq_of_cover 5 (result m c) (fun t _ => flushed_eq m hf c t) cover), (h c).2⟩)
    (Cert.KernelIdeal.Value.run_blocks m ρ)

end Cert.Diff

end
-- ==== Proof.Diff.Claims.lean ====
/-
  The attention's value claim: kernel and reference end with the same result array.
-/
module

public import proofs.«01_k».proof.Proof.Diff.Kernel
public import proofs.«01_k».proof.Proof.Gen.ReferenceIdeal.Run
public import proofs.«01_k».proof.Proof.Gen.ReferenceIdeal.Read

@[expose] public section

set_option maxRecDepth 16384

noncomputable section

namespace Cert.Diff

open Idealize.ShloMosaic Idealize.ShloMosaic.TcCoe Idealize.SL.Sem

/-- Kernel and reference end with the same result array: `result` of arguments that agree and are numbers. -/
theorem algebraic : Cert.algebraic_KernelIdeal_ReferenceIdeal_pre_finite := by
  intro m ρ m' ρ' hf hagree
  refine ⟨fun c => result m c, run m ρ hf, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v67_eq m' c).trans ?_
  show Cert.ReferenceIdeal.Read.val_main_v67 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
  obtain ⟨h0, h1, h2, h3, h4⟩ := hagree c
  rw [h0, h1, h2, h3, h4]
  funext i
  obtain ⟨r, j, rfl⟩ : ∃ (r : Fin 65536) (j : Fin 1024), i = ix2 r j :=
    ⟨i 0, i 1, funext fun a => match a with | ⟨0, _⟩ => rfl | ⟨1, _⟩ => rfl⟩
  exact Cert.DiffRef.v67_real (Q := Qr m c) (K := Kr m c) (V := Vr m c) (fun b p a d => real0 m hf c _) (fun b p a d => real1 m hf c _)
    (fun b p n => real2 m hf c _) (lr m c) (lr_eq m hf c) r j

end Cert.Diff

end
-- ==== Proof.Tail.Row.lean ====
/-
  One row of the layer's tail, as a function of extended reals: the output projection, the residual with its gate, a layer
  norm, the modulated SwiGLU feed-forward, the second residual and the second layer norm. Both programs are shown to compute
  `tailRow` of the same row of their arguments.
-/
module

public import Idealize.ShloMosaic.Lib.Pointwise
public import Idealize.ShloMosaic.PureOps.Ideal

@[expose] public section

noncomputable section

namespace Cert.Tail

open Idealize.ShloMosaic

/-- The width 1024 as the float constant both programs divide by. -/
abbrev width : EReal := Ideal.ofBits .f32 0x44800000#32
/-- The layer norm's epsilon, as the float constant both programs add. -/
abbrev eps : EReal := Ideal.ofBits .f32 0x3727C5AC#32
/-- The residual's scale, the float nearest to the fourth root of eight. -/
abbrev alpha : EReal := Ideal.ofBits .f32 0x3FD744FD#32

/-- The mean of a row. -/
def mean (z : Fin 1024 → EReal) : EReal := Ideal.div (∑ k, z k) width

/-- A row less its mean. -/
def centred (z : Fin 1024 → EReal) (j : Fin 1024) : EReal := z j - mean z

/-- The layer norm of a row with gain `g` and bias `b`. -/
def lnorm (z g b : Fin 1024 → EReal) (j : Fin 1024) : EReal :=
  centred z j * Ideal.rsqrt (mean (fun k => centred z k * centred z k) + eps) * g j + b j

/-- A residual: the scaled input plus the gated branch. -/
def resid (x gate y : Fin 1024 → EReal) (j : Fin 1024) : EReal := alpha * x j + (1 + gate j) * y j

/-- The row after a modulation by scale and shift. -/
def modulated (x sc sh : Fin 1024 → EReal) (j : Fin 1024) : EReal := x j * (1 + sc j) + sh j

/-- The gated hidden row: the SiLU of the first half of the products times the second half. -/
def gated (h : Fin 1024 → EReal) (wa wu : Fin 1024 → Fin 2816 → EReal) (n : Fin 2816) : EReal :=
  (∑ k, h k * wa k n) * Ideal.div 1 (1 + Ideal.exp (-(∑ k, h k * wa k n))) * (∑ k, h k * wu k n)

/-- The first residual of the tail, normed. -/
def mid (y : Fin 1024 → EReal) (wp : Fin 1024 → Fin 1024 → EReal) (x gate g b : Fin 1024 → EReal) : Fin 1024 → EReal :=
  lnorm (resid x gate fun j => ∑ k, y k * wp k j) g b

/-- The feed-forward part after its modulation. -/
def ffn (x1 sc sh : Fin 1024 → EReal) (wa wu : Fin 1024 → Fin 2816 → EReal) (wo : Fin 2816 → Fin 1024 → EReal)
    (j : Fin 1024) : EReal := ∑ n, gated (modulated x1 sc sh) wa wu n * wo n j

/-- One row of the layer's tail. -/
def tailRow (y : Fin 1024 → EReal) (wp : Fin 1024 → Fin 1024 → EReal) (x gate0 g0 b0 sh sc gate1 : Fin 1024 → EReal)
    (wa wu : Fin 1024 → Fin 2816 → EReal) (wo : Fin 2816 → Fin 1024 → EReal) (g1 b1 : Fin 1024 → EReal) : Fin 1024 → EReal :=
  lnorm (resid (mid y wp x gate0 g0 b0) gate1 (ffn (mid y wp x gate0 g0 b0) sc sh wa wu wo)) g1 b1

/-- Element `j` of row `r` of the tail's result, from the program's eight arguments: the attention's output, the output
    projection, the block's input, the modulation table, the two feed-forward weights and the norms' gains and biases. -/
def tailOut (y : (⟨2, ![65536, 1024]⟩ : Shape).Idx → EReal) (wp : (⟨3, ![1, 1024, 1024]⟩ : Shape).Idx → EReal)
    (x : (⟨3, ![16, 4096, 1024]⟩ : Shape).Idx → EReal) (md : (⟨5, ![8, 3, 16, 1, 1024]⟩ : Shape).Idx → EReal)
    (wi : (⟨3, ![4, 1024, 5632]⟩ : Shape).Idx → EReal) (wo : (⟨3, ![4, 2816, 1024]⟩ : Shape).Idx → EReal)
    (g b : (⟨3, ![4, 2, 1024]⟩ : Shape).Idx → EReal) (r : Fin 65536) : Fin 1024 → EReal :=
  let q : Fin 16 := ⟨r.val / 4096, by omega⟩
  tailRow (fun k => y (ix2 r k)) (fun k j => wp (ix3 (0 : Fin 1) k j))
    (fun k => x (ix3 q (⟨r.val % 4096, by omega⟩ : Fin 4096) k))
    (fun k => md (ix5 (6 : Fin 8) (2 : Fin 3) q (0 : Fin 1) k))
    (fun k => g (ix3 (3 : Fin 4) (0 : Fin 2) k)) (fun k => b (ix3 (3 : Fin 4) (0 : Fin 2) k))
    (fun k => md (ix5 (7 : Fin 8) (0 : Fin 3) q (0 : Fin 1) k)) (fun k => md (ix5 (7 : Fin 8) (1 : Fin 3) q (0 : Fin 1) k))
    (fun k => md (ix5 (7 : Fin 8) (2 : Fin 3) q (0 : Fin 1) k))
    (fun k n => wi (ix3 (3 : Fin 4) k (⟨n.val, by omega⟩ : Fin 5632)))
    (fun k n => wi (ix3 (3 : Fin 4) k (⟨2816 + n.val, by omega⟩ : Fin 5632)))
    (fun n j => wo (ix3 (3 : Fin 4) n j))
    (fun k => g (ix3 (3 : Fin 4) (1 : Fin 2) k)) (fun k => b (ix3 (3 : Fin 4) (1 : Fin 2) k))

end Cert.Tail

end
-- ==== Proof.Tail.Block.lean ====
/-
  What the tail's kernel computes of one half block of 256 rows: its payloads read at a row, as the functions of Row.lean.
-/
module

public import proofs.«01_k».proof.Proof.Tail.Row
public import proofs.«01_k».proof.Proof.Gen.Kernel2Ideal.Skeleton

@[expose] public section

set_option maxRecDepth 16384

noncomputable section

namespace Cert.Tail

open Idealize.ShloMosaic Cert.Kernel2Ideal Cert.Kernel2Ideal.Gen

/-- Row `r` of a matrix. -/
abbrev row {a b : Nat} (v : (⟨2, ![a, b]⟩ : Shape).Idx → EReal) (r : Fin a) (k : Fin b) : EReal := v (ix2 r k)

/-- The vector that a five-axis block of one row holds. -/
abbrev vec5 (v : S1x1x1x1x1024.Idx → EReal) (k : Fin 1024) : EReal := v (ix5 0 0 0 0 k)

/-- The second layer norm, as the lower half's last payload has it. -/
theorem pay1_apply (z : FVec Ideal S256x1024 .f32) (g b : Vec Ideal S1x1024 .f32) (r : Fin 256) (j : Fin 1024) :
    k0_pay1 z g b (ix2 r j) = lnorm (row z r) (row g 0) (row b 0) j := by
  pointwise [k0_pay1]
  rfl

/-- The first layer norm of the upper half, which the kernel computes in two steps. -/
theorem pay5_apply (y : Vec Ideal S256x1024 .bf16) (w : Vec Ideal S1024x1024 .bf16) (x : Vec Ideal S256x1024 .f32)
    (gate : Vec Ideal S1x1x1x1x1024 .f32) (g b : Vec Ideal S1x1024 .f32) (r : Fin 256) (j : Fin 1024) :
    k0_pay5 (k0_pay2 b) (k0_pay3 y w x gate) (k0_pay4 g) (ix2 r j)
      = mid (row y r) (row w) (row x r) (vec5 gate) (row g 0) (row b 0) j := by
  pointwise [k0_pay5, k0_pay2, k0_pay3, k0_pay4]
  rfl

/-- The first layer norm of the lower half. -/
theorem pay9_apply (y : Vec Ideal S256x1024 .bf16) (w : Vec Ideal S1024x1024 .bf16) (x : Vec Ideal S256x1024 .f32)
    (gate : Vec Ideal S1x1x1x1x1024 .f32) (g b : Vec Ideal S1x1024 .f32) (r : Fin 256) (j : Fin 1024) :
    k0_pay9 (k0_pay6 y w) x gate g b (ix2 r j)
      = mid (row y r) (row w) (row x r) (vec5 gate) (row g 0) (row b 0) j := by
  pointwise [k0_pay9, k0_pay6]
  rfl

/-- The gated hidden row of the upper half. -/
theorem pay7_apply (b : FVec Ideal S1x1024 .f32) (u v : FVec Ideal S256x1024 .f32) (sc sh : Vec Ideal S1x1x1x1x1024 .f32)
    (wa wu : Vec Ideal S1024x2816 .bf16) (r : Fin 256) (n : Fin 2816) :
    k0_pay7 b u v sc sh wa wu (ix2 r n)
      = gated (modulated (row (k0_pay5 b u v) r) (vec5 sc) (vec5 sh)) (row wa) (row wu) n := by
  unfold k0_pay7
  generalize k0_pay5 b u v = x1
  pointwise []
  simp only [sub_eq_add_neg, zero_add]
  rfl

/-- The feed-forward part of the upper half. -/
theorem pay8_apply (a : FVec Ideal S256x2816 .bf16) (wo : Vec Ideal S2816x1024 .bf16) (r : Fin 256) (j : Fin 1024) :
    k0_pay8 a wo (ix2 r j) = ∑ n, row a r n * row wo n j := by
  pointwise [k0_pay8]

/-- The feed-forward part of the lower half. -/
theorem pay10_apply (x1 : FVec Ideal S256x1024 .f32) (sc sh : Vec Ideal S1x1x1x1x1024 .f32)
    (wa wu : Vec Ideal S1024x2816 .bf16) (wo : Vec Ideal S2816x1024 .bf16) (r : Fin 256) (j : Fin 1024) :
    k0_pay10 x1 sc sh wa wu wo (ix2 r j) = ffn (row x1 r) (vec5 sc) (vec5 sh) (row wa) (row wu) (row wo) j := by
  pointwise [k0_pay10]
  simp only [sub_eq_add_neg, zero_add]
  rfl

/-- The second residual of the lower half. -/
theorem pay13_apply (x1 f : FVec Ideal S256x1024 .f32) (gate : Vec Ideal S1x1x1x1x1024 .f32) (r : Fin 256) (j : Fin 1024) :
    k0_pay13 x1 f gate (ix2 r j) = resid (row x1 r) (vec5 gate) (row f r) j := by
  pointwise [k0_pay13]
  rfl

/-- The second residual of the upper half and its layer norm. -/
theorem pay12_apply (x1 f : FVec Ideal S256x1024 .f32) (gate : Vec Ideal S1x1x1x1x1024 .f32) (g b : Vec Ideal S1x1024 .f32)
    (r : Fin 256) (j : Fin 1024) :
    k0_pay12 f (k0_pay11 x1) gate g b (ix2 r j)
      = lnorm (resid (row x1 r) (vec5 gate) (row f r)) (row g 0) (row b 0) j := by
  pointwise [k0_pay12, k0_pay11]
  rfl

/-- A row of the lower half. -/
theorem lower_apply (y : Vec Ideal S256x1024 .bf16) (w : Vec Ideal S1024x1024 .bf16) (x : Vec Ideal S256x1024 .f32)
    (gate0 sh sc gate1 : Vec Ideal S1x1x1x1x1024 .f32) (g0 b0 g1 b1 : Vec Ideal S1x1024 .f32)
    (wa wu : Vec Ideal S1024x2816 .bf16) (wo : Vec Ideal S2816x1024 .bf16) (r : Fin 256) (j : Fin 1024) :
    k0_pay1 (k0_pay13 (k0_pay9 (k0_pay6 y w) x gate0 g0 b0)
        (k0_pay10 (k0_pay9 (k0_pay6 y w) x gate0 g0 b0) sc sh wa wu wo) gate1) g1 b1 (ix2 r j)
      = tailRow (row y r) (row w) (row x r) (vec5 gate0) (row g0 0) (row b0 0) (vec5 sh) (vec5 sc) (vec5 gate1)
          (row wa) (row wu) (row wo) (row g1 0) (row b1 0) j := by
  have hm : row (k0_pay9 (k0_pay6 y w) x gate0 g0 b0) r
      = mid (row y r) (row w) (row x r) (vec5 gate0) (row g0 0) (row b0 0) := funext fun k => pay9_apply y w x gate0 g0 b0 r k
  generalize k0_pay9 (k0_pay6 y w) x gate0 g0 b0 = x1 at hm ⊢
  have hf : row (k0_pay10 x1 sc sh wa wu wo) r = ffn (row x1 r) (vec5 sc) (vec5 sh) (row wa) (row wu) (row wo) :=
    funext fun k => pay10_apply x1 sc sh wa wu wo r k
  have hz : row (k0_pay13 x1 (k0_pay10 x1 sc sh wa wu wo) gate1) r
      = resid (row x1 r) (vec5 gate1) (row (k0_pay10 x1 sc sh wa wu wo) r) := funext fun k => pay13_apply x1 _ gate1 r k
  rw [pay1_apply, hz, hf, hm]
  rfl

/-- A row of the upper half. -/
theorem upper_apply (y : Vec Ideal S256x1024 .bf16) (w : Vec Ideal S1024x1024 .bf16) (x : Vec Ideal S256x1024 .f32)
    (gate0 sh sc gate1 : Vec Ideal S1x1x1x1x1024 .f32) (g0 b0 g1 b1 : Vec Ideal S1x1024 .f32)
    (wa wu : Vec Ideal S1024x2816 .bf16) (wo : Vec Ideal S2816x1024 .bf16) (r : Fin 256) (j : Fin 1024) :
    k0_pay12 (k0_pay8 (k0_pay7 (k0_pay2 b0) (k0_pay3 y w x gate0) (k0_pay4 g0) sc sh wa wu) wo)
        (k0_pay11 (k0_pay5 (k0_pay2 b0) (k0_pay3 y w x gate0) (k0_pay4 g0))) gate1 g1 b1 (ix2 r j)
      = tailRow (row y r) (row w) (row x r) (vec5 gate0) (row g0 0) (row b0 0) (vec5 sh) (vec5 sc) (vec5 gate1)
          (row wa) (row wu) (row wo) (row g1 0) (row b1 0) j := by
  have hm : row (k0_pay5 (k0_pay2 b0) (k0_pay3 y w x gate0) (k0_pay4 g0)) r
      = mid (row y r) (row w) (row x r) (vec5 gate0) (row g0 0) (row b0 0) := funext fun k => pay5_apply y w x gate0 g0 b0 r k
  have ha : row (k0_pay7 (k0_pay2 b0) (k0_pay3 y w x gate0) (k0_pay4 g0) sc sh wa wu) r
      = gated (modulated (row (k0_pay5 (k0_pay2 b0) (k0_pay3 y w x gate0) (k0_pay4 g0)) r) (vec5 sc) (vec5 sh)) (row wa) (row wu) :=
    funext fun n => pay7_apply _ _ _ sc sh wa wu r n
  rw [hm] at ha
  generalize k0_pay5 (k0_pay2 b0) (k0_pay3 y w x gate0) (k0_pay4 g0) = x1 at hm ⊢
  generalize k0_pay7 (k0_pay2 b0) (k0_pay3 y w x gate0) (k0_pay4 g0) sc sh wa wu = a at ha ⊢
  have hf : row (k0_pay8 a wo) r = fun k => ∑ n, row a r n * row wo n k := funext fun k => pay8_apply a wo r k
  rw [pay12_apply, hf, ha, hm]
  rfl

end Cert.Tail

end
-- ==== Proof.Tail.Window.lean ====
/-
  The blocks the tail's kernel stages at a grid point, read at an index as elements of the program's arguments.
-/
module

public import proofs.«01_k».proof.Proof.Tail.Block
public import proofs.«01_k».proof.Proof.Gen.Kernel2Ideal.Frame
public import Idealize.ShloMosaic.Lib.Claim

@[expose] public section

set_option maxRecDepth 16384

noncomputable section

namespace Cert.Tail

open Idealize.ShloMosaic Idealize.ShloMosaic.TcCoe Cert.Kernel2Ideal Cert.Kernel2Ideal.Gen

variable (m : (ℓ : Loc nD τ sig) → Buf (Elt Ideal) ℓ)

theorem N_le (t : Fin cfg0.N) : t.val < 128 := by exact lt_of_lt_of_eq t.isLt N_0

theorem index0 : ∀ t : Fin cfg0.N, win0_0.index t 0 = t.val ∧ win0_0.index t 1 = 0 := by decide +kernel
theorem index2 : ∀ t : Fin cfg0.N, win0_2.index t 0 = t.val ∧ win0_2.index t 1 = 0 := by decide +kernel
theorem index3 : ∀ t : Fin cfg0.N, win0_3.index t 0 = 6 ∧ win0_3.index t 1 = 2 ∧ win0_3.index t 2 = t.val / 8
    ∧ win0_3.index t 3 = 0 ∧ win0_3.index t 4 = 0 := by decide +kernel
theorem index6 : ∀ t : Fin cfg0.N, win0_6.index t 0 = 7 ∧ win0_6.index t 1 = 0 ∧ win0_6.index t 2 = t.val / 8
    ∧ win0_6.index t 3 = 0 ∧ win0_6.index t 4 = 0 := by decide +kernel
theorem index7 : ∀ t : Fin cfg0.N, win0_7.index t 0 = 7 ∧ win0_7.index t 1 = 1 ∧ win0_7.index t 2 = t.val / 8
    ∧ win0_7.index t 3 = 0 ∧ win0_7.index t 4 = 0 := by decide +kernel
theorem index8 : ∀ t : Fin cfg0.N, win0_8.index t 0 = 7 ∧ win0_8.index t 1 = 2 ∧ win0_8.index t 2 = t.val / 8
    ∧ win0_8.index t 3 = 0 ∧ win0_8.index t 4 = 0 := by decide +kernel

/-- Row `512 t + r` of the whole array, for row `r` of block `t`. -/
abbrev bigRow (t : Fin cfg0.N) (r : Fin 512) : Fin 65536 := ⟨512 * t.val + r.val, by have := N_le t; omega⟩

/-! The operands that the host prepares, read at an index. -/

theorem v0_apply (c : Dev nD) (r : Fin 65536) (j : Fin 1024) :
    V m c main_v0 (ix2 r j) = m ((c : Thread nD τ).loc main_arg2) (ix3 (⟨r.val / 4096, by omega⟩ : Fin 16) (⟨r.val % 4096, by omega⟩ : Fin 4096) j) := by
  entry_read
  pointwise []

theorem v2_apply (c : Dev nD) (r : Fin 1024) (j : Fin 1024) :
    V m c main_v2 (ix2 r j) = m ((c : Thread nD τ).loc main_arg1) (ix3 (0 : Fin 1) r j) := by
  entry_read
  pointwise []

theorem v5_apply (c : Dev nD) (r : Fin 1024) (j : Fin 5632) :
    V m c main_v5 (ix2 r j) = m ((c : Thread nD τ).loc main_arg4) (ix3 (3 : Fin 4) r j) := by
  entry_read
  pointwise []

theorem v8_apply (c : Dev nD) (r : Fin 2816) (j : Fin 1024) :
    V m c main_v8 (ix2 r j) = m ((c : Thread nD τ).loc main_arg5) (ix3 (3 : Fin 4) r j) := by
  entry_read
  pointwise []

theorem v15_apply (c : Dev nD) (j : Fin 1024) :
    V m c main_v15 (ix2 (0 : Fin 1) j) = m ((c : Thread nD τ).loc main_arg6) (ix3 (3 : Fin 4) (0 : Fin 2) j) := by
  entry_read
  pointwise []

theorem v18_apply (c : Dev nD) (j : Fin 1024) :
    V m c main_v18 (ix2 (0 : Fin 1) j) = m ((c : Thread nD τ).loc main_arg7) (ix3 (3 : Fin 4) (0 : Fin 2) j) := by
  entry_read
  pointwise []

theorem v21_apply (c : Dev nD) (j : Fin 1024) :
    V m c main_v21 (ix2 (0 : Fin 1) j) = m ((c : Thread nD τ).loc main_arg6) (ix3 (3 : Fin 4) (1 : Fin 2) j) := by
  entry_read
  pointwise []

theorem v24_apply (c : Dev nD) (j : Fin 1024) :
    V m c main_v24 (ix2 (0 : Fin 1) j) = m ((c : Thread nD τ).loc main_arg7) (ix3 (3 : Fin 4) (1 : Fin 2) j) := by
  entry_read
  pointwise []

/-! The blocks, read at an index. -/

theorem iblk0_apply (c : Dev nD) (t : Fin cfg0.N) (r : Fin 512) (j : Fin 1024) :
    (iblk m c 0 t : Vec Ideal S512x1024 .bf16) (ix2 r j) = m ((c : Thread nD τ).loc main_arg0) (ix2 (bigRow t r) j) := by
  unfold iblk
  rw [View.read_apply, cast_eq]
  show V m c main_arg0 _ = _
  rw [V_main_arg0]
  refine congrArg _ (funext fun a => Fin.ext ?_)
  match a with
  | ⟨0, _⟩ => show win0_0.index t 0 * 512 + 1 * r.val = 512 * t.val + r.val; rw [(index0 t).1]; omega
  | ⟨1, _⟩ => show win0_0.index t 1 * 1024 + 1 * j.val = j.val; rw [(index0 t).2]; omega

theorem iblk2_apply (c : Dev nD) (t : Fin cfg0.N) (r : Fin 512) (j : Fin 1024) :
    (iblk m c 2 t : Vec Ideal S512x1024 .f32) (ix2 r j) = V m c main_v0 (ix2 (bigRow t r) j) := by
  unfold iblk
  rw [View.read_apply, cast_eq]
  show V m c main_v0 _ = _
  refine congrArg _ (funext fun a => Fin.ext ?_)
  match a with
  | ⟨0, _⟩ => show win0_2.index t 0 * 512 + 1 * r.val = 512 * t.val + r.val; rw [(index2 t).1]; omega
  | ⟨1, _⟩ => show win0_2.index t 1 * 1024 + 1 * j.val = j.val; rw [(index2 t).2]; omega

theorem index1 : ∀ t : Fin cfg0.N, win0_1.index t 0 = 0 ∧ win0_1.index t 1 = 0 := by decide +kernel

theorem iblk1_apply (c : Dev nD) (t : Fin cfg0.N) (r : Fin 1024) (j : Fin 1024) :
    (iblk m c 1 t : Vec Ideal S1024x1024 .bf16) (ix2 r j) = V m c main_v2 (ix2 r j) := by
  unfold iblk
  rw [View.read_apply, cast_eq]
  show V m c main_v2 _ = _
  refine congrArg _ (funext fun a => Fin.ext ?_)
  match a with
  | ⟨0, _⟩ => show win0_1.index t 0 * 1024 + 1 * r.val = r.val; rw [(index1 t).1]; omega
  | ⟨1, _⟩ => show win0_1.index t 1 * 1024 + 1 * j.val = j.val; rw [(index1 t).2]; omega

theorem index9 : ∀ t : Fin cfg0.N, win0_9.index t 0 = 0 ∧ win0_9.index t 1 = 0 := by decide +kernel

theorem iblk9_apply (c : Dev nD) (t : Fin cfg0.N) (r : Fin 1024) (j : Fin 5632) :
    (iblk m c 9 t : Vec Ideal S1024x5632 .bf16) (ix2 r j) = V m c main_v5 (ix2 r j) := by
  unfold iblk
  rw [View.read_apply, cast_eq]
  show V m c main_v5 _ = _
  refine congrArg _ (funext fun a => Fin.ext ?_)
  match a with
  | ⟨0, _⟩ => show win0_9.index t 0 * 1024 + 1 * r.val = r.val; rw [(index9 t).1]; omega
  | ⟨1, _⟩ => show win0_9.index t 1 * 5632 + 1 * j.val = j.val; rw [(index9 t).2]; omega

theorem index10 : ∀ t : Fin cfg0.N, win0_10.index t 0 = 0 ∧ win0_10.index t 1 = 0 := by decide +kernel

theorem iblk10_apply (c : Dev nD) (t : Fin cfg0.N) (r : Fin 2816) (j : Fin 1024) :
    (iblk m c 10 t : Vec Ideal S2816x1024 .bf16) (ix2 r j) = V m c main_v8 (ix2 r j) := by
  unfold iblk
  rw [View.read_apply, cast_eq]
  show V m c main_v8 _ = _
  refine congrArg _ (funext fun a => Fin.ext ?_)
  match a with
  | ⟨0, _⟩ => show win0_10.index t 0 * 2816 + 1 * r.val = r.val; rw [(index10 t).1]; omega
  | ⟨1, _⟩ => show win0_10.index t 1 * 1024 + 1 * j.val = j.val; rw [(index10 t).2]; omega

theorem index4 : ∀ t : Fin cfg0.N, win0_4.index t 0 = 0 ∧ win0_4.index t 1 = 0 := by decide +kernel

theorem iblk4_apply (c : Dev nD) (t : Fin cfg0.N) (r : Fin 1) (j : Fin 1024) :
    (iblk m c 4 t : Vec Ideal S1x1024 .f32) (ix2 r j) = V m c main_v15 (ix2 r j) := by
  unfold iblk
  rw [View.read_apply, cast_eq]
  show V m c main_v15 _ = _
  refine congrArg _ (funext fun a => Fin.ext ?_)
  match a with
  | ⟨0, _⟩ => show win0_4.index t 0 * 1 + 1 * r.val = r.val; rw [(index4 t).1]; omega
  | ⟨1, _⟩ => show win0_4.index t 1 * 1024 + 1 * j.val = j.val; rw [(index4 t).2]; omega

theorem index5 : ∀ t : Fin cfg0.N, win0_5.index t 0 = 0 ∧ win0_5.index t 1 = 0 := by decide +kernel

theorem iblk5_apply (c : Dev nD) (t : Fin cfg0.N) (r : Fin 1) (j : Fin 1024) :
    (iblk m c 5 t : Vec Ideal S1x1024 .f32) (ix2 r j) = V m c main_v18 (ix2 r j) := by
  unfold iblk
  rw [View.read_apply, cast_eq]
  show V m c main_v18 _ = _
  refine congrArg _ (funext fun a => Fin.ext ?_)
  match a with
  | ⟨0, _⟩ => show win0_5.index t 0 * 1 + 1 * r.val = r.val; rw [(index5 t).1]; omega
  | ⟨1, _⟩ => show win0_5.index t 1 * 1024 + 1 * j.val = j.val; rw [(index5 t).2]; omega

theorem index11 : ∀ t : Fin cfg0.N, win0_11.index t 0 = 0 ∧ win0_11.index t 1 = 0 := by decide +kernel

theorem iblk11_apply (c : Dev nD) (t : Fin cfg0.N) (r : Fin 1) (j : Fin 1024) :
    (iblk m c 11 t : Vec Ideal S1x1024 .f32) (ix2 r j) = V m c main_v21 (ix2 r j) := by
  unfold iblk
  rw [View.read_apply, cast_eq]
  show V m c main_v21 _ = _
  refine congrArg _ (funext fun a => Fin.ext ?_)
  match a with
  | ⟨0, _⟩ => show win0_11.index t 0 * 1 + 1 * r.val = r.val; rw [(index11 t).1]; omega
  | ⟨1, _⟩ => show win0_11.index t 1 * 1024 + 1 * j.val = j.val; rw [(index11 t).2]; omega

theorem index12 : ∀ t : Fin cfg0.N, win0_12.index t 0 = 0 ∧ win0_12.index t 1 = 0 := by decide +kernel

theorem iblk12_apply (c : Dev nD) (t : Fin cfg0.N) (r : Fin 1) (j : Fin 1024) :
    (iblk m c 12 t : Vec Ideal S1x1024 .f32) (ix2 r j) = V m c main_v24 (ix2 r j) := by
  unfold iblk
  rw [View.read_apply, cast_eq]
  show V m c main_v24 _ = _
  refine congrArg _ (funext fun a => Fin.ext ?_)
  match a with
  | ⟨0, _⟩ => show win0_12.index t 0 * 1 + 1 * r.val = r.val; rw [(index12 t).1]; omega
  | ⟨1, _⟩ => show win0_12.index t 1 * 1024 + 1 * j.val = j.val; rw [(index12 t).2]; omega

/-- The sequence that block `t` belongs to. -/
abbrev seqOf (t : Fin cfg0.N) : Fin 16 := ⟨t.val / 8, by have := N_le t; omega⟩

theorem iblk3_apply (c : Dev nD) (t : Fin cfg0.N) (j : Fin 1024) :
    (iblk m c 3 t : Vec Ideal S1x1x1x1x1024 .f32) (ix5 0 0 0 0 j)
      = m ((c : Thread nD τ).loc main_arg3) (ix5 (6 : Fin 8) (2 : Fin 3) (seqOf t) (0 : Fin 1) j) := by
  unfold iblk
  rw [View.read_apply, cast_eq]
  show V m c main_arg3 _ = _
  rw [V_main_arg3]
  refine congrArg _ (funext fun a => Fin.ext ?_)
  match a with
  | ⟨0, _⟩ => show win0_3.index t 0 * 1 + 1 * 0 = 6; rw [(index3 t).1]
  | ⟨1, _⟩ => show win0_3.index t 1 * 1 + 1 * 0 = 2; rw [(index3 t).2.1]
  | ⟨2, _⟩ => show win0_3.index t 2 * 1 + 1 * 0 = t.val / 8; rw [(index3 t).2.2.1]; omega
  | ⟨3, _⟩ => show win0_3.index t 3 * 1 + 1 * 0 = 0; rw [(index3 t).2.2.2.1]
  | ⟨4, _⟩ => show win0_3.index t 4 * 1024 + 1 * j.val = j.val; rw [(index3 t).2.2.2.2]; omega

theorem iblk6_apply (c : Dev nD) (t : Fin cfg0.N) (j : Fin 1024) :
    (iblk m c 6 t : Vec Ideal S1x1x1x1x1024 .f32) (ix5 0 0 0 0 j)
      = m ((c : Thread nD τ).loc main_arg3) (ix5 (7 : Fin 8) (0 : Fin 3) (seqOf t) (0 : Fin 1) j) := by
  unfold iblk
  rw [View.read_apply, cast_eq]
  show V m c main_arg3 _ = _
  rw [V_main_arg3]
  refine congrArg _ (funext fun a => Fin.ext ?_)
  match a with
  | ⟨0, _⟩ => show win0_6.index t 0 * 1 + 1 * 0 = 7; rw [(index6 t).1]
  | ⟨1, _⟩ => show win0_6.index t 1 * 1 + 1 * 0 = 0; rw [(index6 t).2.1]
  | ⟨2, _⟩ => show win0_6.index t 2 * 1 + 1 * 0 = t.val / 8; rw [(index6 t).2.2.1]; omega
  | ⟨3, _⟩ => show win0_6.index t 3 * 1 + 1 * 0 = 0; rw [(index6 t).2.2.2.1]
  | ⟨4, _⟩ => show win0_6.index t 4 * 1024 + 1 * j.val = j.val; rw [(index6 t).2.2.2.2]; omega

theorem iblk7_apply (c : Dev nD) (t : Fin cfg0.N) (j : Fin 1024) :
    (iblk m c 7 t : Vec Ideal S1x1x1x1x1024 .f32) (ix5 0 0 0 0 j)
      = m ((c : Thread nD τ).loc main_arg3) (ix5 (7 : Fin 8) (1 : Fin 3) (seqOf t) (0 : Fin 1) j) := by
  unfold iblk
  rw [View.read_apply, cast_eq]
  show V m c main_arg3 _ = _
  rw [V_main_arg3]
  refine congrArg _ (funext fun a => Fin.ext ?_)
  match a with
  | ⟨0, _⟩ => show win0_7.index t 0 * 1 + 1 * 0 = 7; rw [(index7 t).1]
  | ⟨1, _⟩ => show win0_7.index t 1 * 1 + 1 * 0 = 1; rw [(index7 t).2.1]
  | ⟨2, _⟩ => show win0_7.index t 2 * 1 + 1 * 0 = t.val / 8; rw [(index7 t).2.2.1]; omega
  | ⟨3, _⟩ => show win0_7.index t 3 * 1 + 1 * 0 = 0; rw [(index7 t).2.2.2.1]
  | ⟨4, _⟩ => show win0_7.index t 4 * 1024 + 1 * j.val = j.val; rw [(index7 t).2.2.2.2]; omega

theorem iblk8_apply (c : Dev nD) (t : Fin cfg0.N) (j : Fin 1024) :
    (iblk m c 8 t : Vec Ideal S1x1x1x1x1024 .f32) (ix5 0 0 0 0 j)
      = m ((c : Thread nD τ).loc main_arg3) (ix5 (7 : Fin 8) (2 : Fin 3) (seqOf t) (0 : Fin 1) j) := by
  unfold iblk
  rw [View.read_apply, cast_eq]
  show V m c main_arg3 _ = _
  rw [V_main_arg3]
  refine congrArg _ (funext fun a => Fin.ext ?_)
  match a with
  | ⟨0, _⟩ => show win0_8.index t 0 * 1 + 1 * 0 = 7; rw [(index8 t).1]
  | ⟨1, _⟩ => show win0_8.index t 1 * 1 + 1 * 0 = 2; rw [(index8 t).2.1]
  | ⟨2, _⟩ => show win0_8.index t 2 * 1 + 1 * 0 = t.val / 8; rw [(index8 t).2.2.1]; omega
  | ⟨3, _⟩ => show win0_8.index t 3 * 1 + 1 * 0 = 0; rw [(index8 t).2.2.2.1]
  | ⟨4, _⟩ => show win0_8.index t 4 * 1024 + 1 * j.val = j.val; rw [(index8 t).2.2.2.2]; omega

end Cert.Tail

end
-- ==== Proof.Tail.Kernel.lean ====
/-
  The tail's kernel as a whole: the block a grid point writes back, the cover of the result by the blocks, and the run.
-/
module

public import proofs.«01_k».proof.Proof.Tail.Window
public import proofs.«01_k».proof.Proof.Gen.Kernel2Ideal.Value
public import Idealize.ShloMosaic.Lib.Pipeline.Value

@[expose] public section

set_option maxRecDepth 16384

noncomputable section

namespace Cert.Tail

open Idealize.ShloMosaic Idealize.ShloMosaic.TcCoe Idealize.SL.Sem Cert.Kernel2Ideal Cert.Kernel2Ideal.Gen

/-- Two-axis indices with equal coordinates are equal. -/
theorem idx2_ext {a b : Nat} (i i' : (⟨2, ![a, b]⟩ : Shape).Idx) (h0 : (i 0).val = (i' 0).val) (h1 : (i 1).val = (i' 1).val) :
    i = i' := funext fun a => Fin.ext (match a with | ⟨0, _⟩ => h0 | ⟨1, _⟩ => h1)

theorem ld_vec5 (x : Vec Ideal S1x1x1x1x1024 .f32) : vec5 (View.ld x r0_2) = vec5 x :=
  funext fun k => congrArg x (funext fun a => Fin.ext (match a with
    | ⟨0, _⟩ => rfl | ⟨1, _⟩ => rfl | ⟨2, _⟩ => rfl | ⟨3, _⟩ => rfl | ⟨4, _⟩ => by show 0 + 1 * k.val = k.val; omega))

theorem ld_row1 (x : Vec Ideal S1x1024 .f32) : row (View.ld x r0_3 : Vec Ideal S1x1024 .f32) 0 = row x 0 :=
  funext fun k => congrArg x (idx2_ext _ _ rfl (by show 0 + 1 * k.val = k.val; omega))

theorem ld_proj (x : Vec Ideal S1024x1024 .bf16) : row (View.ld x r0_1 : Vec Ideal S1024x1024 .bf16) = row x :=
  funext fun r => funext fun k => congrArg x (idx2_ext _ _ (by show 0 + 1 * r.val = r.val; omega) (by show 0 + 1 * k.val = k.val; omega))

theorem ld_down (x : Vec Ideal S2816x1024 .bf16) : row (View.ld x r0_7 : Vec Ideal S2816x1024 .bf16) = row x :=
  funext fun r => funext fun k => congrArg x (idx2_ext _ _ (by show 0 + 1 * r.val = r.val; omega) (by show 0 + 1 * k.val = k.val; omega))

theorem ld_gate (x : Vec Ideal S1024x5632 .bf16) :
    row (View.ld x r0_5 : Vec Ideal S1024x2816 .bf16) = fun k n => x (ix2 k (⟨n.val, by omega⟩ : Fin 5632)) :=
  funext fun r => funext fun k => congrArg x (idx2_ext _ _ (by show 0 + 1 * r.val = r.val; omega) (by show 0 + 1 * k.val = k.val; omega))

theorem ld_up (x : Vec Ideal S1024x5632 .bf16) :
    row (View.ld x r0_6 : Vec Ideal S1024x2816 .bf16) = fun k n => x (ix2 k (⟨2816 + n.val, by omega⟩ : Fin 5632)) :=
  funext fun r => funext fun k => congrArg x (idx2_ext _ _ (by show 0 + 1 * r.val = r.val; omega) (by show 2816 + 1 * k.val = 2816 + k.val; omega))

theorem ld_lower {e : EltTy} (x : Vec Ideal S512x1024 e) (r : Fin 512) (h : 256 ≤ r.val) (k : Fin 1024) :
    (View.ld x r0_4 : Vec Ideal S256x1024 e) (ix2 (⟨r.val - 256, by omega⟩ : Fin 256) k) = x (ix2 r k) :=
  congrArg x (idx2_ext _ _ (by show 256 + 1 * (r.val - 256) = r.val; omega) (by show 0 + 1 * k.val = k.val; omega))

theorem ld_upper {e : EltTy} (x : Vec Ideal S512x1024 e) (r : Fin 512) (h : r.val < 256) (k : Fin 1024) :
    (View.ld x r0_0 : Vec Ideal S256x1024 e) (ix2 (⟨r.val, h⟩ : Fin 256) k) = x (ix2 r k) :=
  congrArg x (idx2_ext _ _ (by show 0 + 1 * r.val = r.val; omega) (by show 0 + 1 * k.val = k.val; omega))

/-- The block the kernel stores, read at a row, whichever half holds it. -/
theorem out_apply (x0 : Vec Ideal S512x1024 .bf16) (x1 : Vec Ideal S1024x1024 .bf16) (x2 : Vec Ideal S512x1024 .f32)
    (x3 : Vec Ideal S1x1x1x1x1024 .f32) (x4 x5 : Vec Ideal S1x1024 .f32) (x6 x7 x8 : Vec Ideal S1x1x1x1x1024 .f32)
    (x9 : Vec Ideal S1024x5632 .bf16) (x10 : Vec Ideal S2816x1024 .bf16) (x11 x12 : Vec Ideal S1x1024 .f32)
    (r : Fin 512) (j : Fin 1024) :
    out0_13 x0 x1 x2 x3 x4 x5 x6 x7 x8 x9 x10 x11 x12 (ix2 r j)
      = tailRow (row x0 r) (row x1) (row x2 r) (vec5 x3) (row x4 0) (row x5 0) (vec5 x6) (vec5 x7) (vec5 x8)
          (fun k n => x9 (ix2 k (⟨n.val, by omega⟩ : Fin 5632))) (fun k n => x9 (ix2 k (⟨2816 + n.val, by omega⟩ : Fin 5632)))
          (row x10) (row x11 0) (row x12 0) j := by
  unfold_out out0_13
  by_cases hr : 256 ≤ r.val
  · have e : (ix2 r j : S512x1024.Idx) = r0_4.emb (ix2 (⟨r.val - 256, by omega⟩ : Fin 256) j) :=
      idx2_ext _ _ (show r.val = 256 + 1 * (r.val - 256) by omega) (show j.val = 0 + 1 * j.val by omega)
    have h0 : row (View.ld x0 r0_4 : Vec Ideal S256x1024 .bf16) ⟨r.val - 256, by omega⟩ = row x0 r := funext fun k => ld_lower x0 r hr k
    have h2 : row (View.ld x2 r0_4 : Vec Ideal S256x1024 .f32) ⟨r.val - 256, by omega⟩ = row x2 r := funext fun k => ld_lower x2 r hr k
    rw [e, View.canon_cons_emb]
    refine (lower_apply _ _ _ _ _ _ _ _ _ _ _ _ _ _ _ _).trans ?_
    rw [h0, h2]
    simp only [ld_vec5, ld_row1, ld_proj, ld_down, ld_gate, ld_up]
  · have hr' : r.val < 256 := by omega
    have e : (ix2 r j : S512x1024.Idx) = r0_0.emb (ix2 (⟨r.val, hr'⟩ : Fin 256) j) :=
      idx2_ext _ _ (show r.val = 0 + 1 * r.val by omega) (show j.val = 0 + 1 * j.val by omega)
    have h0 : row (View.ld x0 r0_0 : Vec Ideal S256x1024 .bf16) ⟨r.val, hr'⟩ = row x0 r := funext fun k => ld_upper x0 r hr' k
    have h2 : row (View.ld x2 r0_0 : Vec Ideal S256x1024 .f32) ⟨r.val, hr'⟩ = row x2 r := funext fun k => ld_upper x2 r hr' k
    have hn : (ix2 r j : S512x1024.Idx) ∉ r0_4.set := by
      rw [Rect.mem_set_unit]
      intro h
      exact hr (h 0).1
    refine Eq.trans (View.canon_cons_of_not_mem _ _ ?_) ?_
    · exact hn
    rw [e, View.canon_cons_emb]
    refine (upper_apply _ _ _ _ _ _ _ _ _ _ _ _ _ _ _ _).trans ?_
    rw [h0, h2]
    simp only [ld_vec5, ld_row1, ld_proj, ld_down, ld_gate, ld_up]

variable (m : (ℓ : Loc nD τ sig) → Buf (Elt Ideal) ℓ) (ρ : Dev nD → PrngReg)

/-- The result array that the kernel is shown to leave. -/
def result (c : Dev nD) : Buf (Elt Ideal) ((c : Thread nD τ).loc main_v25) := fun i =>
  tailOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

theorem index13 : ∀ t : Fin cfg0.N, win0_13.index t 0 = t.val ∧ win0_13.index t 1 = 0 := by decide +kernel

/-- What a grid point computes of its blocks is its rows of the result. -/
theorem block_apply (c : Dev nD) (t : Fin cfg0.N) (r : Fin 512) (j : Fin 1024) :
    out0_13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 r j)
      = result m c (ix2 (bigRow t r) j) := by
  obtain ⟨R, hR⟩ : ∃ R, R = bigRow t r := ⟨_, rfl⟩
  obtain ⟨q, hqR⟩ : ∃ q : Fin 16, q = ⟨R.val / 4096, by omega⟩ := ⟨_, rfl⟩
  have hq : seqOf t = q := by
    subst hqR hR
    exact Fin.ext (by show t.val / 8 = (512 * t.val + r.val) / 4096; omega)
  refine (out_apply _ _ _ _ _ _ _ _ _ _ _ _ _ r j).trans ?_
  have e0 : row (iblk m c 0 t : Vec Ideal S512x1024 .bf16) r = fun k => m ((c : Thread nD τ).loc main_arg0) (ix2 R k) :=
    funext fun k => (iblk0_apply m c t r k).trans (by rw [← hR])
  have e1 : row (iblk m c 1 t : Vec Ideal S1024x1024 .bf16) = fun k j => m ((c : Thread nD τ).loc main_arg1) (ix3 (0 : Fin 1) k j) :=
    funext fun k => funext fun j => (iblk1_apply m c t k j).trans (v2_apply m c k j)
  have e2 : row (iblk m c 2 t : Vec Ideal S512x1024 .f32) r = fun k => m ((c : Thread nD τ).loc main_arg2) (ix3 q (⟨R.val % 4096, by omega⟩ : Fin 4096) k) :=
    funext fun k => (iblk2_apply m c t r k).trans (by rw [← hR, hqR]; exact v0_apply m c R k)
  have e3 : vec5 (iblk m c 3 t : Vec Ideal S1x1x1x1x1024 .f32) = fun k => m ((c : Thread nD τ).loc main_arg3) (ix5 (6 : Fin 8) (2 : Fin 3) q (0 : Fin 1) k) :=
    funext fun k => (iblk3_apply m c t k).trans (by rw [hq])
  have e6 : vec5 (iblk m c 6 t : Vec Ideal S1x1x1x1x1024 .f32) = fun k => m ((c : Thread nD τ).loc main_arg3) (ix5 (7 : Fin 8) (0 : Fin 3) q (0 : Fin 1) k) :=
    funext fun k => (iblk6_apply m c t k).trans (by rw [hq])
  have e7 : vec5 (iblk m c 7 t : Vec Ideal S1x1x1x1x1024 .f32) = fun k => m ((c : Thread nD τ).loc main_arg3) (ix5 (7 : Fin 8) (1 : Fin 3) q (0 : Fin 1) k) :=
    funext fun k => (iblk7_apply m c t k).trans (by rw [hq])
  have e8 : vec5 (iblk m c 8 t : Vec Ideal S1x1x1x1x1024 .f32) = fun k => m ((c : Thread nD τ).loc main_arg3) (ix5 (7 : Fin 8) (2 : Fin 3) q (0 : Fin 1) k) :=
    funext fun k => (iblk8_apply m c t k).trans (by rw [hq])
  have e4 : row (iblk m c 4 t : Vec Ideal S1x1024 .f32) 0 = fun k => m ((c : Thread nD τ).loc main_arg6) (ix3 (3 : Fin 4) (0 : Fin 2) k) :=
    funext fun k => (iblk4_apply m c t 0 k).trans (v15_apply m c k)
  have e5 : row (iblk m c 5 t : Vec Ideal S1x1024 .f32) 0 = fun k => m ((c : Thread nD τ).loc main_arg7) (ix3 (3 : Fin 4) (0 : Fin 2) k) :=
    funext fun k => (iblk5_apply m c t 0 k).trans (v18_apply m c k)
  have e11 : row (iblk m c 11 t : Vec Ideal S1x1024 .f32) 0 = fun k => m ((c : Thread nD τ).loc main_arg6) (ix3 (3 : Fin 4) (1 : Fin 2) k) :=
    funext fun k => (iblk11_apply m c t 0 k).trans (v21_apply m c k)
  have e12 : row (iblk m c 12 t : Vec Ideal S1x1024 .f32) 0 = fun k => m ((c : Thread nD τ).loc main_arg7) (ix3 (3 : Fin 4) (1 : Fin 2) k) :=
    funext fun k => (iblk12_apply m c t 0 k).trans (v24_apply m c k)
  have e9a : (fun (k : Fin 1024) (n : Fin 2816) => (iblk m c 9 t : Vec Ideal S1024x5632 .bf16) (ix2 k (⟨n.val, by omega⟩ : Fin 5632))) = fun k n => m ((c : Thread nD τ).loc main_arg4) (ix3 (3 : Fin 4) k (⟨n.val, by omega⟩ : Fin 5632)) :=
    funext fun k => funext fun n => (iblk9_apply m c t k _).trans (v5_apply m c k _)
  have e9b : (fun (k : Fin 1024) (n : Fin 2816) => (iblk m c 9 t : Vec Ideal S1024x5632 .bf16) (ix2 k (⟨2816 + n.val, by omega⟩ : Fin 5632))) = fun k n => m ((c : Thread nD τ).loc main_arg4) (ix3 (3 : Fin 4) k (⟨2816 + n.val, by omega⟩ : Fin 5632)) :=
    funext fun k => funext fun n => (iblk9_apply m c t k _).trans (v5_apply m c k _)
  have e10 : row (iblk m c 10 t : Vec Ideal S2816x1024 .bf16) = fun k j => m ((c : Thread nD τ).loc main_arg5) (ix3 (3 : Fin 4) k j) :=
    funext fun k => funext fun j => (iblk10_apply m c t k j).trans (v8_apply m c k j)
  rw [e0, e1, e2, e3, e4, e5, e6, e7, e8, e9a, e9b, e10, e11, e12, ← hR, hqR]
  rfl

theorem flushed_eq (c : Dev nD) (t : Fin cfg0.N) :
    (dats m 0 c).flushed 13 t = (win0_13.blk t).view.read (Elt Ideal) (result m c) := by
  rw [Cert.Kernel2Ideal.Value.flushed13]
  funext i
  obtain ⟨r, j, rfl⟩ : ∃ (r : Fin 512) (j : Fin 1024), i = ix2 r j :=
    ⟨i 0, i 1, funext fun a => match a with | ⟨0, _⟩ => rfl | ⟨1, _⟩ => rfl⟩
  refine (block_apply m c t r j).trans ?_
  rw [View.read_apply, cast_eq]
  refine congrArg (result m c) (idx2_ext _ _ ?_ ?_)
  · show 512 * t.val + r.val = win0_13.index t 0 * 512 + 1 * r.val
    rw [(index13 t).1]; omega
  · show j.val = win0_13.index t 1 * 1024 + 1 * j.val
    rw [(index13 t).2]; omega

theorem cover (i : S65536x1024.Idx) :
    ∃ t : Fin cfg0.N, (cfg0.win 13).flush t = true ∧ i ∈ ((cfg0.win 13).blk t).view.set := by
  have h0 : (i 0 : Nat) < 65536 := (i 0).isLt
  have h1 : (i 1 : Nat) < 1024 := (i 1).isLt
  have ht : (i 0 : Nat) / 512 < cfg0.N := lt_of_lt_of_eq (by omega : (i 0 : Nat) / 512 < 128) N_0.symm
  refine ⟨⟨(i 0 : Nat) / 512, ht⟩, flush0_13 _, ?_⟩
  generalize hT : (⟨(i 0 : Nat) / 512, ht⟩ : Fin cfg0.N) = T
  have hv : T.val = (i 0 : Nat) / 512 := by rw [← hT]
  show i ∈ ((View.whole main_v25).slice (win0_13.rect T)).set
  rw [View.set_slice_whole, Rect.mem_set_unit]
  intro a
  match a with
  | ⟨0, _⟩ =>
    show win0_13.index T 0 * 512 ≤ (i 0 : Nat) ∧ (i 0 : Nat) < win0_13.index T 0 * 512 + 512
    rw [(index13 T).1, hv]
    omega
  | ⟨1, _⟩ =>
    show win0_13.index T 1 * 1024 ≤ (i 1 : Nat) ∧ (i 1 : Nat) < win0_13.index T 1 * 1024 + 1024
    rw [(index13 T).2]
    omega

/-- The run of the tail's program: the result array is `result`, the arguments are unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans
      ((dats m 0 c).arrAt_eq_of_cover 13 (result m c) (fun t _ => flushed_eq m c t) cover), (h c).2⟩)
    (Cert.Kernel2Ideal.Value.run_blocks m ρ)

end Cert.Tail

end
-- ==== Proof.Tail.Reference.lean ====
/-
  The tail's reference, stage by stage, read at an index as the functions of Row.lean, and its run.
-/
module

public import proofs.«01_k».proof.Proof.Tail.Row
public import proofs.«01_k».proof.Proof.Gen.Reference2Ideal.Read
public import proofs.«01_k».proof.Proof.Gen.Reference2Ideal.Run

@[expose] public section

set_option maxRecDepth 16384

noncomputable section

namespace Cert.TailRef

open Idealize.ShloMosaic Idealize.ShloMosaic.TcCoe Cert.Reference2Ideal Cert.Reference2Ideal.Read Cert.Tail

theorem v22_apply (x0 : (⟨S65536x1024, .bf16⟩ : BufTy).Contents (Elt Ideal)) (x1 : (⟨S1x1024x1024, .f32⟩ : BufTy).Contents (Elt Ideal)) (x2 : (⟨S16x4096x1024, .f32⟩ : BufTy).Contents (Elt Ideal)) (x3 : (⟨S8x3x16x1x1024, .f32⟩ : BufTy).Contents (Elt Ideal))
    (p : Fin 16) (s : Fin 4096) (j : Fin 1024) :
    val_main_v22 (F := Ideal) x0 x1 x2 x3 (ix3 p s j) = resid (fun k => x2 (ix3 p s k)) (fun k => x3 (ix5 (6 : Fin 8) (2 : Fin 3) p (0 : Fin 1) k)) (fun j => ∑ k, x0 (ix2 (⟨p.val * 4096 + s.val, by omega⟩ : Fin 65536) k) * x1 (ix3 (0 : Fin 1) k j)) j := by
  unfold val_main_v22 val_main_v21 val_main_v12 val_main_v11 val_main_v10 val_main_v9 val_main_v20 val_main_v19 val_main_v17 val_main_v16 val_main_v15 val_main_v8 val_main_v7 val_main_v2 val_main_v1 val_main_v0 val_main_v18 val_main_cst_0 val_main_v14 val_main_v13 val_main_cst
  pointwise [] <;> rfl

theorem v50_apply (x0 : (⟨S65536x1024, .bf16⟩ : BufTy).Contents (Elt Ideal)) (x1 : (⟨S1x1024x1024, .f32⟩ : BufTy).Contents (Elt Ideal)) (x2 : (⟨S16x4096x1024, .f32⟩ : BufTy).Contents (Elt Ideal)) (x3 : (⟨S8x3x16x1x1024, .f32⟩ : BufTy).Contents (Elt Ideal)) (x6 x7 : (⟨S4x2x1024, .f32⟩ : BufTy).Contents (Elt Ideal))
    (p : Fin 16) (s : Fin 4096) (j : Fin 1024) :
    val_main_v50 (F := Ideal) x0 x1 x2 x3 x6 x7 (ix3 p s j) = lnorm (fun k => val_main_v22 (F := Ideal) x0 x1 x2 x3 (ix3 p s k)) (fun k => x6 (ix3 (3 : Fin 4) (0 : Fin 2) k)) (fun k => x7 (ix3 (3 : Fin 4) (0 : Fin 2) k)) j := by
  unfold val_main_v50 val_main_v49 val_main_v48 val_main_v26 val_main_v25 val_main_v47 val_main_v46 val_main_v45 val_main_v24 val_main_v23 val_main_v44 val_main_v43 val_main_v42 val_main_v41 val_main_v40 val_main_cst_5 val_main_v37 val_main_v36 val_main_cst_4 val_main_v35 val_main_v34 val_main_cst_3 val_main_v33 val_main_v32 val_main_v31 val_main_v39 val_main_v38 val_main_v30 val_main_v29 val_main_cst_2 val_main_v28 val_main_v27 val_main_cst_1
  generalize val_main_v22 (F := Ideal) x0 x1 x2 x3 = z0
  pointwise [] <;> rfl

theorem v62_apply (x0 : (⟨S65536x1024, .bf16⟩ : BufTy).Contents (Elt Ideal)) (x1 : (⟨S1x1024x1024, .f32⟩ : BufTy).Contents (Elt Ideal)) (x2 : (⟨S16x4096x1024, .f32⟩ : BufTy).Contents (Elt Ideal)) (x3 : (⟨S8x3x16x1x1024, .f32⟩ : BufTy).Contents (Elt Ideal)) (x6 x7 : (⟨S4x2x1024, .f32⟩ : BufTy).Contents (Elt Ideal))
    (p : Fin 16) (s : Fin 4096) (j : Fin 1024) :
    val_main_v62 (F := Ideal) x0 x1 x2 x3 x6 x7 (ix3 p s j) = modulated (fun k => val_main_v50 (F := Ideal) x0 x1 x2 x3 x6 x7 (ix3 p s k)) (fun k => x3 (ix5 (7 : Fin 8) (1 : Fin 3) p (0 : Fin 1) k)) (fun k => x3 (ix5 (7 : Fin 8) (0 : Fin 3) p (0 : Fin 1) k)) j := by
  unfold val_main_v62 val_main_v61 val_main_v60 val_main_v59 val_main_v58 val_main_v4 val_main_v3 val_main_v57 val_main_v56 val_main_v55 val_main_v53 val_main_v52 val_main_v51 val_main_v6 val_main_v5 val_main_v2 val_main_v1 val_main_v0 val_main_v54 val_main_cst_6
  generalize val_main_v50 (F := Ideal) x0 x1 x2 x3 x6 x7 = z0
  pointwise [] <;> rfl

theorem v71_apply (x0 : (⟨S65536x1024, .bf16⟩ : BufTy).Contents (Elt Ideal)) (x1 : (⟨S1x1024x1024, .f32⟩ : BufTy).Contents (Elt Ideal)) (x2 : (⟨S16x4096x1024, .f32⟩ : BufTy).Contents (Elt Ideal)) (x3 : (⟨S8x3x16x1x1024, .f32⟩ : BufTy).Contents (Elt Ideal)) (x4 : (⟨S4x1024x5632, .f32⟩ : BufTy).Contents (Elt Ideal)) (x6 x7 : (⟨S4x2x1024, .f32⟩ : BufTy).Contents (Elt Ideal))
    (p : Fin 16) (s : Fin 4096) (j : Fin 2816) :
    val_main_v71 (F := Ideal) x0 x1 x2 x3 x4 x6 x7 (ix3 p s j) = gated (fun k => val_main_v62 (F := Ideal) x0 x1 x2 x3 x6 x7 (ix3 p s k)) (fun k n => x4 (ix3 (3 : Fin 4) k (⟨n.val, by omega⟩ : Fin 5632))) (fun k n => x4 (ix3 (3 : Fin 4) k (⟨2816 + n.val, by omega⟩ : Fin 5632))) j := by
  unfold val_main_v71 val_main_v70 val_main_v69 val_main_call0_v5 val_main_call0_v3 val_main_call0_v1 val_main_call0_v0 val_main_call0_v2 val_main_call0_cst val_main_call0_v4 val_main_call0_cst_0 val_main_v68 val_main_v67 val_main_v64 val_main_v63
  generalize val_main_v62 (F := Ideal) x0 x1 x2 x3 x6 x7 = z0
  pointwise [] <;> rfl

theorem v72_apply (x0 : (⟨S65536x1024, .bf16⟩ : BufTy).Contents (Elt Ideal)) (x1 : (⟨S1x1024x1024, .f32⟩ : BufTy).Contents (Elt Ideal)) (x2 : (⟨S16x4096x1024, .f32⟩ : BufTy).Contents (Elt Ideal)) (x3 : (⟨S8x3x16x1x1024, .f32⟩ : BufTy).Contents (Elt Ideal)) (x4 : (⟨S4x1024x5632, .f32⟩ : BufTy).Contents (Elt Ideal)) (x5 : (⟨S4x2816x1024, .f32⟩ : BufTy).Contents (Elt Ideal)) (x6 x7 : (⟨S4x2x1024, .f32⟩ : BufTy).Contents (Elt Ideal))
    (p : Fin 16) (s : Fin 4096) (j : Fin 1024) :
    val_main_v72 (F := Ideal) x0 x1 x2 x3 x4 x5 x6 x7 (ix3 p s j) = ∑ n, val_main_v71 (F := Ideal) x0 x1 x2 x3 x4 x6 x7 (ix3 p s n) * x5 (ix3 (3 : Fin 4) n j) := by
  unfold val_main_v72 val_main_v66 val_main_v65
  generalize val_main_v71 (F := Ideal) x0 x1 x2 x3 x4 x6 x7 = z0
  pointwise [] <;> rfl

theorem v82_apply (x0 : (⟨S65536x1024, .bf16⟩ : BufTy).Contents (Elt Ideal)) (x1 : (⟨S1x1024x1024, .f32⟩ : BufTy).Contents (Elt Ideal)) (x2 : (⟨S16x4096x1024, .f32⟩ : BufTy).Contents (Elt Ideal)) (x3 : (⟨S8x3x16x1x1024, .f32⟩ : BufTy).Contents (Elt Ideal)) (x4 : (⟨S4x1024x5632, .f32⟩ : BufTy).Contents (Elt Ideal)) (x5 : (⟨S4x2816x1024, .f32⟩ : BufTy).Contents (Elt Ideal)) (x6 x7 : (⟨S4x2x1024, .f32⟩ : BufTy).Contents (Elt Ideal))
    (p : Fin 16) (s : Fin 4096) (j : Fin 1024) :
    val_main_v82 (F := Ideal) x0 x1 x2 x3 x4 x5 x6 x7 (ix3 p s j) = resid (fun k => val_main_v50 (F := Ideal) x0 x1 x2 x3 x6 x7 (ix3 p s k)) (fun k => x3 (ix5 (7 : Fin 8) (2 : Fin 3) p (0 : Fin 1) k)) (fun k => val_main_v72 (F := Ideal) x0 x1 x2 x3 x4 x5 x6 x7 (ix3 p s k)) j := by
  unfold val_main_v82 val_main_v81 val_main_v80 val_main_v79 val_main_v77 val_main_v76 val_main_v75 val_main_v8 val_main_v7 val_main_v2 val_main_v1 val_main_v0 val_main_v78 val_main_cst_8 val_main_v74 val_main_v73 val_main_cst_7
  generalize val_main_v50 (F := Ideal) x0 x1 x2 x3 x6 x7 = z0
  generalize val_main_v72 (F := Ideal) x0 x1 x2 x3 x4 x5 x6 x7 = z1
  pointwise [] <;> rfl

theorem v110_apply (x0 : (⟨S65536x1024, .bf16⟩ : BufTy).Contents (Elt Ideal)) (x1 : (⟨S1x1024x1024, .f32⟩ : BufTy).Contents (Elt Ideal)) (x2 : (⟨S16x4096x1024, .f32⟩ : BufTy).Contents (Elt Ideal)) (x3 : (⟨S8x3x16x1x1024, .f32⟩ : BufTy).Contents (Elt Ideal)) (x4 : (⟨S4x1024x5632, .f32⟩ : BufTy).Contents (Elt Ideal)) (x5 : (⟨S4x2816x1024, .f32⟩ : BufTy).Contents (Elt Ideal)) (x6 x7 : (⟨S4x2x1024, .f32⟩ : BufTy).Contents (Elt Ideal))
    (p : Fin 16) (s : Fin 4096) (j : Fin 1024) :
    val_main_v110 (F := Ideal) x0 x1 x2 x3 x4 x5 x6 x7 (ix3 p s j) = lnorm (fun k => val_main_v82 (F := Ideal) x0 x1 x2 x3 x4 x5 x6 x7 (ix3 p s k)) (fun k => x6 (ix3 (3 : Fin 4) (1 : Fin 2) k)) (fun k => x7 (ix3 (3 : Fin 4) (1 : Fin 2) k)) j := by
  unfold val_main_v110 val_main_v109 val_main_v108 val_main_v86 val_main_v85 val_main_v107 val_main_v106 val_main_v105 val_main_v84 val_main_v83 val_main_v104 val_main_v103 val_main_v102 val_main_v101 val_main_v100 val_main_cst_13 val_main_v97 val_main_v96 val_main_cst_12 val_main_v95 val_main_v94 val_main_cst_11 val_main_v93 val_main_v92 val_main_v91 val_main_v99 val_main_v98 val_main_v90 val_main_v89 val_main_cst_10 val_main_v88 val_main_v87 val_main_cst_9
  generalize val_main_v82 (F := Ideal) x0 x1 x2 x3 x4 x5 x6 x7 = z0
  pointwise [] <;> rfl

/-- The reference's result at a row, as the function of its arguments that the kernel computes. -/
theorem v111_apply (x0 : (⟨S65536x1024, .bf16⟩ : BufTy).Contents (Elt Ideal)) (x1 : (⟨S1x1024x1024, .f32⟩ : BufTy).Contents (Elt Ideal)) (x2 : (⟨S16x4096x1024, .f32⟩ : BufTy).Contents (Elt Ideal)) (x3 : (⟨S8x3x16x1x1024, .f32⟩ : BufTy).Contents (Elt Ideal)) (x4 : (⟨S4x1024x5632, .f32⟩ : BufTy).Contents (Elt Ideal)) (x5 : (⟨S4x2816x1024, .f32⟩ : BufTy).Contents (Elt Ideal)) (x6 x7 : (⟨S4x2x1024, .f32⟩ : BufTy).Contents (Elt Ideal))
    (r : Fin 65536) (j : Fin 1024) :
    val_main_v111 (F := Ideal) x0 x1 x2 x3 x4 x5 x6 x7 (ix2 r j) = tailOut x0 x1 x2 x3 x4 x5 x6 x7 r j := by
  have hl : val_main_v111 (F := Ideal) x0 x1 x2 x3 x4 x5 x6 x7 (ix2 r j)
      = val_main_v110 (F := Ideal) x0 x1 x2 x3 x4 x5 x6 x7 (ix3 (⟨r.val / 4096, by omega⟩ : Fin 16) (⟨r.val % 4096, by omega⟩ : Fin 4096) j) := by
    unfold val_main_v111
    generalize val_main_v110 (F := Ideal) x0 x1 x2 x3 x4 x5 x6 x7 = z
    pointwise []
  obtain ⟨p, hp⟩ : ∃ p : Fin 16, p = ⟨r.val / 4096, by omega⟩ := ⟨_, rfl⟩
  obtain ⟨s, hs⟩ : ∃ s : Fin 4096, s = ⟨r.val % 4096, by omega⟩ := ⟨_, rfl⟩
  have hr : (⟨p.val * 4096 + s.val, by omega⟩ : Fin 65536) = r := by subst hp hs; exact Fin.ext (by show r.val / 4096 * 4096 + r.val % 4096 = r.val; omega)
  rw [hl, ← hp, ← hs, v110_apply]
  simp only [v82_apply, v72_apply, v71_apply, v62_apply]
  rw [show (fun k => val_main_v50 (F := Ideal) x0 x1 x2 x3 x6 x7 (ix3 p s k)) = _ from funext fun k => v50_apply x0 x1 x2 x3 x6 x7 p s k]
  rw [show (fun k => val_main_v22 (F := Ideal) x0 x1 x2 x3 (ix3 p s k)) = _ from funext fun k => v22_apply x0 x1 x2 x3 p s k]
  rw [hr, hp, hs]
  rfl

end Cert.TailRef

end
-- ==== Proof.Tail.Claims.lean ====
/-
  The tail's claims: the frames of its three programs, and the agreement of the kernel with the reference.
-/
module

public import proofs.«01_k».proof.Defs
public import proofs.«01_k».proof.Proof.Gen.Kernel2.Frame
public import proofs.«01_k».proof.Proof.Gen.Kernel2Ideal.Frame
public import proofs.«01_k».proof.Proof.Tail.Kernel
public import proofs.«01_k».proof.Proof.Tail.Reference
public import Idealize.ShloMosaic.Lib.Quiescent

@[expose] public section

set_option maxRecDepth 16384

noncomputable section

namespace Cert.Tail

open Idealize.ShloMosaic Idealize.ShloMosaic.TcCoe Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

/-- Kernel and reference end with the same result array: `tailOut` of arguments that agree. -/
theorem algebraic : Cert.algebraic_Kernel2Ideal_Reference2Ideal := by
  intro m ρ m' ρ' _ hagree
  refine ⟨fun c => result m c, run m ρ, ?_⟩
  refine (θ_run Cert.Reference2Ideal.defs _ _).mono (fun _ h c => ⟨(h c).1.trans ?_, (h c).2⟩)
    (Cert.Reference2Ideal.Value.run (F := Ideal) m' ρ')
  refine (Cert.Reference2Ideal.Read.val_main_v111_eq (StableHlo.launchContents m' c)).trans ?_
  show Cert.Reference2Ideal.Read.val_main_v111 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) = _
  obtain ⟨h0, h1, h2, h3, h4, h5, h6, h7⟩ := hagree c
  rw [h0, h1, h2, h3, h4, h5, h6, h7]
  funext i
  obtain ⟨r, j, rfl⟩ : ∃ (r : Fin 65536) (j : Fin 1024), i = ix2 r j :=
    ⟨i 0, i 1, funext fun a => match a with | ⟨0, _⟩ => rfl | ⟨1, _⟩ => rfl⟩
  exact Cert.TailRef.v111_apply _ _ _ _ _ _ _ _ r j

end Cert.Tail

end
-- ==== Proof.In.Row.lean ====
/-
  The input projections of a layer, as functions of extended reals: the token's row modulated by scale and shift, and its product
  with a weight's columns. Kernels and references are both shown to compute these of the same arguments.
-/
module

public import Idealize.ShloMosaic.Lib.Pointwise
public import Idealize.ShloMosaic.PureOps.Ideal

@[expose] public section

noncomputable section

namespace Cert.In

open Idealize.ShloMosaic

/-- A row modulated by scale and shift. -/
def modulate (x sc sh : Fin 1024 → EReal) (k : Fin 1024) : EReal := x k * (1 + sc k) + sh k

/-- The product of a row with column `n` of a weight. -/
def times {w : Nat} (h : Fin 1024 → EReal) (W : Fin 1024 → Fin w → EReal) (n : Fin w) : EReal := ∑ k, h k * W k n

/-- The logistic function. -/
def logistic (z : EReal) : EReal := Ideal.div 1 (1 + Ideal.exp (-z))

/-- Token `r`'s modulated row, for the sub-layer with number `s`, from the activations and the modulation table. -/
def token (x : (⟨3, ![16, 4096, 1024]⟩ : Shape).Idx → EReal) (md : (⟨5, ![8, 3, 16, 1, 1024]⟩ : Shape).Idx → EReal) (s : Fin 8)
    (r : Fin 65536) : Fin 1024 → EReal :=
  modulate (fun k => x (ix3 (⟨r.val / 4096, by omega⟩ : Fin 16) (⟨r.val % 4096, by omega⟩ : Fin 4096) k))
    (fun k => md (ix5 s (1 : Fin 3) (⟨r.val / 4096, by omega⟩ : Fin 16) (0 : Fin 1) k))
    (fun k => md (ix5 s (0 : Fin 3) (⟨r.val / 4096, by omega⟩ : Fin 16) (0 : Fin 1) k))

/-- Row `r` of a matrix. -/
abbrev row {a b : Nat} (v : (⟨2, ![a, b]⟩ : Shape).Idx → EReal) (r : Fin a) (k : Fin b) : EReal := v (ix2 r k)

/-- The vector that a five-axis block of one row holds. -/
abbrev vec5 (v : (⟨5, ![1, 1, 1, 1, 1024]⟩ : Shape).Idx → EReal) (k : Fin 1024) : EReal := v (ix5 0 0 0 0 k)

/-- Two-axis indices with equal coordinates are equal. -/
theorem pair_ext {a b : Nat} (i i' : (⟨2, ![a, b]⟩ : Shape).Idx) (h0 : (i 0).val = (i' 0).val) (h1 : (i 1).val = (i' 1).val) :
    i = i' := funext fun a => Fin.ext (match a with | ⟨0, _⟩ => h0 | ⟨1, _⟩ => h1)

end Cert.In

end
-- ==== Proof.In.Hgrn.lean ====
/-
  Layer 2's input projection: what the kernel's body computes of its blocks, the blocks as elements of the arguments, the blocks
  written back, and the run.
-/
module

public import proofs.«01_k».proof.Proof.In.Row
public import proofs.«01_k».proof.Proof.Gen.Kernel3Ideal.Value
public import Idealize.ShloMosaic.Lib.Claim
public import Idealize.ShloMosaic.Lib.Pipeline.Value

@[expose] public section

set_option maxRecDepth 16384

noncomputable section

namespace Cert.In.Hgrn

open Idealize.ShloMosaic Idealize.ShloMosaic.TcCoe Idealize.SL.Sem Cert.Kernel3Ideal Cert.Kernel3Ideal.Gen

/-! ### The body's payloads, read at an index -/

theorem pay3_apply (x : Vec Ideal S512x1024 .f32) (sc sh : Vec Ideal S1x1x1x1x1024 .f32) (w : Vec Ideal S1024x1024 .bf16) (r : Fin 512) (j : Fin 1024) :
    k0_pay3 x sc sh w (ix2 r j) = times (modulate (row x r) (vec5 sc) (vec5 sh)) (row w) j := by
  pointwise [k0_pay3, k0_pay2]
  rfl

theorem pay4_apply (x : Vec Ideal S512x1024 .f32) (sc sh : Vec Ideal S1x1x1x1x1024 .f32) (w : Vec Ideal S1024x1024 .bf16) (r : Fin 512) (j : Fin 1024) :
    k0_pay4 x sc sh w (ix2 r j) = times (modulate (row x r) (vec5 sc) (vec5 sh)) (row w) j := by
  pointwise [k0_pay4, k0_pay2]
  rfl

theorem pay5_apply (x : Vec Ideal S512x1024 .f32) (sc sh : Vec Ideal S1x1x1x1x1024 .f32) (w : Vec Ideal S1024x1024 .bf16) (r : Fin 512) (j : Fin 1024) :
    k0_pay5 x sc sh w (ix2 r j) = times (modulate (row x r) (vec5 sc) (vec5 sh)) (row w) j := by
  pointwise [k0_pay5, k0_pay2]
  rfl

theorem pay1_apply (x : Vec Ideal S512x1024 .f32) (sc sh : Vec Ideal S1x1x1x1x1024 .f32) (w : Vec Ideal S1024x1024 .bf16) (r : Fin 512) (j : Fin 1024) :
    k0_pay1 (k0_pay2 x sc sh) w (ix2 r j) = times (modulate (row x r) (vec5 sc) (vec5 sh)) (row w) j
      * logistic (times (modulate (row x r) (vec5 sc) (vec5 sh)) (row w) j) := by
  pointwise [k0_pay1, k0_pay2]
  simp only [sub_eq_add_neg, zero_add]
  rfl

theorem ld_rows (x : Vec Ideal S512x1024 .f32) (r : Fin 512) : row (View.ld x r0_0 : Vec Ideal S512x1024 .f32) r = row x r :=
  funext fun k => congrArg x (pair_ext _ _ (by show 0 + 1 * r.val = r.val; omega) (by show 0 + 1 * k.val = k.val; omega))

theorem ld_vec5 (x : Vec Ideal S1x1x1x1x1024 .f32) : vec5 (View.ld x r0_1) = vec5 x :=
  funext fun k => congrArg x (funext fun a => Fin.ext (match a with
    | ⟨0, _⟩ => rfl | ⟨1, _⟩ => rfl | ⟨2, _⟩ => rfl | ⟨3, _⟩ => rfl | ⟨4, _⟩ => by show 0 + 1 * k.val = k.val; omega))

/-- The quarter of the weight that starts at column `o`. -/
abbrev quarter (w : (⟨2, ![1024, 4096]⟩ : Shape).Idx → EReal) (o : Fin 4) (k j : Fin 1024) : EReal :=
  w (ix2 k (⟨1024 * o.val + j.val, by omega⟩ : Fin 4096))

theorem ld_w0 (w : Vec Ideal S1024x4096 .bf16) : row (View.ld w r0_2 : Vec Ideal S1024x1024 .bf16) = quarter w 0 :=
  funext fun k => funext fun j => congrArg w (pair_ext _ _ (by show 0 + 1 * k.val = k.val; omega) (by show 0 + 1 * j.val = 1024 * 0 + j.val; omega))
theorem ld_w1 (w : Vec Ideal S1024x4096 .bf16) : row (View.ld w r0_3 : Vec Ideal S1024x1024 .bf16) = quarter w 1 :=
  funext fun k => funext fun j => congrArg w (pair_ext _ _ (by show 0 + 1 * k.val = k.val; omega) (by show 1024 + 1 * j.val = 1024 * 1 + j.val; omega))
theorem ld_w2 (w : Vec Ideal S1024x4096 .bf16) : row (View.ld w r0_4 : Vec Ideal S1024x1024 .bf16) = quarter w 2 :=
  funext fun k => funext fun j => congrArg w (pair_ext _ _ (by show 0 + 1 * k.val = k.val; omega) (by show 2048 + 1 * j.val = 1024 * 2 + j.val; omega))
theorem ld_w3 (w : Vec Ideal S1024x4096 .bf16) : row (View.ld w r0_5 : Vec Ideal S1024x1024 .bf16) = quarter w 3 :=
  funext fun k => funext fun j => congrArg w (pair_ext _ _ (by show 0 + 1 * k.val = k.val; omega) (by show 3072 + 1 * j.val = 1024 * 3 + j.val; omega))

theorem emb_whole (r : Fin 512) (j : Fin 1024) : (ix2 r j : S512x1024.Idx) = r0_0.emb (ix2 r j) :=
  pair_ext _ _ (show r.val = 0 + 1 * r.val by omega) (show j.val = 0 + 1 * j.val by omega)

section Body
variable (x0 : Vec Ideal S512x1024 .f32) (x1 x2 : Vec Ideal S1x1x1x1x1024 .f32) (x3 : Vec Ideal S1024x4096 .bf16) (r : Fin 512) (j : Fin 1024)

theorem out4_apply : out0_4 x0 x1 x2 x3 (ix2 r j) = times (modulate (row x0 r) (vec5 x2) (vec5 x1)) (quarter x3 0) j := by
  unfold out0_4
  rw [emb_whole, View.canon_cons_emb, pay3_apply, ld_rows, ld_vec5, ld_vec5, ld_w0]

theorem out5_apply : out0_5 x0 x1 x2 x3 (ix2 r j) = times (modulate (row x0 r) (vec5 x2) (vec5 x1)) (quarter x3 1) j := by
  unfold out0_5
  rw [emb_whole, View.canon_cons_emb, pay4_apply, ld_rows, ld_vec5, ld_vec5, ld_w1]

theorem out6_apply : out0_6 x0 x1 x2 x3 (ix2 r j) = times (modulate (row x0 r) (vec5 x2) (vec5 x1)) (quarter x3 2) j := by
  unfold out0_6
  rw [emb_whole, View.canon_cons_emb, pay5_apply, ld_rows, ld_vec5, ld_vec5, ld_w2]

theorem out7_apply : out0_7 x0 x1 x2 x3 (ix2 r j) = times (modulate (row x0 r) (vec5 x2) (vec5 x1)) (quarter x3 3) j
    * logistic (times (modulate (row x0 r) (vec5 x2) (vec5 x1)) (quarter x3 3) j) := by
  unfold out0_7
  rw [emb_whole, View.canon_cons_emb, pay1_apply, ld_rows, ld_vec5, ld_vec5, ld_w3]

end Body

/-! ### The blocks as elements of the arguments -/

variable (m : (ℓ : Loc nD τ sig) → Buf (Elt Ideal) ℓ) (ρ : Dev nD → PrngReg)

theorem N_le (t : Fin cfg0.N) : t.val < 128 := by exact lt_of_lt_of_eq t.isLt N_0

abbrev bigRow (t : Fin cfg0.N) (r : Fin 512) : Fin 65536 := ⟨512 * t.val + r.val, by have := N_le t; omega⟩

theorem index0 : ∀ t : Fin cfg0.N, win0_0.index t 0 = t.val ∧ win0_0.index t 1 = 0 := by decide +kernel
theorem index1 : ∀ t : Fin cfg0.N, win0_1.index t 0 = 4 ∧ win0_1.index t 1 = 0 ∧ win0_1.index t 2 = t.val / 8
    ∧ win0_1.index t 3 = 0 ∧ win0_1.index t 4 = 0 := by decide +kernel
theorem index2 : ∀ t : Fin cfg0.N, win0_2.index t 0 = 4 ∧ win0_2.index t 1 = 1 ∧ win0_2.index t 2 = t.val / 8
    ∧ win0_2.index t 3 = 0 ∧ win0_2.index t 4 = 0 := by decide +kernel
theorem index3 : ∀ t : Fin cfg0.N, win0_3.index t 0 = 0 ∧ win0_3.index t 1 = 0 := by decide +kernel

theorem v0_apply (c : Dev nD) (r : Fin 65536) (j : Fin 1024) : V m c main_v0 (ix2 r j)
    = m ((c : Thread nD τ).loc main_arg0) (ix3 (⟨r.val / 4096, by omega⟩ : Fin 16) (⟨r.val % 4096, by omega⟩ : Fin 4096) j) := by
  entry_read
  pointwise []

theorem v2_apply (c : Dev nD) (k : Fin 1024) (j : Fin 4096) : V m c main_v2 (ix2 k j) = m ((c : Thread nD τ).loc main_arg2) (ix3 (0 : Fin 1) k j) := by
  entry_read
  pointwise []

theorem iblk0_apply (c : Dev nD) (t : Fin cfg0.N) (r : Fin 512) (j : Fin 1024) :
    (iblk m c 0 t : Vec Ideal S512x1024 .f32) (ix2 r j) = V m c main_v0 (ix2 (bigRow t r) j) := by
  unfold iblk
  rw [View.read_apply, cast_eq]
  show V m c main_v0 _ = _
  refine congrArg _ (pair_ext _ _ ?_ ?_)
  · show win0_0.index t 0 * 512 + 1 * r.val = 512 * t.val + r.val
    rw [(index0 t).1]; omega
  · show win0_0.index t 1 * 1024 + 1 * j.val = j.val
    rw [(index0 t).2]; omega

theorem iblk3_apply (c : Dev nD) (t : Fin cfg0.N) (k : Fin 1024) (j : Fin 4096) :
    (iblk m c 3 t : Vec Ideal S1024x4096 .bf16) (ix2 k j) = V m c main_v2 (ix2 k j) := by
  unfold iblk
  rw [View.read_apply, cast_eq]
  show V m c main_v2 _ = _
  refine congrArg _ (pair_ext _ _ ?_ ?_)
  · show win0_3.index t 0 * 1024 + 1 * k.val = k.val
    rw [(index3 t).1]; omega
  · show win0_3.index t 1 * 4096 + 1 * j.val = j.val
    rw [(index3 t).2]; omega

abbrev seqOf (t : Fin cfg0.N) : Fin 16 := ⟨t.val / 8, by have := N_le t; omega⟩

theorem iblk1_apply (c : Dev nD) (t : Fin cfg0.N) (j : Fin 1024) :
    (iblk m c 1 t : Vec Ideal S1x1x1x1x1024 .f32) (ix5 0 0 0 0 j)
      = m ((c : Thread nD τ).loc main_arg1) (ix5 (4 : Fin 8) (0 : Fin 3) (seqOf t) (0 : Fin 1) j) := by
  unfold iblk
  rw [View.read_apply, cast_eq]
  show V m c main_arg1 _ = _
  rw [V_main_arg1]
  refine congrArg _ (funext fun a => Fin.ext ?_)
  match a with
  | ⟨0, _⟩ => show win0_1.index t 0 * 1 + 1 * 0 = 4; rw [(index1 t).1]
  | ⟨1, _⟩ => show win0_1.index t 1 * 1 + 1 * 0 = 0; rw [(index1 t).2.1]
  | ⟨2, _⟩ => show win0_1.index t 2 * 1 + 1 * 0 = t.val / 8; rw [(index1 t).2.2.1]; omega
  | ⟨3, _⟩ => show win0_1.index t 3 * 1 + 1 * 0 = 0; rw [(index1 t).2.2.2.1]
  | ⟨4, _⟩ => show win0_1.index t 4 * 1024 + 1 * j.val = j.val; rw [(index1 t).2.2.2.2]; omega

theorem iblk2_apply (c : Dev nD) (t : Fin cfg0.N) (j : Fin 1024) :
    (iblk m c 2 t : Vec Ideal S1x1x1x1x1024 .f32) (ix5 0 0 0 0 j)
      = m ((c : Thread nD τ).loc main_arg1) (ix5 (4 : Fin 8) (1 : Fin 3) (seqOf t) (0 : Fin 1) j) := by
  unfold iblk
  rw [View.read_apply, cast_eq]
  show V m c main_arg1 _ = _
  rw [V_main_arg1]
  refine congrArg _ (funext fun a => Fin.ext ?_)
  match a with
  | ⟨0, _⟩ => show win0_2.index t 0 * 1 + 1 * 0 = 4; rw [(index2 t).1]
  | ⟨1, _⟩ => show win0_2.index t 1 * 1 + 1 * 0 = 1; rw [(index2 t).2.1]
  | ⟨2, _⟩ => show win0_2.index t 2 * 1 + 1 * 0 = t.val / 8; rw [(index2 t).2.2.1]; omega
  | ⟨3, _⟩ => show win0_2.index t 3 * 1 + 1 * 0 = 0; rw [(index2 t).2.2.2.1]
  | ⟨4, _⟩ => show win0_2.index t 4 * 1024 + 1 * j.val = j.val; rw [(index2 t).2.2.2.2]; omega

theorem token_eq (c : Dev nD) (t : Fin cfg0.N) (r : Fin 512) :
    modulate (row (iblk m c 0 t : Vec Ideal S512x1024 .f32) r) (vec5 (iblk m c 2 t : Vec Ideal S1x1x1x1x1024 .f32)) (vec5 (iblk m c 1 t : Vec Ideal S1x1x1x1x1024 .f32))
      = token (m ((c : Thread nD τ).loc main_arg0)) (m ((c : Thread nD τ).loc main_arg1)) 4 (bigRow t r) := by
  have hs : seqOf t = ⟨(bigRow t r).val / 4096, by omega⟩ := Fin.ext (by show t.val / 8 = (512 * t.val + r.val) / 4096; omega)
  unfold token
  rw [← hs]
  have e0 : row (iblk m c 0 t : Vec Ideal S512x1024 .f32) r = fun k => m ((c : Thread nD τ).loc main_arg0) (ix3 (seqOf t) (⟨(bigRow t r).val % 4096, by omega⟩ : Fin 4096) k) :=
    funext fun k => (iblk0_apply m c t r k).trans (by rw [v0_apply, hs])
  rw [e0, show vec5 (iblk m c 2 t : Vec Ideal S1x1x1x1x1024 .f32) = _ from funext fun k => iblk2_apply m c t k,
    show vec5 (iblk m c 1 t : Vec Ideal S1x1x1x1x1024 .f32) = _ from funext fun k => iblk1_apply m c t k]

/-- A quarter of the argument's weight. -/
abbrev weight (w : (⟨3, ![1, 1024, 4096]⟩ : Shape).Idx → EReal) (o : Fin 4) (k j : Fin 1024) : EReal :=
  w (ix3 (0 : Fin 1) k (⟨1024 * o.val + j.val, by omega⟩ : Fin 4096))

theorem quarter_eq (c : Dev nD) (t : Fin cfg0.N) (o : Fin 4) :
    quarter (iblk m c 3 t : Vec Ideal S1024x4096 .bf16) o = weight (m ((c : Thread nD τ).loc main_arg2)) o :=
  funext fun k => funext fun j => (iblk3_apply m c t k _).trans (v2_apply m c k _)

/-! ### The results -/

/-- Element `j` of token `r`'s product with quarter `o` of the weight. -/
def projected (x : (⟨3, ![16, 4096, 1024]⟩ : Shape).Idx → EReal) (md : (⟨5, ![8, 3, 16, 1, 1024]⟩ : Shape).Idx → EReal)
    (w : (⟨3, ![1, 1024, 4096]⟩ : Shape).Idx → EReal) (o : Fin 4) (r : Fin 65536) (j : Fin 1024) : EReal :=
  times (token x md 4 r) (weight w o) j

abbrev proj (c : Dev nD) (o : Fin 4) (r : Fin 65536) (j : Fin 1024) : EReal :=
  projected (m ((c : Thread nD τ).loc main_arg0)) (m ((c : Thread nD τ).loc main_arg1)) (m ((c : Thread nD τ).loc main_arg2)) o r j

def res4 (c : Dev nD) : Buf (Elt Ideal) ((c : Thread nD τ).loc main_v3_0) := fun i => proj m c 0 (i 0) (i 1)
def res5 (c : Dev nD) : Buf (Elt Ideal) ((c : Thread nD τ).loc main_v3_1) := fun i => proj m c 1 (i 0) (i 1)
def res6 (c : Dev nD) : Buf (Elt Ideal) ((c : Thread nD τ).loc main_v3_2) := fun i => proj m c 2 (i 0) (i 1)
def res7 (c : Dev nD) : Buf (Elt Ideal) ((c : Thread nD τ).loc main_v3_3) := fun i => proj m c 3 (i 0) (i 1) * logistic (proj m c 3 (i 0) (i 1))

theorem index4 : ∀ t : Fin cfg0.N, win0_4.index t 0 = t.val ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel

theorem flushed4_eq (c : Dev nD) (t : Fin cfg0.N) :
    (dats m 0 c).flushed 4 t = (win0_4.blk t).view.read (Elt Ideal) (res4 m c) := by
  rw [Cert.Kernel3Ideal.Value.flushed4]
  funext i
  obtain ⟨r, j, rfl⟩ : ∃ (r : Fin 512) (j : Fin 1024), i = ix2 r j :=
    ⟨i 0, i 1, funext fun a => match a with | ⟨0, _⟩ => rfl | ⟨1, _⟩ => rfl⟩
  refine (out4_apply _ _ _ _ r j).trans ?_
  rw [token_eq, quarter_eq, View.read_apply, cast_eq]
  refine (show _ = res4 m c (ix2 (bigRow t r) j) from rfl).trans (congrArg (res4 m c) (pair_ext _ _ ?_ ?_))
  · show 512 * t.val + r.val = win0_4.index t 0 * 512 + 1 * r.val
    rw [(index4 t).1]; omega
  · show j.val = win0_4.index t 1 * 1024 + 1 * j.val
    rw [(index4 t).2]; omega

theorem cover4 (i : S65536x1024.Idx) : ∃ t : Fin cfg0.N, (cfg0.win 4).flush t = true ∧ i ∈ ((cfg0.win 4).blk t).view.set := by
  have h0 : (i 0 : Nat) < 65536 := (i 0).isLt
  have h1 : (i 1 : Nat) < 1024 := (i 1).isLt
  have ht : (i 0 : Nat) / 512 < cfg0.N := lt_of_lt_of_eq (by omega : (i 0 : Nat) / 512 < 128) N_0.symm
  refine ⟨⟨(i 0 : Nat) / 512, ht⟩, flush0_4 _, ?_⟩
  generalize hT : (⟨(i 0 : Nat) / 512, ht⟩ : Fin cfg0.N) = T
  have hv : T.val = (i 0 : Nat) / 512 := by rw [← hT]
  show i ∈ ((View.whole main_v3_0).slice (win0_4.rect T)).set
  rw [View.set_slice_whole, Rect.mem_set_unit]
  intro a
  match a with
  | ⟨0, _⟩ =>
    show win0_4.index T 0 * 512 ≤ (i 0 : Nat) ∧ (i 0 : Nat) < win0_4.index T 0 * 512 + 512
    rw [(index4 T).1, hv]
    omega
  | ⟨1, _⟩ =>
    show win0_4.index T 1 * 1024 ≤ (i 1 : Nat) ∧ (i 1 : Nat) < win0_4.index T 1 * 1024 + 1024
    rw [(index4 T).2]
    omega

theorem flushed5_eq (c : Dev nD) (t : Fin cfg0.N) :
    (dats m 0 c).flushed 5 t = (win0_5.blk t).view.read (Elt Ideal) (res5 m c) := by
  rw [Cert.Kernel3Ideal.Value.flushed5]
  funext i
  obtain ⟨r, j, rfl⟩ : ∃ (r : Fin 512) (j : Fin 1024), i = ix2 r j :=
    ⟨i 0, i 1, funext fun a => match a with | ⟨0, _⟩ => rfl | ⟨1, _⟩ => rfl⟩
  refine (out5_apply _ _ _ _ r j).trans ?_
  rw [token_eq, quarter_eq, View.read_apply, cast_eq]
  refine (show _ = res5 m c (ix2 (bigRow t r) j) from rfl).trans (congrArg (res5 m c) (pair_ext _ _ ?_ ?_))
  · show 512 * t.val + r.val = win0_5.index t 0 * 512 + 1 * r.val
    rw [(index5 t).1]; omega
  · show j.val = win0_5.index t 1 * 1024 + 1 * j.val
    rw [(index5 t).2]; omega

theorem cover5 (i : S65536x1024.Idx) : ∃ t : Fin cfg0.N, (cfg0.win 5).flush t = true ∧ i ∈ ((cfg0.win 5).blk t).view.set := by
  have h0 : (i 0 : Nat) < 65536 := (i 0).isLt
  have h1 : (i 1 : Nat) < 1024 := (i 1).isLt
  have ht : (i 0 : Nat) / 512 < cfg0.N := lt_of_lt_of_eq (by omega : (i 0 : Nat) / 512 < 128) N_0.symm
  refine ⟨⟨(i 0 : Nat) / 512, ht⟩, flush0_5 _, ?_⟩
  generalize hT : (⟨(i 0 : Nat) / 512, ht⟩ : Fin cfg0.N) = T
  have hv : T.val = (i 0 : Nat) / 512 := by rw [← hT]
  show i ∈ ((View.whole main_v3_1).slice (win0_5.rect T)).set
  rw [View.set_slice_whole, Rect.mem_set_unit]
  intro a
  match a with
  | ⟨0, _⟩ =>
    show win0_5.index T 0 * 512 ≤ (i 0 : Nat) ∧ (i 0 : Nat) < win0_5.index T 0 * 512 + 512
    rw [(index5 T).1, hv]
    omega
  | ⟨1, _⟩ =>
    show win0_5.index T 1 * 1024 ≤ (i 1 : Nat) ∧ (i 1 : Nat) < win0_5.index T 1 * 1024 + 1024
    rw [(index5 T).2]
    omega

theorem flushed6_eq (c : Dev nD) (t : Fin cfg0.N) :
    (dats m 0 c).flushed 6 t = (win0_6.blk t).view.read (Elt Ideal) (res6 m c) := by
  rw [Cert.Kernel3Ideal.Value.flushed6]
  funext i
  obtain ⟨r, j, rfl⟩ : ∃ (r : Fin 512) (j : Fin 1024), i = ix2 r j :=
    ⟨i 0, i 1, funext fun a => match a with | ⟨0, _⟩ => rfl | ⟨1, _⟩ => rfl⟩
  refine (out6_apply _ _ _ _ r j).trans ?_
  rw [token_eq, quarter_eq, View.read_apply, cast_eq]
  refine (show _ = res6 m c (ix2 (bigRow t r) j) from rfl).trans (congrArg (res6 m c) (pair_ext _ _ ?_ ?_))
  · show 512 * t.val + r.val = win0_6.index t 0 * 512 + 1 * r.val
    rw [(index6 t).1]; omega
  · show j.val = win0_6.index t 1 * 1024 + 1 * j.val
    rw [(index6 t).2]; omega

theorem cover6 (i : S65536x1024.Idx) : ∃ t : Fin cfg0.N, (cfg0.win 6).flush t = true ∧ i ∈ ((cfg0.win 6).blk t).view.set := by
  have h0 : (i 0 : Nat) < 65536 := (i 0).isLt
  have h1 : (i 1 : Nat) < 1024 := (i 1).isLt
  have ht : (i 0 : Nat) / 512 < cfg0.N := lt_of_lt_of_eq (by omega : (i 0 : Nat) / 512 < 128) N_0.symm
  refine ⟨⟨(i 0 : Nat) / 512, ht⟩, flush0_6 _, ?_⟩
  generalize hT : (⟨(i 0 : Nat) / 512, ht⟩ : Fin cfg0.N) = T
  have hv : T.val = (i 0 : Nat) / 512 := by rw [← hT]
  show i ∈ ((View.whole main_v3_2).slice (win0_6.rect T)).set
  rw [View.set_slice_whole, Rect.mem_set_unit]
  intro a
  match a with
  | ⟨0, _⟩ =>
    show win0_6.index T 0 * 512 ≤ (i 0 : Nat) ∧ (i 0 : Nat) < win0_6.index T 0 * 512 + 512
    rw [(index6 T).1, hv]
    omega
  | ⟨1, _⟩ =>
    show win0_6.index T 1 * 1024 ≤ (i 1 : Nat) ∧ (i 1 : Nat) < win0_6.index T 1 * 1024 + 1024
    rw [(index6 T).2]
    omega

theorem flushed7_eq (c : Dev nD) (t : Fin cfg0.N) :
    (dats m 0 c).flushed 7 t = (win0_7.blk t).view.read (Elt Ideal) (res7 m c) := by
  rw [Cert.Kernel3Ideal.Value.flushed7]
  funext i
  obtain ⟨r, j, rfl⟩ : ∃ (r : Fin 512) (j : Fin 1024), i = ix2 r j :=
    ⟨i 0, i 1, funext fun a => match a with | ⟨0, _⟩ => rfl | ⟨1, _⟩ => rfl⟩
  refine (out7_apply _ _ _ _ r j).trans ?_
  rw [token_eq, quarter_eq, View.read_apply, cast_eq]
  refine (show _ = res7 m c (ix2 (bigRow t r) j) from rfl).trans (congrArg (res7 m c) (pair_ext _ _ ?_ ?_))
  · show 512 * t.val + r.val = win0_7.index t 0 * 512 + 1 * r.val
    rw [(index7 t).1]; omega
  · show j.val = win0_7.index t 1 * 1024 + 1 * j.val
    rw [(index7 t).2]; omega

theorem cover7 (i : S65536x1024.Idx) : ∃ t : Fin cfg0.N, (cfg0.win 7).flush t = true ∧ i ∈ ((cfg0.win 7).blk t).view.set := by
  have h0 : (i 0 : Nat) < 65536 := (i 0).isLt
  have h1 : (i 1 : Nat) < 1024 := (i 1).isLt
  have ht : (i 0 : Nat) / 512 < cfg0.N := lt_of_lt_of_eq (by omega : (i 0 : Nat) / 512 < 128) N_0.symm
  refine ⟨⟨(i 0 : Nat) / 512, ht⟩, flush0_7 _, ?_⟩
  generalize hT : (⟨(i 0 : Nat) / 512, ht⟩ : Fin cfg0.N) = T
  have hv : T.val = (i 0 : Nat) / 512 := by rw [← hT]
  show i ∈ ((View.whole main_v3_3).slice (win0_7.rect T)).set
  rw [View.set_slice_whole, Rect.mem_set_unit]
  intro a
  match a with
  | ⟨0, _⟩ =>
    show win0_7.index T 0 * 512 ≤ (i 0 : Nat) ∧ (i 0 : Nat) < win0_7.index T 0 * 512 + 512
    rw [(index7 T).1, hv]
    omega
  | ⟨1, _⟩ =>
    show win0_7.index T 1 * 1024 ≤ (i 1 : Nat) ∧ (i 1 : Nat) < win0_7.index T 1 * 1024 + 1024
    rw [(index7 T).2]
    omega

/-- The run of the projection's program: the four result arrays are the ones above, the arguments are unchanged. -/
theorem run : θ_run defs (onTc (τ := τ) (main (F := Ideal))) ⟨m, fun _ => 0, ρ⟩ fun r => ∀ c : Dev nD,
      r.2.mem ((c : Thread nD τ).loc main_v3_0) = res4 m c
      ∧ r.2.mem ((c : Thread nD τ).loc main_v3_1) = res5 m c
      ∧ r.2.mem ((c : Thread nD τ).loc main_v3_2) = res6 m c
      ∧ r.2.mem ((c : Thread nD τ).loc main_v3_3) = res7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 4 (res4 m c) (fun t _ => flushed4_eq m c t) cover4),
      (h c).2.1.trans ((dats m 0 c).arrAt_eq_of_cover 5 (res5 m c) (fun t _ => flushed5_eq m c t) cover5),
      (h c).2.2.1.trans ((dats m 0 c).arrAt_eq_of_cover 6 (res6 m c) (fun t _ => flushed6_eq m c t) cover6),
      (h c).2.2.2.1.trans ((dats m 0 c).arrAt_eq_of_cover 7 (res7 m c) (fun t _ => flushed7_eq m c t) cover7), (h c).2.2.2.2⟩)
    (Cert.Kernel3Ideal.Value.run_blocks m ρ)

end Cert.In.Hgrn

end
-- ==== Proof.In.HgrnRef.lean ====
/-
  Layer 2's input projection as the reference has it, stage by stage, read at an index.
-/
module

public import proofs.«01_k».proof.Proof.In.Hgrn
public import proofs.«01_k».proof.Proof.Gen.Reference3Ideal.Read
public import proofs.«01_k».proof.Proof.Gen.Reference3Ideal.Run

@[expose] public section

set_option maxRecDepth 16384

noncomputable section

namespace Cert.In.HgrnRef

open Idealize.ShloMosaic Idealize.ShloMosaic.TcCoe Cert.Reference3Ideal Cert.Reference3Ideal.Read

variable (x0 : (⟨S16x4096x1024, .f32⟩ : BufTy).Contents (Elt Ideal)) (x1 : (⟨S8x3x16x1x1024, .f32⟩ : BufTy).Contents (Elt Ideal)) (x2 : (⟨S1x1024x4096, .f32⟩ : BufTy).Contents (Elt Ideal))

theorem v18_apply (p : Fin 16) (s : Fin 4096) (j : Fin 1024) :
    val_main_v18 (F := Ideal) x0 x1 (ix3 p s j) = modulate (fun k => x0 (ix3 p s k)) (fun k => x1 (ix5 (4 : Fin 8) (1 : Fin 3) p (0 : Fin 1) k))
      (fun k => x1 (ix5 (4 : Fin 8) (0 : Fin 3) p (0 : Fin 1) k)) j := by
  unfold val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst
  pointwise [] <;> rfl

theorem v20_apply (p : Fin 16) (s : Fin 4096) (j : Fin 4096) :
    val_main_v20 (F := Ideal) x0 x1 x2 (ix3 p s j) = times (fun k => val_main_v18 (F := Ideal) x0 x1 (ix3 p s k)) (fun k n => x2 (ix3 (0 : Fin 1) k n)) j := by
  unfold val_main_v20 val_main_v19
  generalize val_main_v18 (F := Ideal) x0 x1 = z
  pointwise [] <;> rfl

/-- The token's row is the same function of the arguments that the kernel computes. -/
theorem row_eq (r : Fin 65536) :
    (fun k => val_main_v18 (F := Ideal) x0 x1 (ix3 (⟨r.val / 4096, by omega⟩ : Fin 16) (⟨r.val % 4096, by omega⟩ : Fin 4096) k)) = token x0 x1 4 r :=
  funext fun k => v18_apply x0 x1 _ _ k

/-- An element of the product, as the function of the arguments that the kernel computes. -/
theorem v20_proj (o : Fin 4) (r : Fin 65536) (j : Fin 1024) :
    val_main_v20 (F := Ideal) x0 x1 x2 (ix3 (⟨r.val / 4096, by omega⟩ : Fin 16) (⟨r.val % 4096, by omega⟩ : Fin 4096) (⟨1024 * o.val + j.val, by omega⟩ : Fin 4096))
      = Hgrn.projected x0 x1 x2 o r j := by
  rw [v20_apply, row_eq]
  rfl

theorem v25_apply (r : Fin 65536) (j : Fin 1024) : val_main_v25 (F := Ideal) x0 x1 x2 (ix2 r j) = Hgrn.projected x0 x1 x2 0 r j := by
  refine Eq.trans ?_ (v20_proj x0 x1 x2 0 r j)
  refine Eq.trans (b := val_main_v20 (F := Ideal) x0 x1 x2 (ix3 (⟨r.val / 4096, by omega⟩ : Fin 16) (⟨r.val % 4096, by omega⟩ : Fin 4096) (⟨j.val, by omega⟩ : Fin 4096))) ?_ ?_
  · unfold val_main_v25 val_main_v21
    generalize val_main_v20 (F := Ideal) x0 x1 x2 = z
    pointwise [] <;> rfl
  · exact congrArg _ (congrArg _ (Fin.ext (by show _ = 1024 * 0 + j.val; simp only []; omega)))

theorem v26_apply (r : Fin 65536) (j : Fin 1024) : val_main_v26 (F := Ideal) x0 x1 x2 (ix2 r j) = Hgrn.projected x0 x1 x2 1 r j := by
  refine Eq.trans ?_ (v20_proj x0 x1 x2 1 r j)
  refine Eq.trans (b := val_main_v20 (F := Ideal) x0 x1 x2 (ix3 (⟨r.val / 4096, by omega⟩ : Fin 16) (⟨r.val % 4096, by omega⟩ : Fin 4096) (⟨1024 + j.val, by omega⟩ : Fin 4096))) ?_ ?_
  · unfold val_main_v26 val_main_v22
    generalize val_main_v20 (F := Ideal) x0 x1 x2 = z
    pointwise [] <;> rfl
  · exact congrArg _ (congrArg _ (Fin.ext (by show _ = 1024 * 1 + j.val; simp only [])))

theorem v28_apply (r : Fin 65536) (j : Fin 1024) : val_main_v28 (F := Ideal) x0 x1 x2 (ix2 r j) = Hgrn.projected x0 x1 x2 2 r j := by
  refine Eq.trans ?_ (v20_proj x0 x1 x2 2 r j)
  refine Eq.trans (b := val_main_v20 (F := Ideal) x0 x1 x2 (ix3 (⟨r.val / 4096, by omega⟩ : Fin 16) (⟨r.val % 4096, by omega⟩ : Fin 4096) (⟨2048 + j.val, by omega⟩ : Fin 4096))) ?_ ?_
  · unfold val_main_v28 val_main_v27 val_main_v23
    generalize val_main_v20 (F := Ideal) x0 x1 x2 = z
    pointwise [] <;> rfl
  · exact congrArg _ (congrArg _ (Fin.ext (by show _ = 1024 * 2 + j.val; simp only [])))

theorem v24_apply (r : Fin 65536) (j : Fin 1024) :
    val_main_v24 (F := Ideal) x0 x1 x2 (ix3 (⟨r.val / 4096, by omega⟩ : Fin 16) (⟨r.val % 4096, by omega⟩ : Fin 4096) j) = Hgrn.projected x0 x1 x2 3 r j := by
  refine Eq.trans ?_ (v20_proj x0 x1 x2 3 r j)
  unfold val_main_v24
  generalize val_main_v20 (F := Ideal) x0 x1 x2 = z
  pointwise [] <;> rfl

theorem v30_apply (r : Fin 65536) (j : Fin 1024) : val_main_v30 (F := Ideal) x0 x1 x2 (ix2 r j)
    = Hgrn.projected x0 x1 x2 3 r j * logistic (Hgrn.projected x0 x1 x2 3 r j) := by
  rw [← v24_apply]
  unfold val_main_v30 val_main_v29 val_main_call0_v5 val_main_call0_v4 val_main_call0_cst_0 val_main_call0_v3 val_main_call0_v2 val_main_call0_cst val_main_call0_v1 val_main_call0_v0
  generalize val_main_v24 (F := Ideal) x0 x1 x2 = z
  pointwise [] <;> rfl

end Cert.In.HgrnRef

end
-- ==== Proof.In.HgrnClaims.lean ====
/-
  The input projection of layer 2: the frames of its three programs, and the agreement of the kernel with the reference.
-/
module

public import proofs.«01_k».proof.Defs
public import proofs.«01_k».proof.Proof.Gen.Kernel3.Frame
public import proofs.«01_k».proof.Proof.Gen.Kernel3Ideal.Frame
public import proofs.«01_k».proof.Proof.In.HgrnRef
public import Idealize.ShloMosaic.Lib.Quiescent

@[expose] public section

set_option maxRecDepth 16384

noncomputable section

namespace Cert.In.Hgrn

open Idealize.ShloMosaic Idealize.ShloMosaic.TcCoe Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem preserves : Cert.preserves_Kernel3_Kernel3Ideal := trivial

/-- An index of a result is a pair of a token and a column. -/
theorem eq_pair (i : (⟨2, ![65536, 1024]⟩ : Shape).Idx) : ∃ (r : Fin 65536) (j : Fin 1024), i = ix2 r j :=
  ⟨i 0, i 1, funext fun a => match a with | ⟨0, _⟩ => rfl | ⟨1, _⟩ => rfl⟩

/-- Kernel and reference end with the same four result arrays. -/
theorem algebraic : Cert.algebraic_Kernel3Ideal_Reference3Ideal := by
  intro m ρ m' ρ' _ hagree
  refine ⟨fun c => res4 m c, fun c => res5 m c, fun c => res6 m c, fun c => res7 m c, run m ρ, ?_⟩
  refine (θ_run Cert.Reference3Ideal.defs _ _).mono (fun _ h c =>
      ⟨(h c).1.trans ?_, (h c).2.1.trans ?_, (h c).2.2.1.trans ?_, (h c).2.2.2.1.trans ?_, (h c).2.2.2.2⟩)
    (Cert.Reference3Ideal.Value.run (F := Ideal) m' ρ')
  · refine (Cert.Reference3Ideal.Read.val_main_v25_eq _ _ _).trans ?_
    obtain ⟨h0, h1, h2⟩ := hagree c
    rw [h0, h1, h2]
    funext i
    obtain ⟨r, j, rfl⟩ := eq_pair i
    exact Cert.In.HgrnRef.v25_apply _ _ _ r j
  · refine (Cert.Reference3Ideal.Read.val_main_v26_eq _ _ _).trans ?_
    obtain ⟨h0, h1, h2⟩ := hagree c
    rw [h0, h1, h2]
    funext i
    obtain ⟨r, j, rfl⟩ := eq_pair i
    exact Cert.In.HgrnRef.v26_apply _ _ _ r j
  · refine (Cert.Reference3Ideal.Read.val_main_v28_eq _ _ _).trans ?_
    obtain ⟨h0, h1, h2⟩ := hagree c
    rw [h0, h1, h2]
    funext i
    obtain ⟨r, j, rfl⟩ := eq_pair i
    exact Cert.In.HgrnRef.v28_apply _ _ _ r j
  · refine (Cert.Reference3Ideal.Read.val_main_v30_eq _ _ _).trans ?_
    obtain ⟨h0, h1, h2⟩ := hagree c
    rw [h0, h1, h2]
    funext i
    obtain ⟨r, j, rfl⟩ := eq_pair i
    exact Cert.In.HgrnRef.v30_apply _ _ _ r j

end Cert.In.Hgrn

end
-- ==== Proof.In.Mlstm.lean ====
/-
  Layer 0's input projection: what the kernel's body computes of its blocks.
-/
module

public import proofs.«01_k».proof.Proof.In.Row
public import proofs.«01_k».proof.Proof.Gen.Kernel4Ideal.Value
public import Idealize.ShloMosaic.Lib.Pipeline.Value

@[expose] public section

set_option maxRecDepth 16384

noncomputable section

namespace Cert.In.Mlstm

open Idealize.ShloMosaic Idealize.ShloMosaic.TcCoe Idealize.SL.Sem Cert.Kernel4Ideal Cert.Kernel4Ideal.Gen

/-- The factor of the keys, the inverse square root of their width, as the programs round it. -/
def keyScale : EReal := Scalar.ofBits (F := Ideal) .f32 0x3DB504F3#32

/-! ### The body's payloads, read at an index -/

section Payload
variable (x : Vec Ideal S512x1024 .f32) (sc sh : Vec Ideal S1x1x1x1x1024 .f32) (r : Fin 512)

theorem pay4_apply (w : Vec Ideal S1024x512 .bf16) (j : Fin 512) :
    k0_pay4 x sc sh w (ix2 r j) = times (modulate (row x r) (vec5 sc) (vec5 sh)) (row w) j := by
  pointwise [k0_pay4, k0_pay3]
  rfl

theorem pay5_apply (w : Vec Ideal S1024x512 .bf16) (j : Fin 512) :
    k0_pay5 x sc sh w (ix2 r j) = times (modulate (row x r) (vec5 sc) (vec5 sh)) (row w) j * keyScale := by
  pointwise [k0_pay5, k0_pay3]
  rfl

theorem pay6_apply (w : Vec Ideal S1024x1024 .bf16) (j : Fin 1024) :
    k0_pay6 x sc sh w (ix2 j r) = times (modulate (row x r) (vec5 sc) (vec5 sh)) (fun k n => w (ix2 n k)) j := by
  pointwise [k0_pay6, k0_pay3]
  exact Finset.sum_congr rfl fun k _ => mul_comm _ _

theorem pay1_apply (w : Vec Ideal S1024x1024 .bf16) (j : Fin 1024) :
    k0_pay1 (k0_pay3 x sc sh) w (ix2 j r) = logistic (times (modulate (row x r) (vec5 sc) (vec5 sh)) (fun k n => w (ix2 n k)) j) := by
  have e : times (modulate (row x r) (vec5 sc) (vec5 sh)) (fun k n => w (ix2 n k)) j
      = ∑ k, w (ix2 j k) * modulate (row x r) (vec5 sc) (vec5 sh) k := Finset.sum_congr rfl fun k _ => mul_comm _ _
  rw [e]
  pointwise [k0_pay1, k0_pay3]
  simp only [sub_eq_add_neg, zero_add]
  rfl

theorem pay2_apply (w : Vec Ideal S1024x128 .bf16) (b : Vec Ideal S1x128 .f32) (j : Fin 128) :
    k0_pay2 (k0_pay3 x sc sh) w b (ix2 r j) = times (modulate (row x r) (vec5 sc) (vec5 sh)) (row w) j + row b 0 j := by
  pointwise [k0_pay2, k0_pay3]
  rfl

end Payload

theorem ld_rows (x : Vec Ideal S512x1024 .f32) (r : Fin 512) : row (View.ld x r0_0 : Vec Ideal S512x1024 .f32) r = row x r :=
  funext fun k => congrArg x (pair_ext _ _ (by show 0 + 1 * r.val = r.val; omega) (by show 0 + 1 * k.val = k.val; omega))

theorem ld_vec5 (x : Vec Ideal S1x1x1x1x1024 .f32) : vec5 (View.ld x r0_1) = vec5 x :=
  funext fun k => congrArg x (funext fun a => Fin.ext (match a with
    | ⟨0, _⟩ => rfl | ⟨1, _⟩ => rfl | ⟨2, _⟩ => rfl | ⟨3, _⟩ => rfl | ⟨4, _⟩ => by show 0 + 1 * k.val = k.val; omega))

theorem ld_q (w : Vec Ideal S1024x1152 .bf16) : row (View.ld w r0_2 : Vec Ideal S1024x512 .bf16)
    = fun k j => w (ix2 k (⟨j.val, by omega⟩ : Fin 1152)) :=
  funext fun k => funext fun j => congrArg w (pair_ext _ _ (by show 0 + 1 * k.val = k.val; omega) (by show 0 + 1 * j.val = j.val; omega))
theorem ld_k (w : Vec Ideal S1024x1152 .bf16) : row (View.ld w r0_4 : Vec Ideal S1024x512 .bf16)
    = fun k j => w (ix2 k (⟨512 + j.val, by omega⟩ : Fin 1152)) :=
  funext fun k => funext fun j => congrArg w (pair_ext _ _ (by show 0 + 1 * k.val = k.val; omega) (by show 512 + 1 * j.val = 512 + j.val; omega))
theorem ld_g (w : Vec Ideal S1024x1152 .bf16) : row (View.ld w r0_7 : Vec Ideal S1024x128 .bf16)
    = fun k j => w (ix2 k (⟨1024 + j.val, by omega⟩ : Fin 1152)) :=
  funext fun k => funext fun j => congrArg w (pair_ext _ _ (by show 0 + 1 * k.val = k.val; omega) (by show 1024 + 1 * j.val = 1024 + j.val; omega))
theorem ld_t (w : Vec Ideal S1024x1024 .bf16) : (fun (k n : Fin 1024) => (View.ld w r0_5 : Vec Ideal S1024x1024 .bf16) (ix2 n k))
    = fun k n => w (ix2 n k) :=
  funext fun k => funext fun j => congrArg w (pair_ext _ _ (by show 0 + 1 * j.val = j.val; omega) (by show 0 + 1 * k.val = k.val; omega))
theorem ld_b (b : Vec Ideal S1x128 .f32) : row (View.ld b r0_8 : Vec Ideal S1x128 .f32) 0 = row b 0 :=
  funext fun k => congrArg b (pair_ext _ _ rfl (by show 0 + 1 * k.val = k.val; omega))

theorem emb_heads (r : Fin 512) (j : Fin 512) : (ix2 r j : S512x512.Idx) = r0_3.emb (ix2 r j) :=
  pair_ext _ _ (show r.val = 0 + 1 * r.val by omega) (show j.val = 0 + 1 * j.val by omega)
theorem emb_turned (j : Fin 1024) (r : Fin 512) : (ix2 j r : S1024x512.Idx) = r0_6.emb (ix2 j r) :=
  pair_ext _ _ (show j.val = 0 + 1 * j.val by omega) (show r.val = 0 + 1 * r.val by omega)
theorem emb_gates (r : Fin 512) (j : Fin 128) : (ix2 r j : S512x128.Idx) = r0_9.emb (ix2 r j) :=
  pair_ext _ _ (show r.val = 0 + 1 * r.val by omega) (show j.val = 0 + 1 * j.val by omega)

section Body
variable (x0 : Vec Ideal S512x1024 .f32) (x1 x2 : Vec Ideal S1x1x1x1x1024 .f32) (x3 : Vec Ideal S1024x1152 .bf16)
  (x4 x5 : Vec Ideal S1024x1024 .bf16) (x6 : Vec Ideal S1x128 .f32) (r : Fin 512)

theorem out7_apply (j : Fin 512) : out0_7 x0 x1 x2 x3 x4 x5 x6 (ix2 r j)
    = times (modulate (row x0 r) (vec5 x2) (vec5 x1)) (fun k j => x3 (ix2 k (⟨j.val, by omega⟩ : Fin 1152))) j := by
  unfold out0_7
  rw [emb_heads, View.canon_cons_emb, pay4_apply, ld_rows, ld_vec5, ld_vec5, ld_q]

theorem out8_apply (j : Fin 512) : out0_8 x0 x1 x2 x3 x4 x5 x6 (ix2 r j)
    = times (modulate (row x0 r) (vec5 x2) (vec5 x1)) (fun k j => x3 (ix2 k (⟨512 + j.val, by omega⟩ : Fin 1152))) j * keyScale := by
  unfold out0_8
  rw [emb_heads, View.canon_cons_emb, pay5_apply, ld_rows, ld_vec5, ld_vec5, ld_k]

theorem out9_apply (j : Fin 1024) : out0_9 x0 x1 x2 x3 x4 x5 x6 (ix2 j r)
    = times (modulate (row x0 r) (vec5 x2) (vec5 x1)) (fun k n => x4 (ix2 n k)) j := by
  unfold out0_9
  rw [emb_turned, View.canon_cons_emb, pay6_apply, ld_rows, ld_vec5, ld_vec5, ld_t]

theorem out10_apply (j : Fin 1024) : out0_10 x0 x1 x2 x3 x4 x5 x6 (ix2 j r)
    = logistic (times (modulate (row x0 r) (vec5 x2) (vec5 x1)) (fun k n => x5 (ix2 n k)) j) := by
  unfold out0_10
  rw [emb_turned, View.canon_cons_emb]
  refine (pay1_apply _ _ _ r _ j).trans ?_
  rw [ld_rows, ld_vec5, ld_vec5, ld_t]

theorem out11_apply (j : Fin 128) : out0_11 x0 x1 x2 x3 x4 x5 x6 (ix2 r j)
    = times (modulate (row x0 r) (vec5 x2) (vec5 x1)) (fun k j => x3 (ix2 k (⟨1024 + j.val, by omega⟩ : Fin 1152))) j + row x6 0 j := by
  unfold out0_11
  rw [emb_gates, View.canon_cons_emb]
  refine (pay2_apply _ _ _ r _ _ j).trans ?_
  rw [ld_rows, ld_vec5, ld_vec5, ld_g, ld_b]

end Body

end Cert.In.Mlstm

end
-- ==== Proof.In.MlstmRun.lean ====
/-
  Layer 0's input projection: the operands the host prepares, the blocks as elements of the arguments, the blocks written back,
  and the run.
-/
module

public import proofs.«01_k».proof.Proof.In.Mlstm
public import Idealize.ShloMosaic.Lib.Claim

@[expose] public section

set_option maxRecDepth 16384

noncomputable section

namespace Cert.In.Mlstm

open Idealize.ShloMosaic Idealize.ShloMosaic.TcCoe Idealize.SL.Sem Cert.Kernel4Ideal Cert.Kernel4Ideal.Gen

variable (m : (ℓ : Loc nD τ sig) → Buf (Elt Ideal) ℓ) (ρ : Dev nD → PrngReg)

/-! ### The operands that the host prepares -/

theorem pad_value : (FloatOps.sitofp FTy.f32 (0#32 : BitVec 32) : Ideal .f32) = (0 : EReal) := by
  show (((0#32 : BitVec 32).toInt : ℝ) : EReal) = 0
  simp

theorem v0_apply (c : Dev nD) (r : Fin 65536) (j : Fin 1024) : V m c main_v0 (ix2 r j)
    = m ((c : Thread nD τ).loc main_arg0) (ix3 (⟨r.val / 4096, by omega⟩ : Fin 16) (⟨r.val % 4096, by omega⟩ : Fin 4096) j) := by
  unfold V
  simp only [hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp
  pointwise []

theorem v9_apply (c : Dev nD) (j k : Fin 1024) : V m c main_v9 (ix2 j k)
    = m ((c : Thread nD τ).loc main_arg2) (ix3 (0 : Fin 1) k (⟨1024 + j.val, by omega⟩ : Fin 3080)) := by
  unfold V
  simp only [hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp
  pointwise []

theorem v12_apply (c : Dev nD) (j k : Fin 1024) : V m c main_v12 (ix2 j k)
    = m ((c : Thread nD τ).loc main_arg2) (ix3 (0 : Fin 1) k (⟨2048 + j.val, by omega⟩ : Fin 3080)) := by
  unfold V
  simp only [hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp
  pointwise []

theorem v15_apply (c : Dev nD) (j : Fin 128) : V m c main_v15 (ix2 (0 : Fin 1) j)
    = if h : j.val < 8 then m ((c : Thread nD τ).loc main_arg3) (ix2 (0 : Fin 1) (⟨j.val, h⟩ : Fin 8)) else (0 : EReal) := by
  unfold V
  simp only [hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp
  pointwise []
  exact dite_congr rfl (fun _ => rfl) (fun _ => pad_value)

/-- The joined and padded weight: the columns of queries and keys, those of the gates, zeros. -/
theorem v6_read (c : Dev nD) (k : Fin 1024) (j : Fin 1152) : V m c main_v6 (ix2 k j)
    = if h : j.val < 1032 then
        if h' : j.val < 1024 then m ((c : Thread nD τ).loc main_arg2) (ix3 (0 : Fin 1) k (⟨j.val, by omega⟩ : Fin 3080))
        else m ((c : Thread nD τ).loc main_arg2) (ix3 (0 : Fin 1) k (⟨3072 + (j.val - 1024), by omega⟩ : Fin 3080))
      else (0 : EReal) := by
  unfold V
  simp only [hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp
  pointwise []
  after_results_simp
  pointwise []
  exact dite_congr rfl (fun _ => rfl) (fun _ => pad_value)

theorem v6_head (c : Dev nD) (k : Fin 1024) (j : Fin 1152) (h : j.val < 1024) : V m c main_v6 (ix2 k j)
    = m ((c : Thread nD τ).loc main_arg2) (ix3 (0 : Fin 1) k (⟨j.val, by omega⟩ : Fin 3080)) := by
  rw [v6_read, dif_pos (by omega), dif_pos h]

theorem v6_gate (c : Dev nD) (k : Fin 1024) (j : Fin 128) : V m c main_v6 (ix2 k (⟨1024 + j.val, by omega⟩ : Fin 1152))
    = if h : j.val < 8 then m ((c : Thread nD τ).loc main_arg2) (ix3 (0 : Fin 1) k (⟨3072 + j.val, by omega⟩ : Fin 3080)) else (0 : EReal) := by
  rw [v6_read]
  by_cases h : j.val < 8
  · rw [dif_pos h, dif_pos (show 1024 + j.val < 1032 by omega), dif_neg (show ¬1024 + j.val < 1024 by omega)]
    exact congrArg _ (congrArg _ (Fin.ext (show 3072 + (1024 + j.val - 1024) = 3072 + j.val by omega)))
  · rw [dif_neg h, dif_neg (show ¬1024 + j.val < 1032 by omega)]

/-! ### The blocks as elements of the arguments -/

theorem N_le (t : Fin cfg0.N) : t.val < 128 := by exact lt_of_lt_of_eq t.isLt N_0

abbrev bigRow (t : Fin cfg0.N) (r : Fin 512) : Fin 65536 := ⟨512 * t.val + r.val, by have := N_le t; omega⟩

theorem index0 : ∀ t : Fin cfg0.N, win0_0.index t 0 = t.val ∧ win0_0.index t 1 = 0 := by decide +kernel
theorem index1 : ∀ t : Fin cfg0.N, win0_1.index t 0 = 0 ∧ win0_1.index t 1 = 0 ∧ win0_1.index t 2 = t.val / 8
    ∧ win0_1.index t 3 = 0 ∧ win0_1.index t 4 = 0 := by decide +kernel
theorem index2 : ∀ t : Fin cfg0.N, win0_2.index t 0 = 0 ∧ win0_2.index t 1 = 1 ∧ win0_2.index t 2 = t.val / 8
    ∧ win0_2.index t 3 = 0 ∧ win0_2.index t 4 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel

theorem iblk0_apply (c : Dev nD) (t : Fin cfg0.N) (r : Fin 512) (j : Fin 1024) :
    (iblk m c 0 t : Vec Ideal S512x1024 .f32) (ix2 r j) = V m c main_v0 (ix2 (bigRow t r) j) := by
  unfold iblk
  rw [View.read_apply, cast_eq]
  show V m c main_v0 _ = _
  refine congrArg _ (pair_ext _ _ ?_ ?_)
  · show win0_0.index t 0 * 512 + 1 * r.val = 512 * t.val + r.val
    rw [(index0 t).1]; omega
  · show win0_0.index t 1 * 1024 + 1 * j.val = j.val
    rw [(index0 t).2]; omega

theorem iblk3_apply (c : Dev nD) (t : Fin cfg0.N) (k : Fin 1024) (j : Fin 1152) :
    (iblk m c 3 t : Vec Ideal S1024x1152 .bf16) (ix2 k j) = V m c main_v6 (ix2 k j) := by
  unfold iblk
  rw [View.read_apply, cast_eq]
  show V m c main_v6 _ = _
  refine congrArg _ (pair_ext _ _ ?_ ?_)
  · show win0_3.index t 0 * 1024 + 1 * k.val = k.val
    rw [(index3 t).1]; omega
  · show win0_3.index t 1 * 1152 + 1 * j.val = j.val
    rw [(index3 t).2]; omega

theorem iblk4_apply (c : Dev nD) (t : Fin cfg0.N) (k : Fin 1024) (j : Fin 1024) :
    (iblk m c 4 t : Vec Ideal S1024x1024 .bf16) (ix2 k j) = V m c main_v9 (ix2 k j) := by
  unfold iblk
  rw [View.read_apply, cast_eq]
  show V m c main_v9 _ = _
  refine congrArg _ (pair_ext _ _ ?_ ?_)
  · show win0_4.index t 0 * 1024 + 1 * k.val = k.val
    rw [(index4 t).1]; omega
  · show win0_4.index t 1 * 1024 + 1 * j.val = j.val
    rw [(index4 t).2]; omega

theorem iblk5_apply (c : Dev nD) (t : Fin cfg0.N) (k : Fin 1024) (j : Fin 1024) :
    (iblk m c 5 t : Vec Ideal S1024x1024 .bf16) (ix2 k j) = V m c main_v12 (ix2 k j) := by
  unfold iblk
  rw [View.read_apply, cast_eq]
  show V m c main_v12 _ = _
  refine congrArg _ (pair_ext _ _ ?_ ?_)
  · show win0_5.index t 0 * 1024 + 1 * k.val = k.val
    rw [(index5 t).1]; omega
  · show win0_5.index t 1 * 1024 + 1 * j.val = j.val
    rw [(index5 t).2]; omega

theorem iblk6_apply (c : Dev nD) (t : Fin cfg0.N) (k : Fin 1) (j : Fin 128) :
    (iblk m c 6 t : Vec Ideal S1x128 .f32) (ix2 k j) = V m c main_v15 (ix2 k j) := by
  unfold iblk
  rw [View.read_apply, cast_eq]
  show V m c main_v15 _ = _
  refine congrArg _ (pair_ext _ _ ?_ ?_)
  · show win0_6.index t 0 * 1 + 1 * k.val = k.val
    rw [(index6 t).1]; omega
  · show win0_6.index t 1 * 128 + 1 * j.val = j.val
    rw [(index6 t).2]; omega

abbrev seqOf (t : Fin cfg0.N) : Fin 16 := ⟨t.val / 8, by have := N_le t; omega⟩

theorem iblk1_apply (c : Dev nD) (t : Fin cfg0.N) (j : Fin 1024) :
    (iblk m c 1 t : Vec Ideal S1x1x1x1x1024 .f32) (ix5 0 0 0 0 j)
      = m ((c : Thread nD τ).loc main_arg1) (ix5 (0 : Fin 8) (0 : Fin 3) (seqOf t) (0 : Fin 1) j) := by
  unfold iblk
  rw [View.read_apply, cast_eq]
  show V m c main_arg1 _ = _
  rw [V_main_arg1]
  refine congrArg _ (funext fun a => Fin.ext ?_)
  match a with
  | ⟨0, _⟩ => show win0_1.index t 0 * 1 + 1 * 0 = 0; rw [(index1 t).1]
  | ⟨1, _⟩ => show win0_1.index t 1 * 1 + 1 * 0 = 0; rw [(index1 t).2.1]
  | ⟨2, _⟩ => show win0_1.index t 2 * 1 + 1 * 0 = t.val / 8; rw [(index1 t).2.2.1]; omega
  | ⟨3, _⟩ => show win0_1.index t 3 * 1 + 1 * 0 = 0; rw [(index1 t).2.2.2.1]
  | ⟨4, _⟩ => show win0_1.index t 4 * 1024 + 1 * j.val = j.val; rw [(index1 t).2.2.2.2]; omega

theorem iblk2_apply (c : Dev nD) (t : Fin cfg0.N) (j : Fin 1024) :
    (iblk m c 2 t : Vec Ideal S1x1x1x1x1024 .f32) (ix5 0 0 0 0 j)
      = m ((c : Thread nD τ).loc main_arg1) (ix5 (0 : Fin 8) (1 : Fin 3) (seqOf t) (0 : Fin 1) j) := by
  unfold iblk
  rw [View.read_apply, cast_eq]
  show V m c main_arg1 _ = _
  rw [V_main_arg1]
  refine congrArg _ (funext fun a => Fin.ext ?_)
  match a with
  | ⟨0, _⟩ => show win0_2.index t 0 * 1 + 1 * 0 = 0; rw [(index2 t).1]
  | ⟨1, _⟩ => show win0_2.index t 1 * 1 + 1 * 0 = 1; rw [(index2 t).2.1]
  | ⟨2, _⟩ => show win0_2.index t 2 * 1 + 1 * 0 = t.val / 8; rw [(index2 t).2.2.1]; omega
  | ⟨3, _⟩ => show win0_2.index t 3 * 1 + 1 * 0 = 0; rw [(index2 t).2.2.2.1]
  | ⟨4, _⟩ => show win0_2.index t 4 * 1024 + 1 * j.val = j.val; rw [(index2 t).2.2.2.2]; omega

theorem token_eq (c : Dev nD) (t : Fin cfg0.N) (r : Fin 512) :
    modulate (row (iblk m c 0 t : Vec Ideal S512x1024 .f32) r) (vec5 (iblk m c 2 t : Vec Ideal S1x1x1x1x1024 .f32)) (vec5 (iblk m c 1 t : Vec Ideal S1x1x1x1x1024 .f32))
      = token (m ((c : Thread nD τ).loc main_arg0)) (m ((c : Thread nD τ).loc main_arg1)) 0 (bigRow t r) := by
  have hs : seqOf t = ⟨(bigRow t r).val / 4096, by omega⟩ := Fin.ext (by show t.val / 8 = (512 * t.val + r.val) / 4096; omega)
  unfold token
  rw [← hs]
  have e0 : row (iblk m c 0 t : Vec Ideal S512x1024 .f32) r = fun k => m ((c : Thread nD τ).loc main_arg0) (ix3 (seqOf t) (⟨(bigRow t r).val % 4096, by omega⟩ : Fin 4096) k) :=
    funext fun k => (iblk0_apply m c t r k).trans (by rw [v0_apply, hs])
  rw [e0, show vec5 (iblk m c 2 t : Vec Ideal S1x1x1x1x1024 .f32) = _ from funext fun k => iblk2_apply m c t k,
    show vec5 (iblk m c 1 t : Vec Ideal S1x1x1x1x1024 .f32) = _ from funext fun k => iblk1_apply m c t k]

/-! ### The results -/

/-- Element `n` of token `r`'s product with the weight. -/
def projected (x : (⟨3, ![16, 4096, 1024]⟩ : Shape).Idx → EReal) (md : (⟨5, ![8, 3, 16, 1, 1024]⟩ : Shape).Idx → EReal)
    (w : (⟨3, ![1, 1024, 3080]⟩ : Shape).Idx → EReal) (r : Fin 65536) (n : Fin 3080) : EReal :=
  times (token x md 0 r) (fun k n => w (ix3 (0 : Fin 1) k n)) n

/-- Lane `j` of token `r`'s gates: the eight gates with their bias, zeros behind them. -/
def gate (x : (⟨3, ![16, 4096, 1024]⟩ : Shape).Idx → EReal) (md : (⟨5, ![8, 3, 16, 1, 1024]⟩ : Shape).Idx → EReal)
    (w : (⟨3, ![1, 1024, 3080]⟩ : Shape).Idx → EReal) (b : (⟨2, ![1, 8]⟩ : Shape).Idx → EReal) (r : Fin 65536) (j : Fin 128) : EReal :=
  if h : j.val < 8 then projected x md w r (⟨3072 + j.val, by omega⟩ : Fin 3080) + b (ix2 (0 : Fin 1) (⟨j.val, h⟩ : Fin 8)) else 0

abbrev proj (c : Dev nD) (r : Fin 65536) (n : Fin 3080) : EReal :=
  projected (m ((c : Thread nD τ).loc main_arg0)) (m ((c : Thread nD τ).loc main_arg1)) (m ((c : Thread nD τ).loc main_arg2)) r n

theorem weight3 (c : Dev nD) (t : Fin cfg0.N) (k : Fin 1024) (j : Fin 1152) (h : j.val < 1024) :
    (iblk m c 3 t : Vec Ideal S1024x1152 .bf16) (ix2 k j) = m ((c : Thread nD τ).loc main_arg2) (ix3 (0 : Fin 1) k (⟨j.val, by omega⟩ : Fin 3080)) :=
  (iblk3_apply m c t k j).trans (v6_head m c k j h)

theorem gate_eq (c : Dev nD) (t : Fin cfg0.N) (h : Fin 1024 → EReal) (j : Fin 128) :
    times h (fun k j => (iblk m c 3 t : Vec Ideal S1024x1152 .bf16) (ix2 k (⟨1024 + j.val, by omega⟩ : Fin 1152))) j + row (iblk m c 6 t : Vec Ideal S1x128 .f32) 0 j
      = if hj : j.val < 8 then times h (fun k n => m ((c : Thread nD τ).loc main_arg2) (ix3 (0 : Fin 1) k n)) (⟨3072 + j.val, by omega⟩ : Fin 3080)
          + m ((c : Thread nD τ).loc main_arg3) (ix2 (0 : Fin 1) (⟨j.val, hj⟩ : Fin 8)) else (0 : EReal) := by
  have eb : row (iblk m c 6 t : Vec Ideal S1x128 .f32) 0 j = _ := (iblk6_apply m c t 0 j).trans (v15_apply m c j)
  have ew : ∀ k : Fin 1024, (iblk m c 3 t : Vec Ideal S1024x1152 .bf16) (ix2 k (⟨1024 + j.val, by omega⟩ : Fin 1152)) = _ :=
    fun k => (iblk3_apply m c t k _).trans (v6_gate m c k j)
  have et : times h (fun k j => (iblk m c 3 t : Vec Ideal S1024x1152 .bf16) (ix2 k (⟨1024 + j.val, by omega⟩ : Fin 1152))) j = _ :=
    Finset.sum_congr rfl fun k _ => congrArg (h k * ·) (ew k)
  rw [et, eb]
  by_cases hj : j.val < 8
  · simp only [dif_pos hj]
    rfl
  · simp only [dif_neg hj, mul_zero, Finset.sum_const_zero, add_zero]

def res7 (c : Dev nD) : Buf (Elt Ideal) ((c : Thread nD τ).loc main_v16_0) :=
  fun (i : S65536x512.Idx) => proj m c (i 0) (⟨(i 1).val, by have : (i 1).val < 512 := (i 1).isLt; omega⟩ : Fin 3080)
def res8 (c : Dev nD) : Buf (Elt Ideal) ((c : Thread nD τ).loc main_v16_1) :=
  fun (i : S65536x512.Idx) => proj m c (i 0) (⟨512 + (i 1).val, by have : (i 1).val < 512 := (i 1).isLt; omega⟩ : Fin 3080) * keyScale
def res9 (c : Dev nD) : Buf (Elt Ideal) ((c : Thread nD τ).loc main_v16_2) :=
  fun (i : S1024x65536.Idx) => proj m c (i 1) (⟨1024 + (i 0).val, by have : (i 0).val < 1024 := (i 0).isLt; omega⟩ : Fin 3080)
def res10 (c : Dev nD) : Buf (Elt Ideal) ((c : Thread nD τ).loc main_v16_3) :=
  fun (i : S1024x65536.Idx) => logistic (proj m c (i 1) (⟨2048 + (i 0).val, by have : (i 0).val < 1024 := (i 0).isLt; omega⟩ : Fin 3080))
def res11 (c : Dev nD) : Buf (Elt Ideal) ((c : Thread nD τ).loc main_v16_4) :=
  fun (i : S65536x128.Idx) => gate (m ((c : Thread nD τ).loc main_arg0)) (m ((c : Thread nD τ).loc main_arg1)) (m ((c : Thread nD τ).loc main_arg2))
    (m ((c : Thread nD τ).loc main_arg3)) (i 0) (i 1)

theorem index7 : ∀ t : Fin cfg0.N, win0_7.index t 0 = t.val ∧ win0_7.index t 1 = 0 := by decide +kernel
theorem index8 : ∀ t : Fin cfg0.N, win0_8.index t 0 = t.val ∧ win0_8.index t 1 = 0 := by decide +kernel
theorem index9 : ∀ t : Fin cfg0.N, win0_9.index t 0 = 0 ∧ win0_9.index t 1 = t.val := by decide +kernel
theorem index10 : ∀ t : Fin cfg0.N, win0_10.index t 0 = 0 ∧ win0_10.index t 1 = t.val := by decide +kernel
theorem index11 : ∀ t : Fin cfg0.N, win0_11.index t 0 = t.val ∧ win0_11.index t 1 = 0 := by decide +kernel

theorem flushed7_eq (c : Dev nD) (t : Fin cfg0.N) :
    (dats m 0 c).flushed 7 t = (win0_7.blk t).view.read (Elt Ideal) (res7 m c) := by
  rw [Cert.Kernel4Ideal.Value.flushed7]
  funext i
  obtain ⟨r, j, rfl⟩ : ∃ (r : Fin 512) (j : Fin 512), i = ix2 r j :=
    ⟨i 0, i 1, funext fun a => match a with | ⟨0, _⟩ => rfl | ⟨1, _⟩ => rfl⟩
  refine (out7_apply _ _ _ _ _ _ _ r j).trans ?_
  rw [token_eq, View.read_apply, cast_eq]
  refine (congrArg (fun W => times _ W j) (funext fun k => funext fun j => weight3 m c t k _ (by show j.val < 1024; omega))).trans ?_
  refine (show _ = res7 m c (ix2 (bigRow t r) j) from rfl).trans (congrArg (res7 m c) (pair_ext _ _ ?_ ?_))
  · show 512 * t.val + r.val = win0_7.index t 0 * 512 + 1 * r.val
    rw [(index7 t).1]; omega
  · show j.val = win0_7.index t 1 * 512 + 1 * j.val
    rw [(index7 t).2]; omega

theorem cover7 (i : S65536x512.Idx) : ∃ t : Fin cfg0.N, (cfg0.win 7).flush t = true ∧ i ∈ ((cfg0.win 7).blk t).view.set := by
  have h0 : (i 0 : Nat) < 65536 := (i 0).isLt
  have h1 : (i 1 : Nat) < 512 := (i 1).isLt
  have ht : (i 0 : Nat) / 512 < cfg0.N := lt_of_lt_of_eq (by omega : (i 0 : Nat) / 512 < 128) N_0.symm
  refine ⟨⟨(i 0 : Nat) / 512, ht⟩, flush0_7 _, ?_⟩
  generalize hT : (⟨(i 0 : Nat) / 512, ht⟩ : Fin cfg0.N) = T
  have hv : T.val = (i 0 : Nat) / 512 := by rw [← hT]
  show i ∈ ((View.whole main_v16_0).slice (win0_7.rect T)).set
  rw [View.set_slice_whole, Rect.mem_set_unit]
  intro a
  match a with
  | ⟨0, _⟩ =>
    show win0_7.index T 0 * 512 ≤ (i 0 : Nat) ∧ (i 0 : Nat) < win0_7.index T 0 * 512 + 512
    rw [(index7 T).1, hv]
    omega
  | ⟨1, _⟩ =>
    show win0_7.index T 1 * 512 ≤ (i 1 : Nat) ∧ (i 1 : Nat) < win0_7.index T 1 * 512 + 512
    rw [(index7 T).2]
    omega

theorem flushed8_eq (c : Dev nD) (t : Fin cfg0.N) :
    (dats m 0 c).flushed 8 t = (win0_8.blk t).view.read (Elt Ideal) (res8 m c) := by
  rw [Cert.Kernel4Ideal.Value.flushed8]
  funext i
  obtain ⟨r, j, rfl⟩ : ∃ (r : Fin 512) (j : Fin 512), i = ix2 r j :=
    ⟨i 0, i 1, funext fun a => match a with | ⟨0, _⟩ => rfl | ⟨1, _⟩ => rfl⟩
  refine (out8_apply _ _ _ _ _ _ _ r j).trans ?_
  rw [token_eq, View.read_apply, cast_eq]
  refine (congrArg (fun W => times _ W j * keyScale) (funext fun k => funext fun j => weight3 m c t k _ (by show 512 + j.val < 1024; omega))).trans ?_
  refine (show _ = res8 m c (ix2 (bigRow t r) j) from rfl).trans (congrArg (res8 m c) (pair_ext _ _ ?_ ?_))
  · show 512 * t.val + r.val = win0_8.index t 0 * 512 + 1 * r.val
    rw [(index8 t).1]; omega
  · show j.val = win0_8.index t 1 * 512 + 1 * j.val
    rw [(index8 t).2]; omega

theorem cover8 (i : S65536x512.Idx) : ∃ t : Fin cfg0.N, (cfg0.win 8).flush t = true ∧ i ∈ ((cfg0.win 8).blk t).view.set := by
  have h0 : (i 0 : Nat) < 65536 := (i 0).isLt
  have h1 : (i 1 : Nat) < 512 := (i 1).isLt
  have ht : (i 0 : Nat) / 512 < cfg0.N := lt_of_lt_of_eq (by omega : (i 0 : Nat) / 512 < 128) N_0.symm
  refine ⟨⟨(i 0 : Nat) / 512, ht⟩, flush0_8 _, ?_⟩
  generalize hT : (⟨(i 0 : Nat) / 512, ht⟩ : Fin cfg0.N) = T
  have hv : T.val = (i 0 : Nat) / 512 := by rw [← hT]
  show i ∈ ((View.whole main_v16_1).slice (win0_8.rect T)).set
  rw [View.set_slice_whole, Rect.mem_set_unit]
  intro a
  match a with
  | ⟨0, _⟩ =>
    show win0_8.index T 0 * 512 ≤ (i 0 : Nat) ∧ (i 0 : Nat) < win0_8.index T 0 * 512 + 512
    rw [(index8 T).1, hv]
    omega
  | ⟨1, _⟩ =>
    show win0_8.index T 1 * 512 ≤ (i 1 : Nat) ∧ (i 1 : Nat) < win0_8.index T 1 * 512 + 512
    rw [(index8 T).2]
    omega

theorem flushed9_eq (c : Dev nD) (t : Fin cfg0.N) :
    (dats m 0 c).flushed 9 t = (win0_9.blk t).view.read (Elt Ideal) (res9 m c) := by
  rw [Cert.Kernel4Ideal.Value.flushed9]
  funext i
  obtain ⟨j, r, rfl⟩ : ∃ (j : Fin 1024) (r : Fin 512), i = ix2 j r :=
    ⟨i 0, i 1, funext fun a => match a with | ⟨0, _⟩ => rfl | ⟨1, _⟩ => rfl⟩
  refine (out9_apply _ _ _ _ _ _ _ r j).trans ?_
  rw [token_eq, View.read_apply, cast_eq]
  refine (congrArg (fun W => times _ W j) (funext fun k => funext fun n => (iblk4_apply m c t n k).trans (v9_apply m c n k))).trans ?_
  refine (show _ = res9 m c (ix2 j (bigRow t r)) from rfl).trans (congrArg (res9 m c) (pair_ext _ _ ?_ ?_))
  · show j.val = win0_9.index t 0 * 1024 + 1 * j.val
    rw [(index9 t).1]; omega
  · show 512 * t.val + r.val = win0_9.index t 1 * 512 + 1 * r.val
    rw [(index9 t).2]; omega

theorem cover9 (i : S1024x65536.Idx) : ∃ t : Fin cfg0.N, (cfg0.win 9).flush t = true ∧ i ∈ ((cfg0.win 9).blk t).view.set := by
  have h0 : (i 0 : Nat) < 1024 := (i 0).isLt
  have h1 : (i 1 : Nat) < 65536 := (i 1).isLt
  have ht : (i 1 : Nat) / 512 < cfg0.N := lt_of_lt_of_eq (by omega : (i 1 : Nat) / 512 < 128) N_0.symm
  refine ⟨⟨(i 1 : Nat) / 512, ht⟩, flush0_9 _, ?_⟩
  generalize hT : (⟨(i 1 : Nat) / 512, ht⟩ : Fin cfg0.N) = T
  have hv : T.val = (i 1 : Nat) / 512 := by rw [← hT]
  show i ∈ ((View.whole main_v16_2).slice (win0_9.rect T)).set
  rw [View.set_slice_whole, Rect.mem_set_unit]
  intro a
  match a with
  | ⟨0, _⟩ =>
    show win0_9.index T 0 * 1024 ≤ (i 0 : Nat) ∧ (i 0 : Nat) < win0_9.index T 0 * 1024 + 1024
    rw [(index9 T).1]
    omega
  | ⟨1, _⟩ =>
    show win0_9.index T 1 * 512 ≤ (i 1 : Nat) ∧ (i 1 : Nat) < win0_9.index T 1 * 512 + 512
    rw [(index9 T).2, hv]
    omega

theorem flushed10_eq (c : Dev nD) (t : Fin cfg0.N) :
    (dats m 0 c).flushed 10 t = (win0_10.blk t).view.read (Elt Ideal) (res10 m c) := by
  rw [Cert.Kernel4Ideal.Value.flushed10]
  funext i
  obtain ⟨j, r, rfl⟩ : ∃ (j : Fin 1024) (r : Fin 512), i = ix2 j r :=
    ⟨i 0, i 1, funext fun a => match a with | ⟨0, _⟩ => rfl | ⟨1, _⟩ => rfl⟩
  refine (out10_apply _ _ _ _ _ _ _ r j).trans ?_
  rw [token_eq, View.read_apply, cast_eq]
  refine (congrArg (fun W => logistic (times _ W j)) (funext fun k => funext fun n => (iblk5_apply m c t n k).trans (v12_apply m c n k))).trans ?_
  refine (show _ = res10 m c (ix2 j (bigRow t r)) from rfl).trans (congrArg (res10 m c) (pair_ext _ _ ?_ ?_))
  · show j.val = win0_10.index t 0 * 1024 + 1 * j.val
    rw [(index10 t).1]; omega
  · show 512 * t.val + r.val = win0_10.index t 1 * 512 + 1 * r.val
    rw [(index10 t).2]; omega

theorem cover10 (i : S1024x65536.Idx) : ∃ t : Fin cfg0.N, (cfg0.win 10).flush t = true ∧ i ∈ ((cfg0.win 10).blk t).view.set := by
  have h0 : (i 0 : Nat) < 1024 := (i 0).isLt
  have h1 : (i 1 : Nat) < 65536 := (i 1).isLt
  have ht : (i 1 : Nat) / 512 < cfg0.N := lt_of_lt_of_eq (by omega : (i 1 : Nat) / 512 < 128) N_0.symm
  refine ⟨⟨(i 1 : Nat) / 512, ht⟩, flush0_10 _, ?_⟩
  generalize hT : (⟨(i 1 : Nat) / 512, ht⟩ : Fin cfg0.N) = T
  have hv : T.val = (i 1 : Nat) / 512 := by rw [← hT]
  show i ∈ ((View.whole main_v16_3).slice (win0_10.rect T)).set
  rw [View.set_slice_whole, Rect.mem_set_unit]
  intro a
  match a with
  | ⟨0, _⟩ =>
    show win0_10.index T 0 * 1024 ≤ (i 0 : Nat) ∧ (i 0 : Nat) < win0_10.index T 0 * 1024 + 1024
    rw [(index10 T).1]
    omega
  | ⟨1, _⟩ =>
    show win0_10.index T 1 * 512 ≤ (i 1 : Nat) ∧ (i 1 : Nat) < win0_10.index T 1 * 512 + 512
    rw [(index10 T).2, hv]
    omega

theorem flushed11_eq (c : Dev nD) (t : Fin cfg0.N) :
    (dats m 0 c).flushed 11 t = (win0_11.blk t).view.read (Elt Ideal) (res11 m c) := by
  rw [Cert.Kernel4Ideal.Value.flushed11]
  funext i
  obtain ⟨r, j, rfl⟩ : ∃ (r : Fin 512) (j : Fin 128), i = ix2 r j :=
    ⟨i 0, i 1, funext fun a => match a with | ⟨0, _⟩ => rfl | ⟨1, _⟩ => rfl⟩
  refine (out11_apply _ _ _ _ _ _ _ r j).trans ?_
  rw [token_eq, View.read_apply, cast_eq]
  refine (gate_eq m c t _ j).trans ?_
  refine (show _ = res11 m c (ix2 (bigRow t r) j) from rfl).trans (congrArg (res11 m c) (pair_ext _ _ ?_ ?_))
  · show 512 * t.val + r.val = win0_11.index t 0 * 512 + 1 * r.val
    rw [(index11 t).1]; omega
  · show j.val = win0_11.index t 1 * 128 + 1 * j.val
    rw [(index11 t).2]; omega

theorem cover11 (i : S65536x128.Idx) : ∃ t : Fin cfg0.N, (cfg0.win 11).flush t = true ∧ i ∈ ((cfg0.win 11).blk t).view.set := by
  have h0 : (i 0 : Nat) < 65536 := (i 0).isLt
  have h1 : (i 1 : Nat) < 128 := (i 1).isLt
  have ht : (i 0 : Nat) / 512 < cfg0.N := lt_of_lt_of_eq (by omega : (i 0 : Nat) / 512 < 128) N_0.symm
  refine ⟨⟨(i 0 : Nat) / 512, ht⟩, flush0_11 _, ?_⟩
  generalize hT : (⟨(i 0 : Nat) / 512, ht⟩ : Fin cfg0.N) = T
  have hv : T.val = (i 0 : Nat) / 512 := by rw [← hT]
  show i ∈ ((View.whole main_v16_4).slice (win0_11.rect T)).set
  rw [View.set_slice_whole, Rect.mem_set_unit]
  intro a
  match a with
  | ⟨0, _⟩ =>
    show win0_11.index T 0 * 512 ≤ (i 0 : Nat) ∧ (i 0 : Nat) < win0_11.index T 0 * 512 + 512
    rw [(index11 T).1, hv]
    omega
  | ⟨1, _⟩ =>
    show win0_11.index T 1 * 128 ≤ (i 1 : Nat) ∧ (i 1 : Nat) < win0_11.index T 1 * 128 + 128
    rw [(index11 T).2]
    omega

/-- The run of the projection's program: the five result arrays are the ones above, the arguments are unchanged. -/
theorem run : θ_run defs (onTc (τ := τ) (main (F := Ideal))) ⟨m, fun _ => 0, ρ⟩ fun r => ∀ c : Dev nD,
      r.2.mem ((c : Thread nD τ).loc main_v16_0) = res7 m c
      ∧ r.2.mem ((c : Thread nD τ).loc main_v16_1) = res8 m c
      ∧ r.2.mem ((c : Thread nD τ).loc main_v16_2) = res9 m c
      ∧ r.2.mem ((c : Thread nD τ).loc main_v16_3) = res10 m c
      ∧ r.2.mem ((c : Thread nD τ).loc main_v16_4) = res11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 7 (res7 m c) (fun t _ => flushed7_eq m c t) cover7),
      (h c).2.1.trans ((dats m 0 c).arrAt_eq_of_cover 8 (res8 m c) (fun t _ => flushed8_eq m c t) cover8),
      (h c).2.2.1.trans ((dats m 0 c).arrAt_eq_of_cover 9 (res9 m c) (fun t _ => flushed9_eq m c t) cover9),
      (h c).2.2.2.1.trans ((dats m 0 c).arrAt_eq_of_cover 10 (res10 m c) (fun t _ => flushed10_eq m c t) cover10),
      (h c).2.2.2.2.1.trans ((dats m 0 c).arrAt_eq_of_cover 11 (res11 m c) (fun t _ => flushed11_eq m c t) cover11),
      (h c).2.2.2.2.2⟩)
    (Cert.Kernel4Ideal.Value.run_blocks m ρ)

end Cert.In.Mlstm

end
-- ==== Proof.In.MlstmRef.lean ====
/-
  Layer 0's input projection as the reference has it, stage by stage, read at an index.
-/
module

public import proofs.«01_k».proof.Proof.In.MlstmRun
public import proofs.«01_k».proof.Proof.Gen.Reference4Ideal.Read
public import proofs.«01_k».proof.Proof.Gen.Reference4Ideal.Run

@[expose] public section

set_option maxRecDepth 16384

noncomputable section

namespace Cert.In.MlstmRef

open Idealize.ShloMosaic Idealize.ShloMosaic.TcCoe Cert.Reference4Ideal Cert.Reference4Ideal.Read

variable (x0 : (⟨S16x4096x1024, .f32⟩ : BufTy).Contents (Elt Ideal)) (x1 : (⟨S8x3x16x1x1024, .f32⟩ : BufTy).Contents (Elt Ideal)) (x2 : (⟨S1x1024x3080, .f32⟩ : BufTy).Contents (Elt Ideal)) (x3 : (⟨S1x8, .f32⟩ : BufTy).Contents (Elt Ideal))

theorem v18_apply (p : Fin 16) (s : Fin 4096) (j : Fin 1024) :
    val_main_v18 (F := Ideal) x0 x1 (ix3 p s j) = modulate (fun k => x0 (ix3 p s k)) (fun k => x1 (ix5 (0 : Fin 8) (1 : Fin 3) p (0 : Fin 1) k))
      (fun k => x1 (ix5 (0 : Fin 8) (0 : Fin 3) p (0 : Fin 1) k)) j := by
  unfold val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst
  pointwise [] <;> rfl

theorem v20_apply (p : Fin 16) (s : Fin 4096) (j : Fin 3080) :
    val_main_v20 (F := Ideal) x0 x1 x2 (ix3 p s j) = times (fun k => val_main_v18 (F := Ideal) x0 x1 (ix3 p s k)) (fun k n => x2 (ix3 (0 : Fin 1) k n)) j := by
  unfold val_main_v20 val_main_v19
  generalize val_main_v18 (F := Ideal) x0 x1 = z
  pointwise [] <;> rfl

/-- The token's row is the same function of the arguments that the kernel computes. -/
theorem row_eq (r : Fin 65536) :
    (fun k => val_main_v18 (F := Ideal) x0 x1 (ix3 (⟨r.val / 4096, by omega⟩ : Fin 16) (⟨r.val % 4096, by omega⟩ : Fin 4096) k)) = token x0 x1 0 r :=
  funext fun k => v18_apply x0 x1 _ _ k

/-- An element of the product, as the function of the arguments that the kernel computes. -/
theorem v20_proj (r : Fin 65536) (n : Fin 3080) : val_main_v20 (F := Ideal) x0 x1 x2 (ix3 (⟨r.val / 4096, by omega⟩ : Fin 16) (⟨r.val % 4096, by omega⟩ : Fin 4096) n) = Mlstm.projected x0 x1 x2 r n := by
  rw [v20_apply, row_eq]
  rfl

theorem v39_apply (r : Fin 65536) (j : Fin 512) : val_main_v39 (F := Ideal) x0 x1 x2 (ix2 r j) = Mlstm.projected x0 x1 x2 r (⟨j.val, by omega⟩ : Fin 3080) := by
  rw [← v20_proj]
  unfold val_main_v39 val_main_v38 val_main_v21
  generalize val_main_v20 (F := Ideal) x0 x1 x2 = z
  pointwise [] <;> rfl

theorem v41_apply (r : Fin 65536) (j : Fin 512) : val_main_v41 (F := Ideal) x0 x1 x2 (ix2 r j) = Mlstm.projected x0 x1 x2 r (⟨512 + j.val, by omega⟩ : Fin 3080) * Mlstm.keyScale := by
  rw [← v20_proj]
  unfold val_main_v41 val_main_v40 val_main_v24 val_main_v23 val_main_cst_0 val_main_v22
  generalize val_main_v20 (F := Ideal) x0 x1 x2 = z
  pointwise [] <;> rfl

theorem v44_apply (j : Fin 1024) (r : Fin 65536) : val_main_v44 (F := Ideal) x0 x1 x2 (ix2 j r) = Mlstm.projected x0 x1 x2 r (⟨1024 + j.val, by omega⟩ : Fin 3080) := by
  rw [← v20_proj]
  unfold val_main_v44 val_main_v43 val_main_v42 val_main_v25
  generalize val_main_v20 (F := Ideal) x0 x1 x2 = z
  pointwise [] <;> rfl

theorem v46_apply (j : Fin 1024) (r : Fin 65536) : val_main_v46 (F := Ideal) x0 x1 x2 (ix2 j r) = logistic (Mlstm.projected x0 x1 x2 r (⟨2048 + j.val, by omega⟩ : Fin 3080)) := by
  rw [← v20_proj]
  unfold val_main_v46 val_main_v45 val_main_v32 val_main_v31 val_main_cst_2 val_main_v30 val_main_v29 val_main_cst_1 val_main_v28 val_main_v27 val_main_v26
  generalize val_main_v20 (F := Ideal) x0 x1 x2 = z
  pointwise [] <;> rfl

theorem v47_apply (r : Fin 65536) (j : Fin 8) : val_main_v47 (F := Ideal) x0 x1 x2 x3 (ix2 r j)
    = Mlstm.projected x0 x1 x2 r (⟨3072 + j.val, by omega⟩ : Fin 3080) + x3 (ix2 (0 : Fin 1) j) := by
  rw [← v20_proj]
  unfold val_main_v47 val_main_v37 val_main_v36 val_main_v35 val_main_v34 val_main_v33
  generalize val_main_v20 (F := Ideal) x0 x1 x2 = z
  pointwise [] <;> rfl

theorem v48_apply (r : Fin 65536) (j : Fin 128) : val_main_v48 (F := Ideal) x0 x1 x2 x3 (ix2 r j) = Mlstm.gate x0 x1 x2 x3 r j := by
  have e : Mlstm.gate x0 x1 x2 x3 r j
      = if h : j.val < 8 then val_main_v47 (F := Ideal) x0 x1 x2 x3 (ix2 r (⟨j.val, h⟩ : Fin 8)) else (0 : EReal) :=
    dite_congr rfl (fun h => (v47_apply x0 x1 x2 x3 r ⟨j.val, h⟩).symm) (fun _ => rfl)
  rw [e]
  unfold val_main_v48 val_main_call0_v0 val_main_c
  generalize val_main_v47 (F := Ideal) x0 x1 x2 x3 = z
  pointwise []
  exact dite_congr rfl (fun _ => rfl) (fun _ => Mlstm.pad_value)

end Cert.In.MlstmRef

end
-- ==== Proof.In.MlstmClaims.lean ====
/-
  The input projection of layer 0: the frames of its three programs, and the agreement of the kernel with the reference.
-/
module

public import proofs.«01_k».proof.Defs
public import proofs.«01_k».proof.Proof.Gen.Kernel4.Frame
public import proofs.«01_k».proof.Proof.Gen.Kernel4Ideal.Frame
public import proofs.«01_k».proof.Proof.In.MlstmRef
public import Idealize.ShloMosaic.Lib.Quiescent

@[expose] public section

set_option maxRecDepth 16384

noncomputable section

namespace Cert.In.Mlstm

open Idealize.ShloMosaic Idealize.ShloMosaic.TcCoe Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

theorem preserves : Cert.preserves_Kernel4_Kernel4Ideal := trivial

/-- An index of a result is a pair of a row and a column. -/
theorem eq_pair {a b : Nat} (i : (⟨2, ![a, b]⟩ : Shape).Idx) : ∃ (r : Fin a) (j : Fin b), i = ix2 r j :=
  ⟨i 0, i 1, funext fun a => match a with | ⟨0, _⟩ => rfl | ⟨1, _⟩ => rfl⟩

/-- Kernel and reference end with the same five result arrays. -/
theorem algebraic : Cert.algebraic_Kernel4Ideal_Reference4Ideal := by
  intro m ρ m' ρ' _ hagree
  refine ⟨fun c => res7 m c, fun c => res8 m c, fun c => res9 m c, fun c => res10 m c, fun c => res11 m c, run m ρ, ?_⟩
  refine (θ_run Cert.Reference4Ideal.defs _ _).mono (fun _ h c =>
      ⟨(h c).1.trans ?_, (h c).2.1.trans ?_, (h c).2.2.1.trans ?_, (h c).2.2.2.1.trans ?_, (h c).2.2.2.2.1.trans ?_, (h c).2.2.2.2.2⟩)
    (Cert.Reference4Ideal.Value.run (F := Ideal) m' ρ')
  · refine (Cert.Reference4Ideal.Read.val_main_v39_eq _ _ _).trans ?_
    obtain ⟨h0, h1, h2, h3⟩ := hagree c
    rw [h0, h1, h2]
    funext i
    obtain ⟨r, j, rfl⟩ := eq_pair i
    exact Cert.In.MlstmRef.v39_apply _ _ _ r j
  · refine (Cert.Reference4Ideal.Read.val_main_v41_eq _ _ _).trans ?_
    obtain ⟨h0, h1, h2, h3⟩ := hagree c
    rw [h0, h1, h2]
    funext i
    obtain ⟨r, j, rfl⟩ := eq_pair i
    exact Cert.In.MlstmRef.v41_apply _ _ _ r j
  · refine (Cert.Reference4Ideal.Read.val_main_v44_eq _ _ _).trans ?_
    obtain ⟨h0, h1, h2, h3⟩ := hagree c
    rw [h0, h1, h2]
    funext i
    obtain ⟨r, j, rfl⟩ := eq_pair i
    exact Cert.In.MlstmRef.v44_apply _ _ _ r j
  · refine (Cert.Reference4Ideal.Read.val_main_v46_eq _ _ _).trans ?_
    obtain ⟨h0, h1, h2, h3⟩ := hagree c
    rw [h0, h1, h2]
    funext i
    obtain ⟨r, j, rfl⟩ := eq_pair i
    exact Cert.In.MlstmRef.v46_apply _ _ _ r j
  · refine (Cert.Reference4Ideal.Read.val_main_v48_eq _ _ _ _).trans ?_
    obtain ⟨h0, h1, h2, h3⟩ := hagree c
    rw [h0, h1, h2, h3]
    funext i
    obtain ⟨r, j, rfl⟩ := eq_pair i
    exact Cert.In.MlstmRef.v48_apply _ _ _ _ r j

end Cert.In.Mlstm

end
-- ==== Proof.In.Rope.lean ====
/-
  Layer 3's input projection: what the kernel's body computes of its blocks.
-/
module

public import proofs.«01_k».proof.Proof.In.Row
public import proofs.«01_k».proof.Proof.Gen.Kernel5Ideal.Value
public import Idealize.ShloMosaic.Lib.Pipeline.Value
public import Idealize.ShloMosaic.Lib.Pipeline.ValueKit.Tiles

@[expose] public section

set_option maxRecDepth 16384

noncomputable section

namespace Cert.In

open Idealize.ShloMosaic

/-- A row of sixteen heads of 64 lanes under the rotary embedding: in each head the first eight lanes turn with the next eight by the
    angles whose cosines and sines are given, the other lanes stay. -/
def rope (z : Fin 1024 → EReal) (cs sn : Fin 8 → EReal) (j : Fin 1024) : EReal :=
  if h : j.val % 64 < 8 then z j * cs ⟨j.val % 64, h⟩ - z ⟨j.val + 8, by omega⟩ * sn ⟨j.val % 64, h⟩
  else if h' : j.val % 64 < 16 then
    z j * cs ⟨j.val % 64 - 8, by omega⟩ + z ⟨j.val - 8, by omega⟩ * sn ⟨j.val % 64 - 8, by omega⟩
  else z j

/-- The cosines as the kernel holds them: those of the angles in the sixteen turning lanes of each half, one in the others. -/
def cosLane (cs : Fin 8 → EReal) (l : Fin 128) : EReal :=
  if h : l.val % 64 < 16 then cs ⟨l.val % 8, by omega⟩ else 1

/-- The sines as the kernel holds them: negative in the first eight lanes of each half, zero in the lanes that stay. -/
def sinLane (sn : Fin 8 → EReal) (l : Fin 128) : EReal :=
  if l.val % 64 < 8 then -sn ⟨l.val % 8, by omega⟩ else if l.val % 64 < 16 then sn ⟨l.val % 8, by omega⟩ else 0

/-- Frequency `d` of the rotary embedding, a power of its base. -/
def freq (d : Fin 8) : EReal :=
  Ideal.pow (Ideal.ofBits .f32 1223959552#32) (Ideal.div (-FloatOps.sitofp (F := Ideal) .f32 (BitVec.ofNat 32 d.val)
    * Ideal.ofBits .f32 1073741824#32) (Ideal.ofBits .f32 1098907648#32))

/-- Token `r`'s angle `d`: its position times the frequency. -/
def angle (pos : (⟨2, ![16, 4096]⟩ : Shape).Idx → BitVec 32) (r : Fin 65536) (d : Fin 8) : EReal :=
  FloatOps.sitofp (F := Ideal) .f32 (pos (ix2 (⟨r.val / 4096, by omega⟩ : Fin 16) (⟨r.val % 4096, by omega⟩ : Fin 4096))) * freq d

/-- Two heads side by side, turned lane by lane, are the row under the rotary embedding there. -/
theorem slab_eq (z : Fin 1024 → EReal) (cs sn : Fin 8 → EReal) (s : Nat) (hs : s < 8) (l : Fin 128) :
    z ⟨128 * s + l.val, by omega⟩ * cosLane cs l
      + (if l.val % 64 < 8 then z ⟨128 * s + (l.val + 8) % 128, by omega⟩ else z ⟨128 * s + (l.val + 120) % 128, by omega⟩) * sinLane sn l
      = rope z cs sn ⟨128 * s + l.val, by omega⟩ := by
  have e : (128 * s + l.val) % 64 = l.val % 64 := by omega
  unfold rope cosLane sinLane
  by_cases h : l.val % 64 < 8
  · have h16 : l.val % 64 < 16 := by omega
    have e8 : l.val % 8 = (128 * s + l.val) % 64 := by omega
    simp only [h16, h, dif_pos, if_true]
    rw [dif_pos (show (128 * s + l.val) % 64 < 8 by omega), sub_eq_add_neg, mul_neg]
    simp only [e8]
    congr 4
    exact Fin.ext (by show 128 * s + (l.val + 8) % 128 = 128 * s + l.val + 8; omega)
  · rw [dif_neg (show ¬(128 * s + l.val) % 64 < 8 by omega)]
    by_cases h' : l.val % 64 < 16
    · have e8 : l.val % 8 = (128 * s + l.val) % 64 - 8 := by omega
      simp only [h', h, dif_pos, if_true, if_false]
      rw [dif_pos (show (128 * s + l.val) % 64 < 16 by omega)]
      simp only [e8]
      congr 3
      exact Fin.ext (by show 128 * s + (l.val + 120) % 128 = 128 * s + l.val - 8; omega)
    · rw [dif_neg (show ¬(128 * s + l.val) % 64 < 16 by omega)]
      simp only [h', h, dif_neg, if_false, not_false_eq_true, mul_one, mul_zero, add_zero]

/-- The rotary embedding of one head, lane by lane. -/
def turn (z : Fin 64 → EReal) (cs sn : Fin 8 → EReal) (d : Fin 64) : EReal :=
  if h : d.val < 8 then z d * cs ⟨d.val, h⟩ - z ⟨d.val + 8, by omega⟩ * sn ⟨d.val, h⟩
  else if h' : d.val < 16 then z d * cs ⟨d.val - 8, by omega⟩ + z ⟨d.val - 8, by omega⟩ * sn ⟨d.val - 8, by omega⟩
  else z d

theorem rope_eq (z : Fin 1024 → EReal) (cs sn : Fin 8 → EReal) (j : Fin 1024) :
    rope z cs sn j = turn (fun d => z ⟨j.val / 64 * 64 + d.val, by omega⟩) cs sn ⟨j.val % 64, by omega⟩ := by
  have e : ∀ n : Nat, ∀ hn : n < 1024, ∀ k : Nat, ∀ hk : k < 1024, n = k → z ⟨n, hn⟩ = z ⟨k, hk⟩ := fun n hn k hk h => by subst h; rfl
  unfold rope turn
  refine dite_congr rfl (fun h => ?_) (fun h => dite_congr rfl (fun h' => ?_) (fun h' => ?_))
  · exact congrArg₂ (fun a b => a * cs ⟨j.val % 64, h⟩ - b * sn ⟨j.val % 64, h⟩) (e _ _ _ _ (by dsimp only; omega)) (e _ _ _ _ (by dsimp only; omega))
  · have h1 : ¬ j.val % 64 < 8 := h
    have h2 : j.val % 64 < 16 := h'
    exact congrArg₂ (fun a b => a * cs ⟨j.val % 64 - 8, by omega⟩ + b * sn ⟨j.val % 64 - 8, by omega⟩) (e _ _ _ _ (by dsimp only; omega)) (e _ _ _ _ (by dsimp only; omega))
  · exact e _ _ _ _ (by dsimp only; omega)

/-- The same of a row of two heads. -/
theorem slab_turn (z : Fin 128 → EReal) (cs sn : Fin 8 → EReal) (l : Fin 128) :
    z l * cosLane cs l + (if l.val % 64 < 8 then z ⟨(l.val + 8) % 128, by omega⟩ else z ⟨(l.val + 120) % 128, by omega⟩) * sinLane sn l
      = turn (fun d => z ⟨l.val / 64 * 64 + d.val, by omega⟩) cs sn ⟨l.val % 64, by omega⟩ := by
  have e : ∀ a b : Nat, ∀ ha : a < 128, ∀ hb : b < 128, a = b → z ⟨a, ha⟩ = z ⟨b, hb⟩ := fun a b ha hb h => by subst h; rfl
  have h := slab_eq (fun n => z ⟨n.val % 128, by omega⟩) cs sn 0 (by omega) l
  rw [rope_eq] at h
  refine Eq.trans ?_ (h.trans ?_)
  · refine congrArg₂ (fun a b => a * cosLane cs l + b * sinLane sn l) (e _ _ _ _ (by dsimp only; omega)) ?_
    exact if_congr Iff.rfl (e _ _ _ _ (by dsimp only; omega)) (e _ _ _ _ (by dsimp only; omega))
  · exact congrArg₂ (fun f d => turn f cs sn d) (funext fun d => e _ _ _ _ (by dsimp only; omega)) (Fin.ext (by dsimp only; omega))

end Cert.In

namespace Cert.In.Rope

open Idealize.ShloMosaic Idealize.ShloMosaic.TcCoe Idealize.SL.Sem Cert.Kernel5Ideal Cert.Kernel5Ideal.Gen

/-! ### The body's payloads, read at an index -/

theorem mask_apply (r : Fin 512) (l : Fin 128) :
    k0_pay9 k0_pay7 k0_pay8 (ix2 r l) = if l.val % 64 < 8 then 1#1 else 0#1 := by
  pointwise [k0_pay9, k0_pay7, k0_pay8]
  revert l
  decide +kernel

/-- Two heads side by side as the body turns them: the columns, the tables of cosines and sines. -/
def slab (A C S : FVec Ideal S512x128 .f32) : FVec Ideal S512x128 .f32 :=
  addf (mulf A C) (mulf (select (k0_pay9 k0_pay7 k0_pay8) (dynamicRotate 1 120#32 none A rotates_S512x128_d1)
    (dynamicRotate 1 8#32 none A rotates_S512x128_d1)) S)

theorem slab_apply (A C S : FVec Ideal S512x128 .f32) (r : Fin 512) (l : Fin 128) : slab A C S (ix2 r l)
    = A (ix2 r l) * C (ix2 r l) + (if l.val % 64 < 8 then A (ix2 r ⟨(l.val + 8) % 128, by omega⟩)
        else A (ix2 r ⟨(l.val + 120) % 128, by omega⟩)) * S (ix2 r l) := by
  have e1 : dynamicRotate 1 120#32 none A rotates_S512x128_d1 (ix2 r l) = A (ix2 r ⟨(l.val + 8) % 128, by omega⟩) :=
    congrArg A (pair_ext _ _ rfl (by show (l.val + 128 - 120) % 128 = (l.val + 8) % 128; omega))
  have e2 : dynamicRotate 1 8#32 none A rotates_S512x128_d1 (ix2 r l) = A (ix2 r ⟨(l.val + 120) % 128, by omega⟩) :=
    congrArg A (pair_ext _ _ rfl (by show (l.val + 128 - 8) % 128 = (l.val + 120) % 128; omega))
  show A (ix2 r l) * C (ix2 r l) + Scalar.select (k0_pay9 k0_pay7 k0_pay8 (ix2 r l)) (dynamicRotate 1 120#32 none A rotates_S512x128_d1 (ix2 r l))
    (dynamicRotate 1 8#32 none A rotates_S512x128_d1 (ix2 r l)) * S (ix2 r l) = _
  rw [e1, e2, mask_apply]
  by_cases h : l.val % 64 < 8
  · rw [if_pos h, if_pos h]; rfl
  · rw [if_neg h, if_neg h]; rfl

theorem wide_apply (x : Vec Ideal S512x1024 .f32) (sc sh : Vec Ideal S1x1x1x1x1024 .f32) (w : Vec Ideal S1024x256 .bf16) (r : Fin 512) (j : Fin 256) :
    k0_pay10 (k0_pay4 x sc sh) w (ix2 r j) = times (modulate (row x r) (vec5 sc) (vec5 sh)) (row w) j := by
  pointwise [k0_pay10, k0_pay4]
  rfl

theorem pay3_apply (x : Vec Ideal S512x1024 .f32) (sc sh : Vec Ideal S1x1x1x1x1024 .f32) (w : Vec Ideal S1024x1024 .bf16) (r : Fin 512) (j : Fin 1024) :
    k0_pay3 (k0_pay4 x sc sh) w (ix2 j r) = times (modulate (row x r) (vec5 sc) (vec5 sh)) (fun k n => w (ix2 n k)) j := by
  pointwise [k0_pay3, k0_pay4]
  exact Finset.sum_congr rfl fun k _ => mul_comm _ _

theorem ld_rows (x : Vec Ideal S512x1024 .f32) (r : Fin 512) : row (View.ld x r0_0 : Vec Ideal S512x1024 .f32) r = row x r :=
  funext fun k => congrArg x (pair_ext _ _ (by show 0 + 1 * r.val = r.val; omega) (by show 0 + 1 * k.val = k.val; omega))

theorem ld_vec5 (x : Vec Ideal S1x1x1x1x1024 .f32) : vec5 (View.ld x r0_1) = vec5 x :=
  funext fun k => congrArg x (funext fun a => Fin.ext (match a with
    | ⟨0, _⟩ => rfl | ⟨1, _⟩ => rfl | ⟨2, _⟩ => rfl | ⟨3, _⟩ => rfl | ⟨4, _⟩ => by show 0 + 1 * k.val = k.val; omega))

theorem ld_t (w : Vec Ideal S1024x1024 .bf16) : (fun (k n : Fin 1024) => (View.ld w r0_19 : Vec Ideal S1024x1024 .bf16) (ix2 n k))
    = fun k n => w (ix2 n k) :=
  funext fun k => funext fun j => congrArg w (pair_ext _ _ (by show 0 + 1 * j.val = j.val; omega) (by show 0 + 1 * k.val = k.val; omega))

theorem cos_apply (x : Vec Ideal S512x128 .f32) (r : Fin 512) (l : Fin 128) : k0_pay5 (View.ld x r0_2) (ix2 r l) = x (ix2 r l) := by
  have e : (View.ld x r0_2 : Vec Ideal S512x128 .f32) (ix2 r l) = x (ix2 r l) :=
    congrArg x (pair_ext _ _ (by show 0 + 1 * r.val = r.val; omega) (by show 0 + 1 * l.val = l.val; omega))
  rw [← e]
  generalize (View.ld x r0_2 : Vec Ideal S512x128 .f32) = y
  pointwise [k0_pay5]

theorem sin_apply (x : Vec Ideal S512x128 .f32) (r : Fin 512) (l : Fin 128) : k0_pay6 (View.ld x r0_2) (ix2 r l) = x (ix2 r l) := by
  have e : (View.ld x r0_2 : Vec Ideal S512x128 .f32) (ix2 r l) = x (ix2 r l) :=
    congrArg x (pair_ext _ _ (by show 0 + 1 * r.val = r.val; omega) (by show 0 + 1 * l.val = l.val; omega))
  rw [← e]
  generalize (View.ld x r0_2 : Vec Ideal S512x128 .f32) = y
  pointwise [k0_pay6]

theorem emb_turned (j : Fin 1024) (r : Fin 512) : (ix2 j r : S1024x512.Idx) = r0_20.emb (ix2 j r) :=
  pair_ext _ _ (show j.val = 0 + 1 * j.val by omega) (show r.val = 0 + 1 * r.val by omega)

section Body
variable (x0 : Vec Ideal S512x1024 .f32) (x1 x2 : Vec Ideal S1x1x1x1x1024 .f32) (x3 : Vec Ideal S1024x2048 .bf16)
  (x4 : Vec Ideal S1024x1024 .bf16) (x5 x6 : Vec Ideal S512x128 .f32) (r : Fin 512)

/-- Element `n` of a row's product with the weight's half of columns that begins at `b`. -/
def part (b : Nat) (hb : b ≤ 1024) (n : Fin 1024) : EReal :=
  times (modulate (row x0 r) (vec5 x2) (vec5 x1)) (row x3) (⟨b + n.val, by omega⟩ : Fin 2048)

/-- 128 columns of the 256 that one product makes. -/
theorem half_apply (b : Nat) (hb : b ≤ 1024) (s : Nat) (hs : s < 8) (c0 off : Nat) (hc : c0 + off = b + 128 * s) (ho : off ≤ 128)
    (inbW : ∀ a, (![0, c0] : Fin 2 → Nat) a + S1024x256.size a ≤ S1024x2048.size a) (hsl : S512x256.Slices ![0, off] S512x128)
    (l : Fin 128) :
    extractStridedSlice S512x128 ![0, off] (k0_pay10 (k0_pay4 (View.ld x0 r0_0) (View.ld x2 r0_1) (View.ld x1 r0_1))
        (View.ld x3 (Rect.unit (s := S1024x2048) ![0, c0] S1024x256.size inbW))) hsl (ix2 r l)
      = part x0 x1 x2 x3 r b hb (⟨128 * s + l.val, by omega⟩ : Fin 1024) := by
  have e : extractStridedSlice S512x128 ![0, off] (k0_pay10 (k0_pay4 (View.ld x0 r0_0) (View.ld x2 r0_1) (View.ld x1 r0_1))
        (View.ld x3 (Rect.unit (s := S1024x2048) ![0, c0] S1024x256.size inbW))) hsl (ix2 r l)
      = k0_pay10 (k0_pay4 (View.ld x0 r0_0) (View.ld x2 r0_1) (View.ld x1 r0_1))
        (View.ld x3 (Rect.unit (s := S1024x2048) ![0, c0] S1024x256.size inbW)) (ix2 r (⟨off + l.val, by omega⟩ : Fin 256)) :=
    congrArg (k0_pay10 (k0_pay4 (View.ld x0 r0_0) (View.ld x2 r0_1) (View.ld x1 r0_1))
      (View.ld x3 (Rect.unit (s := S1024x2048) ![0, c0] S1024x256.size inbW)))
      (pair_ext _ _ (by show 0 + r.val = r.val; omega) (by show off + l.val = off + l.val; omega))
  rw [e, wide_apply, ld_rows, ld_vec5, ld_vec5]
  unfold part times
  refine Finset.sum_congr rfl fun k _ => congrArg (modulate (row x0 r) (vec5 x2) (vec5 x1) k * ·) ?_
  exact congrArg x3 (pair_ext _ _ (by show 0 + 1 * k.val = k.val; omega)
    (by show c0 + 1 * (off + l.val) = b + (128 * s + l.val); omega))

variable (cs sn : Fin 8 → EReal) (hC : ∀ l, x5 (ix2 r l) = cosLane cs l) (hS : ∀ l, x6 (ix2 r l) = sinLane sn l)
include hC hS

/-- What the body stores in 128 columns, at an element of the result. -/
theorem piece (b : Nat) (hb : b ≤ 1024) (s : Nat) (hs : s < 8) (c0 off o : Nat) (hc : c0 + off = b + 128 * s) (ho : off ≤ 128)
    (hO : o = 128 * s) (inbW : ∀ a, (![0, c0] : Fin 2 → Nat) a + S1024x256.size a ≤ S1024x2048.size a)
    (hsl : S512x256.Slices ![0, off] S512x128) (inb : ∀ a, (![0, o] : Fin 2 → Nat) a + S512x128.size a ≤ S512x1024.size a)
    (j : Fin 1024) (x : S512x128.Idx) (hx : (Rect.unit (s := S512x1024) ![0, o] S512x128.size inb).emb x = ix2 r j) :
    slab (extractStridedSlice S512x128 ![0, off] (k0_pay10 (k0_pay4 (View.ld x0 r0_0) (View.ld x2 r0_1) (View.ld x1 r0_1))
        (View.ld x3 (Rect.unit (s := S1024x2048) ![0, c0] S1024x256.size inbW))) hsl)
      (k0_pay5 (View.ld x5 r0_2)) (k0_pay6 (View.ld x6 r0_2)) x = rope (part x0 x1 x2 x3 r b hb) cs sn j := by
  obtain ⟨r', l, rfl⟩ : ∃ (r' : Fin 512) (l : Fin 128), x = ix2 r' l :=
    ⟨x 0, x 1, funext fun a => match a with | ⟨0, _⟩ => rfl | ⟨1, _⟩ => rfl⟩
  have h0 : 0 + 1 * r'.val = r.val := congrArg (fun i : S512x1024.Idx => (i 0).val) hx
  have h1 : o + 1 * l.val = j.val := congrArg (fun i : S512x1024.Idx => (i 1).val) hx
  obtain rfl : r' = r := Fin.ext (by omega)
  have hl : 128 * s + l.val < 1024 := by omega
  rw [show j = (⟨128 * s + l.val, hl⟩ : Fin 1024) from Fin.ext (by show j.val = 128 * s + l.val; omega)]
  rw [slab_apply, cos_apply, sin_apply, hC, hS]
  have hA := half_apply x0 x1 x2 x3 r' b hb s hs c0 off hc ho inbW hsl
  rw [hA, hA, hA]
  exact slab_eq (part x0 x1 x2 x3 r' b hb) cs sn s hs l

theorem out7_apply (j : Fin 1024) : out0_7 x0 x1 x2 x3 x4 x5 x6 (ix2 r j) = rope (part x0 x1 x2 x3 r 0 (by omega)) cs sn j := by
  unfold out0_7
  refine View.canon_eq_of_allAt _ _ _ (cover0_7 _ _ _ _ _ _ _ _ _) ?_
  refine View.allAt_cons _ _ _ (fun x hx => piece x0 x1 x2 x3 x5 x6 r cs sn hC hS 0 (by omega) 7 (by omega) 768 128 896 (by omega) (by omega)
    rfl inb_S1024x2048_S1024x256_0_768 slices_S512x256_o0_128_S512x128 inb_S512x1024_S512x128_0_896 j x hx) ?_
  refine View.allAt_cons _ _ _ (fun x hx => piece x0 x1 x2 x3 x5 x6 r cs sn hC hS 0 (by omega) 6 (by omega) 768 0 768 (by omega) (by omega)
    rfl inb_S1024x2048_S1024x256_0_768 slices_S512x256_o0_0_S512x128 inb_S512x1024_S512x128_0_768 j x hx) ?_
  refine View.allAt_cons _ _ _ (fun x hx => piece x0 x1 x2 x3 x5 x6 r cs sn hC hS 0 (by omega) 5 (by omega) 512 128 640 (by omega) (by omega)
    rfl inb_S1024x2048_S1024x256_0_512 slices_S512x256_o0_128_S512x128 inb_S512x1024_S512x128_0_640 j x hx) ?_
  refine View.allAt_cons _ _ _ (fun x hx => piece x0 x1 x2 x3 x5 x6 r cs sn hC hS 0 (by omega) 4 (by omega) 512 0 512 (by omega) (by omega)
    rfl inb_S1024x2048_S1024x256_0_512 slices_S512x256_o0_0_S512x128 inb_S512x1024_S512x128_0_512 j x hx) ?_
  refine View.allAt_cons _ _ _ (fun x hx => piece x0 x1 x2 x3 x5 x6 r cs sn hC hS 0 (by omega) 3 (by omega) 256 128 384 (by omega) (by omega)
    rfl inb_S1024x2048_S1024x256_0_256 slices_S512x256_o0_128_S512x128 inb_S512x1024_S512x128_0_384 j x hx) ?_
  refine View.allAt_cons _ _ _ (fun x hx => piece x0 x1 x2 x3 x5 x6 r cs sn hC hS 0 (by omega) 2 (by omega) 256 0 256 (by omega) (by omega)
    rfl inb_S1024x2048_S1024x256_0_256 slices_S512x256_o0_0_S512x128 inb_S512x1024_S512x128_0_256 j x hx) ?_
  refine View.allAt_cons _ _ _ (fun x hx => piece x0 x1 x2 x3 x5 x6 r cs sn hC hS 0 (by omega) 1 (by omega) 0 128 128 (by omega) (by omega)
    rfl inb_S1024x2048_S1024x256_0_0 slices_S512x256_o0_128_S512x128 inb_S512x1024_S512x128_0_128 j x hx) ?_
  refine View.allAt_cons _ _ _ (fun x hx => piece x0 x1 x2 x3 x5 x6 r cs sn hC hS 0 (by omega) 0 (by omega) 0 0 0 (by omega) (by omega)
    rfl inb_S1024x2048_S1024x256_0_0 slices_S512x256_o0_0_S512x128 inb_S512x1024_S512x128_0_0 j x hx) ?_
  exact View.allAt_nil _ _

theorem out8_apply (j : Fin 1024) : out0_8 x0 x1 x2 x3 x4 x5 x6 (ix2 r j) = rope (part x0 x1 x2 x3 r 1024 (by omega)) cs sn j := by
  unfold out0_8
  refine View.canon_eq_of_allAt _ _ _ (cover0_8 _ _ _ _ _ _ _ _ _) ?_
  refine View.allAt_cons _ _ _ (fun x hx => piece x0 x1 x2 x3 x5 x6 r cs sn hC hS 1024 (by omega) 7 (by omega) 1792 128 896 (by omega) (by omega)
    rfl inb_S1024x2048_S1024x256_0_1792 slices_S512x256_o0_128_S512x128 inb_S512x1024_S512x128_0_896 j x hx) ?_
  refine View.allAt_cons _ _ _ (fun x hx => piece x0 x1 x2 x3 x5 x6 r cs sn hC hS 1024 (by omega) 6 (by omega) 1792 0 768 (by omega) (by omega)
    rfl inb_S1024x2048_S1024x256_0_1792 slices_S512x256_o0_0_S512x128 inb_S512x1024_S512x128_0_768 j x hx) ?_
  refine View.allAt_cons _ _ _ (fun x hx => piece x0 x1 x2 x3 x5 x6 r cs sn hC hS 1024 (by omega) 5 (by omega) 1536 128 640 (by omega) (by omega)
    rfl inb_S1024x2048_S1024x256_0_1536 slices_S512x256_o0_128_S512x128 inb_S512x1024_S512x128_0_640 j x hx) ?_
  refine View.allAt_cons _ _ _ (fun x hx => piece x0 x1 x2 x3 x5 x6 r cs sn hC hS 1024 (by omega) 4 (by omega) 1536 0 512 (by omega) (by omega)
    rfl inb_S1024x2048_S1024x256_0_1536 slices_S512x256_o0_0_S512x128 inb_S512x1024_S512x128_0_512 j x hx) ?_
  refine View.allAt_cons _ _ _ (fun x hx => piece x0 x1 x2 x3 x5 x6 r cs sn hC hS 1024 (by omega) 3 (by omega) 1280 128 384 (by omega) (by omega)
    rfl inb_S1024x2048_S1024x256_0_1280 slices_S512x256_o0_128_S512x128 inb_S512x1024_S512x128_0_384 j x hx) ?_
  refine View.allAt_cons _ _ _ (fun x hx => piece x0 x1 x2 x3 x5 x6 r cs sn hC hS 1024 (by omega) 2 (by omega) 1280 0 256 (by omega) (by omega)
    rfl inb_S1024x2048_S1024x256_0_1280 slices_S512x256_o0_0_S512x128 inb_S512x1024_S512x128_0_256 j x hx) ?_
  refine View.allAt_cons _ _ _ (fun x hx => piece x0 x1 x2 x3 x5 x6 r cs sn hC hS 1024 (by omega) 1 (by omega) 1024 128 128 (by omega) (by omega)
    rfl inb_S1024x2048_S1024x256_0_1024 slices_S512x256_o0_128_S512x128 inb_S512x1024_S512x128_0_128 j x hx) ?_
  refine View.allAt_cons _ _ _ (fun x hx => piece x0 x1 x2 x3 x5 x6 r cs sn hC hS 1024 (by omega) 0 (by omega) 1024 0 0 (by omega) (by omega)
    rfl inb_S1024x2048_S1024x256_0_1024 slices_S512x256_o0_0_S512x128 inb_S512x1024_S512x128_0_0 j x hx) ?_
  exact View.allAt_nil _ _

omit hC hS in
theorem out9_apply (j : Fin 1024) : out0_9 x0 x1 x2 x3 x4 x5 x6 (ix2 j r)
    = times (modulate (row x0 r) (vec5 x2) (vec5 x1)) (fun k n => x4 (ix2 n k)) j := by
  unfold out0_9
  rw [emb_turned, View.canon_cons_emb]
  refine (pay3_apply _ _ _ _ r j).trans ?_
  rw [ld_rows, ld_vec5, ld_vec5, ld_t]

end Body

end Cert.In.Rope

end
-- ==== Proof.In.RopeRun.lean ====
/-
  Layer 3's input projection: the operands the host prepares, the blocks as elements of the arguments, the blocks written back,
  and the run.
-/
module

public import proofs.«01_k».proof.Proof.In.Rope
public import Idealize.ShloMosaic.Lib.Claim

@[expose] public section

set_option maxRecDepth 16384

noncomputable section

namespace Cert.In.Rope

open Idealize.ShloMosaic Idealize.ShloMosaic.TcCoe Idealize.SL.Sem Cert.Kernel5Ideal Cert.Kernel5Ideal.Gen

variable (m : (ℓ : Loc nD τ sig) → Buf (Elt Ideal) ℓ) (ρ : Dev nD → PrngReg)

/-! ### The operands that the host prepares -/

theorem angle_of (pos : (⟨2, ![16, 4096]⟩ : Shape).Idx → BitVec 32) (r : Fin 65536) (d : Fin 8) (n : Nat) (h : n = d.val) :
    FloatOps.sitofp (F := Ideal) .f32 (pos (ix2 (⟨r.val / 4096, by omega⟩ : Fin 16) (⟨r.val % 4096, by omega⟩ : Fin 4096)))
      * Ideal.pow (Ideal.ofBits .f32 1223959552#32) (Ideal.div (-FloatOps.sitofp (F := Ideal) .f32 (BitVec.ofNat 32 n)
        * Ideal.ofBits .f32 1073741824#32) (Ideal.ofBits .f32 1098907648#32)) = angle pos r d := by
  subst h
  rfl

theorem v0_apply (c : Dev nD) (r : Fin 65536) (j : Fin 1024) : V m c main_v0 (ix2 r j)
    = m ((c : Thread nD τ).loc main_arg0) (ix3 (⟨r.val / 4096, by omega⟩ : Fin 16) (⟨r.val % 4096, by omega⟩ : Fin 4096) j) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise []

theorem v24_apply (c : Dev nD) (k : Fin 1024) (j : Fin 2048) : V m c main_v24 (ix2 k j)
    = m ((c : Thread nD τ).loc main_arg3) (ix3 (0 : Fin 1) k (⟨j.val, by omega⟩ : Fin 3072)) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise []

theorem v28_apply (c : Dev nD) (j k : Fin 1024) : V m c main_v28 (ix2 j k)
    = m ((c : Thread nD τ).loc main_arg3) (ix3 (0 : Fin 1) k (⟨2048 + j.val, by omega⟩ : Fin 3072)) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise []

set_option maxHeartbeats 1000000 in
theorem v19_apply (c : Dev nD) (r : Fin 65536) (l : Fin 128) : V m c main_v19 (ix2 r l)
    = cosLane (fun d => Ideal.cos (angle (m ((c : Thread nD τ).loc main_arg2)) r d)) l := by
  unfold V cosLane
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise []
  after_results_simp
  pointwise []
  split_ifs
  all_goals first
    | rfl
    | omega
    | (refine congrArg Ideal.cos (angle_of _ r _ _ ?_)
       show _ = l.val % 8
       omega)

set_option maxHeartbeats 1000000 in
theorem v21_apply (c : Dev nD) (r : Fin 65536) (l : Fin 128) : V m c main_v21 (ix2 r l)
    = sinLane (fun d => Ideal.sin (angle (m ((c : Thread nD τ).loc main_arg2)) r d)) l := by
  unfold V sinLane
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise []
  after_results_simp
  pointwise []
  split_ifs
  all_goals first
    | rfl
    | omega
    | (refine congrArg Ideal.sin (angle_of _ r _ _ ?_)
       show _ = l.val % 8
       omega)
    | (refine congrArg (fun a => -Ideal.sin a) (angle_of _ r _ _ ?_)
       show _ = l.val % 8
       omega)

/-! ### The blocks as elements of the arguments -/

theorem N_le (t : Fin cfg0.N) : t.val < 128 := by exact lt_of_lt_of_eq t.isLt N_0

abbrev bigRow (t : Fin cfg0.N) (r : Fin 512) : Fin 65536 := ⟨512 * t.val + r.val, by have := N_le t; omega⟩

theorem index0 : ∀ t : Fin cfg0.N, win0_0.index t 0 = t.val ∧ win0_0.index t 1 = 0 := by decide +kernel
theorem index1 : ∀ t : Fin cfg0.N, win0_1.index t 0 = 6 ∧ win0_1.index t 1 = 0 ∧ win0_1.index t 2 = t.val / 8
    ∧ win0_1.index t 3 = 0 ∧ win0_1.index t 4 = 0 := by decide +kernel
theorem index2 : ∀ t : Fin cfg0.N, win0_2.index t 0 = 6 ∧ win0_2.index t 1 = 1 ∧ win0_2.index t 2 = t.val / 8
    ∧ win0_2.index t 3 = 0 ∧ win0_2.index t 4 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel

theorem iblk0_apply (c : Dev nD) (t : Fin cfg0.N) (r : Fin 512) (j : Fin 1024) :
    (iblk m c 0 t : Vec Ideal S512x1024 .f32) (ix2 r j) = V m c main_v0 (ix2 (bigRow t r) j) := by
  unfold iblk
  rw [View.read_apply, cast_eq]
  show V m c main_v0 _ = _
  refine congrArg _ (pair_ext _ _ ?_ ?_)
  · show win0_0.index t 0 * 512 + 1 * r.val = 512 * t.val + r.val
    rw [(index0 t).1]; omega
  · show win0_0.index t 1 * 1024 + 1 * j.val = j.val
    rw [(index0 t).2]; omega

theorem iblk3_apply (c : Dev nD) (t : Fin cfg0.N) (k : Fin 1024) (j : Fin 2048) :
    (iblk m c 3 t : Vec Ideal S1024x2048 .bf16) (ix2 k j) = V m c main_v24 (ix2 k j) := by
  unfold iblk
  rw [View.read_apply, cast_eq]
  show V m c main_v24 _ = _
  refine congrArg _ (pair_ext _ _ ?_ ?_)
  · show win0_3.index t 0 * 1024 + 1 * k.val = k.val
    rw [(index3 t).1]; omega
  · show win0_3.index t 1 * 2048 + 1 * j.val = j.val
    rw [(index3 t).2]; omega

theorem iblk4_apply (c : Dev nD) (t : Fin cfg0.N) (k : Fin 1024) (j : Fin 1024) :
    (iblk m c 4 t : Vec Ideal S1024x1024 .bf16) (ix2 k j) = V m c main_v28 (ix2 k j) := by
  unfold iblk
  rw [View.read_apply, cast_eq]
  show V m c main_v28 _ = _
  refine congrArg _ (pair_ext _ _ ?_ ?_)
  · show win0_4.index t 0 * 1024 + 1 * k.val = k.val
    rw [(index4 t).1]; omega
  · show win0_4.index t 1 * 1024 + 1 * j.val = j.val
    rw [(index4 t).2]; omega

theorem iblk5_apply (c : Dev nD) (t : Fin cfg0.N) (r : Fin 512) (j : Fin 128) :
    (iblk m c 5 t : Vec Ideal S512x128 .f32) (ix2 r j) = V m c main_v19 (ix2 (bigRow t r) j) := by
  unfold iblk
  rw [View.read_apply, cast_eq]
  show V m c main_v19 _ = _
  refine congrArg _ (pair_ext _ _ ?_ ?_)
  · show win0_5.index t 0 * 512 + 1 * r.val = 512 * t.val + r.val
    rw [(index5 t).1]; omega
  · show win0_5.index t 1 * 128 + 1 * j.val = j.val
    rw [(index5 t).2]; omega

theorem iblk6_apply (c : Dev nD) (t : Fin cfg0.N) (r : Fin 512) (j : Fin 128) :
    (iblk m c 6 t : Vec Ideal S512x128 .f32) (ix2 r j) = V m c main_v21 (ix2 (bigRow t r) j) := by
  unfold iblk
  rw [View.read_apply, cast_eq]
  show V m c main_v21 _ = _
  refine congrArg _ (pair_ext _ _ ?_ ?_)
  · show win0_6.index t 0 * 512 + 1 * r.val = 512 * t.val + r.val
    rw [(index6 t).1]; omega
  · show win0_6.index t 1 * 128 + 1 * j.val = j.val
    rw [(index6 t).2]; omega

abbrev seqOf (t : Fin cfg0.N) : Fin 16 := ⟨t.val / 8, by have := N_le t; omega⟩

theorem iblk1_apply (c : Dev nD) (t : Fin cfg0.N) (j : Fin 1024) :
    (iblk m c 1 t : Vec Ideal S1x1x1x1x1024 .f32) (ix5 0 0 0 0 j)
      = m ((c : Thread nD τ).loc main_arg1) (ix5 (6 : Fin 8) (0 : Fin 3) (seqOf t) (0 : Fin 1) j) := by
  unfold iblk
  rw [View.read_apply, cast_eq]
  show V m c main_arg1 _ = _
  rw [V_main_arg1]
  refine congrArg _ (funext fun a => Fin.ext ?_)
  match a with
  | ⟨0, _⟩ => show win0_1.index t 0 * 1 + 1 * 0 = 6; rw [(index1 t).1]
  | ⟨1, _⟩ => show win0_1.index t 1 * 1 + 1 * 0 = 0; rw [(index1 t).2.1]
  | ⟨2, _⟩ => show win0_1.index t 2 * 1 + 1 * 0 = t.val / 8; rw [(index1 t).2.2.1]; omega
  | ⟨3, _⟩ => show win0_1.index t 3 * 1 + 1 * 0 = 0; rw [(index1 t).2.2.2.1]
  | ⟨4, _⟩ => show win0_1.index t 4 * 1024 + 1 * j.val = j.val; rw [(index1 t).2.2.2.2]; omega

theorem iblk2_apply (c : Dev nD) (t : Fin cfg0.N) (j : Fin 1024) :
    (iblk m c 2 t : Vec Ideal S1x1x1x1x1024 .f32) (ix5 0 0 0 0 j)
      = m ((c : Thread nD τ).loc main_arg1) (ix5 (6 : Fin 8) (1 : Fin 3) (seqOf t) (0 : Fin 1) j) := by
  unfold iblk
  rw [View.read_apply, cast_eq]
  show V m c main_arg1 _ = _
  rw [V_main_arg1]
  refine congrArg _ (funext fun a => Fin.ext ?_)
  match a with
  | ⟨0, _⟩ => show win0_2.index t 0 * 1 + 1 * 0 = 6; rw [(index2 t).1]
  | ⟨1, _⟩ => show win0_2.index t 1 * 1 + 1 * 0 = 1; rw [(index2 t).2.1]
  | ⟨2, _⟩ => show win0_2.index t 2 * 1 + 1 * 0 = t.val / 8; rw [(index2 t).2.2.1]; omega
  | ⟨3, _⟩ => show win0_2.index t 3 * 1 + 1 * 0 = 0; rw [(index2 t).2.2.2.1]
  | ⟨4, _⟩ => show win0_2.index t 4 * 1024 + 1 * j.val = j.val; rw [(index2 t).2.2.2.2]; omega

theorem token_eq (c : Dev nD) (t : Fin cfg0.N) (r : Fin 512) :
    modulate (row (iblk m c 0 t : Vec Ideal S512x1024 .f32) r) (vec5 (iblk m c 2 t : Vec Ideal S1x1x1x1x1024 .f32)) (vec5 (iblk m c 1 t : Vec Ideal S1x1x1x1x1024 .f32))
      = token (m ((c : Thread nD τ).loc main_arg0)) (m ((c : Thread nD τ).loc main_arg1)) 6 (bigRow t r) := by
  have hs : seqOf t = ⟨(bigRow t r).val / 4096, by omega⟩ := Fin.ext (by show t.val / 8 = (512 * t.val + r.val) / 4096; omega)
  unfold token
  rw [← hs]
  have e0 : row (iblk m c 0 t : Vec Ideal S512x1024 .f32) r = fun k => m ((c : Thread nD τ).loc main_arg0) (ix3 (seqOf t) (⟨(bigRow t r).val % 4096, by omega⟩ : Fin 4096) k) :=
    funext fun k => (iblk0_apply m c t r k).trans (by rw [v0_apply, hs])
  rw [e0, show vec5 (iblk m c 2 t : Vec Ideal S1x1x1x1x1024 .f32) = _ from funext fun k => iblk2_apply m c t k,
    show vec5 (iblk m c 1 t : Vec Ideal S1x1x1x1x1024 .f32) = _ from funext fun k => iblk1_apply m c t k]

/-! ### The results -/

/-- Element `n` of token `r`'s product with the weight. -/
def projected (x : (⟨3, ![16, 4096, 1024]⟩ : Shape).Idx → EReal) (md : (⟨5, ![8, 3, 16, 1, 1024]⟩ : Shape).Idx → EReal)
    (w : (⟨3, ![1, 1024, 3072]⟩ : Shape).Idx → EReal) (r : Fin 65536) (n : Fin 3072) : EReal :=
  times (token x md 6 r) (fun k n => w (ix3 (0 : Fin 1) k n)) n

/-- Element `j` of token `r`'s 1024 columns from `b` on, under the rotary embedding at the token's position. -/
def turned (x : (⟨3, ![16, 4096, 1024]⟩ : Shape).Idx → EReal) (md : (⟨5, ![8, 3, 16, 1, 1024]⟩ : Shape).Idx → EReal)
    (pos : (⟨2, ![16, 4096]⟩ : Shape).Idx → BitVec 32) (w : (⟨3, ![1, 1024, 3072]⟩ : Shape).Idx → EReal)
    (b : Nat) (hb : b ≤ 1024) (r : Fin 65536) (j : Fin 1024) : EReal :=
  rope (fun n => projected x md w r (⟨b + n.val, by omega⟩ : Fin 3072)) (fun d => Ideal.cos (angle pos r d))
    (fun d => Ideal.sin (angle pos r d)) j

abbrev turnedAt (c : Dev nD) (b : Nat) (hb : b ≤ 1024) (r : Fin 65536) (j : Fin 1024) : EReal :=
  turned (m ((c : Thread nD τ).loc main_arg0)) (m ((c : Thread nD τ).loc main_arg1)) (m ((c : Thread nD τ).loc main_arg2))
    (m ((c : Thread nD τ).loc main_arg3)) b hb r j

theorem part_eq (c : Dev nD) (t : Fin cfg0.N) (r : Fin 512) (b : Nat) (hb : b ≤ 1024) :
    part (iblk m c 0 t) (iblk m c 1 t) (iblk m c 2 t) (iblk m c 3 t) r b hb
      = fun n => projected (m ((c : Thread nD τ).loc main_arg0)) (m ((c : Thread nD τ).loc main_arg1)) (m ((c : Thread nD τ).loc main_arg3))
          (bigRow t r) (⟨b + n.val, by omega⟩ : Fin 3072) := by
  funext n
  unfold part projected
  rw [token_eq]
  exact Finset.sum_congr rfl fun k _ => congrArg (token _ _ 6 (bigRow t r) k * ·) ((iblk3_apply m c t k _).trans (v24_apply m c k _))

def res7 (c : Dev nD) : Buf (Elt Ideal) ((c : Thread nD τ).loc main_v29_0) :=
  fun (i : S65536x1024.Idx) => turnedAt m c 0 (by omega) (i 0) (i 1)
def res8 (c : Dev nD) : Buf (Elt Ideal) ((c : Thread nD τ).loc main_v29_1) :=
  fun (i : S65536x1024.Idx) => turnedAt m c 1024 (by omega) (i 0) (i 1)
def res9 (c : Dev nD) : Buf (Elt Ideal) ((c : Thread nD τ).loc main_v29_2) :=
  fun (i : S1024x65536.Idx) => projected (m ((c : Thread nD τ).loc main_arg0)) (m ((c : Thread nD τ).loc main_arg1))
    (m ((c : Thread nD τ).loc main_arg3)) (i 1) (⟨2048 + (i 0).val, by have : (i 0).val < 1024 := (i 0).isLt; omega⟩ : Fin 3072)

theorem index7 : ∀ t : Fin cfg0.N, win0_7.index t 0 = t.val ∧ win0_7.index t 1 = 0 := by decide +kernel
theorem index8 : ∀ t : Fin cfg0.N, win0_8.index t 0 = t.val ∧ win0_8.index t 1 = 0 := by decide +kernel
theorem index9 : ∀ t : Fin cfg0.N, win0_9.index t 0 = 0 ∧ win0_9.index t 1 = t.val := by decide +kernel

theorem flushed7_eq (c : Dev nD) (t : Fin cfg0.N) :
    (dats m 0 c).flushed 7 t = (win0_7.blk t).view.read (Elt Ideal) (res7 m c) := by
  rw [Cert.Kernel5Ideal.Value.flushed7]
  funext i
  obtain ⟨r, j, rfl⟩ : ∃ (r : Fin 512) (j : Fin 1024), i = ix2 r j :=
    ⟨i 0, i 1, funext fun a => match a with | ⟨0, _⟩ => rfl | ⟨1, _⟩ => rfl⟩
  refine (out7_apply (iblk m c 0 t) (iblk m c 1 t) (iblk m c 2 t) (iblk m c 3 t) (iblk m c 4 t) (iblk m c 5 t) (iblk m c 6 t) r _ _
    (fun l => (iblk5_apply m c t r l).trans (v19_apply m c (bigRow t r) l))
    (fun l => (iblk6_apply m c t r l).trans (v21_apply m c (bigRow t r) l)) j).trans ?_
  rw [part_eq, View.read_apply, cast_eq]
  refine (show _ = res7 m c (ix2 (bigRow t r) j) from rfl).trans (congrArg (res7 m c) (pair_ext _ _ ?_ ?_))
  · show 512 * t.val + r.val = win0_7.index t 0 * 512 + 1 * r.val
    rw [(index7 t).1]; omega
  · show j.val = win0_7.index t 1 * 1024 + 1 * j.val
    rw [(index7 t).2]; omega

theorem cover7 (i : S65536x1024.Idx) : ∃ t : Fin cfg0.N, (cfg0.win 7).flush t = true ∧ i ∈ ((cfg0.win 7).blk t).view.set := by
  have h0 : (i 0 : Nat) < 65536 := (i 0).isLt
  have h1 : (i 1 : Nat) < 1024 := (i 1).isLt
  have ht : (i 0 : Nat) / 512 < cfg0.N := lt_of_lt_of_eq (by omega : (i 0 : Nat) / 512 < 128) N_0.symm
  refine ⟨⟨(i 0 : Nat) / 512, ht⟩, flush0_7 _, ?_⟩
  generalize hT : (⟨(i 0 : Nat) / 512, ht⟩ : Fin cfg0.N) = T
  have hv : T.val = (i 0 : Nat) / 512 := by rw [← hT]
  show i ∈ ((View.whole main_v29_0).slice (win0_7.rect T)).set
  rw [View.set_slice_whole, Rect.mem_set_unit]
  intro a
  match a with
  | ⟨0, _⟩ =>
    show win0_7.index T 0 * 512 ≤ (i 0 : Nat) ∧ (i 0 : Nat) < win0_7.index T 0 * 512 + 512
    rw [(index7 T).1, hv]
    omega
  | ⟨1, _⟩ =>
    show win0_7.index T 1 * 1024 ≤ (i 1 : Nat) ∧ (i 1 : Nat) < win0_7.index T 1 * 1024 + 1024
    rw [(index7 T).2]
    omega

theorem flushed8_eq (c : Dev nD) (t : Fin cfg0.N) :
    (dats m 0 c).flushed 8 t = (win0_8.blk t).view.read (Elt Ideal) (res8 m c) := by
  rw [Cert.Kernel5Ideal.Value.flushed8]
  funext i
  obtain ⟨r, j, rfl⟩ : ∃ (r : Fin 512) (j : Fin 1024), i = ix2 r j :=
    ⟨i 0, i 1, funext fun a => match a with | ⟨0, _⟩ => rfl | ⟨1, _⟩ => rfl⟩
  refine (out8_apply (iblk m c 0 t) (iblk m c 1 t) (iblk m c 2 t) (iblk m c 3 t) (iblk m c 4 t) (iblk m c 5 t) (iblk m c 6 t) r _ _
    (fun l => (iblk5_apply m c t r l).trans (v19_apply m c (bigRow t r) l))
    (fun l => (iblk6_apply m c t r l).trans (v21_apply m c (bigRow t r) l)) j).trans ?_
  rw [part_eq, View.read_apply, cast_eq]
  refine (show _ = res8 m c (ix2 (bigRow t r) j) from rfl).trans (congrArg (res8 m c) (pair_ext _ _ ?_ ?_))
  · show 512 * t.val + r.val = win0_8.index t 0 * 512 + 1 * r.val
    rw [(index8 t).1]; omega
  · show j.val = win0_8.index t 1 * 1024 + 1 * j.val
    rw [(index8 t).2]; omega

theorem cover8 (i : S65536x1024.Idx) : ∃ t : Fin cfg0.N, (cfg0.win 8).flush t = true ∧ i ∈ ((cfg0.win 8).blk t).view.set := by
  have h0 : (i 0 : Nat) < 65536 := (i 0).isLt
  have h1 : (i 1 : Nat) < 1024 := (i 1).isLt
  have ht : (i 0 : Nat) / 512 < cfg0.N := lt_of_lt_of_eq (by omega : (i 0 : Nat) / 512 < 128) N_0.symm
  refine ⟨⟨(i 0 : Nat) / 512, ht⟩, flush0_8 _, ?_⟩
  generalize hT : (⟨(i 0 : Nat) / 512, ht⟩ : Fin cfg0.N) = T
  have hv : T.val = (i 0 : Nat) / 512 := by rw [← hT]
  show i ∈ ((View.whole main_v29_1).slice (win0_8.rect T)).set
  rw [View.set_slice_whole, Rect.mem_set_unit]
  intro a
  match a with
  | ⟨0, _⟩ =>
    show win0_8.index T 0 * 512 ≤ (i 0 : Nat) ∧ (i 0 : Nat) < win0_8.index T 0 * 512 + 512
    rw [(index8 T).1, hv]
    omega
  | ⟨1, _⟩ =>
    show win0_8.index T 1 * 1024 ≤ (i 1 : Nat) ∧ (i 1 : Nat) < win0_8.index T 1 * 1024 + 1024
    rw [(index8 T).2]
    omega

theorem flushed9_eq (c : Dev nD) (t : Fin cfg0.N) :
    (dats m 0 c).flushed 9 t = (win0_9.blk t).view.read (Elt Ideal) (res9 m c) := by
  rw [Cert.Kernel5Ideal.Value.flushed9]
  funext i
  obtain ⟨j, r, rfl⟩ : ∃ (j : Fin 1024) (r : Fin 512), i = ix2 j r :=
    ⟨i 0, i 1, funext fun a => match a with | ⟨0, _⟩ => rfl | ⟨1, _⟩ => rfl⟩
  refine (out9_apply _ _ _ _ _ _ _ r j).trans ?_
  rw [token_eq, View.read_apply, cast_eq]
  refine (congrArg (fun W => times _ W j) (funext fun k => funext fun n => (iblk4_apply m c t n k).trans (v28_apply m c n k))).trans ?_
  refine (show _ = res9 m c (ix2 j (bigRow t r)) from rfl).trans (congrArg (res9 m c) (pair_ext _ _ ?_ ?_))
  · show j.val = win0_9.index t 0 * 1024 + 1 * j.val
    rw [(index9 t).1]; omega
  · show 512 * t.val + r.val = win0_9.index t 1 * 512 + 1 * r.val
    rw [(index9 t).2]; omega

theorem cover9 (i : S1024x65536.Idx) : ∃ t : Fin cfg0.N, (cfg0.win 9).flush t = true ∧ i ∈ ((cfg0.win 9).blk t).view.set := by
  have h0 : (i 0 : Nat) < 1024 := (i 0).isLt
  have h1 : (i 1 : Nat) < 65536 := (i 1).isLt
  have ht : (i 1 : Nat) / 512 < cfg0.N := lt_of_lt_of_eq (by omega : (i 1 : Nat) / 512 < 128) N_0.symm
  refine ⟨⟨(i 1 : Nat) / 512, ht⟩, flush0_9 _, ?_⟩
  generalize hT : (⟨(i 1 : Nat) / 512, ht⟩ : Fin cfg0.N) = T
  have hv : T.val = (i 1 : Nat) / 512 := by rw [← hT]
  show i ∈ ((View.whole main_v29_2).slice (win0_9.rect T)).set
  rw [View.set_slice_whole, Rect.mem_set_unit]
  intro a
  match a with
  | ⟨0, _⟩ =>
    show win0_9.index T 0 * 1024 ≤ (i 0 : Nat) ∧ (i 0 : Nat) < win0_9.index T 0 * 1024 + 1024
    rw [(index9 T).1]
    omega
  | ⟨1, _⟩ =>
    show win0_9.index T 1 * 512 ≤ (i 1 : Nat) ∧ (i 1 : Nat) < win0_9.index T 1 * 512 + 512
    rw [(index9 T).2, hv]
    omega

/-- The run of the projection's program: the three result arrays are the ones above, the arguments are unchanged. -/
theorem run : θ_run defs (onTc (τ := τ) (main (F := Ideal))) ⟨m, fun _ => 0, ρ⟩ fun r => ∀ c : Dev nD,
      r.2.mem ((c : Thread nD τ).loc main_v29_0) = res7 m c
      ∧ r.2.mem ((c : Thread nD τ).loc main_v29_1) = res8 m c
      ∧ r.2.mem ((c : Thread nD τ).loc main_v29_2) = res9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 7 (res7 m c) (fun t _ => flushed7_eq m c t) cover7),
      (h c).2.1.trans ((dats m 0 c).arrAt_eq_of_cover 8 (res8 m c) (fun t _ => flushed8_eq m c t) cover8),
      (h c).2.2.1.trans ((dats m 0 c).arrAt_eq_of_cover 9 (res9 m c) (fun t _ => flushed9_eq m c t) cover9),
      (h c).2.2.2⟩)
    (Cert.Kernel5Ideal.Value.run_blocks m ρ)

end Cert.In.Rope

end
-- ==== Proof.In.RopeRef.lean ====
/-
  Layer 3's input projection as the reference has it, stage by stage, read at an index.
-/
module

public import proofs.«01_k».proof.Proof.In.RopeRun
public import proofs.«01_k».proof.Proof.Gen.Reference5Ideal.Read
public import proofs.«01_k».proof.Proof.Gen.Reference5Ideal.Run

@[expose] public section

set_option maxRecDepth 16384

noncomputable section

namespace Cert.In.RopeRef

open Idealize.ShloMosaic Idealize.ShloMosaic.TcCoe Cert.Reference5Ideal Cert.Reference5Ideal.Read

variable (x0 : (⟨S16x4096x1024, .f32⟩ : BufTy).Contents (Elt Ideal)) (x1 : (⟨S8x3x16x1x1024, .f32⟩ : BufTy).Contents (Elt Ideal)) (x2 : (⟨S16x4096, .i32⟩ : BufTy).Contents (Elt Ideal)) (x3 : (⟨S1x1024x3072, .f32⟩ : BufTy).Contents (Elt Ideal))

abbrev seqOf (r : Fin 65536) : Fin 16 := ⟨r.val / 4096, by omega⟩
abbrev posOf (r : Fin 65536) : Fin 4096 := ⟨r.val % 4096, by omega⟩

theorem v18_apply (p : Fin 16) (s : Fin 4096) (j : Fin 1024) :
    val_main_v18 (F := Ideal) x0 x1 (ix3 p s j) = modulate (fun k => x0 (ix3 p s k)) (fun k => x1 (ix5 (6 : Fin 8) (1 : Fin 3) p (0 : Fin 1) k))
      (fun k => x1 (ix5 (6 : Fin 8) (0 : Fin 3) p (0 : Fin 1) k)) j := by
  unfold val_main_v18 val_main_v17 val_main_v16 val_main_v15 val_main_v14 val_main_v13 val_main_v12 val_main_v11 val_main_v10 val_main_cst val_main_v9 val_main_v8 val_main_v7 val_main_v6 val_main_v5 val_main_v4 val_main_v3 val_main_v2 val_main_v1 val_main_v0
  pointwise [] <;> rfl

theorem v20_apply (p : Fin 16) (s : Fin 4096) (j : Fin 3072) :
    val_main_v20 (F := Ideal) x0 x1 x3 (ix3 p s j) = times (fun k => val_main_v18 (F := Ideal) x0 x1 (ix3 p s k)) (fun k n => x3 (ix3 (0 : Fin 1) k n)) j := by
  unfold val_main_v20 val_main_v19
  generalize val_main_v18 (F := Ideal) x0 x1 = z
  pointwise [] <;> rfl

/-- The token's row is the same function of the arguments that the kernel computes. -/
theorem row_eq (r : Fin 65536) : (fun k => val_main_v18 (F := Ideal) x0 x1 (ix3 (seqOf r) (posOf r) k)) = token x0 x1 6 r :=
  funext fun k => v18_apply x0 x1 _ _ k

/-- An element of the product, as the function of the arguments that the kernel computes. -/
theorem v20_proj (r : Fin 65536) (n : Fin 3072) : val_main_v20 (F := Ideal) x0 x1 x3 (ix3 (seqOf r) (posOf r) n) = Rope.projected x0 x1 x3 r n := by
  rw [v20_apply, row_eq]
  rfl

theorem v37_apply (r : Fin 65536) (d : Fin 8) : val_main_v37 (F := Ideal) x2 (ix3 (seqOf r) (posOf r) d) = Ideal.cos (angle x2 r d) := by
  unfold val_main_v37 val_main_v36 val_main_v35 val_main_v34 val_main_v33 val_main_v32 val_main_v31 val_main_v30 val_main_v29 val_main_cst_2 val_main_v28 val_main_v27 val_main_cst_1 val_main_v26 val_main_v25 val_main_cst_0 val_main_v24 val_main_v23
  pointwise []
  rfl

theorem v39_apply (r : Fin 65536) (d : Fin 8) : val_main_v39 (F := Ideal) x2 (ix3 (seqOf r) (posOf r) d) = Ideal.sin (angle x2 r d) := by
  unfold val_main_v39 val_main_v36 val_main_v35 val_main_v34 val_main_v33 val_main_v32 val_main_v31 val_main_v30 val_main_v29 val_main_cst_2 val_main_v28 val_main_v27 val_main_cst_1 val_main_v26 val_main_v25 val_main_cst_0 val_main_v24 val_main_v23
  pointwise []
  rfl

theorem v22_apply (r : Fin 65536) (h : Fin 16) (d : Fin 64) : val_main_v22 (F := Ideal) x0 x1 x3 (ix4 (seqOf r) (posOf r) h d)
    = Rope.projected x0 x1 x3 r (⟨0 + (h.val * 64 + d.val), by omega⟩ : Fin 3072) := by
  rw [← v20_proj]
  unfold val_main_v22 val_main_v21
  generalize val_main_v20 (F := Ideal) x0 x1 x3 = z
  pointwise [] <;>
    first
    | rfl
    | exact congrArg (fun n : Fin 3072 => z (ix3 (seqOf r) (posOf r) n)) (Fin.ext (by dsimp only; omega))

theorem v54_apply (p : Fin 16) (s : Fin 4096) (h : Fin 16) (d : Fin 64) : val_main_v54 (F := Ideal) x0 x1 x2 x3 (ix4 p s h d)
    = turn (fun d => val_main_v22 (F := Ideal) x0 x1 x3 (ix4 p s h d)) (fun d => val_main_v37 (F := Ideal) x2 (ix3 p s d)) (fun d => val_main_v39 (F := Ideal) x2 (ix3 p s d)) d := by
  unfold val_main_v54 val_main_v53 val_main_v52 val_main_v51 val_main_v50 val_main_v49 val_main_v48 val_main_v47 val_main_v46 val_main_v45 val_main_v44 val_main_v43 val_main_v42 val_main_v41 val_main_v40 val_main_v38
  generalize val_main_v22 (F := Ideal) x0 x1 x3 = z
  generalize val_main_v37 (F := Ideal) x2 = cs
  generalize val_main_v39 (F := Ideal) x2 = sn
  unfold turn
  pointwise []
  have e : ∀ a b : Fin 64, a.val = b.val → z (ix4 p s h a) = z (ix4 p s h b) := fun a b hab => by rw [Fin.ext hab]
  refine dite_congr rfl (fun h1 => ?_) (fun h1 => dite_congr (propext ⟨fun _ => by omega, fun _ => by omega⟩) (fun h2 => ?_) (fun h2 => ?_))
  · exact congrArg (fun a => z (ix4 p s h d) * cs (ix3 p s (⟨d.val, h1⟩ : Fin 8)) - a * sn (ix3 p s (⟨d.val, h1⟩ : Fin 8)))
      (e _ _ (Nat.add_comm 8 d.val))
  · have h3 : ¬ d.val < 8 := h1
    have h4 : d.val < 16 := h2
    exact congrArg (fun a => a * cs (ix3 p s (⟨d.val - 8, by omega⟩ : Fin 8))
        + z (ix4 p s h (⟨d.val - 8, by omega⟩ : Fin 64)) * sn (ix3 p s (⟨d.val - 8, by omega⟩ : Fin 8)))
      (e _ _ (by dsimp only; omega))
  · have h3 : ¬ d.val < 8 := h1
    have h4 : ¬ d.val < 16 := h2
    exact e _ _ (by dsimp only; omega)

theorem v90_apply (r : Fin 65536) (j : Fin 1024) : val_main_v90 (F := Ideal) x0 x1 x2 x3 (ix2 r j) = Rope.turned x0 x1 x2 x3 0 (by omega) r j := by
  have e : val_main_v90 (F := Ideal) x0 x1 x2 x3 (ix2 r j)
      = val_main_v54 (F := Ideal) x0 x1 x2 x3 (ix4 (seqOf r) (posOf r) (⟨j.val / 64, by omega⟩ : Fin 16) (⟨j.val % 64, by omega⟩ : Fin 64)) := by
    unfold val_main_v90
    generalize val_main_v54 (F := Ideal) x0 x1 x2 x3 = z
    pointwise [] <;> rfl
  rw [e, v54_apply]
  simp only [v22_apply, v37_apply, v39_apply]
  exact (rope_eq (fun n => Rope.projected x0 x1 x3 r (⟨0 + n.val, by omega⟩ : Fin 3072)) _ _ j).symm

theorem v71_apply (r : Fin 65536) (d : Fin 8) : val_main_v71 (F := Ideal) x2 (ix3 (seqOf r) (posOf r) d) = Ideal.cos (angle x2 r d) := by
  unfold val_main_v71 val_main_v70 val_main_v69 val_main_v68 val_main_v67 val_main_v66 val_main_v65 val_main_v64 val_main_v63 val_main_cst_5 val_main_v62 val_main_v61 val_main_cst_4 val_main_v60 val_main_v59 val_main_cst_3 val_main_v58 val_main_v57
  pointwise []
  rfl

theorem v73_apply (r : Fin 65536) (d : Fin 8) : val_main_v73 (F := Ideal) x2 (ix3 (seqOf r) (posOf r) d) = Ideal.sin (angle x2 r d) := by
  unfold val_main_v73 val_main_v70 val_main_v69 val_main_v68 val_main_v67 val_main_v66 val_main_v65 val_main_v64 val_main_v63 val_main_cst_5 val_main_v62 val_main_v61 val_main_cst_4 val_main_v60 val_main_v59 val_main_cst_3 val_main_v58 val_main_v57
  pointwise []
  rfl

theorem v56_apply (r : Fin 65536) (h : Fin 16) (d : Fin 64) : val_main_v56 (F := Ideal) x0 x1 x3 (ix4 (seqOf r) (posOf r) h d)
    = Rope.projected x0 x1 x3 r (⟨1024 + (h.val * 64 + d.val), by omega⟩ : Fin 3072) := by
  rw [← v20_proj]
  unfold val_main_v56 val_main_v55
  generalize val_main_v20 (F := Ideal) x0 x1 x3 = z
  pointwise [] <;>
    first
    | rfl
    | exact congrArg (fun n : Fin 3072 => z (ix3 (seqOf r) (posOf r) n)) (Fin.ext (by dsimp only; omega))

theorem v88_apply (p : Fin 16) (s : Fin 4096) (h : Fin 16) (d : Fin 64) : val_main_v88 (F := Ideal) x0 x1 x2 x3 (ix4 p s h d)
    = turn (fun d => val_main_v56 (F := Ideal) x0 x1 x3 (ix4 p s h d)) (fun d => val_main_v71 (F := Ideal) x2 (ix3 p s d)) (fun d => val_main_v73 (F := Ideal) x2 (ix3 p s d)) d := by
  unfold val_main_v88 val_main_v87 val_main_v86 val_main_v85 val_main_v84 val_main_v83 val_main_v82 val_main_v81 val_main_v80 val_main_v79 val_main_v78 val_main_v77 val_main_v76 val_main_v75 val_main_v74 val_main_v72
  generalize val_main_v56 (F := Ideal) x0 x1 x3 = z
  generalize val_main_v71 (F := Ideal) x2 = cs
  generalize val_main_v73 (F := Ideal) x2 = sn
  unfold turn
  pointwise []
  have e : ∀ a b : Fin 64, a.val = b.val → z (ix4 p s h a) = z (ix4 p s h b) := fun a b hab => by rw [Fin.ext hab]
  refine dite_congr rfl (fun h1 => ?_) (fun h1 => dite_congr (propext ⟨fun _ => by omega, fun _ => by omega⟩) (fun h2 => ?_) (fun h2 => ?_))
  · exact congrArg (fun a => z (ix4 p s h d) * cs (ix3 p s (⟨d.val, h1⟩ : Fin 8)) - a * sn (ix3 p s (⟨d.val, h1⟩ : Fin 8)))
      (e _ _ (Nat.add_comm 8 d.val))
  · have h3 : ¬ d.val < 8 := h1
    have h4 : d.val < 16 := h2
    exact congrArg (fun a => a * cs (ix3 p s (⟨d.val - 8, by omega⟩ : Fin 8))
        + z (ix4 p s h (⟨d.val - 8, by omega⟩ : Fin 64)) * sn (ix3 p s (⟨d.val - 8, by omega⟩ : Fin 8)))
      (e _ _ (by dsimp only; omega))
  · have h3 : ¬ d.val < 8 := h1
    have h4 : ¬ d.val < 16 := h2
    exact e _ _ (by dsimp only; omega)

theorem v92_apply (r : Fin 65536) (j : Fin 1024) : val_main_v92 (F := Ideal) x0 x1 x2 x3 (ix2 r j) = Rope.turned x0 x1 x2 x3 1024 (by omega) r j := by
  have e : val_main_v92 (F := Ideal) x0 x1 x2 x3 (ix2 r j)
      = val_main_v88 (F := Ideal) x0 x1 x2 x3 (ix4 (seqOf r) (posOf r) (⟨j.val / 64, by omega⟩ : Fin 16) (⟨j.val % 64, by omega⟩ : Fin 64)) := by
    unfold val_main_v92 val_main_v91
    generalize val_main_v88 (F := Ideal) x0 x1 x2 x3 = z
    pointwise [] <;> rfl
  rw [e, v88_apply]
  simp only [v56_apply, v71_apply, v73_apply]
  exact (rope_eq (fun n => Rope.projected x0 x1 x3 r (⟨1024 + n.val, by omega⟩ : Fin 3072)) _ _ j).symm

theorem v95_apply (j : Fin 1024) (r : Fin 65536) : val_main_v95 (F := Ideal) x0 x1 x3 (ix2 j r) = Rope.projected x0 x1 x3 r (⟨2048 + j.val, by omega⟩ : Fin 3072) := by
  rw [← v20_proj]
  unfold val_main_v95 val_main_v94 val_main_v93 val_main_v89
  generalize val_main_v20 (F := Ideal) x0 x1 x3 = z
  pointwise [] <;> rfl

end Cert.In.RopeRef

end
-- ==== Proof.In.RopeClaims.lean ====
/-
  The input projection of layer 3: the frames of its three programs, and the agreement of the kernel with the reference.
-/
module

public import proofs.«01_k».proof.Defs
public import proofs.«01_k».proof.Proof.Gen.Kernel5.Frame
public import proofs.«01_k».proof.Proof.Gen.Kernel5Ideal.Frame
public import proofs.«01_k».proof.Proof.In.RopeRef
public import Idealize.ShloMosaic.Lib.Quiescent

@[expose] public section

set_option maxRecDepth 16384

noncomputable section

namespace Cert.In.Rope

open Idealize.ShloMosaic Idealize.ShloMosaic.TcCoe Idealize.SL.Sem

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem preserves : Cert.preserves_Kernel5_Kernel5Ideal := trivial

/-- An index of a result is a pair of a row and a column. -/
theorem eq_pair {a b : Nat} (i : (⟨2, ![a, b]⟩ : Shape).Idx) : ∃ (r : Fin a) (j : Fin b), i = ix2 r j :=
  ⟨i 0, i 1, funext fun a => match a with | ⟨0, _⟩ => rfl | ⟨1, _⟩ => rfl⟩

/-- Kernel and reference end with the same three result arrays. -/
theorem algebraic : Cert.algebraic_Kernel5Ideal_Reference5Ideal := by
  intro m ρ m' ρ' _ hagree
  refine ⟨fun c => res7 m c, fun c => res8 m c, fun c => res9 m c, run m ρ, ?_⟩
  refine (θ_run Cert.Reference5Ideal.defs _ _).mono (fun _ h c =>
      ⟨(h c).1.trans ?_, (h c).2.1.trans ?_, (h c).2.2.1.trans ?_, (h c).2.2.2⟩)
    (Cert.Reference5Ideal.Value.run (F := Ideal) m' ρ')
  · refine (Cert.Reference5Ideal.Read.val_main_v90_eq _ _).trans ?_
    obtain ⟨h0, h1, h2, h3⟩ := hagree c
    rw [h0, h1, h2, h3]
    funext i
    obtain ⟨r, j, rfl⟩ := eq_pair i
    exact Cert.In.RopeRef.v90_apply _ _ _ _ r j
  · refine (Cert.Reference5Ideal.Read.val_main_v92_eq _ _).trans ?_
    obtain ⟨h0, h1, h2, h3⟩ := hagree c
    rw [h0, h1, h2, h3]
    funext i
    obtain ⟨r, j, rfl⟩ := eq_pair i
    exact Cert.In.RopeRef.v92_apply _ _ _ _ r j
  · refine (Cert.Reference5Ideal.Read.val_main_v95_eq _ _ _).trans ?_
    obtain ⟨h0, h1, h2, h3⟩ := hagree c
    rw [h0, h1, h3]
    funext i
    obtain ⟨r, j, rfl⟩ := eq_pair i
    exact Cert.In.RopeRef.v95_apply _ _ _ r j

end Cert.In.Rope

end
-- ==== Proof.In.Swa.lean ====
/-
  Layer 1's input projection: what the kernel's body computes of its blocks.
-/
module

public import proofs.«01_k».proof.Proof.In.Rope
public import proofs.«01_k».proof.Proof.Gen.Kernel6Ideal.Value
public import Idealize.ShloMosaic.Lib.Pipeline.Value
public import Idealize.ShloMosaic.Lib.Pipeline.ValueKit.Tiles

@[expose] public section

set_option maxRecDepth 16384

noncomputable section

namespace Cert.In.Swa

open Idealize.ShloMosaic Idealize.ShloMosaic.TcCoe Idealize.SL.Sem Cert.Kernel6Ideal Cert.Kernel6Ideal.Gen

/-! ### The body's payloads, read at an index -/

theorem mask_apply (r : Fin 512) (l : Fin 128) :
    k0_pay10 k0_pay8 k0_pay9 (ix2 r l) = if l.val % 64 < 8 then 1#1 else 0#1 := by
  pointwise [k0_pay10, k0_pay8, k0_pay9]
  revert l
  decide +kernel

/-- Two heads side by side as the body turns them: the columns, the tables of cosines and sines. -/
def slab (A C S : FVec Ideal S512x128 .f32) : FVec Ideal S512x128 .f32 :=
  addf (mulf A C) (mulf (select (k0_pay10 k0_pay8 k0_pay9) (dynamicRotate 1 120#32 none A rotates_S512x128_d1)
    (dynamicRotate 1 8#32 none A rotates_S512x128_d1)) S)

theorem slab_apply (A C S : FVec Ideal S512x128 .f32) (r : Fin 512) (l : Fin 128) : slab A C S (ix2 r l)
    = A (ix2 r l) * C (ix2 r l) + (if l.val % 64 < 8 then A (ix2 r ⟨(l.val + 8) % 128, by omega⟩)
        else A (ix2 r ⟨(l.val + 120) % 128, by omega⟩)) * S (ix2 r l) := by
  have e1 : dynamicRotate 1 120#32 none A rotates_S512x128_d1 (ix2 r l) = A (ix2 r ⟨(l.val + 8) % 128, by omega⟩) :=
    congrArg A (pair_ext _ _ rfl (by show (l.val + 128 - 120) % 128 = (l.val + 8) % 128; omega))
  have e2 : dynamicRotate 1 8#32 none A rotates_S512x128_d1 (ix2 r l) = A (ix2 r ⟨(l.val + 120) % 128, by omega⟩) :=
    congrArg A (pair_ext _ _ rfl (by show (l.val + 128 - 8) % 128 = (l.val + 120) % 128; omega))
  show A (ix2 r l) * C (ix2 r l) + Scalar.select (k0_pay10 k0_pay8 k0_pay9 (ix2 r l)) (dynamicRotate 1 120#32 none A rotates_S512x128_d1 (ix2 r l))
    (dynamicRotate 1 8#32 none A rotates_S512x128_d1 (ix2 r l)) * S (ix2 r l) = _
  rw [e1, e2, mask_apply]
  by_cases h : l.val % 64 < 8
  · rw [if_pos h, if_pos h]; rfl
  · rw [if_neg h, if_neg h]; rfl

/-- The scale that the queries carry to the attention. -/
def queryScale : EReal := Ideal.ofBits .f32 0x3E38AA3B#32

def scaled (A : FVec Ideal S512x128 .f32) : FVec Ideal S512x128 .bf16 :=
  truncf .bf16 (mulf A (broadcast S512x128 (Scalar.ofBits .f32 0x3E38AA3B#32))) bitsLt_bf16_f32

theorem scaled_apply (A : FVec Ideal S512x128 .f32) (r : Fin 512) (l : Fin 128) : scaled A (ix2 r l) = A (ix2 r l) * queryScale := rfl

/-- The product with the 128 columns of the keys. -/
def narrow (h : FVec Ideal S512x1024 .bf16) (w : Vec Ideal S1024x128 .bf16) : FVec Ideal S512x128 .f32 :=
  matmul dot_S512x1024_S1024x128_S512x128_1_0_0_1_n_n none h
    (shapeCast S1024x128 w shapeCasts_S1024x128_S1024x128 : FVec Ideal S1024x128 .bf16) (constant S512x128 .f32 0x00000000#32)

theorem narrow_apply (x : Vec Ideal S512x1024 .f32) (sc sh : Vec Ideal S1x1x1x1x1024 .f32) (w : Vec Ideal S1024x128 .bf16) (r : Fin 512) (j : Fin 128) :
    narrow (k0_pay5 x sc sh) w (ix2 r j) = times (modulate (row x r) (vec5 sc) (vec5 sh)) (row w) j := by
  pointwise [narrow, k0_pay5]
  rfl

theorem first_apply (r : Fin 512) (l : Fin 128) : k0_pay11 (ix2 r l) = if l.val < 64 then 1#1 else 0#1 := by
  pointwise [k0_pay11]
  revert l
  decide +kernel

/-- The two ways the body doubles a head of the keys' slab: the first 64 lanes twice, the last 64 lanes twice. -/
theorem twice_first (V : FVec Ideal S512x128 .f32) (r : Fin 512) (l : Fin 128) :
    k0_pay2 k0_pay11 V 64#32 (ix2 r l) = V (ix2 r ⟨l.val % 64, by omega⟩) := by
  have e : dynamicRotate 1 64#32 none V rotates_S512x128_d1 (ix2 r l) = V (ix2 r ⟨(l.val + 64) % 128, by omega⟩) :=
    congrArg V (pair_ext _ _ rfl (by show (l.val + 128 - 64) % 128 = (l.val + 64) % 128; omega))
  show Scalar.select (k0_pay11 (ix2 r l)) (V (ix2 r l)) (dynamicRotate 1 64#32 none V rotates_S512x128_d1 (ix2 r l)) = _
  rw [e, first_apply]
  by_cases h : l.val < 64
  · rw [if_pos h]
    exact congrArg V (pair_ext _ _ rfl (by show l.val = l.val % 64; omega))
  · rw [if_neg h]
    exact congrArg V (pair_ext _ _ rfl (by show (l.val + 64) % 128 = l.val % 64; omega))

theorem twice_last (V : FVec Ideal S512x128 .f32) (r : Fin 512) (l : Fin 128) :
    k0_pay3 k0_pay11 V 64#32 (ix2 r l) = V (ix2 r ⟨64 + l.val % 64, by omega⟩) := by
  have e : dynamicRotate 1 64#32 none V rotates_S512x128_d1 (ix2 r l) = V (ix2 r ⟨(l.val + 64) % 128, by omega⟩) :=
    congrArg V (pair_ext _ _ rfl (by show (l.val + 128 - 64) % 128 = (l.val + 64) % 128; omega))
  show Scalar.select (k0_pay11 (ix2 r l)) (dynamicRotate 1 64#32 none V rotates_S512x128_d1 (ix2 r l)) (V (ix2 r l)) = _
  rw [e, first_apply]
  by_cases h : l.val < 64
  · rw [if_pos h]
    exact congrArg V (pair_ext _ _ rfl (by show (l.val + 64) % 128 = 64 + l.val % 64; omega))
  · rw [if_neg h]
    exact congrArg V (pair_ext _ _ rfl (by show l.val = 64 + l.val % 64; omega))

theorem wide_apply (x : Vec Ideal S512x1024 .f32) (sc sh : Vec Ideal S1x1x1x1x1024 .f32) (w : Vec Ideal S1024x256 .bf16) (r : Fin 512) (j : Fin 256) :
    k0_pay12 (k0_pay5 x sc sh) w (ix2 r j) = times (modulate (row x r) (vec5 sc) (vec5 sh)) (row w) j := by
  pointwise [k0_pay12, k0_pay5]
  rfl

theorem pay3_apply (x : Vec Ideal S512x1024 .f32) (sc sh : Vec Ideal S1x1x1x1x1024 .f32) (w : Vec Ideal S128x1024 .bf16) (r : Fin 512) (j : Fin 128) :
    k0_pay4 (k0_pay5 x sc sh) w (ix2 j r) = times (modulate (row x r) (vec5 sc) (vec5 sh)) (fun k n => w (ix2 n k)) j := by
  pointwise [k0_pay4, k0_pay5]
  exact Finset.sum_congr rfl fun k _ => mul_comm _ _

theorem ld_rows (x : Vec Ideal S512x1024 .f32) (r : Fin 512) : row (View.ld x r0_0 : Vec Ideal S512x1024 .f32) r = row x r :=
  funext fun k => congrArg x (pair_ext _ _ (by show 0 + 1 * r.val = r.val; omega) (by show 0 + 1 * k.val = k.val; omega))

theorem ld_vec5 (x : Vec Ideal S1x1x1x1x1024 .f32) : vec5 (View.ld x r0_1) = vec5 x :=
  funext fun k => congrArg x (funext fun a => Fin.ext (match a with
    | ⟨0, _⟩ => rfl | ⟨1, _⟩ => rfl | ⟨2, _⟩ => rfl | ⟨3, _⟩ => rfl | ⟨4, _⟩ => by show 0 + 1 * k.val = k.val; omega))

theorem ld_t (w : Vec Ideal S128x1024 .bf16) : (fun (k : Fin 1024) (n : Fin 128) => (View.ld w r0_18 : Vec Ideal S128x1024 .bf16) (ix2 n k))
    = fun k n => w (ix2 n k) :=
  funext fun k => funext fun j => congrArg w (pair_ext _ _ (by show 0 + 1 * j.val = j.val; omega) (by show 0 + 1 * k.val = k.val; omega))

theorem cos_apply (x : Vec Ideal S512x128 .f32) (r : Fin 512) (l : Fin 128) : k0_pay6 (View.ld x r0_2) (ix2 r l) = x (ix2 r l) := by
  have e : (View.ld x r0_2 : Vec Ideal S512x128 .f32) (ix2 r l) = x (ix2 r l) :=
    congrArg x (pair_ext _ _ (by show 0 + 1 * r.val = r.val; omega) (by show 0 + 1 * l.val = l.val; omega))
  rw [← e]
  generalize (View.ld x r0_2 : Vec Ideal S512x128 .f32) = y
  pointwise [k0_pay6]

theorem sin_apply (x : Vec Ideal S512x128 .f32) (r : Fin 512) (l : Fin 128) : k0_pay7 (View.ld x r0_2) (ix2 r l) = x (ix2 r l) := by
  have e : (View.ld x r0_2 : Vec Ideal S512x128 .f32) (ix2 r l) = x (ix2 r l) :=
    congrArg x (pair_ext _ _ (by show 0 + 1 * r.val = r.val; omega) (by show 0 + 1 * l.val = l.val; omega))
  rw [← e]
  generalize (View.ld x r0_2 : Vec Ideal S512x128 .f32) = y
  pointwise [k0_pay7]

theorem emb_turned (j : Fin 128) (r : Fin 512) : (ix2 j r : S128x512.Idx) = r0_19.emb (ix2 j r) :=
  pair_ext _ _ (show j.val = 0 + 1 * j.val by omega) (show r.val = 0 + 1 * r.val by omega)

section Body
variable (x0 : Vec Ideal S512x1024 .f32) (x1 x2 : Vec Ideal S1x1x1x1x1024 .f32) (x3 : Vec Ideal S1024x1152 .bf16)
  (x4 : Vec Ideal S128x1024 .bf16) (x5 x6 : Vec Ideal S512x128 .f32) (r : Fin 512)

/-- Element `n` of a row's product with the weight. -/
def part (n : Fin 1152) : EReal :=
  times (modulate (row x0 r) (vec5 x2) (vec5 x1)) (row x3) n

/-- 128 columns of the 256 that one product makes. -/
theorem half_apply (s : Nat) (hs : s < 8) (c0 off : Nat) (hc : c0 + off = 128 * s) (ho : off ≤ 128)
    (inbW : ∀ a, (![0, c0] : Fin 2 → Nat) a + S1024x256.size a ≤ S1024x1152.size a) (hsl : S512x256.Slices ![0, off] S512x128)
    (l : Fin 128) :
    extractStridedSlice S512x128 ![0, off] (k0_pay12 (k0_pay5 (View.ld x0 r0_0) (View.ld x2 r0_1) (View.ld x1 r0_1))
        (View.ld x3 (Rect.unit (s := S1024x1152) ![0, c0] S1024x256.size inbW))) hsl (ix2 r l)
      = part x0 x1 x2 x3 r (⟨128 * s + l.val, by omega⟩ : Fin 1152) := by
  have e : extractStridedSlice S512x128 ![0, off] (k0_pay12 (k0_pay5 (View.ld x0 r0_0) (View.ld x2 r0_1) (View.ld x1 r0_1))
        (View.ld x3 (Rect.unit (s := S1024x1152) ![0, c0] S1024x256.size inbW))) hsl (ix2 r l)
      = k0_pay12 (k0_pay5 (View.ld x0 r0_0) (View.ld x2 r0_1) (View.ld x1 r0_1))
        (View.ld x3 (Rect.unit (s := S1024x1152) ![0, c0] S1024x256.size inbW)) (ix2 r (⟨off + l.val, by omega⟩ : Fin 256)) :=
    congrArg (k0_pay12 (k0_pay5 (View.ld x0 r0_0) (View.ld x2 r0_1) (View.ld x1 r0_1))
      (View.ld x3 (Rect.unit (s := S1024x1152) ![0, c0] S1024x256.size inbW)))
      (pair_ext _ _ (by show 0 + r.val = r.val; omega) (by show off + l.val = off + l.val; omega))
  rw [e, wide_apply, ld_rows, ld_vec5, ld_vec5]
  unfold part times
  refine Finset.sum_congr rfl fun k _ => congrArg (modulate (row x0 r) (vec5 x2) (vec5 x1) k * ·) ?_
  exact congrArg x3 (pair_ext _ _ (by show 0 + 1 * k.val = k.val; omega)
    (by show c0 + 1 * (off + l.val) = 128 * s + l.val; omega))

/-- The columns of the queries, and those of the keys. -/
def queries (n : Fin 1024) : EReal := part x0 x1 x2 x3 r (⟨n.val, by omega⟩ : Fin 1152)
def keys (n : Fin 128) : EReal := part x0 x1 x2 x3 r (⟨1024 + n.val, by omega⟩ : Fin 1152)

theorem keys_apply (l : Fin 128) : narrow (k0_pay5 (View.ld x0 r0_0) (View.ld x2 r0_1) (View.ld x1 r0_1)) (View.ld x3 r0_15) (ix2 r l)
    = keys x0 x1 x2 x3 r l := by
  rw [narrow_apply, ld_rows, ld_vec5, ld_vec5]
  unfold keys part times
  refine Finset.sum_congr rfl fun k _ => congrArg (modulate (row x0 r) (vec5 x2) (vec5 x1) k * ·) ?_
  exact congrArg x3 (pair_ext _ _ (by show 0 + 1 * k.val = k.val; omega) (by show 1024 + 1 * l.val = 1024 + l.val; omega))

variable (cs sn : Fin 8 → EReal) (hC : ∀ l, x5 (ix2 r l) = cosLane cs l) (hS : ∀ l, x6 (ix2 r l) = sinLane sn l)
include hC hS

/-- What the body stores in 128 columns, at an element of the result. -/
theorem piece (s : Nat) (hs : s < 8) (c0 off o : Nat) (hc : c0 + off = 128 * s) (ho : off ≤ 128)
    (hO : o = 128 * s) (inbW : ∀ a, (![0, c0] : Fin 2 → Nat) a + S1024x256.size a ≤ S1024x1152.size a)
    (hsl : S512x256.Slices ![0, off] S512x128) (inb : ∀ a, (![0, o] : Fin 2 → Nat) a + S512x128.size a ≤ S512x1024.size a)
    (j : Fin 1024) (x : S512x128.Idx) (hx : (Rect.unit (s := S512x1024) ![0, o] S512x128.size inb).emb x = ix2 r j) :
    scaled (slab (extractStridedSlice S512x128 ![0, off] (k0_pay12 (k0_pay5 (View.ld x0 r0_0) (View.ld x2 r0_1) (View.ld x1 r0_1))
        (View.ld x3 (Rect.unit (s := S1024x1152) ![0, c0] S1024x256.size inbW))) hsl)
      (k0_pay6 (View.ld x5 r0_2)) (k0_pay7 (View.ld x6 r0_2))) x = rope (queries x0 x1 x2 x3 r) cs sn j * queryScale := by
  obtain ⟨r', l, rfl⟩ : ∃ (r' : Fin 512) (l : Fin 128), x = ix2 r' l :=
    ⟨x 0, x 1, funext fun a => match a with | ⟨0, _⟩ => rfl | ⟨1, _⟩ => rfl⟩
  have h0 : 0 + 1 * r'.val = r.val := congrArg (fun i : S512x1024.Idx => (i 0).val) hx
  have h1 : o + 1 * l.val = j.val := congrArg (fun i : S512x1024.Idx => (i 1).val) hx
  obtain rfl : r' = r := Fin.ext (by omega)
  have hl : 128 * s + l.val < 1024 := by omega
  rw [show j = (⟨128 * s + l.val, hl⟩ : Fin 1024) from Fin.ext (by show j.val = 128 * s + l.val; omega)]
  rw [scaled_apply, slab_apply, cos_apply, sin_apply, hC, hS]
  have hA := half_apply x0 x1 x2 x3 r' s hs c0 off hc ho inbW hsl
  rw [hA, hA, hA]
  exact congrArg (· * queryScale) (slab_eq (queries x0 x1 x2 x3 r') cs sn s hs l)

theorem out7_apply (j : Fin 1024) : out0_7 x0 x1 x2 x3 x4 x5 x6 (ix2 r j) = rope (queries x0 x1 x2 x3 r) cs sn j * queryScale := by
  unfold out0_7
  refine View.canon_eq_of_allAt _ _ _ (cover0_7 _ _ _ _ _ _ _ _ _) ?_
  refine View.allAt_cons _ _ _ (fun x hx => piece x0 x1 x2 x3 x5 x6 r cs sn hC hS 7 (by omega) 768 128 896 (by omega) (by omega)
    rfl inb_S1024x1152_S1024x256_0_768 slices_S512x256_o0_128_S512x128 inb_S512x1024_S512x128_0_896 j x hx) ?_
  refine View.allAt_cons _ _ _ (fun x hx => piece x0 x1 x2 x3 x5 x6 r cs sn hC hS 6 (by omega) 768 0 768 (by omega) (by omega)
    rfl inb_S1024x1152_S1024x256_0_768 slices_S512x256_o0_0_S512x128 inb_S512x1024_S512x128_0_768 j x hx) ?_
  refine View.allAt_cons _ _ _ (fun x hx => piece x0 x1 x2 x3 x5 x6 r cs sn hC hS 5 (by omega) 512 128 640 (by omega) (by omega)
    rfl inb_S1024x1152_S1024x256_0_512 slices_S512x256_o0_128_S512x128 inb_S512x1024_S512x128_0_640 j x hx) ?_
  refine View.allAt_cons _ _ _ (fun x hx => piece x0 x1 x2 x3 x5 x6 r cs sn hC hS 4 (by omega) 512 0 512 (by omega) (by omega)
    rfl inb_S1024x1152_S1024x256_0_512 slices_S512x256_o0_0_S512x128 inb_S512x1024_S512x128_0_512 j x hx) ?_
  refine View.allAt_cons _ _ _ (fun x hx => piece x0 x1 x2 x3 x5 x6 r cs sn hC hS 3 (by omega) 256 128 384 (by omega) (by omega)
    rfl inb_S1024x1152_S1024x256_0_256 slices_S512x256_o0_128_S512x128 inb_S512x1024_S512x128_0_384 j x hx) ?_
  refine View.allAt_cons _ _ _ (fun x hx => piece x0 x1 x2 x3 x5 x6 r cs sn hC hS 2 (by omega) 256 0 256 (by omega) (by omega)
    rfl inb_S1024x1152_S1024x256_0_256 slices_S512x256_o0_0_S512x128 inb_S512x1024_S512x128_0_256 j x hx) ?_
  refine View.allAt_cons _ _ _ (fun x hx => piece x0 x1 x2 x3 x5 x6 r cs sn hC hS 1 (by omega) 0 128 128 (by omega) (by omega)
    rfl inb_S1024x1152_S1024x256_0_0 slices_S512x256_o0_128_S512x128 inb_S512x1024_S512x128_0_128 j x hx) ?_
  refine View.allAt_cons _ _ _ (fun x hx => piece x0 x1 x2 x3 x5 x6 r cs sn hC hS 0 (by omega) 0 0 0 (by omega) (by omega)
    rfl inb_S1024x1152_S1024x256_0_0 slices_S512x256_o0_0_S512x128 inb_S512x1024_S512x128_0_0 j x hx) ?_
  exact View.allAt_nil _ _

/-- The keys' slab, turned. -/
theorem key_apply (l : Fin 128) : slab (narrow (k0_pay5 (View.ld x0 r0_0) (View.ld x2 r0_1) (View.ld x1 r0_1)) (View.ld x3 r0_15))
      (k0_pay6 (View.ld x5 r0_2)) (k0_pay7 (View.ld x6 r0_2)) (ix2 r l)
    = turn (fun d => keys x0 x1 x2 x3 r (⟨l.val / 64 * 64 + d.val, by omega⟩ : Fin 128)) cs sn (⟨l.val % 64, by omega⟩ : Fin 64) := by
  rw [slab_apply, cos_apply, sin_apply, hC, hS]
  simp only [keys_apply]
  exact slab_turn (keys x0 x1 x2 x3 r) cs sn l

theorem key_piece (s : Nat) (hs : s < 2) (V : FVec Ideal S512x128 .bf16)
    (hV : ∀ (l : Fin 128), V (ix2 r l) = slab (narrow (k0_pay5 (View.ld x0 r0_0) (View.ld x2 r0_1) (View.ld x1 r0_1)) (View.ld x3 r0_15))
      (k0_pay6 (View.ld x5 r0_2)) (k0_pay7 (View.ld x6 r0_2)) (ix2 r (⟨64 * s + l.val % 64, by omega⟩ : Fin 128)))
    (o : Nat) (hO : o = 128 * s) (inb : ∀ a, (![0, o] : Fin 2 → Nat) a + S512x128.size a ≤ S512x256.size a)
    (j : Fin 256) (x : S512x128.Idx) (hx : (Rect.unit (s := S512x256) ![0, o] S512x128.size inb).emb x = ix2 r j) :
    V x = turn (fun d => keys x0 x1 x2 x3 r (⟨j.val / 128 * 64 + d.val, by omega⟩ : Fin 128)) cs sn (⟨j.val % 64, by omega⟩ : Fin 64) := by
  obtain ⟨r', l, rfl⟩ : ∃ (r' : Fin 512) (l : Fin 128), x = ix2 r' l :=
    ⟨x 0, x 1, funext fun a => match a with | ⟨0, _⟩ => rfl | ⟨1, _⟩ => rfl⟩
  have h0 : 0 + 1 * r'.val = r.val := congrArg (fun i : S512x256.Idx => (i 0).val) hx
  have h1 : o + 1 * l.val = j.val := congrArg (fun i : S512x256.Idx => (i 1).val) hx
  obtain rfl : r' = r := Fin.ext (by omega)
  rw [hV, key_apply x0 x1 x2 x3 x5 x6 r' cs sn hC hS]
  have e : ∀ a b : Nat, ∀ ha : a < 128, ∀ hb : b < 128, a = b → keys x0 x1 x2 x3 r' ⟨a, ha⟩ = keys x0 x1 x2 x3 r' ⟨b, hb⟩ :=
    fun a b ha hb h => by subst h; rfl
  exact congrArg₂ (fun f d => turn f cs sn d) (funext fun d => e _ _ _ _ (by dsimp only; omega)) (Fin.ext (by dsimp only; omega))

theorem out8_apply (j : Fin 256) : out0_8 x0 x1 x2 x3 x4 x5 x6 (ix2 r j)
    = turn (fun d => keys x0 x1 x2 x3 r (⟨j.val / 128 * 64 + d.val, by omega⟩ : Fin 128)) cs sn (⟨j.val % 64, by omega⟩ : Fin 64) := by
  unfold out0_8
  refine View.canon_eq_of_allAt _ _ _ (cover0_8 _ _ _) ?_
  refine View.allAt_cons _ _ _ (fun x hx => key_piece x0 x1 x2 x3 x5 x6 r cs sn hC hS 1 (by omega) _ (fun l => twice_last _ r l) 128 rfl
    inb_S512x256_S512x128_0_128 j x hx) ?_
  refine View.allAt_cons _ _ _ (fun x hx => key_piece x0 x1 x2 x3 x5 x6 r cs sn hC hS 0 (by omega) _
    (fun l => (twice_first _ r l).trans (congrArg _ (pair_ext _ _ rfl (by show l.val % 64 = 64 * 0 + l.val % 64; omega)))) 0 rfl
    inb_S512x256_S512x128_0_0 j x hx) ?_
  exact View.allAt_nil _ _

omit hC hS in
theorem out9_apply (j : Fin 128) : out0_9 x0 x1 x2 x3 x4 x5 x6 (ix2 j r)
    = times (modulate (row x0 r) (vec5 x2) (vec5 x1)) (fun k n => x4 (ix2 n k)) j := by
  unfold out0_9
  rw [emb_turned, View.canon_cons_emb]
  refine (pay3_apply _ _ _ _ r j).trans ?_
  rw [ld_rows, ld_vec5, ld_vec5, ld_t]

end Body

end Cert.In.Swa

end
-- ==== Proof.In.SwaRun.lean ====
/-
  Layer 1's input projection: the operands the host prepares, the blocks as elements of the arguments, the blocks written back,
  and the run.
-/
module

public import proofs.«01_k».proof.Proof.In.RopeRun
public import proofs.«01_k».proof.Proof.In.Swa
public import Idealize.ShloMosaic.Lib.Claim

@[expose] public section

set_option maxRecDepth 16384

noncomputable section

namespace Cert.In.Swa

open Idealize.ShloMosaic Idealize.ShloMosaic.TcCoe Idealize.SL.Sem Cert.Kernel6Ideal Cert.Kernel6Ideal.Gen

variable (m : (ℓ : Loc nD τ sig) → Buf (Elt Ideal) ℓ) (ρ : Dev nD → PrngReg)

/-! ### The operands that the host prepares -/

theorem v0_apply (c : Dev nD) (r : Fin 65536) (j : Fin 1024) : V m c main_v0 (ix2 r j)
    = m ((c : Thread nD τ).loc main_arg0) (ix3 (⟨r.val / 4096, by omega⟩ : Fin 16) (⟨r.val % 4096, by omega⟩ : Fin 4096) j) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise []

theorem v24_apply (c : Dev nD) (k : Fin 1024) (j : Fin 1152) : V m c main_v24 (ix2 k j)
    = m ((c : Thread nD τ).loc main_arg3) (ix3 (0 : Fin 1) k (⟨j.val, by omega⟩ : Fin 1280)) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise []

theorem v28_apply (c : Dev nD) (j : Fin 128) (k : Fin 1024) : V m c main_v28 (ix2 j k)
    = m ((c : Thread nD τ).loc main_arg3) (ix3 (0 : Fin 1) k (⟨1152 + j.val, by omega⟩ : Fin 1280)) := by
  unfold V
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise []

set_option maxHeartbeats 1000000 in
theorem v19_apply (c : Dev nD) (r : Fin 65536) (l : Fin 128) : V m c main_v19 (ix2 r l)
    = cosLane (fun d => Ideal.cos (angle (m ((c : Thread nD τ).loc main_arg2)) r d)) l := by
  unfold V cosLane
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise []
  after_results_simp
  pointwise []
  split_ifs
  all_goals first
    | rfl
    | omega
    | (refine congrArg Ideal.cos (Rope.angle_of _ r _ _ ?_)
       show _ = l.val % 8
       omega)

set_option maxHeartbeats 1000000 in
theorem v21_apply (c : Dev nD) (r : Fin 65536) (l : Fin 128) : V m c main_v21 (ix2 r l)
    = sinLane (fun d => Ideal.sin (angle (m ((c : Thread nD τ).loc main_arg2)) r d)) l := by
  unfold V sinLane
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  pointwise []
  after_results_simp
  pointwise []
  split_ifs
  all_goals first
    | rfl
    | omega
    | (refine congrArg Ideal.sin (Rope.angle_of _ r _ _ ?_)
       show _ = l.val % 8
       omega)
    | (refine congrArg (fun a => -Ideal.sin a) (Rope.angle_of _ r _ _ ?_)
       show _ = l.val % 8
       omega)

/-! ### The blocks as elements of the arguments -/

theorem N_le (t : Fin cfg0.N) : t.val < 128 := by exact lt_of_lt_of_eq t.isLt N_0

abbrev bigRow (t : Fin cfg0.N) (r : Fin 512) : Fin 65536 := ⟨512 * t.val + r.val, by have := N_le t; omega⟩

theorem index0 : ∀ t : Fin cfg0.N, win0_0.index t 0 = t.val ∧ win0_0.index t 1 = 0 := by decide +kernel
theorem index1 : ∀ t : Fin cfg0.N, win0_1.index t 0 = 2 ∧ win0_1.index t 1 = 0 ∧ win0_1.index t 2 = t.val / 8
    ∧ win0_1.index t 3 = 0 ∧ win0_1.index t 4 = 0 := by decide +kernel
theorem index2 : ∀ t : Fin cfg0.N, win0_2.index t 0 = 2 ∧ win0_2.index t 1 = 1 ∧ win0_2.index t 2 = t.val / 8
    ∧ win0_2.index t 3 = 0 ∧ win0_2.index t 4 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel

theorem iblk0_apply (c : Dev nD) (t : Fin cfg0.N) (r : Fin 512) (j : Fin 1024) :
    (iblk m c 0 t : Vec Ideal S512x1024 .f32) (ix2 r j) = V m c main_v0 (ix2 (bigRow t r) j) := by
  unfold iblk
  rw [View.read_apply, cast_eq]
  show V m c main_v0 _ = _
  refine congrArg _ (pair_ext _ _ ?_ ?_)
  · show win0_0.index t 0 * 512 + 1 * r.val = 512 * t.val + r.val
    rw [(index0 t).1]; omega
  · show win0_0.index t 1 * 1024 + 1 * j.val = j.val
    rw [(index0 t).2]; omega

theorem iblk3_apply (c : Dev nD) (t : Fin cfg0.N) (k : Fin 1024) (j : Fin 1152) :
    (iblk m c 3 t : Vec Ideal S1024x1152 .bf16) (ix2 k j) = V m c main_v24 (ix2 k j) := by
  unfold iblk
  rw [View.read_apply, cast_eq]
  show V m c main_v24 _ = _
  refine congrArg _ (pair_ext _ _ ?_ ?_)
  · show win0_3.index t 0 * 1024 + 1 * k.val = k.val
    rw [(index3 t).1]; omega
  · show win0_3.index t 1 * 1152 + 1 * j.val = j.val
    rw [(index3 t).2]; omega

theorem iblk4_apply (c : Dev nD) (t : Fin cfg0.N) (k : Fin 128) (j : Fin 1024) :
    (iblk m c 4 t : Vec Ideal S128x1024 .bf16) (ix2 k j) = V m c main_v28 (ix2 k j) := by
  unfold iblk
  rw [View.read_apply, cast_eq]
  show V m c main_v28 _ = _
  refine congrArg _ (pair_ext _ _ ?_ ?_)
  · show win0_4.index t 0 * 128 + 1 * k.val = k.val
    rw [(index4 t).1]; omega
  · show win0_4.index t 1 * 1024 + 1 * j.val = j.val
    rw [(index4 t).2]; omega

theorem iblk5_apply (c : Dev nD) (t : Fin cfg0.N) (r : Fin 512) (j : Fin 128) :
    (iblk m c 5 t : Vec Ideal S512x128 .f32) (ix2 r j) = V m c main_v19 (ix2 (bigRow t r) j) := by
  unfold iblk
  rw [View.read_apply, cast_eq]
  show V m c main_v19 _ = _
  refine congrArg _ (pair_ext _ _ ?_ ?_)
  · show win0_5.index t 0 * 512 + 1 * r.val = 512 * t.val + r.val
    rw [(index5 t).1]; omega
  · show win0_5.index t 1 * 128 + 1 * j.val = j.val
    rw [(index5 t).2]; omega

theorem iblk6_apply (c : Dev nD) (t : Fin cfg0.N) (r : Fin 512) (j : Fin 128) :
    (iblk m c 6 t : Vec Ideal S512x128 .f32) (ix2 r j) = V m c main_v21 (ix2 (bigRow t r) j) := by
  unfold iblk
  rw [View.read_apply, cast_eq]
  show V m c main_v21 _ = _
  refine congrArg _ (pair_ext _ _ ?_ ?_)
  · show win0_6.index t 0 * 512 + 1 * r.val = 512 * t.val + r.val
    rw [(index6 t).1]; omega
  · show win0_6.index t 1 * 128 + 1 * j.val = j.val
    rw [(index6 t).2]; omega

abbrev seqOf (t : Fin cfg0.N) : Fin 16 := ⟨t.val / 8, by have := N_le t; omega⟩

theorem iblk1_apply (c : Dev nD) (t : Fin cfg0.N) (j : Fin 1024) :
    (iblk m c 1 t : Vec Ideal S1x1x1x1x1024 .f32) (ix5 0 0 0 0 j)
      = m ((c : Thread nD τ).loc main_arg1) (ix5 (2 : Fin 8) (0 : Fin 3) (seqOf t) (0 : Fin 1) j) := by
  unfold iblk
  rw [View.read_apply, cast_eq]
  show V m c main_arg1 _ = _
  rw [V_main_arg1]
  refine congrArg _ (funext fun a => Fin.ext ?_)
  match a with
  | ⟨0, _⟩ => show win0_1.index t 0 * 1 + 1 * 0 = 2; rw [(index1 t).1]
  | ⟨1, _⟩ => show win0_1.index t 1 * 1 + 1 * 0 = 0; rw [(index1 t).2.1]
  | ⟨2, _⟩ => show win0_1.index t 2 * 1 + 1 * 0 = t.val / 8; rw [(index1 t).2.2.1]; omega
  | ⟨3, _⟩ => show win0_1.index t 3 * 1 + 1 * 0 = 0; rw [(index1 t).2.2.2.1]
  | ⟨4, _⟩ => show win0_1.index t 4 * 1024 + 1 * j.val = j.val; rw [(index1 t).2.2.2.2]; omega

theorem iblk2_apply (c : Dev nD) (t : Fin cfg0.N) (j : Fin 1024) :
    (iblk m c 2 t : Vec Ideal S1x1x1x1x1024 .f32) (ix5 0 0 0 0 j)
      = m ((c : Thread nD τ).loc main_arg1) (ix5 (2 : Fin 8) (1 : Fin 3) (seqOf t) (0 : Fin 1) j) := by
  unfold iblk
  rw [View.read_apply, cast_eq]
  show V m c main_arg1 _ = _
  rw [V_main_arg1]
  refine congrArg _ (funext fun a => Fin.ext ?_)
  match a with
  | ⟨0, _⟩ => show win0_2.index t 0 * 1 + 1 * 0 = 2; rw [(index2 t).1]
  | ⟨1, _⟩ => show win0_2.index t 1 * 1 + 1 * 0 = 1; rw [(index2 t).2.1]
  | ⟨2, _⟩ => show win0_2.index t 2 * 1 + 1 * 0 = t.val / 8; rw [(index2 t).2.2.1]; omega
  | ⟨3, _⟩ => show win0_2.index t 3 * 1 + 1 * 0 = 0; rw [(index2 t).2.2.2.1]
  | ⟨4, _⟩ => show win0_2.index t 4 * 1024 + 1 * j.val = j.val; rw [(index2 t).2.2.2.2]; omega

theorem token_eq (c : Dev nD) (t : Fin cfg0.N) (r : Fin 512) :
    modulate (row (iblk m c 0 t : Vec Ideal S512x1024 .f32) r) (vec5 (iblk m c 2 t : Vec Ideal S1x1x1x1x1024 .f32)) (vec5 (iblk m c 1 t : Vec Ideal S1x1x1x1x1024 .f32))
      = token (m ((c : Thread nD τ).loc main_arg0)) (m ((c : Thread nD τ).loc main_arg1)) 2 (bigRow t r) := by
  have hs : seqOf t = ⟨(bigRow t r).val / 4096, by omega⟩ := Fin.ext (by show t.val / 8 = (512 * t.val + r.val) / 4096; omega)
  unfold token
  rw [← hs]
  have e0 : row (iblk m c 0 t : Vec Ideal S512x1024 .f32) r = fun k => m ((c : Thread nD τ).loc main_arg0) (ix3 (seqOf t) (⟨(bigRow t r).val % 4096, by omega⟩ : Fin 4096) k) :=
    funext fun k => (iblk0_apply m c t r k).trans (by rw [v0_apply, hs])
  rw [e0, show vec5 (iblk m c 2 t : Vec Ideal S1x1x1x1x1024 .f32) = _ from funext fun k => iblk2_apply m c t k,
    show vec5 (iblk m c 1 t : Vec Ideal S1x1x1x1x1024 .f32) = _ from funext fun k => iblk1_apply m c t k]

/-! ### The results -/

/-- Element `n` of token `r`'s product with the weight. -/
def projected (x : (⟨3, ![16, 4096, 1024]⟩ : Shape).Idx → EReal) (md : (⟨5, ![8, 3, 16, 1, 1024]⟩ : Shape).Idx → EReal)
    (w : (⟨3, ![1, 1024, 1280]⟩ : Shape).Idx → EReal) (r : Fin 65536) (n : Fin 1280) : EReal :=
  times (token x md 2 r) (fun k n => w (ix3 (0 : Fin 1) k n)) n

/-- Element `j` of token `r`'s queries, under the rotary embedding at the token's position and scaled. -/
def query (x : (⟨3, ![16, 4096, 1024]⟩ : Shape).Idx → EReal) (md : (⟨5, ![8, 3, 16, 1, 1024]⟩ : Shape).Idx → EReal)
    (pos : (⟨2, ![16, 4096]⟩ : Shape).Idx → BitVec 32) (w : (⟨3, ![1, 1024, 1280]⟩ : Shape).Idx → EReal)
    (r : Fin 65536) (j : Fin 1024) : EReal :=
  rope (fun n => projected x md w r (⟨n.val, by omega⟩ : Fin 1280)) (fun d => Ideal.cos (angle pos r d))
    (fun d => Ideal.sin (angle pos r d)) j * queryScale

/-- Element `j` of token `r`'s keys, each of the two heads twice, under the rotary embedding. -/
def key (x : (⟨3, ![16, 4096, 1024]⟩ : Shape).Idx → EReal) (md : (⟨5, ![8, 3, 16, 1, 1024]⟩ : Shape).Idx → EReal)
    (pos : (⟨2, ![16, 4096]⟩ : Shape).Idx → BitVec 32) (w : (⟨3, ![1, 1024, 1280]⟩ : Shape).Idx → EReal)
    (r : Fin 65536) (j : Fin 256) : EReal :=
  turn (fun d => projected x md w r (⟨1024 + (j.val / 128 * 64 + d.val), by omega⟩ : Fin 1280)) (fun d => Ideal.cos (angle pos r d))
    (fun d => Ideal.sin (angle pos r d)) (⟨j.val % 64, by omega⟩ : Fin 64)

theorem part_eq (c : Dev nD) (t : Fin cfg0.N) (r : Fin 512) (n : Fin 1152) :
    part (iblk m c 0 t) (iblk m c 1 t) (iblk m c 2 t) (iblk m c 3 t) r n
      = projected (m ((c : Thread nD τ).loc main_arg0)) (m ((c : Thread nD τ).loc main_arg1)) (m ((c : Thread nD τ).loc main_arg3))
          (bigRow t r) (⟨n.val, by omega⟩ : Fin 1280) := by
  unfold part projected
  rw [token_eq]
  exact Finset.sum_congr rfl fun k _ => congrArg (token _ _ 2 (bigRow t r) k * ·) ((iblk3_apply m c t k _).trans (v24_apply m c k _))

def res7 (c : Dev nD) : Buf (Elt Ideal) ((c : Thread nD τ).loc main_v29_0) :=
  fun (i : S65536x1024.Idx) => query (m ((c : Thread nD τ).loc main_arg0)) (m ((c : Thread nD τ).loc main_arg1))
    (m ((c : Thread nD τ).loc main_arg2)) (m ((c : Thread nD τ).loc main_arg3)) (i 0) (i 1)
def res8 (c : Dev nD) : Buf (Elt Ideal) ((c : Thread nD τ).loc main_v29_1) :=
  fun (i : S65536x256.Idx) => key (m ((c : Thread nD τ).loc main_arg0)) (m ((c : Thread nD τ).loc main_arg1))
    (m ((c : Thread nD τ).loc main_arg2)) (m ((c : Thread nD τ).loc main_arg3)) (i 0) (i 1)
def res9 (c : Dev nD) : Buf (Elt Ideal) ((c : Thread nD τ).loc main_v29_2) :=
  fun (i : S128x65536.Idx) => projected (m ((c : Thread nD τ).loc main_arg0)) (m ((c : Thread nD τ).loc main_arg1))
    (m ((c : Thread nD τ).loc main_arg3)) (i 1) (⟨1152 + (i 0).val, by have : (i 0).val < 128 := (i 0).isLt; omega⟩ : Fin 1280)

theorem index7 : ∀ t : Fin cfg0.N, win0_7.index t 0 = t.val ∧ win0_7.index t 1 = 0 := by decide +kernel
theorem index8 : ∀ t : Fin cfg0.N, win0_8.index t 0 = t.val ∧ win0_8.index t 1 = 0 := by decide +kernel
theorem index9 : ∀ t : Fin cfg0.N, win0_9.index t 0 = 0 ∧ win0_9.index t 1 = t.val := by decide +kernel

theorem flushed7_eq (c : Dev nD) (t : Fin cfg0.N) :
    (dats m 0 c).flushed 7 t = (win0_7.blk t).view.read (Elt Ideal) (res7 m c) := by
  rw [Cert.Kernel6Ideal.Value.flushed7]
  funext i
  obtain ⟨r, j, rfl⟩ : ∃ (r : Fin 512) (j : Fin 1024), i = ix2 r j :=
    ⟨i 0, i 1, funext fun a => match a with | ⟨0, _⟩ => rfl | ⟨1, _⟩ => rfl⟩
  refine (out7_apply (iblk m c 0 t) (iblk m c 1 t) (iblk m c 2 t) (iblk m c 3 t) (iblk m c 4 t) (iblk m c 5 t) (iblk m c 6 t) r _ _
    (fun l => (iblk5_apply m c t r l).trans (v19_apply m c (bigRow t r) l))
    (fun l => (iblk6_apply m c t r l).trans (v21_apply m c (bigRow t r) l)) j).trans ?_
  unfold queries
  simp only [part_eq]
  rw [View.read_apply, cast_eq]
  refine (show _ = res7 m c (ix2 (bigRow t r) j) from rfl).trans (congrArg (res7 m c) (pair_ext _ _ ?_ ?_))
  · show 512 * t.val + r.val = win0_7.index t 0 * 512 + 1 * r.val
    rw [(index7 t).1]; omega
  · show j.val = win0_7.index t 1 * 1024 + 1 * j.val
    rw [(index7 t).2]; omega

theorem cover7 (i : S65536x1024.Idx) : ∃ t : Fin cfg0.N, (cfg0.win 7).flush t = true ∧ i ∈ ((cfg0.win 7).blk t).view.set := by
  have h0 : (i 0 : Nat) < 65536 := (i 0).isLt
  have h1 : (i 1 : Nat) < 1024 := (i 1).isLt
  have ht : (i 0 : Nat) / 512 < cfg0.N := lt_of_lt_of_eq (by omega : (i 0 : Nat) / 512 < 128) N_0.symm
  refine ⟨⟨(i 0 : Nat) / 512, ht⟩, flush0_7 _, ?_⟩
  generalize hT : (⟨(i 0 : Nat) / 512, ht⟩ : Fin cfg0.N) = T
  have hv : T.val = (i 0 : Nat) / 512 := by rw [← hT]
  show i ∈ ((View.whole main_v29_0).slice (win0_7.rect T)).set
  rw [View.set_slice_whole, Rect.mem_set_unit]
  intro a
  match a with
  | ⟨0, _⟩ =>
    show win0_7.index T 0 * 512 ≤ (i 0 : Nat) ∧ (i 0 : Nat) < win0_7.index T 0 * 512 + 512
    rw [(index7 T).1, hv]
    omega
  | ⟨1, _⟩ =>
    show win0_7.index T 1 * 1024 ≤ (i 1 : Nat) ∧ (i 1 : Nat) < win0_7.index T 1 * 1024 + 1024
    rw [(index7 T).2]
    omega

theorem flushed8_eq (c : Dev nD) (t : Fin cfg0.N) :
    (dats m 0 c).flushed 8 t = (win0_8.blk t).view.read (Elt Ideal) (res8 m c) := by
  rw [Cert.Kernel6Ideal.Value.flushed8]
  funext i
  obtain ⟨r, j, rfl⟩ : ∃ (r : Fin 512) (j : Fin 256), i = ix2 r j :=
    ⟨i 0, i 1, funext fun a => match a with | ⟨0, _⟩ => rfl | ⟨1, _⟩ => rfl⟩
  refine (out8_apply (iblk m c 0 t) (iblk m c 1 t) (iblk m c 2 t) (iblk m c 3 t) (iblk m c 4 t) (iblk m c 5 t) (iblk m c 6 t) r _ _
    (fun l => (iblk5_apply m c t r l).trans (v19_apply m c (bigRow t r) l))
    (fun l => (iblk6_apply m c t r l).trans (v21_apply m c (bigRow t r) l)) j).trans ?_
  unfold keys
  simp only [part_eq]
  rw [View.read_apply, cast_eq]
  refine (show _ = res8 m c (ix2 (bigRow t r) j) from rfl).trans (congrArg (res8 m c) (pair_ext _ _ ?_ ?_))
  · show 512 * t.val + r.val = win0_8.index t 0 * 512 + 1 * r.val
    rw [(index8 t).1]; omega
  · show j.val = win0_8.index t 1 * 256 + 1 * j.val
    rw [(index8 t).2]; omega

theorem cover8 (i : S65536x256.Idx) : ∃ t : Fin cfg0.N, (cfg0.win 8).flush t = true ∧ i ∈ ((cfg0.win 8).blk t).view.set := by
  have h0 : (i 0 : Nat) < 65536 := (i 0).isLt
  have h1 : (i 1 : Nat) < 256 := (i 1).isLt
  have ht : (i 0 : Nat) / 512 < cfg0.N := lt_of_lt_of_eq (by omega : (i 0 : Nat) / 512 < 128) N_0.symm
  refine ⟨⟨(i 0 : Nat) / 512, ht⟩, flush0_8 _, ?_⟩
  generalize hT : (⟨(i 0 : Nat) / 512, ht⟩ : Fin cfg0.N) = T
  have hv : T.val = (i 0 : Nat) / 512 := by rw [← hT]
  show i ∈ ((View.whole main_v29_1).slice (win0_8.rect T)).set
  rw [View.set_slice_whole, Rect.mem_set_unit]
  intro a
  match a with
  | ⟨0, _⟩ =>
    show win0_8.index T 0 * 512 ≤ (i 0 : Nat) ∧ (i 0 : Nat) < win0_8.index T 0 * 512 + 512
    rw [(index8 T).1, hv]
    omega
  | ⟨1, _⟩ =>
    show win0_8.index T 1 * 256 ≤ (i 1 : Nat) ∧ (i 1 : Nat) < win0_8.index T 1 * 256 + 256
    rw [(index8 T).2]
    omega

theorem flushed9_eq (c : Dev nD) (t : Fin cfg0.N) :
    (dats m 0 c).flushed 9 t = (win0_9.blk t).view.read (Elt Ideal) (res9 m c) := by
  rw [Cert.Kernel6Ideal.Value.flushed9]
  funext i
  obtain ⟨j, r, rfl⟩ : ∃ (j : Fin 128) (r : Fin 512), i = ix2 j r :=
    ⟨i 0, i 1, funext fun a => match a with | ⟨0, _⟩ => rfl | ⟨1, _⟩ => rfl⟩
  refine (out9_apply _ _ _ _ _ _ _ r j).trans ?_
  rw [token_eq, View.read_apply, cast_eq]
  refine (congrArg (fun W => times _ W j) (funext fun k => funext fun n => (iblk4_apply m c t n k).trans (v28_apply m c n k))).trans ?_
  refine (show _ = res9 m c (ix2 j (bigRow t r)) from rfl).trans (congrArg (res9 m c) (pair_ext _ _ ?_ ?_))
  · show j.val = win0_9.index t 0 * 128 + 1 * j.val
    rw [(index9 t).1]; omega
  · show 512 * t.val + r.val = win0_9.index t 1 * 512 + 1 * r.val
    rw [(index9 t).2]; omega

theorem cover9 (i : S128x65536.Idx) : ∃ t : Fin cfg0.N, (cfg0.win 9).flush t = true ∧ i ∈ ((cfg0.win 9).blk t).view.set := by
  have h0 : (i 0 : Nat) < 128 := (i 0).isLt
  have h1 : (i 1 : Nat) < 65536 := (i 1).isLt
  have ht : (i 1 : Nat) / 512 < cfg0.N := lt_of_lt_of_eq (by omega : (i 1 : Nat) / 512 < 128) N_0.symm
  refine ⟨⟨(i 1 : Nat) / 512, ht⟩, flush0_9 _, ?_⟩
  generalize hT : (⟨(i 1 : Nat) / 512, ht⟩ : Fin cfg0.N) = T
  have hv : T.val = (i 1 : Nat) / 512 := by rw [← hT]
  show i ∈ ((View.whole main_v29_2).slice (win0_9.rect T)).set
  rw [View.set_slice_whole, Rect.mem_set_unit]
  intro a
  match a with
  | ⟨0, _⟩ =>
    show win0_9.index T 0 * 128 ≤ (i 0 : Nat) ∧ (i 0 : Nat) < win0_9.index T 0 * 128 + 128
    rw [(index9 T).1]
    omega
  | ⟨1, _⟩ =>
    show win0_9.index T 1 * 512 ≤ (i 1 : Nat) ∧ (i 1 : Nat) < win0_9.index T 1 * 512 + 512
    rw [(index9 T).2, hv]
    omega

/-- The run of the projection's program: the three result arrays are the ones above, the arguments are unchanged. -/
theorem run : θ_run defs (onTc (τ := τ) (main (F := Ideal))) ⟨m, fun _ => 0, ρ⟩ fun r => ∀ c : Dev nD,
      r.2.mem ((c : Thread nD τ).loc main_v29_0) = res7 m c
      ∧ r.2.mem ((c : Thread nD τ).loc main_v29_1) = res8 m c
      ∧ r.2.mem ((c : Thread nD τ).loc main_v29_2) = res9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 7 (res7 m c) (fun t _ => flushed7_eq m c t) cover7),
      (h c).2.1.trans ((dats m 0 c).arrAt_eq_of_cover 8 (res8 m c) (fun t _ => flushed8_eq m c t) cover8),
      (h c).2.2.1.trans ((dats m 0 c).arrAt_eq_of_cover 9 (res9 m c) (fun t _ => flushed9_eq m c t) cover9),
      (h c).2.2.2⟩)
    (Cert.Kernel6Ideal.Value.run_blocks m ρ)

end Cert.In.Swa

end
-- ==== Proof.In.SwaRef.lean ====
/-
  Layer 1's input projection as the reference has it, stage by stage, read at an index.
-/
module

public import proofs.«01_k».proof.Proof.In.SwaRun
public import proofs.«01_k».proof.Proof.Gen.Reference6Ideal.Read
public import proofs.«01_k».proof.Proof.Gen.Reference6Ideal.Run

@[expose] public section

set_option maxRecDepth 16384

noncomputable section

namespace Cert.In.SwaRef

open Idealize.ShloMosaic Idealize.ShloMosaic.TcCoe Cert.Reference6Ideal Cert.Reference6Ideal.Read

variable (x0 : (⟨S16x4096x1024, .f32⟩ : BufTy).Contents (Elt Ideal)) (x1 : (⟨S8x3x16x1x1024, .f32⟩ : BufTy).Contents (Elt Ideal)) (x2 : (⟨S16x4096, .i32⟩ : BufTy).Contents (Elt Ideal)) (x3 : (⟨S1x1024x1280, .f32⟩ : BufTy).Contents (Elt Ideal))

abbrev seqOf (r : Fin 65536) : Fin 16 := ⟨r.val / 4096, by omega⟩
abbrev posOf (r : Fin 65536) : Fin 4096 := ⟨r.val % 4096, by omega⟩

theorem v18_apply (p : Fin 16) (s : Fin 4096) (j : Fin 1024) :
    val_main_v18 (F := Ideal) x0 x1 (ix3 p s j) = modulate (fun k => x0 (ix3 p s k)) (fun k => x1 (ix5 (2 : Fin 8) (1 : Fin 3) p (0 : Fin 1) k))
      (fun k => x1 (ix5 (2 : Fin 8) (0 : Fin 3) p (0 : Fin 1) k)) j := by
  unfold val_main_v18 val_main_v17 val_main_v16 val_main_v15 val_main_v14 val_main_v13 val_main_v12 val_main_v11 val_main_v10 val_main_cst val_main_v9 val_main_v8 val_main_v7 val_main_v6 val_main_v5 val_main_v4 val_main_v3 val_main_v2 val_main_v1 val_main_v0
  pointwise [] <;> rfl

theorem v20_apply (p : Fin 16) (s : Fin 4096) (j : Fin 1280) :
    val_main_v20 (F := Ideal) x0 x1 x3 (ix3 p s j) = times (fun k => val_main_v18 (F := Ideal) x0 x1 (ix3 p s k)) (fun k n => x3 (ix3 (0 : Fin 1) k n)) j := by
  unfold val_main_v20 val_main_v19
  generalize val_main_v18 (F := Ideal) x0 x1 = z
  pointwise [] <;> rfl

/-- The token's row is the same function of the arguments that the kernel computes. -/
theorem row_eq (r : Fin 65536) : (fun k => val_main_v18 (F := Ideal) x0 x1 (ix3 (seqOf r) (posOf r) k)) = token x0 x1 2 r :=
  funext fun k => v18_apply x0 x1 _ _ k

/-- An element of the product, as the function of the arguments that the kernel computes. -/
theorem v20_proj (r : Fin 65536) (n : Fin 1280) : val_main_v20 (F := Ideal) x0 x1 x3 (ix3 (seqOf r) (posOf r) n) = Swa.projected x0 x1 x3 r n := by
  rw [v20_apply, row_eq]
  rfl

theorem v37_apply (r : Fin 65536) (d : Fin 8) : val_main_v37 (F := Ideal) x2 (ix3 (seqOf r) (posOf r) d) = Ideal.cos (angle x2 r d) := by
  unfold val_main_v37 val_main_v36 val_main_v35 val_main_v34 val_main_v33 val_main_v32 val_main_v31 val_main_v30 val_main_v29 val_main_cst_2 val_main_v28 val_main_v27 val_main_cst_1 val_main_v26 val_main_v25 val_main_cst_0 val_main_v24 val_main_v23
  pointwise []
  rfl

theorem v39_apply (r : Fin 65536) (d : Fin 8) : val_main_v39 (F := Ideal) x2 (ix3 (seqOf r) (posOf r) d) = Ideal.sin (angle x2 r d) := by
  unfold val_main_v39 val_main_v36 val_main_v35 val_main_v34 val_main_v33 val_main_v32 val_main_v31 val_main_v30 val_main_v29 val_main_cst_2 val_main_v28 val_main_v27 val_main_cst_1 val_main_v26 val_main_v25 val_main_cst_0 val_main_v24 val_main_v23
  pointwise []
  rfl

theorem v22_apply (r : Fin 65536) (h : Fin 16) (d : Fin 64) : val_main_v22 (F := Ideal) x0 x1 x3 (ix4 (seqOf r) (posOf r) h d)
    = Swa.projected x0 x1 x3 r (⟨0 + (h.val * 64 + d.val), by omega⟩ : Fin 1280) := by
  rw [← v20_proj]
  unfold val_main_v22 val_main_v21
  generalize val_main_v20 (F := Ideal) x0 x1 x3 = z
  pointwise [] <;>
    first
    | rfl
    | exact congrArg (fun n : Fin 1280 => z (ix3 (seqOf r) (posOf r) n)) (Fin.ext (by dsimp only; omega))

theorem v54_apply (p : Fin 16) (s : Fin 4096) (h : Fin 16) (d : Fin 64) : val_main_v54 (F := Ideal) x0 x1 x2 x3 (ix4 p s h d)
    = turn (fun d => val_main_v22 (F := Ideal) x0 x1 x3 (ix4 p s h d)) (fun d => val_main_v37 (F := Ideal) x2 (ix3 p s d)) (fun d => val_main_v39 (F := Ideal) x2 (ix3 p s d)) d := by
  unfold val_main_v54 val_main_v53 val_main_v52 val_main_v51 val_main_v50 val_main_v49 val_main_v48 val_main_v47 val_main_v46 val_main_v45 val_main_v44 val_main_v43 val_main_v42 val_main_v41 val_main_v40 val_main_v38
  generalize val_main_v22 (F := Ideal) x0 x1 x3 = z
  generalize val_main_v37 (F := Ideal) x2 = cs
  generalize val_main_v39 (F := Ideal) x2 = sn
  unfold turn
  pointwise []
  have e : ∀ a b : Fin 64, a.val = b.val → z (ix4 p s h a) = z (ix4 p s h b) := fun a b hab => by rw [Fin.ext hab]
  refine dite_congr rfl (fun h1 => ?_) (fun h1 => dite_congr (propext ⟨fun _ => by omega, fun _ => by omega⟩) (fun h2 => ?_) (fun h2 => ?_))
  · exact congrArg (fun a => z (ix4 p s h d) * cs (ix3 p s (⟨d.val, h1⟩ : Fin 8)) - a * sn (ix3 p s (⟨d.val, h1⟩ : Fin 8)))
      (e _ _ (Nat.add_comm 8 d.val))
  · have h3 : ¬ d.val < 8 := h1
    have h4 : d.val < 16 := h2
    exact congrArg (fun a => a * cs (ix3 p s (⟨d.val - 8, by omega⟩ : Fin 8))
        + z (ix4 p s h (⟨d.val - 8, by omega⟩ : Fin 64)) * sn (ix3 p s (⟨d.val - 8, by omega⟩ : Fin 8)))
      (e _ _ (by dsimp only; omega))
  · have h3 : ¬ d.val < 8 := h1
    have h4 : ¬ d.val < 16 := h2
    exact e _ _ (by dsimp only; omega)

theorem v71_apply (r : Fin 65536) (d : Fin 8) : val_main_v71 (F := Ideal) x2 (ix3 (seqOf r) (posOf r) d) = Ideal.cos (angle x2 r d) := by
  unfold val_main_v71 val_main_v70 val_main_v69 val_main_v68 val_main_v67 val_main_v66 val_main_v65 val_main_v64 val_main_v63 val_main_cst_5 val_main_v62 val_main_v61 val_main_cst_4 val_main_v60 val_main_v59 val_main_cst_3 val_main_v58 val_main_v57
  pointwise []
  rfl

theorem v73_apply (r : Fin 65536) (d : Fin 8) : val_main_v73 (F := Ideal) x2 (ix3 (seqOf r) (posOf r) d) = Ideal.sin (angle x2 r d) := by
  unfold val_main_v73 val_main_v70 val_main_v69 val_main_v68 val_main_v67 val_main_v66 val_main_v65 val_main_v64 val_main_v63 val_main_cst_5 val_main_v62 val_main_v61 val_main_cst_4 val_main_v60 val_main_v59 val_main_cst_3 val_main_v58 val_main_v57
  pointwise []
  rfl

theorem v56_apply (r : Fin 65536) (h : Fin 2) (d : Fin 64) : val_main_v56 (F := Ideal) x0 x1 x3 (ix4 (seqOf r) (posOf r) h d)
    = Swa.projected x0 x1 x3 r (⟨1024 + (h.val * 64 + d.val), by omega⟩ : Fin 1280) := by
  rw [← v20_proj]
  unfold val_main_v56 val_main_v55
  generalize val_main_v20 (F := Ideal) x0 x1 x3 = z
  pointwise [] <;>
    first
    | rfl
    | exact congrArg (fun n : Fin 1280 => z (ix3 (seqOf r) (posOf r) n)) (Fin.ext (by dsimp only; omega))

theorem v88_apply (p : Fin 16) (s : Fin 4096) (h : Fin 2) (d : Fin 64) : val_main_v88 (F := Ideal) x0 x1 x2 x3 (ix4 p s h d)
    = turn (fun d => val_main_v56 (F := Ideal) x0 x1 x3 (ix4 p s h d)) (fun d => val_main_v71 (F := Ideal) x2 (ix3 p s d)) (fun d => val_main_v73 (F := Ideal) x2 (ix3 p s d)) d := by
  unfold val_main_v88 val_main_v87 val_main_v86 val_main_v85 val_main_v84 val_main_v83 val_main_v82 val_main_v81 val_main_v80 val_main_v79 val_main_v78 val_main_v77 val_main_v76 val_main_v75 val_main_v74 val_main_v72
  generalize val_main_v56 (F := Ideal) x0 x1 x3 = z
  generalize val_main_v71 (F := Ideal) x2 = cs
  generalize val_main_v73 (F := Ideal) x2 = sn
  unfold turn
  pointwise []
  have e : ∀ a b : Fin 64, a.val = b.val → z (ix4 p s h a) = z (ix4 p s h b) := fun a b hab => by rw [Fin.ext hab]
  refine dite_congr rfl (fun h1 => ?_) (fun h1 => dite_congr (propext ⟨fun _ => by omega, fun _ => by omega⟩) (fun h2 => ?_) (fun h2 => ?_))
  · exact congrArg (fun a => z (ix4 p s h d) * cs (ix3 p s (⟨d.val, h1⟩ : Fin 8)) - a * sn (ix3 p s (⟨d.val, h1⟩ : Fin 8)))
      (e _ _ (Nat.add_comm 8 d.val))
  · have h3 : ¬ d.val < 8 := h1
    have h4 : d.val < 16 := h2
    exact congrArg (fun a => a * cs (ix3 p s (⟨d.val - 8, by omega⟩ : Fin 8))
        + z (ix4 p s h (⟨d.val - 8, by omega⟩ : Fin 64)) * sn (ix3 p s (⟨d.val - 8, by omega⟩ : Fin 8)))
      (e _ _ (by dsimp only; omega))
  · have h3 : ¬ d.val < 8 := h1
    have h4 : ¬ d.val < 16 := h2
    exact e _ _ (by dsimp only; omega)

theorem v93_apply (r : Fin 65536) (j : Fin 1024) : val_main_v93 (F := Ideal) x0 x1 x2 x3 (ix2 r j) = Swa.query x0 x1 x2 x3 r j := by
  have e : val_main_v93 (F := Ideal) x0 x1 x2 x3 (ix2 r j)
      = val_main_v54 (F := Ideal) x0 x1 x2 x3 (ix4 (seqOf r) (posOf r) (⟨j.val / 64, by omega⟩ : Fin 16) (⟨j.val % 64, by omega⟩ : Fin 64))
        * Swa.queryScale := by
    unfold val_main_v93 val_main_v92 val_main_v91 val_main_v90 val_main_cst_6
    generalize val_main_v54 (F := Ideal) x0 x1 x2 x3 = z
    pointwise [] <;> rfl
  rw [e, v54_apply]
  simp only [v22_apply, v37_apply, v39_apply]
  refine congrArg (· * Swa.queryScale) (Eq.trans ?_ (rope_eq (fun n => Swa.projected x0 x1 x3 r (⟨n.val, by omega⟩ : Fin 1280)) _ _ j).symm)
  simp only [Nat.zero_add]

theorem v96_apply (r : Fin 65536) (j : Fin 256) : val_main_v96 (F := Ideal) x0 x1 x2 x3 (ix2 r j) = Swa.key x0 x1 x2 x3 r j := by
  have e : val_main_v96 (F := Ideal) x0 x1 x2 x3 (ix2 r j)
      = val_main_v88 (F := Ideal) x0 x1 x2 x3 (ix4 (seqOf r) (posOf r) (⟨j.val / 128, by omega⟩ : Fin 2) (⟨j.val % 64, by omega⟩ : Fin 64)) := by
    unfold val_main_v96 val_main_v95 val_main_v94
    generalize val_main_v88 (F := Ideal) x0 x1 x2 x3 = z
    have e : ∀ a b : Fin 64, a.val = b.val → z (ix4 (seqOf r) (posOf r) (⟨j.val / 128, by omega⟩ : Fin 2) a)
        = z (ix4 (seqOf r) (posOf r) (⟨j.val / 128, by omega⟩ : Fin 2) b) := fun a b hab => by rw [Fin.ext hab]
    pointwise []
    split_ifs <;> exact e _ _ (by dsimp only; omega)
  rw [e, v88_apply]
  simp only [v56_apply, v71_apply, v73_apply]
  rfl

theorem v99_apply (j : Fin 128) (r : Fin 65536) : val_main_v99 (F := Ideal) x0 x1 x3 (ix2 j r) = Swa.projected x0 x1 x3 r (⟨1152 + j.val, by omega⟩ : Fin 1280) := by
  rw [← v20_proj]
  unfold val_main_v99 val_main_v98 val_main_v97 val_main_v89
  generalize val_main_v20 (F := Ideal) x0 x1 x3 = z
  pointwise [] <;> rfl

end Cert.In.SwaRef

end
-- ==== Proof.In.SwaClaims.lean ====
/-
  The input projection of layer 1: the frames of its three programs, and the agreement of the kernel with the reference.
-/
module

public import proofs.«01_k».proof.Defs
public import proofs.«01_k».proof.Proof.Gen.Kernel6.Frame
public import proofs.«01_k».proof.Proof.Gen.Kernel6Ideal.Frame
public import proofs.«01_k».proof.Proof.In.SwaRef
public import Idealize.ShloMosaic.Lib.Quiescent

@[expose] public section

set_option maxRecDepth 16384

noncomputable section

namespace Cert.In.Swa

open Idealize.ShloMosaic Idealize.ShloMosaic.TcCoe Idealize.SL.Sem

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem preserves : Cert.preserves_Kernel6_Kernel6Ideal := trivial

/-- An index of a result is a pair of a row and a column. -/
theorem eq_pair {a b : Nat} (i : (⟨2, ![a, b]⟩ : Shape).Idx) : ∃ (r : Fin a) (j : Fin b), i = ix2 r j :=
  ⟨i 0, i 1, funext fun a => match a with | ⟨0, _⟩ => rfl | ⟨1, _⟩ => rfl⟩

/-- Kernel and reference end with the same three result arrays. -/
theorem algebraic : Cert.algebraic_Kernel6Ideal_Reference6Ideal := by
  intro m ρ m' ρ' _ hagree
  refine ⟨fun c => res7 m c, fun c => res8 m c, fun c => res9 m c, run m ρ, ?_⟩
  refine (θ_run Cert.Reference6Ideal.defs _ _).mono (fun _ h c =>
      ⟨(h c).1.trans ?_, (h c).2.1.trans ?_, (h c).2.2.1.trans ?_, (h c).2.2.2⟩)
    (Cert.Reference6Ideal.Value.run (F := Ideal) m' ρ')
  · refine (Cert.Reference6Ideal.Read.val_main_v93_eq _ _).trans ?_
    obtain ⟨h0, h1, h2, h3⟩ := hagree c
    rw [h0, h1, h2, h3]
    funext i
    obtain ⟨r, j, rfl⟩ := eq_pair i
    exact Cert.In.SwaRef.v93_apply _ _ _ _ r j
  · refine (Cert.Reference6Ideal.Read.val_main_v96_eq _ _).trans ?_
    obtain ⟨h0, h1, h2, h3⟩ := hagree c
    rw [h0, h1, h2, h3]
    funext i
    obtain ⟨r, j, rfl⟩ := eq_pair i
    exact Cert.In.SwaRef.v96_apply _ _ _ _ r j
  · refine (Cert.Reference6Ideal.Read.val_main_v99_eq _ _ _).trans ?_
    obtain ⟨h0, h1, h2, h3⟩ := hagree c
    rw [h0, h1, h3]
    funext i
    obtain ⟨r, j, rfl⟩ := eq_pair i
    exact Cert.In.SwaRef.v99_apply _ _ _ r j

end Cert.In.Swa

end
-- ==== Proof.lean ====
module

public import proofs.«01_k».proof.Proof.Diff.Frames
public import proofs.«01_k».proof.Proof.Diff.Claims
public import proofs.«01_k».proof.Proof.Tail.Claims
public import proofs.«01_k».proof.Proof.In.HgrnClaims
public import proofs.«01_k».proof.Proof.In.MlstmClaims
public import proofs.«01_k».proof.Proof.In.RopeClaims
public import proofs.«01_k».proof.Proof.In.SwaClaims
public import proofs.«01_k».proof.Proof.Gen.Pre_finite
public import proofs.«01_k».proof.Defs

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite.Gen.facts,
    Cert.Diff.frame_kernel, Cert.Diff.frame_ideal, Cert.Diff.frame_ideal_pre_finite, Cert.Diff.frame_reference,
    Cert.Diff.frame_reference_pre_finite, Cert.Tail.frame_kernel, Cert.Tail.frame_ideal, Cert.Tail.frame_reference,
    Cert.In.Hgrn.frame_kernel, Cert.In.Hgrn.frame_ideal, Cert.In.Hgrn.frame_reference,
    Cert.In.Mlstm.frame_kernel, Cert.In.Mlstm.frame_ideal, Cert.In.Mlstm.frame_reference,
    Cert.In.Rope.frame_kernel, Cert.In.Rope.frame_ideal, Cert.In.Rope.frame_reference,
    Cert.In.Swa.frame_kernel, Cert.In.Swa.frame_ideal, Cert.In.Swa.frame_reference,
    Cert.Diff.preserves, Cert.Diff.algebraic, Cert.Tail.preserves, Cert.Tail.algebraic,
    Cert.In.Hgrn.preserves, Cert.In.Hgrn.algebraic, Cert.In.Mlstm.preserves, Cert.In.Mlstm.algebraic,
    Cert.In.Rope.preserves, Cert.In.Rope.algebraic, Cert.In.Swa.preserves, Cert.In.Swa.algebraic⟩

end Cert.Proof

end
